-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_keys [hPre_finite_keys : Cert.Pre_finite_keys.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_keys.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_keys [hPre_finite_keys : Cert.Pre_finite_keys.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_keys.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_named [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel5Ideal_pre_finite_keys [hKernel5Ideal : Cert.Kernel5Ideal.Facts] [hPre_finite_keys : Cert.Pre_finite_keys.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_keys m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Reference5Ideal_pre_finite_keys [hReference5Ideal : Cert.Reference5Ideal.Facts] [hPre_finite_keys : Cert.Pre_finite_keys.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_keys m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_rows_in_use [hKernel3Ideal : Cert.Kernel3Ideal.Facts] [hReference3Ideal : Cert.Reference3Ideal.Facts] [hPre_experts_named : Cert.Pre_experts_named.Facts] [hOn_rows_in_use : Cert.On_rows_in_use.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![327680, 128]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![327680, 128]⟩ : Shape).Idx, (Cert.On_rows_in_use.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) i = 1#1 → r.2.mem ((c.tc : Thread Cert.Reference3Ideal.nD Cert.Reference3Ideal.τ).loc Cert.Reference3Ideal.main_v33) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_keys [hKernel5Ideal : Cert.Kernel5Ideal.Facts] [hReference5Ideal : Cert.Reference5Ideal.Facts] [hPre_finite_keys : Cert.Pre_finite_keys.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_keys m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)) (v5 : (c : Dev Cert.Kernel5Ideal.nD) → Buf (Elt Ideal) ((c.tc : Thread Cert.Kernel5Ideal.nD Cert.Kernel5Ideal.τ).loc Cert.Kernel5Ideal.main_v24_5)) (v6 : (c : Dev Cert.Kernel5Ideal.nD) → Buf (Elt Ideal) ((c.tc : Thread Cert.Kernel5Ideal.nD Cert.Kernel5Ideal.τ).loc Cert.Kernel5Ideal.main_v24_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_v24_5) = v5 c
          ∧ r.2.mem ((c.tc : Thread Cert.Kernel5Ideal.nD Cert.Kernel5Ideal.τ).loc Cert.Kernel5Ideal.main_v24_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v94) = v0 c
          ∧ r.2.mem ((c.tc : Thread Cert.Reference5Ideal.nD Cert.Reference5Ideal.τ).loc Cert.Reference5Ideal.main_v96) = v1 c
          ∧ r.2.mem ((c.tc : Thread Cert.Reference5Ideal.nD Cert.Reference5Ideal.τ).loc Cert.Reference5Ideal.main_v98) = v2 c
          ∧ r.2.mem ((c.tc : Thread Cert.Reference5Ideal.nD Cert.Reference5Ideal.τ).loc Cert.Reference5Ideal.main_v100) = v3 c
          ∧ r.2.mem ((c.tc : Thread Cert.Reference5Ideal.nD Cert.Reference5Ideal.τ).loc Cert.Reference5Ideal.main_v103) = v4 c
          ∧ r.2.mem ((c.tc : Thread Cert.Reference5Ideal.nD Cert.Reference5Ideal.τ).loc Cert.Reference5Ideal.main_v106) = v5 c
          ∧ r.2.mem ((c.tc : Thread Cert.Reference5Ideal.nD Cert.Reference5Ideal.τ).loc Cert.Reference5Ideal.main_v108) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_experts_named : Cert.Pre_experts_named.Facts) (hPre_finite : Cert.Pre_finite.Facts) (hPre_finite_keys : Cert.Pre_finite_keys.Facts) (hOn_rows_in_use : Cert.On_rows_in_use.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal)
    ∧ quiescent_Reference3Ideal_pre_experts_named (hReference3Ideal := hReference3Ideal) (hPre_experts_named := hPre_experts_named)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite_keys (hKernel5Ideal := hKernel5Ideal) (hPre_finite_keys := hPre_finite_keys)
    ∧ quiescent_Reference5Ideal (hReference5Ideal := hReference5Ideal)
    ∧ quiescent_Reference5Ideal_pre_finite_keys (hReference5Ideal := hReference5Ideal) (hPre_finite_keys := hPre_finite_keys)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_rows_in_use (hKernel3Ideal := hKernel3Ideal) (hReference3Ideal := hReference3Ideal) (hPre_experts_named := hPre_experts_named) (hOn_rows_in_use := hOn_rows_in_use)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite_keys (hKernel5Ideal := hKernel5Ideal) (hReference5Ideal := hReference5Ideal) (hPre_finite_keys := hPre_finite_keys)
-- ==== On_rows_in_use.lean ====
abbrev S327680x128 : Shape := ⟨2, ![327680, 128]⟩
abbrev S40 : Shape := ⟨1, ![40]⟩
abbrev S2x8x1024x3584 : Shape := ⟨4, ![2, 8, 1024, 3584]⟩
abbrev S2x8x3584x1024 : Shape := ⟨4, ![2, 8, 3584, 1024]⟩
abbrev S40x1024x1024 : Shape := ⟨3, ![40, 1024, 1024]⟩
abbrev S40x1x1 : Shape := ⟨3, ![40, 1, 1]⟩

class Facts : Prop where
  bcast_S40_S40x1x1_0 : S40.BroadcastsInDim S40x1x1 (![0] : Fin 1 → Fin S40x1x1.rank)
  bcast_S40x1x1_S40x1024x1024_0_1_2 : S40x1x1.BroadcastsInDim S40x1024x1024 (![0, 1, 2] : Fin 3 → Fin S40x1024x1024.rank)
  shapeCasts_S40x1024x1024_S327680x128 : S40x1024x1024.ShapeCasts S327680x128

variable [Facts]

def fn {F : FTy → Type} [FloatOps F] (main_arg0 : FVec F S327680x128 .f32) (main_arg1 : IVec S40 32) (main_arg2 : IVec S40 32) (main_arg3 : FVec F S2x8x1024x3584 .f32) (main_arg4 : FVec F S2x8x1024x3584 .f32) (main_arg5 : FVec F S2x8x3584x1024 .f32) : IVec S327680x128 1 :=
  let main_v0 : IVec S40x1024x1024 32 := iotaInDim S40x1024x1024 32 1
  let main_v1 : IVec S40x1x1 32 := broadcastInDim S40x1x1 ![0] bcast_S40_S40x1x1_0 main_arg2
  let main_v2 : IVec S40x1024x1024 32 := broadcastInDim S40x1024x1024 ![0, 1, 2] bcast_S40x1x1_S40x1024x1024_0_1_2 main_v1
  let main_v3 : IVec S40x1024x1024 1 := cmpi .slt main_v0 main_v2
  let main_v4 : IVec S327680x128 1 := shapeCast S327680x128 main_v3 shapeCasts_S40x1024x1024_S327680x128
  main_v4
-- ==== Pre_experts_named.lean ====
abbrev S327680x128 : Shape := ⟨2, ![327680, 128]⟩
abbrev S40 : Shape := ⟨1, ![40]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S40 : S_.BroadcastsInDim S40 (![] : Fin 0 → Fin S40.rank)

variable [Facts]

def fn {F : FTy → Type} [FloatOps F] (main_arg0 : FVec F S327680x128 .f32) (main_arg1 : IVec S40 32) (main_arg2 : IVec S40 32) (main_arg3 : FVec F S2x8x1024x3584 .f32) (main_arg4 : FVec F S2x8x1024x3584 .f32) (main_arg5 : FVec F S2x8x3584x1024 .f32) : IVec S40 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  main_v4
-- ==== Pre_finite.lean ====
abbrev S8x2048x1024 : Shape := ⟨3, ![8, 2048, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x2048x1024 .f32) (main_arg1 : FVec F S1024 .f32) (main_arg2 : FVec F S1024x1024 .f32) (main_arg3 : FVec F S4x256x256 .f32) (main_arg4 : FVec F S1024 .f32) (main_arg5 : FVec F S1024x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Pre_finite_keys.lean ====
abbrev S8x2048x1024 : Shape := ⟨3, ![8, 2048, 1024]⟩
abbrev S1024 : Shape := ⟨1, ![1024]⟩
abbrev S6x1024 : Shape := ⟨2, ![6, 1024]⟩
abbrev S3x1024x1024 : Shape := ⟨3, ![3, 1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩
abbrev S1x1024 : Shape := ⟨2, ![1, 1024]⟩
abbrev S1x1024x1024 : Shape := ⟨3, ![1, 1024, 1024]⟩
abbrev S1024x1024 : Shape := ⟨2, ![1024, 1024]⟩

class Facts : Prop where
  bcast_S_S1024 : S_.BroadcastsInDim S1024 (![] : Fin 0 → Fin S1024.rank)
  reducesTo_S1024_S_d0 : S1024.ReducesTo [0] S_
  h_S_ : 0 < S_.numel
  slices_S6x1024_S1x1024_1_0 : S6x1024.Slices ![1, 0] S1x1024
  shapeCasts_S1x1024_S1024 : S1x1024.ShapeCasts S1024
  slices_S3x1024x1024_S1x1024x1024_1_0_0 : S3x1024x1024.Slices ![1, 0, 0] S1x1024x1024
  shapeCasts_S1x1024x1024_S1024x1024 : S1x1024x1024.ShapeCasts S1024x1024
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg12 : FVec F S1024 .f32) (main_v17 : IVec S_ 1) : IVec S_ 1 :=
  let main_v18 : FVec F S1024 .f32 := Host.absf main_arg12
  let main_cst_4 : FVec F S_ .f32 := constant S_ .f32 0x7F800000#32
  let main_v19 : FVec F S1024 .f32 := broadcastInDim S1024 ![] bcast_S_S1024 main_cst_4
  let main_v20 : IVec S1024 1 := cmpf .olt main_v18 main_v19
  let main_c_5 : IVec S_ 1 := constantI S_ 1 1#1
  let main_v21 : IVec S_ 1 := (fun x v => Host.reduce IntOp.andi x v reducesTo_S1024_S_d0 h_S_) main_v20 main_c_5
  let main_v22 : IVec S_ 1 := andi main_v17 main_v21
  main_v22

def fn {F : FTy → Type} [FloatOps F] (main_arg0 : FVec F S8x2048x1024 .f32) (main_arg1 : FVec F S1024 .f32) (main_arg2 : FVec F S6x1024 .f32) (main_arg3 : FVec F S3x1024x1024 .f32) (main_arg4 : FVec F S1024 .f32) (main_arg5 : FVec F S1024x64 .f32) (main_arg6 : FVec F S64x1024 .f32) (main_arg7 : FVec F S1024 .f32) (main_arg8 : FVec F S1024x64 .f32) (main_arg9 : FVec F S64x1024 .f32) (main_arg10 : FVec F S1024x128 .f32) (main_arg11 : FVec F S128x1024 .f32) (main_arg12 : FVec F S1024 .f32) (main_arg13 : FVec F S1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1x1024 .f32 := (extractStridedSlice S1x1024 ![1, 0] · slices_S6x1024_S1x1024_1_0) main_arg2
  let main_v5 : FVec F S1024 .f32 := shapeCast S1024 main_v4 shapeCasts_S1x1024_S1024
  let main_v6 : FVec F S1024 .f32 := Host.absf main_v5
  let main_cst_0 : FVec F S_ .f32 := constant S_ .f32 0x7F800000#32
  let main_v7 : FVec F S1024 .f32 := broadcastInDim S1024 ![] bcast_S_S1024 main_cst_0
  let main_v8 : IVec S1024 1 := cmpf .olt main_v6 main_v7
  let main_c_1 : IVec S_ 1 := constantI S_ 1 1#1
  let main_v9 : IVec S_ 1 := (fun x v => Host.reduce IntOp.andi x v reducesTo_S1024_S_d0 h_S_) main_v8 main_c_1
  let main_v10 : IVec S_ 1 := andi main_v3 main_v9
  let main_v11 : FVec F S1x1024x1024 .f32 := (extractStridedSlice S1x1024x1024 ![1, 0, 0] · slices_S3x1024x1024_S1x1024x1024_1_0_0) main_arg3
  let main_v12 : FVec F S1024x1024 .f32 := shapeCast S1024x1024 main_v11 shapeCasts_S1x1024x1024_S1024x1024
  let main_v13 : FVec F S1024x1024 .f32 := Host.absf main_v12
  let main_cst_2 : FVec F S_ .f32 := constant S_ .f32 0x7F800000#32
  let main_v14 : FVec F S1024x1024 .f32 := broadcastInDim S1024x1024 ![] bcast_S_S1024x1024 main_cst_2
  let main_v15 : IVec S1024x1024 1 := cmpf .olt main_v13 main_v14
  let main_c_3 : IVec S_ 1 := constantI S_ 1 1#1
  let main_v16 : IVec S_ 1 := (fun x v => Host.reduce IntOp.andi x v reducesTo_S1024x1024_S_d0_1 h_S_) main_v15 main_c_3
  let main_v17 : IVec S_ 1 := andi main_v10 main_v16
  fn_part1 (F := F) main_arg12 main_v17
-- ==== Kernel.lean ====
abbrev S8x2048x1024 : Shape := ⟨3, ![8, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S16384x1024 : Shape := ⟨2, ![16384, 1024]⟩
abbrev S8x128x1 : Shape := ⟨3, ![8, 128, 1]⟩
abbrev S1x1024 : Shape := ⟨2, ![1, 1024]⟩
abbrev S1024x1 : Shape := ⟨2, ![1024, 1]⟩
abbrev S128x128 : Shape := ⟨2, ![128, 128]⟩
abbrev S1x128x128 : Shape := ⟨3, ![1, 128, 128]⟩
abbrev S128x1024 : Shape := ⟨2, ![128, 1024]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S16384x1024, .f32⟩
  | .hbm, ⟨9, _⟩ => ⟨S1024x2048, .bf16⟩
  | .hbm, ⟨10, _⟩ => ⟨S1024x1024, .bf16⟩
  | .hbm, ⟨11, _⟩ => ⟨S8x128x1, .f32⟩
  | .hbm, ⟨12, _⟩ => ⟨S8x128x128, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128x128, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x2048x1024 : Shape := ⟨3, ![8, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x16x128x8x128 : Shape := ⟨5, ![8, 16, 128, 8, 128]⟩
abbrev S128x128 : Shape := ⟨2, ![128, 128]⟩
abbrev S8x8x16x128x128 : Shape := ⟨5, ![8, 8, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S16384x1024 : Shape := ⟨2, ![16384, 1024]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S8x16x128x8x128, .f32⟩
  | .hbm, ⟨66, _⟩ => ⟨S_, .i1⟩
  | .hbm, ⟨67, _⟩ => ⟨S128x128, .i1⟩
  | .hbm, ⟨68, _⟩ => ⟨S128x128, .i32⟩
  | .hbm, ⟨69, _⟩ => ⟨S_, .i32⟩
  | .hbm, ⟨70, _⟩ => ⟨S128x128, .i32⟩
  | .hbm, ⟨71, _⟩ => ⟨S128x128, .i32⟩
  | .hbm, ⟨72, _⟩ => ⟨S128x128, .i32⟩
  | .hbm, ⟨73, _⟩ => ⟨S128x128, .i1⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S_, .i32⟩
  | .hbm, ⟨78, _⟩ => ⟨S_, .f32⟩
  | .hbm, ⟨79, _⟩ => ⟨S8x128x128, .i1⟩
  | .hbm, ⟨80, _⟩ => ⟨S8x128x128, .f32⟩
  | .hbm, ⟨81, _⟩ => ⟨S8x128x128, .f32⟩
  | .hbm, ⟨82, _⟩ => ⟨S8x8x16x128x128, .f32⟩
  | .hbm, ⟨83, _⟩ => ⟨S8x16x128x8x128, .f32⟩
  | .hbm, ⟨84, _⟩ => ⟨S128x8, .f32⟩
  | .hbm, ⟨85, _⟩ => ⟨S128x8x1, .f32⟩
  | .hbm, ⟨86, _⟩ => ⟨S1x1x128x8x1, .f32⟩
  | .hbm, ⟨87, _⟩ => ⟨S8x16x128x8x128, .f32⟩
  | .hbm, ⟨88, _⟩ => ⟨S8x16x128x8x128, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_v48 : Ref sig .tc := ⟨.hbm, 67, rfl⟩
abbrev main_call0_v0 : Ref sig .tc := ⟨.hbm, 68, rfl⟩
abbrev main_call0_c : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_c_0 : Ref sig .tc := ⟨.hbm, 74, rfl⟩
abbrev main_call0_v5 : Ref sig .tc := ⟨.hbm, 75, rfl⟩
abbrev main_v49 : Ref sig .tc := ⟨.hbm, 76, rfl⟩
abbrev main_c_9 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S2x1024x3584 : Shape := ⟨3, ![2, 1024, 3584]⟩
abbrev S2x3584x1024 : Shape := ⟨3, ![2, 3584, 1024]⟩
abbrev S16384x1024 : Shape := ⟨2, ![16384, 1024]⟩
abbrev S1x1024 : Shape := ⟨2, ![1, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S2x1024x3584, .f32⟩
  | .hbm, ⟨3, _⟩ => ⟨S2x1024x3584, .f32⟩
  | .hbm, ⟨4, _⟩ => ⟨S2x3584x1024, .f32⟩
  | .hbm, ⟨5, _⟩ => ⟨S16384x1024, .f32⟩
  | .hbm, ⟨6, _⟩ => ⟨S2x1024x3584, .bf16⟩
  | .hbm, ⟨7, _⟩ => ⟨S2x1024x3584, .bf16⟩
  | .hbm, ⟨8, _⟩ => ⟨S2x3584x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v22 : BitVec 1 := Scalar.cmpi .eq arg1 c6_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x1024 : Shape := ⟨3, ![8, 2048, 1024]⟩
abbrev S1024 : Shape := ⟨1, ![1024]⟩
abbrev S2x1024x3584 : Shape := ⟨3, ![2, 1024, 3584]⟩
abbrev S2x3584x1024 : Shape := ⟨3, ![2, 3584, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S8x2048x3584 : Shape := ⟨3, ![8, 2048, 3584]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S2x1024x3584, .f32⟩
  | .hbm, ⟨3, _⟩ => ⟨S2x1024x3584, .f32⟩
  | .hbm, ⟨4, _⟩ => ⟨S2x3584x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x3584, .f32⟩
  | .hbm, ⟨22, _⟩ => ⟨S1024x3584, .f32⟩
  | .hbm, ⟨23, _⟩ => ⟨S1x1024x3584, .f32⟩
  | .hbm, ⟨24, _⟩ => ⟨S1024x3584, .f32⟩
  | .hbm, ⟨25, _⟩ => ⟨S1x3584x1024, .f32⟩
  | .hbm, ⟨26, _⟩ => ⟨S3584x1024, .f32⟩
  | .hbm, ⟨27, _⟩ => ⟨S8x2048x3584, .f32⟩
  | .hbm, ⟨28, _⟩ => ⟨S8x2048x3584, .f32⟩
  | .hbm, ⟨29, _⟩ => ⟨S8x2048x3584, .f32⟩
  | .hbm, ⟨30, _⟩ => ⟨S_, .f32⟩
  | .hbm, ⟨31, _⟩ => ⟨S8x2048x3584, .f32⟩
  | .hbm, ⟨32, _⟩ => ⟨S8x2048x3584, .f32⟩
  | .hbm, ⟨33, _⟩ => ⟨S_, .f32⟩
  | .hbm, ⟨34, _⟩ => ⟨S8x2048x3584, .f32⟩
  | .hbm, ⟨35, _⟩ => ⟨S8x2048x3584, .f32⟩
  | .hbm, ⟨36, _⟩ => ⟨S8x2048x3584, .f32⟩
  | .hbm, ⟨37, _⟩ => ⟨S8x2048x3584, .f32⟩
  | .hbm, ⟨38, _⟩ => ⟨S8x2048x3584, .f32⟩
  | .hbm, ⟨39, _⟩ => ⟨S8x2048x1024, .f32⟩
  | .hbm, ⟨40, _⟩ => ⟨S8x2048x1024, .f32⟩
  | .hbm, ⟨41, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel3.lean ====
abbrev S327680x128 : Shape := ⟨2, ![327680, 128]⟩
abbrev S40 : Shape := ⟨1, ![40]⟩
abbrev S2x8x1024x3584 : Shape := ⟨4, ![2, 8, 1024, 3584]⟩
abbrev S2x8x3584x1024 : Shape := ⟨4, ![2, 8, 3584, 1024]⟩
abbrev S8192x128 : Shape := ⟨2, ![8192, 128]⟩
abbrev S1x1x1024x512 : Shape := ⟨4, ![1, 1, 1024, 512]⟩
abbrev S1 : Shape := ⟨1, ![1]⟩
abbrev S1x1x512x1024 : Shape := ⟨4, ![1, 1, 512, 1024]⟩
abbrev S1024x1024 : Shape := ⟨2, ![1024, 1024]⟩
abbrev S1024x128 : Shape := ⟨2, ![1024, 128]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 5
  | .vmem => 12
  | .smem => 2
  | _ => 0

abbrev bufTy : (tb : Table) → Fin (tcTables nBuf tb) → BufTy
  | .hbm, ⟨0, _⟩ => ⟨S327680x128, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S327680x128, .f32⟩
  | .local _ .vmem, ⟨0, _⟩ => ⟨S8192x128, .f32⟩
  | .local _ .vmem, ⟨1, _⟩ => ⟨S8192x128, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S8192x128, .f32⟩
  | .local _ .vmem, ⟨9, _⟩ => ⟨S8192x128, .f32⟩
  | .local _ .vmem, ⟨10, _⟩ => ⟨S1024x1024, .bf16⟩
  | .local _ .vmem, ⟨11, _⟩ => ⟨S1024x1024, .f32⟩
  | .local _ .smem, ⟨0, _⟩ => ⟨S40, .i32⟩
  | .local _ .smem, ⟨1, _⟩ => ⟨S40, .i32⟩
  | _, _ => ⟨S327680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond5 (i : grid0.Coords) : BitVec 1 :=
  let arg1 : BitVec 32 := BitVec.ofNat 32 (i 1).val
  let c6_i32 : BitVec 32 := 6#32
  let v13 : BitVec 1 := Scalar.cmpi .eq arg1 c6_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_3 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c6_i32 : BitVec 32 := 6#32
  let v5 : BitVec 32 := Scalar.select v4 arg1 c6_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S327680x128 : Shape := ⟨2, ![327680, 128]⟩
abbrev S40 : Shape := ⟨1, ![40]⟩
abbrev S2x8x1024x3584 : Shape := ⟨4, ![2, 8, 1024, 3584]⟩
abbrev S2x8x3584x1024 : Shape := ⟨4, ![2, 8, 3584, 1024]⟩
abbrev S40x1024x1024 : Shape := ⟨3, ![40, 1024, 1024]⟩
abbrev S1x8x1024x3584 : Shape := ⟨4, ![1, 8, 1024, 3584]⟩
abbrev S8x1024x3584 : Shape := ⟨3, ![8, 1024, 3584]⟩
abbrev S_ : Shape := ⟨0, ![]⟩
abbrev S40x1 : Shape := ⟨2, ![40, 1]⟩
abbrev S40x1024x3584 : Shape := ⟨3, ![40, 1024, 3584]⟩
abbrev S1x8x3584x1024 : Shape := ⟨4, ![1, 8, 3584, 1024]⟩
abbrev S8x3584x1024 : Shape := ⟨3, ![8, 3584, 1024]⟩
abbrev S40x3584x1024 : Shape := ⟨3, ![40, 3584, 1024]⟩

abbrev nBuf : Space → Nat
  | .hbm => 54
  | .vmem => 0
  | .smem => 0
  | _ => 0

abbrev bufTy : (tb : Table) → Fin (tcTables nBuf tb) → BufTy
  | .hbm, ⟨0, _⟩ => ⟨S327680x128, .f32⟩
  | .hbm, ⟨1, _⟩ => ⟨S40, .i32⟩
  | .hbm, ⟨2, _⟩ => ⟨S40, .i32⟩
  | .hbm, ⟨3, _⟩ => ⟨S2x8x1024x3584, .f32⟩
  | .hbm, ⟨4, _⟩ => ⟨S2x8x1024x3584, .f32⟩
  | .hbm, ⟨5, _⟩ => ⟨S2x8x3584x1024, .f32⟩
  | .hbm, ⟨6, _⟩ => ⟨S40x1024x1024, .f32⟩
  | .hbm, ⟨7, _⟩ => ⟨S1x8x1024x3584, .f32⟩
  | .hbm, ⟨8, _⟩ => ⟨S8x1024x3584, .f32⟩
  | .hbm, ⟨9, _⟩ => ⟨S_, .i32⟩
  | .hbm, ⟨10, _⟩ => ⟨S40, .i32⟩
  | .hbm, ⟨11, _⟩ => ⟨S40, .i1⟩
  | .hbm, ⟨12, _⟩ => ⟨S_, .i32⟩
  | .hbm, ⟨13, _⟩ => ⟨S40, .i32⟩
  | .hbm, ⟨14, _⟩ => ⟨S40, .i32⟩
  | .hbm, ⟨15, _⟩ => ⟨S40, .i32⟩
  | .hbm, ⟨16, _⟩ => ⟨S40x1, .i32⟩
  | .hbm, ⟨17, _⟩ => ⟨S40x1024x3584, .f32⟩
  | .hbm, ⟨18, _⟩ => ⟨S1x8x1024x3584, .f32⟩
  | .hbm, ⟨19, _⟩ => ⟨S8x1024x3584, .f32⟩
  | .hbm, ⟨20, _⟩ => ⟨S_, .i32⟩
  | .hbm, ⟨21, _⟩ => ⟨S40, .i32⟩
  | .hbm, ⟨22, _⟩ => ⟨S40, .i1⟩
  | .hbm, ⟨23, _⟩ => ⟨S_, .i32⟩
  | .hbm, ⟨24, _⟩ => ⟨S40, .i32⟩
  | .hbm, ⟨25, _⟩ => ⟨S40, .i32⟩
  | .hbm, ⟨26, _⟩ => ⟨S40, .i32⟩
  | .hbm, ⟨27, _⟩ => ⟨S40x1, .i32⟩
  | .hbm, ⟨28, _⟩ => ⟨S40x1024x3584, .f32⟩
  | .hbm, ⟨29, _⟩ => ⟨S1x8x3584x1024, .f32⟩
  | .hbm, ⟨30, _⟩ => ⟨S8x3584x1024, .f32⟩
  | .hbm, ⟨31, _⟩ => ⟨S_, .i32⟩
  | .hbm, ⟨32, _⟩ => ⟨S40, .i32⟩
  | .hbm, ⟨33, _⟩ => ⟨S40, .i1⟩
  | .hbm, ⟨34, _⟩ => ⟨S_, .i32⟩
  | .hbm, ⟨35, _⟩ => ⟨S40, .i32⟩
  | .hbm, ⟨36, _⟩ => ⟨S40, .i32⟩
  | .hbm, ⟨37, _⟩ => ⟨S40, .i32⟩
  | .hbm, ⟨38, _⟩ => ⟨S40x1, .i32⟩
  | .hbm, ⟨39, _⟩ => ⟨S40x3584x1024, .f32⟩
  | .hbm, ⟨40, _⟩ => ⟨S40x1024x3584, .f32⟩
  | .hbm, ⟨41, _⟩ => ⟨S40x1024x3584, .f32⟩
  | .hbm, ⟨42, _⟩ => ⟨S40x1024x3584, .f32⟩
  | .hbm, ⟨43, _⟩ => ⟨S_, .f32⟩
  | .hbm, ⟨44, _⟩ => ⟨S40x1024x3584, .f32⟩
  | .hbm, ⟨45, _⟩ => ⟨S40x1024x3584, .f32⟩
  | .hbm, ⟨46, _⟩ => ⟨S_, .f32⟩
  | .hbm, ⟨47, _⟩ => ⟨S40x1024x3584, .f32⟩
  | .hbm, ⟨48, _⟩ => ⟨S40x1024x3584, .f32⟩
  | .hbm, ⟨49, _⟩ => ⟨S40x1024x3584, .f32⟩
  | .hbm, ⟨50, _⟩ => ⟨S40x1024x3584, .f32⟩
  | .hbm, ⟨51, _⟩ => ⟨S40x1024x3584, .f32⟩
  | .hbm, ⟨52, _⟩ => ⟨S40x1024x1024, .f32⟩
  | .hbm, ⟨53, _⟩ => ⟨S327680x128, .f32⟩
  | _, _ => ⟨S327680x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x1024 : Shape := ⟨2, ![1024, 1024]⟩
abbrev S4x256x256 : Shape := ⟨3, ![4, 256, 256]⟩
abbrev S16384x1024 : Shape := ⟨2, ![16384, 1024]⟩
abbrev S1x1024 : Shape := ⟨2, ![1, 1024]⟩
abbrev S16x1024 : Shape := ⟨2, ![16, 1024]⟩
abbrev S1040x1024 : Shape := ⟨2, ![1040, 1024]⟩
abbrev S1040 : Shape := ⟨1, ![1040]⟩
abbrev S1040x1 : Shape := ⟨2, ![1040, 1]⟩
abbrev S1024x1 : Shape := ⟨2, ![1024, 1]⟩
abbrev S1039x1024 : Shape := ⟨2, ![1039, 1024]⟩
abbrev S1024x256 : Shape := ⟨2, ![1024, 256]⟩
abbrev S1037x1024 : Shape := ⟨2, ![1037, 1024]⟩
abbrev S1033x1024 : Shape := ⟨2, ![1033, 1024]⟩
abbrev S1025x1024 : Shape := ⟨2, ![1025, 1024]⟩
abbrev S1x256x256 : Shape := ⟨3, ![1, 256, 256]⟩
abbrev S256x256 : Shape := ⟨2, ![256, 256]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S16384x1024, .f32⟩
  | .hbm, ⟨7, _⟩ => ⟨S1024x1024, .bf16⟩
  | .hbm, ⟨8, _⟩ => ⟨S4x256x256, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x1024, .bf16⟩
  | .local _ .vmem, ⟨6, _⟩ => ⟨S4x256x256, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x2048x1024 : Shape := ⟨3, ![8, 2048, 1024]⟩
abbrev S1024 : Shape := ⟨1, ![1024]⟩
abbrev S1024x1024 : Shape := ⟨2, ![1024, 1024]⟩
abbrev S4x256x256 : Shape := ⟨3, ![4, 256, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S2048 : Shape := ⟨1, ![2048]⟩
abbrev S8x2048x256 : Shape := ⟨3, ![8, 2048, 256]⟩
abbrev S8x2050x256 : Shape := ⟨3, ![8, 2050, 256]⟩
abbrev S1x2048x1 : Shape := ⟨3, ![1, 2048, 1]⟩
abbrev S8x2052x256 : Shape := ⟨3, ![8, 2052, 256]⟩
abbrev S8x2056x256 : Shape := ⟨3, ![8, 2056, 256]⟩
abbrev S8x2064x256 : Shape := ⟨3, ![8, 2064, 256]⟩
abbrev S8x2048x1x256 : Shape := ⟨4, ![8, 2048, 1, 256]⟩
abbrev S8x2048x4x256 : Shape := ⟨4, ![8, 2048, 4, 256]⟩
abbrev S4x256x8x2048 : Shape := ⟨4, ![4, 256, 8, 2048]⟩
abbrev S16384x1024 : Shape := ⟨2, ![16384, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S4x256x256, .f32⟩
  | .hbm, ⟨4, _⟩ => ⟨S1024, .f32⟩
  | .hbm, ⟨5, _⟩ => ⟨S1024x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S_, .f32⟩
  | .hbm, ⟨25, _⟩ => ⟨S8x2048x1024, .f32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S8x2048x256, .f32⟩
  | .hbm, ⟨31, _⟩ => ⟨S_, .i32⟩
  | .hbm, ⟨32, _⟩ => ⟨S_, .f32⟩
  | .hbm, ⟨33, _⟩ => ⟨S8x2050x256, .f32⟩
  | .hbm, ⟨34, _⟩ => ⟨S8x2048x256, .f32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .f32⟩
  | .hbm, ⟨39, _⟩ => ⟨S1x2048x1, .f32⟩
  | .hbm, ⟨40, _⟩ => ⟨S8x2048x256, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S8x2048x256, .f32⟩
  | .hbm, ⟨45, _⟩ => ⟨S8x2048x256, .f32⟩
  | .hbm, ⟨46, _⟩ => ⟨S_, .i32⟩
  | .hbm, ⟨47, _⟩ => ⟨S_, .f32⟩
  | .hbm, ⟨48, _⟩ => ⟨S8x2052x256, .f32⟩
  | .hbm, ⟨49, _⟩ => ⟨S8x2048x256, .f32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .f32⟩
  | .hbm, ⟨54, _⟩ => ⟨S1x2048x1, .f32⟩
  | .hbm, ⟨55, _⟩ => ⟨S8x2048x256, .f32⟩
  | .hbm, ⟨56, _⟩ => ⟨S8x2048x256, .f32⟩
  | .hbm, ⟨57, _⟩ => ⟨S8x2048x256, .f32⟩
  | .hbm, ⟨58, _⟩ => ⟨S8x2048x256, .f32⟩
  | .hbm, ⟨59, _⟩ => ⟨S8x2048x256, .f32⟩
  | .hbm, ⟨60, _⟩ => ⟨S8x2048x256, .f32⟩
  | .hbm, ⟨61, _⟩ => ⟨S_, .i32⟩
  | .hbm, ⟨62, _⟩ => ⟨S_, .f32⟩
  | .hbm, ⟨63, _⟩ => ⟨S8x2056x256, .f32⟩
  | .hbm, ⟨64, _⟩ => ⟨S8x2048x256, .f32⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .f32⟩
  | .hbm, ⟨69, _⟩ => ⟨S1x2048x1, .f32⟩
  | .hbm, ⟨70, _⟩ => ⟨S8x2048x256, .f32⟩
  | .hbm, ⟨71, _⟩ => ⟨S8x2048x256, .f32⟩
  | .hbm, ⟨72, _⟩ => ⟨S8x2048x256, .f32⟩
  | .hbm, ⟨73, _⟩ => ⟨S8x2048x256, .f32⟩
  | .hbm, ⟨74, _⟩ => ⟨S8x2048x256, .f32⟩
  | .hbm, ⟨75, _⟩ => ⟨S8x2048x256, .f32⟩
  | .hbm, ⟨76, _⟩ => ⟨S_, .i32⟩
  | .hbm, ⟨77, _⟩ => ⟨S_, .f32⟩
  | .hbm, ⟨78, _⟩ => ⟨S8x2064x256, .f32⟩
  | .hbm, ⟨79, _⟩ => ⟨S8x2048x256, .f32⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S2048, .f32⟩
  | .hbm, ⟨84, _⟩ => ⟨S1x2048x1, .f32⟩
  | .hbm, ⟨85, _⟩ => ⟨S8x2048x256, .f32⟩
  | .hbm, ⟨86, _⟩ => ⟨S8x2048x256, .f32⟩
  | .hbm, ⟨87, _⟩ => ⟨S8x2048x256, .f32⟩
  | .hbm, ⟨88, _⟩ => ⟨S8x2048x256, .f32⟩
  | .hbm, ⟨89, _⟩ => ⟨S8x2048x256, .f32⟩
  | .hbm, ⟨90, _⟩ => ⟨S8x2048x1x256, .f32⟩
  | .hbm, ⟨91, _⟩ => ⟨S8x2048x1x256, .f32⟩
  | .hbm, ⟨92, _⟩ => ⟨S8x2048x1x256, .f32⟩
  | .hbm, ⟨93, _⟩ => ⟨S8x2048x1x256, .f32⟩
  | .hbm, ⟨94, _⟩ => ⟨S8x2048x4x256, .f32⟩
  | .hbm, ⟨95, _⟩ => ⟨S4x256x8x2048, .f32⟩
  | .hbm, ⟨96, _⟩ => ⟨S8x2048x4x256, .f32⟩
  | .hbm, ⟨97, _⟩ => ⟨S8x2048x1024, .f32⟩
  | .hbm, ⟨98, _⟩ => ⟨S1x1x1024, .f32⟩
  | .hbm, ⟨99, _⟩ => ⟨S8x2048x1024, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_call0_cst : Ref sig .tc := ⟨.hbm, 23, rfl⟩
abbrev main_call0_call0_v0 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_call2_v0 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_call3_v0 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_call4_v0 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S6x1024 : Shape := ⟨2, ![6, 1024]⟩
abbrev S3x1024x1024 : Shape := ⟨3, ![3, 1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S16384x1024 : Shape := ⟨2, ![16384, 1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1x1024 : Shape := ⟨2, ![1, 1024]⟩
abbrev S8x32x1024 : Shape := ⟨3, ![8, 32, 1024]⟩
abbrev S8x8x1024 : Shape := ⟨3, ![8, 8, 1024]⟩
abbrev S256x1024 : Shape := ⟨2, ![256, 1024]⟩
abbrev S8x256x128 : Shape := ⟨3, ![8, 256, 128]⟩
abbrev S1x32x128 : Shape := ⟨3, ![1, 32, 128]⟩
abbrev S32x128 : Shape := ⟨2, ![32, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x1x1024 : Shape := ⟨3, ![1, 1, 1024]⟩
abbrev S8x1024 : Shape := ⟨2, ![8, 1024]⟩
abbrev S8 : Shape := ⟨1, ![8]⟩
abbrev S8x1 : Shape := ⟨2, ![8, 1]⟩
abbrev S248x1024 : Shape := ⟨2, ![248, 1024]⟩
abbrev S1x1024x1024 : Shape := ⟨3, ![1, 1024, 1024]⟩
abbrev S1024x1024 : Shape := ⟨2, ![1024, 1024]⟩
abbrev S256x64 : Shape := ⟨2, ![256, 64]⟩

abbrev nBuf : Space → Nat
  | .hbm => 62
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S6x1024, .f32⟩
  | .hbm, ⟨3, _⟩ => ⟨S3x1024x1024, .f32⟩
  | .hbm, ⟨4, _⟩ => ⟨S1024, .f32⟩
  | .hbm, ⟨5, _⟩ => ⟨S1024x64, .f32⟩
  | .hbm, ⟨6, _⟩ => ⟨S64x1024, .f32⟩
  | .hbm, ⟨7, _⟩ => ⟨S1024, .f32⟩
  | .hbm, ⟨8, _⟩ => ⟨S1024x64, .f32⟩
  | .hbm, ⟨9, _⟩ => ⟨S64x1024, .f32⟩
  | .hbm, ⟨10, _⟩ => ⟨S1024x128, .f32⟩
  | .hbm, ⟨11, _⟩ => ⟨S128x1024, .f32⟩
  | .hbm, ⟨12, _⟩ => ⟨S1024, .f32⟩
  | .hbm, ⟨13, _⟩ => ⟨S1024, .f32⟩
  | .hbm, ⟨14, _⟩ => ⟨S16384x1024, .f32⟩
  | .hbm, ⟨15, _⟩ => ⟨S3x1024x1024, .bf16⟩
  | .hbm, ⟨16, _⟩ => ⟨S1024x64, .bf16⟩
  | .hbm, ⟨17, _⟩ => ⟨S64x1024, .bf16⟩
  | .hbm, ⟨18, _⟩ => ⟨S1024x64, .bf16⟩
  | .hbm, ⟨19, _⟩ => ⟨S64x1024, .bf16⟩
  | .hbm, ⟨20, _⟩ => ⟨S1024x128, .bf16⟩
  | .hbm, ⟨21, _⟩ => ⟨S128x1024, .bf16⟩
  | .hbm, ⟨22, _⟩ => ⟨S1024, .i32⟩
  | .hbm, ⟨23, _⟩ => ⟨S_, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S128, .i32⟩
  | .hbm, ⟨43, _⟩ => ⟨S1x128, .i32⟩
  | .hbm, ⟨44, _⟩ => ⟨S1024x128, .i32⟩
  | .hbm, ⟨45, _⟩ => ⟨S1024x128, .i32⟩
  | .hbm, ⟨46, _⟩ => ⟨S1024x128, .i1⟩
  | .hbm, ⟨47, _⟩ => ⟨S1024x128, .bf16⟩
  | .hbm, ⟨48, _⟩ => ⟨S128x1024, .bf16⟩
  | .hbm, ⟨49, _⟩ => ⟨S8x2048x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .local _ .vmem, ⟨0, _⟩ => ⟨S8x32x1024, .f32⟩
  | .local _ .vmem, ⟨1, _⟩ => ⟨S8x32x1024, .f32⟩
  | .local _ .vmem, ⟨2, _⟩ => ⟨S8x8x1024, .f32⟩
  | .local _ .vmem, ⟨3, _⟩ => ⟨S8x8x1024, .f32⟩
  | .local _ .vmem, ⟨4, _⟩ => ⟨S1x1024, .f32⟩
  | .local _ .vmem, ⟨5, _⟩ => ⟨S6x1024, .f32⟩
  | .local _ .vmem, ⟨6, _⟩ => ⟨S3x1024x1024, .bf16⟩
  | .local _ .vmem, ⟨7, _⟩ => ⟨S1x1024, .f32⟩
  | .local _ .vmem, ⟨8, _⟩ => ⟨S1024x64, .bf16⟩
  | .local _ .vmem, ⟨9, _⟩ => ⟨S64x1024, .bf16⟩
  | .local _ .vmem, ⟨10, _⟩ => ⟨S1x1024, .f32⟩
  | .local _ .vmem, ⟨11, _⟩ => ⟨S1024x64, .bf16⟩
  | .local _ .vmem, ⟨12, _⟩ => ⟨S64x1024, .bf16⟩
  | .local _ .vmem, ⟨13, _⟩ => ⟨S1024x128, .bf16⟩
  | .local _ .vmem, ⟨14, _⟩ => ⟨S128x1024, .bf16⟩
  | .local _ .vmem, ⟨15, _⟩ => ⟨S1x1024, .f32⟩
  | .local _ .vmem, ⟨16, _⟩ => ⟨S1x1024, .f32⟩
  | .local _ .vmem, ⟨17, _⟩ => ⟨S1024x128, .bf16⟩
  | .local _ .vmem, ⟨18, _⟩ => ⟨S128x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S8x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24_0 : Ref sig .tc := ⟨.hbm, 55, rfl⟩
abbrev main_v24_1 : Ref sig .tc := ⟨.hbm, 56, rfl⟩
abbrev main_v24_2 : Ref sig .tc := ⟨.hbm, 57, rfl⟩
abbrev main_v24_3 : Ref sig .tc := ⟨.hbm, 58, rfl⟩
abbrev main_v24_4 : Ref sig .tc := ⟨.hbm, 59, rfl⟩
abbrev main_v24_5 : Ref sig .tc := ⟨.hbm, 60, rfl⟩
abbrev main_v24_6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference5Ideal.lean ====
abbrev S8x2048x1024 : Shape := ⟨3, ![8, 2048, 1024]⟩
abbrev S1024 : Shape := ⟨1, ![1024]⟩
abbrev S6x1024 : Shape := ⟨2, ![6, 1024]⟩
abbrev S3x1024x1024 : Shape := ⟨3, ![3, 1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2049x1024 : Shape := ⟨3, ![8, 2049, 1024]⟩
abbrev S1x8x2048x1024 : Shape := ⟨4, ![1, 8, 2048, 1024]⟩
abbrev S6x1x1x1024 : Shape := ⟨4, ![6, 1, 1, 1024]⟩
abbrev S6x8x2048x1024 : Shape := ⟨4, ![6, 8, 2048, 1024]⟩
abbrev S3x8x2048x1024 : Shape := ⟨4, ![3, 8, 2048, 1024]⟩
abbrev S8x2048x64 : Shape := ⟨3, ![8, 2048, 64]⟩
abbrev S8x2048x128 : Shape := ⟨3, ![8, 2048, 128]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S2048x8x16x64 : Shape := ⟨4, ![2048, 8, 16, 64]⟩
abbrev S16384x1024 : Shape := ⟨2, ![16384, 1024]⟩
abbrev S2048x8x1024 : Shape := ⟨3, ![2048, 8, 1024]⟩

abbrev nBuf : Space → Nat
  | .hbm => 153
  | .vmem => 0
  | .smem => 0
  | _ => 0

abbrev hbmTy0_0 (i : Nat) : BufTy := match i % 128 with
  | 0 => ⟨S8x2048x1024, .f32⟩
  | 1 => ⟨S1024, .f32⟩
  | 2 => ⟨S6x1024, .f32⟩
  | 3 => ⟨S3x1024x1024, .f32⟩
  | 4 => ⟨S1024, .f32⟩
  | 5 => ⟨S1024x64, .f32⟩
  | 6 => ⟨S64x1024, .f32⟩
  | 7 => ⟨S1024, .f32⟩
  | 8 => ⟨S1024x64, .f32⟩
  | 9 => ⟨S64x1024, .f32⟩
  | 10 => ⟨S1024x128, .f32⟩
  | 11 => ⟨S128x1024, .f32⟩
  | 12 => ⟨S1024, .f32⟩
  | 13 => ⟨S1024, .f32⟩
  | 14 => ⟨S8x2048x1024, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x1024, .f32⟩
  | 26 => ⟨S8x2048x1024, .f32⟩
  | 27 => ⟨S1x1x1024, .f32⟩
  | 28 => ⟨S8x2048x1024, .f32⟩
  | 29 => ⟨S8x2048x1024, .f32⟩
  | 30 => ⟨S_, .i32⟩
  | 31 => ⟨S_, .f32⟩
  | 32 => ⟨S8x2049x1024, .f32⟩
  | 33 => ⟨S8x2048x1024, .f32⟩
  | 34 => ⟨S8x2048x1024, .f32⟩
  | 35 => ⟨S1x8x2048x1024, .f32⟩
  | 36 => ⟨S1x8x2048x1024, .f32⟩
  | 37 => ⟨S6x1x1x1024, .f32⟩
  | 38 => ⟨S6x8x2048x1024, .f32⟩
  | 39 => ⟨S6x8x2048x1024, .f32⟩
  | 40 => ⟨S6x8x2048x1024, .f32⟩
  | 41 => ⟨S6x8x2048x1024, .f32⟩
  | 42 => ⟨S6x8x2048x1024, .f32⟩
  | 43 => ⟨S3x8x2048x1024, .f32⟩
  | 44 => ⟨S3x8x2048x1024, .f32⟩
  | 45 => ⟨S1x8x2048x1024, .f32⟩
  | 46 => ⟨S8x2048x1024, .f32⟩
  | 47 => ⟨S1x8x2048x1024, .f32⟩
  | 48 => ⟨S8x2048x1024, .f32⟩
  | 49 => ⟨S1x8x2048x1024, .f32⟩
  | 50 => ⟨S8x2048x1024, .f32⟩
  | 51 => ⟨S1x8x2048x1024, .f32⟩
  | 52 => ⟨S8x2048x1024, .f32⟩
  | 53 => ⟨S1x8x2048x1024, .f32⟩
  | 54 => ⟨S8x2048x1024, .f32⟩
  | 55 => ⟨S1x8x2048x1024, .f32⟩
  | 56 => ⟨S8x2048x1024, .f32⟩
  | 57 => ⟨S8x2048x64, .f32⟩
  | 58 => ⟨S8x2048x64, .f32⟩
  | 59 => ⟨S8x2048x1024, .f32⟩
  | 60 => ⟨S1x1x1024, .f32⟩
  | 61 => ⟨S8x2048x1024, .f32⟩
  | 62 => ⟨S8x2048x1024, .f32⟩
  | 63 => ⟨S8x2048x1024, .f32⟩
  | 64 => ⟨S_, .f32⟩
  | 65 => ⟨S8x2048x1024, .f32⟩
  | 66 => ⟨S8x2048x1024, .f32⟩
  | 67 => ⟨S8x2048x1024, .f32⟩
  | 68 => ⟨S8x2048x1024, .f32⟩
  | 69 => ⟨S8x2048x1024, .i1⟩
  | 70 => ⟨S8x2048x1024, .f32⟩
  | 71 => ⟨S8x2048x1024, .f32⟩
  | 72 => ⟨S8x2048x1024, .f32⟩
  | 73 => ⟨S8x2048x1024, .f32⟩
  | 74 => ⟨S8x2048x1024, .f32⟩
  | 75 => ⟨S8x2048x1024, .f32⟩
  | 76 => ⟨S8x2048x1024, .f32⟩
  | 77 => ⟨S8x2048x1024, .f32⟩
  | 78 => ⟨S8x2048x1024, .f32⟩
  | 79 => ⟨S_, .f32⟩
  | 80 => ⟨S8x2048x1024, .f32⟩
  | 81 => ⟨S8x2048x1024, .f32⟩
  | 82 => ⟨S8x2048x64, .f32⟩
  | 83 => ⟨S8x2048x1024, .f32⟩
  | 84 => ⟨S1x1x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S_, .f32⟩
  | 90 => ⟨S8x2048x1024, .f32⟩
  | 91 => ⟨S8x2048x1024, .f32⟩
  | 92 => ⟨S_, .f32⟩
  | 93 => ⟨S8x2048x1024, .f32⟩
  | 94 => ⟨S8x2048x1024, .f32⟩
  | 95 => ⟨S8x2048x128, .f32⟩
  | 96 => ⟨S8x2048x128, .f32⟩
  | 97 => ⟨S8x2048x128, .f32⟩
  | 98 => ⟨S_, .f32⟩
  | 99 => ⟨S8x2048x128, .f32⟩
  | 100 => ⟨S8x2048x128, .f32⟩
  | 101 => ⟨S_, .f32⟩
  | 102 => ⟨S8x2048x128, .f32⟩
  | 103 => ⟨S8x2048x128, .f32⟩
  | 104 => ⟨S8x2048x1024, .f32⟩
  | 105 => ⟨S1x1x1024, .f32⟩
  | 106 => ⟨S8x2048x1024, .f32⟩
  | 107 => ⟨S8x2048x1024, .f32⟩
  | 108 => ⟨S8x2048x16x64, .f32⟩
  | 109 => ⟨S8x2048x16x64, .f32⟩
  | 110 => ⟨S_, .f32⟩
  | 111 => ⟨S8x2048x16, .f32⟩
  | 112 => ⟨S8x2048x16x1, .f32⟩
  | 113 => ⟨S8x2048x16x1, .f32⟩
  | 114 => ⟨S_, .f32⟩
  | 115 => ⟨S8x2048x16x1, .f32⟩
  | 116 => ⟨S8x2048x16x1, .f32⟩
  | 117 => ⟨S8x2048x16x64, .f32⟩
  | 118 => ⟨S8x2048x16x64, .f32⟩
  | 119 => ⟨S_, .f32⟩
  | 120 => ⟨S8x2048x1024, .f32⟩
  | 121 => ⟨S8x2048x1024, .f32⟩
  | 122 => ⟨S1x1x1024, .f32⟩
  | 123 => ⟨S8x2048x1024, .f32⟩
  | 124 => ⟨S8x2048x1024, .f32⟩
  | 125 => ⟨S_, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x16x64, .f32⟩
  | 2 => ⟨S8x2048x16x64, .f32⟩
  | 3 => ⟨S8x2048x16x64, .f32⟩
  | 4 => ⟨S8x2048x16x64, .f32⟩
  | 5 => ⟨S8x2048x16x64, .f32⟩
  | 6 => ⟨S8x2048x16x64, .f32⟩
  | 7 => ⟨S8x2048x16x64, .f32⟩
  | 8 => ⟨S8x2048x16x64, .f32⟩
  | 9 => ⟨S2048x8x16x64, .f32⟩
  | 10 => ⟨S16384x1024, .f32⟩
  | 11 => ⟨S2048x8x16x64, .f32⟩
  | 12 => ⟨S16384x1024, .f32⟩
  | 13 => ⟨S2048x8x16x64, .f32⟩
  | 14 => ⟨S16384x1024, .f32⟩
  | 15 => ⟨S2048x8x16x64, .f32⟩
  | 16 => ⟨S16384x1024, .f32⟩
  | 17 => ⟨S8x2048x16x64, .f32⟩
  | 18 => ⟨S2048x8x16x64, .f32⟩
  | 19 => ⟨S16384x1024, .f32⟩
  | 20 => ⟨S8x2048x16x64, .f32⟩
  | 21 => ⟨S2048x8x16x64, .f32⟩
  | 22 => ⟨S16384x1024, .f32⟩
  | 23 => ⟨S2048x8x1024, .f32⟩
  | 24 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v45 : Ref sig .tc := ⟨.hbm, 77, rfl⟩
abbrev main_v46 : Ref sig .tc := ⟨.hbm, 78, rfl⟩
abbrev main_cst_2 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_3 : Ref sig .tc := ⟨.hbm, 89, rfl⟩
abbrev main_v56 : Ref sig .tc := ⟨.hbm, 90, rfl⟩
abbrev main_v57 : Ref sig .tc := ⟨.hbm, 91, rfl⟩
abbrev main_cst_4 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_5 : Ref sig .tc := ⟨.hbm, 98, rfl⟩
abbrev main_v63 : Ref sig .tc := ⟨.hbm, 99, rfl⟩
abbrev main_v64 : Ref sig .tc := ⟨.hbm, 100, rfl⟩
abbrev main_cst_6 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_call2_v0 : Ref sig .tc := ⟨.hbm, 109, rfl⟩
abbrev main_call2_cst : Ref sig .tc := ⟨.hbm, 110, rfl⟩
abbrev main_call2_v1 : Ref sig .tc := ⟨.hbm, 111, rfl⟩
abbrev main_call2_v2 : Ref sig .tc := ⟨.hbm, 112, rfl⟩
abbrev main_v72 : Ref sig .tc := ⟨.hbm, 113, rfl⟩
abbrev main_cst_7 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_8 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_9 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩

abbrev nD : Nat := 1
abbrev τ : Topo := Topo.v7x

variable {F : FTy → Type} [FloatOps F]
-- ==== Proof.GmlpPiece.lean ====
module
public import proofs.«01_k».proof.Proof.Gen.KernelIdeal.Value
public import Idealize.ShloMosaic.Lib.Pointwise
public import Idealize.ShloMosaic.Lib.Pipeline.ValueKit.Tiles
@[expose] public section
set_option maxRecDepth 16384
noncomputable section
namespace Cert.KernelIdeal.Gmlp
open Cert.KernelIdeal Cert.KernelIdeal.Gen Idealize.ShloMosaic Idealize.ShloMosaic.TcCoe Idealize.SL.Sem

/-- Row `s` of the 128-row chunk that holds row `r`. -/
def chunkRow (r : Fin 1024) (s : Fin 128) : Fin 1024 := ⟨128 * (r.val / 128) + s.val, by omega⟩

/-- The 128-lane group a column lies in. -/
def grp (j : Fin 1024) : Fin 8 := ⟨j.val / 128, by omega⟩

/-- A position within its chunk or its group. -/
def pos (r : Fin 1024) : Fin 128 := ⟨r.val % 128, by omega⟩

/-- The gated value at row `r`, column `j`: `u` times the causally masked spatial product over the row's own chunk with the
    column's group of weights, plus the group's bias. -/
def gate (u v : Fin 1024 → Fin 1024 → EReal) (W : Fin 8 → Fin 128 → Fin 128 → EReal) (B : Fin 8 → Fin 128 → Fin 128 → EReal)
    (r j : Fin 1024) : EReal :=
  u r j * ((∑ s : Fin 128, (if s.val ≤ (pos r).val then W (grp j) (pos r) s else 0) * v (chunkRow r s) j) + B (grp j) (pos r) (pos j))

/-- The causal test of two positions below 128, as a word comparison. -/
theorem causal_select (p s : Fin 128) (a : EReal) :
    Scalar.select (IntOp.cmpi CmpIPredicate.sge (BitVec.ofNat 32 p.val) (BitVec.ofNat 32 s.val)) a (0 : EReal) = if s.val ≤ p.val then a else 0 := by
  have h : (IntOp.cmpi CmpIPredicate.sge (BitVec.ofNat 32 p.val) (BitVec.ofNat 32 s.val)) = if s.val ≤ p.val then 1#1 else 0#1 := by
    revert p s; decide +kernel
  rw [h]
  split_ifs <;> rfl

/-- Eight 128-row slices of `v` set side by side, read at row `s` and column `128 c + d`, are `v` at row `128 c + s`. -/
theorem cat_apply (v : FVec Ideal S1024x1024 .bf16) (o : Nat)
    (h0 : S1024x1024.Slices ![0, o] S128x128) (h1 : S1024x1024.Slices ![128, o] S128x128) (h2 : S1024x1024.Slices ![256, o] S128x128)
    (h3 : S1024x1024.Slices ![384, o] S128x128) (h4 : S1024x1024.Slices ![512, o] S128x128) (h5 : S1024x1024.Slices ![640, o] S128x128)
    (h6 : S1024x1024.Slices ![768, o] S128x128) (h7 : S1024x1024.Slices ![896, o] S128x128)
    (s : Fin 128) (j : Fin 1024) (k : Fin 1024) (hk : k.val = o + j.val % 128) :
    concatenate S128x1024 1 [⟨S128x128, extractStridedSlice S128x128 ![0, o] v h0⟩, ⟨S128x128, extractStridedSlice S128x128 ![128, o] v h1⟩,
      ⟨S128x128, extractStridedSlice S128x128 ![256, o] v h2⟩, ⟨S128x128, extractStridedSlice S128x128 ![384, o] v h3⟩,
      ⟨S128x128, extractStridedSlice S128x128 ![512, o] v h4⟩, ⟨S128x128, extractStridedSlice S128x128 ![640, o] v h5⟩,
      ⟨S128x128, extractStridedSlice S128x128 ![768, o] v h6⟩, ⟨S128x128, extractStridedSlice S128x128 ![896, o] v h7⟩]
      concatenates_S128x128_S128x128_S128x128_S128x128_S128x128_S128x128_S128x128_S128x128_S128x1024_d1 (ix2 s j)
      = v (ix2 (chunkRow j s) k) := by
  pointwise
  split_ifs <;> refine congrArg v (congrArg₂ ix2 (Fin.ext ?_) (Fin.ext ?_)) <;> simp only [chunkRow, hk] <;> omega

/-- The load of group `g`'s page of a block of eight pages. -/
theorem page_apply (W : Vec Ideal S8x128x128 .f32) (n : Nat) (g : Fin 8) (hn : n = g.val) (inb : ∀ a, ![n, 0, 0] a + ![1, 128, 128] a ≤ S8x128x128.size a)
    (p s : Fin 128) : View.ld (Val := Elt Ideal) (e' := .f32) W (Rect.unit ![n, 0, 0] ![1, 128, 128] inb) (ix3 0 p s) = W (ix3 g p s) := by
  subst hn
  refine View.ld_unit_apply_of W _ _ inb _ _ fun a => ?_
  fin_cases a <;> simp

/-- One 128 by 128 tile of the gated product, as the body computes it: `gate` at the tile's place. -/
theorem piece_core (u : FVec Ideal S1024x1024 .f32) (v : FVec Ideal S1024x1024 .bf16) (W B : Vec Ideal S8x128x128 .f32) (oc o n : Nat)
    (ws bs : Vec Ideal S1x128x128 .f32) (hn : n < 8) (hws : ∀ p s, ws (ix3 0 p s) = W (ix3 ⟨n, hn⟩ p s)) (hbs : ∀ p s, bs (ix3 0 p s) = B (ix3 ⟨n, hn⟩ p s)) (hg : o = 128 * n) (hc : oc % 128 = 0)
    (hU : S1024x1024.Slices ![oc, o] S128x128) (hD : S128x1024.Slices ![0, oc] S128x128)
    (h0 : S1024x1024.Slices ![0, o] S128x128) (h1 : S1024x1024.Slices ![128, o] S128x128) (h2 : S1024x1024.Slices ![256, o] S128x128)
    (h3 : S1024x1024.Slices ![384, o] S128x128) (h4 : S1024x1024.Slices ![512, o] S128x128) (h5 : S1024x1024.Slices ![640, o] S128x128)
    (h6 : S1024x1024.Slices ![768, o] S128x128) (h7 : S1024x1024.Slices ![896, o] S128x128)
    (x : S128x128.Idx) (y : S1024x1024.Idx) (hy0 : (y 0 : Nat) = oc + (x 0 : Nat)) (hy1 : (y 1 : Nat) = o + (x 1 : Nat)) :
    shapeCast S128x128 (truncf (F := Ideal) .bf16 (mulf (extractStridedSlice S128x128 ![oc, o] u hU)
      (addf (extractStridedSlice S128x128 ![0, oc] (matmul (F := Ideal) dot_S128x128_S128x1024_S128x1024_1_0_0_1_n_n none
        (truncf .bf16 (select k0_pay11 (shapeCast S128x128 ws shapeCasts_S1x128x128_S128x128) (broadcast S128x128 (Scalar.ofBits (F := Ideal) .f32 0x00000000#32))) bitsLt_bf16_f32)
        (concatenate S128x1024 1 [⟨S128x128, extractStridedSlice S128x128 ![0, o] v h0⟩, ⟨S128x128, extractStridedSlice S128x128 ![128, o] v h1⟩,
          ⟨S128x128, extractStridedSlice S128x128 ![256, o] v h2⟩, ⟨S128x128, extractStridedSlice S128x128 ![384, o] v h3⟩,
          ⟨S128x128, extractStridedSlice S128x128 ![512, o] v h4⟩, ⟨S128x128, extractStridedSlice S128x128 ![640, o] v h5⟩,
          ⟨S128x128, extractStridedSlice S128x128 ![768, o] v h6⟩, ⟨S128x128, extractStridedSlice S128x128 ![896, o] v h7⟩]
          concatenates_S128x128_S128x128_S128x128_S128x128_S128x128_S128x128_S128x128_S128x128_S128x1024_d1)
        (constant S128x1024 .f32 0x00000000#32)) hD)
        (shapeCast S128x128 bs shapeCasts_S1x128x128_S128x128))) bitsLt_bf16_f32) shapeCasts_S128x128_S128x128 x
      = gate (fun r j => u (ix2 r j)) (fun r j => v (ix2 r j)) (fun g p s => W (ix3 g p s)) (fun g p s => B (ix3 g p s)) (y 0) (y 1) := by
  idx_vars x
  idx_vars y
  have hcat := fun s j k hk => cat_apply v o h0 h1 h2 h3 h4 h5 h6 h7 s j k hk
  generalize concatenate (α := Ideal .bf16) S128x1024 1 _ _ = cc at hcat ⊢
  have hb0 : oc + x0.val < 1024 := by have := y0.isLt; omega
  have hb1 : o + x1.val < 1024 := by have := y1.isLt; omega
  obtain rfl : y0 = ⟨oc + x0.val, hb0⟩ := Fin.ext hy0
  obtain rfl : y1 = ⟨o + x1.val, hb1⟩ := Fin.ext hy1
  unfold k0_pay11
  pointwise [hws, hbs, causal_select, gate]
  have e1 : pos ⟨oc + x0.val, by omega⟩ = x0 := Fin.ext (by simp only [pos]; omega)
  have e2 : pos ⟨o + x1.val, by omega⟩ = x1 := Fin.ext (by simp only [pos]; omega)
  have e3 : grp ⟨o + x1.val, by omega⟩ = ⟨n, hn⟩ := Fin.ext (by simp only [grp]; omega)
  rw [e1, e2, e3]
  have e4 : ∀ s, cc (ix2 s ⟨oc + x1.val, by have := x1.isLt; have := x0.isLt; omega⟩) = v (ix2 (chunkRow ⟨oc + x0.val, by omega⟩ s) ⟨o + x1.val, by omega⟩) := fun s => by
    rw [hcat s _ ⟨o + x1.val, by omega⟩ (by show o + x1.val = o + (oc + x1.val) % 128; omega)]
    exact congrArg v (congrArg₂ ix2 (Fin.ext (by simp only [chunkRow]; omega)) rfl)
  simp only [e4]

/-- One 128 by 128 tile of the gated product, as the body computes it from the loads of its group's pages: `gate` at the tile's place. -/
theorem piece_apply (u : FVec Ideal S1024x1024 .f32) (v : FVec Ideal S1024x1024 .bf16) (W B : Vec Ideal S8x128x128 .f32) (oc o n : Nat)
    (inb inb' : ∀ a, ![n, 0, 0] a + ![1, 128, 128] a ≤ S8x128x128.size a) (hn : n < 8) (hg : o = 128 * n) (hc : oc % 128 = 0)
    (hU : S1024x1024.Slices ![oc, o] S128x128) (hD : S128x1024.Slices ![0, oc] S128x128)
    (h0 : S1024x1024.Slices ![0, o] S128x128) (h1 : S1024x1024.Slices ![128, o] S128x128) (h2 : S1024x1024.Slices ![256, o] S128x128)
    (h3 : S1024x1024.Slices ![384, o] S128x128) (h4 : S1024x1024.Slices ![512, o] S128x128) (h5 : S1024x1024.Slices ![640, o] S128x128)
    (h6 : S1024x1024.Slices ![768, o] S128x128) (h7 : S1024x1024.Slices ![896, o] S128x128)
    (x : S128x128.Idx) (y : S1024x1024.Idx) (hy0 : (y 0 : Nat) = oc + (x 0 : Nat)) (hy1 : (y 1 : Nat) = o + (x 1 : Nat)) :
    shapeCast S128x128 (truncf (F := Ideal) .bf16 (mulf (extractStridedSlice S128x128 ![oc, o] u hU)
      (addf (extractStridedSlice S128x128 ![0, oc] (matmul (F := Ideal) dot_S128x128_S128x1024_S128x1024_1_0_0_1_n_n none
        (truncf .bf16 (select k0_pay11 (shapeCast S128x128 (View.ld (Val := Elt Ideal) (e' := .f32) W (Rect.unit ![n, 0, 0] ![1, 128, 128] inb)) shapeCasts_S1x128x128_S128x128) (broadcast S128x128 (Scalar.ofBits (F := Ideal) .f32 0x00000000#32))) bitsLt_bf16_f32)
        (concatenate S128x1024 1 [⟨S128x128, extractStridedSlice S128x128 ![0, o] v h0⟩, ⟨S128x128, extractStridedSlice S128x128 ![128, o] v h1⟩,
          ⟨S128x128, extractStridedSlice S128x128 ![256, o] v h2⟩, ⟨S128x128, extractStridedSlice S128x128 ![384, o] v h3⟩,
          ⟨S128x128, extractStridedSlice S128x128 ![512, o] v h4⟩, ⟨S128x128, extractStridedSlice S128x128 ![640, o] v h5⟩,
          ⟨S128x128, extractStridedSlice S128x128 ![768, o] v h6⟩, ⟨S128x128, extractStridedSlice S128x128 ![896, o] v h7⟩]
          concatenates_S128x128_S128x128_S128x128_S128x128_S128x128_S128x128_S128x128_S128x128_S128x1024_d1)
        (constant S128x1024 .f32 0x00000000#32)) hD)
        (shapeCast S128x128 (View.ld (Val := Elt Ideal) (e' := .f32) B (Rect.unit ![n, 0, 0] ![1, 128, 128] inb')) shapeCasts_S1x128x128_S128x128))) bitsLt_bf16_f32) shapeCasts_S128x128_S128x128 x
      = gate (fun r j => u (ix2 r j)) (fun r j => v (ix2 r j)) (fun g p s => W (ix3 g p s)) (fun g p s => B (ix3 g p s)) (y 0) (y 1) :=
  piece_core u v W B oc o n _ _ hn (page_apply W n ⟨n, hn⟩ rfl inb) (page_apply B n ⟨n, hn⟩ rfl inb') hg hc hU hD h0 h1 h2 h3 h4 h5 h6 h7 x y hy0 hy1

end Cert.KernelIdeal.Gmlp

end
-- ==== Proof.GmlpBlock.lean ====
module
public import proofs.«01_k».proof.Proof.GmlpPiece
@[expose] public section
set_option maxRecDepth 16384
noncomputable section
namespace Cert.KernelIdeal.Gmlp
open Cert.KernelIdeal Cert.KernelIdeal.Gen Idealize.ShloMosaic Idealize.ShloMosaic.TcCoe Idealize.SL.Sem
open Idealize.ShloMosaic.Pipeline (Dat)

/-- The gated product of a whole block, from the block's `u` half and its normalized `v` half. -/
def gated (u : FVec Ideal S1024x1024 .f32) (v : FVec Ideal S1024x1024 .bf16) (W B : Vec Ideal S8x128x128 .f32) : Vec Ideal S1024x1024 .bf16 :=
  fun y => gate (fun r j => u (ix2 r j)) (fun r j => v (ix2 r j)) (fun g p s => W (ix3 g p s)) (fun g p s => B (ix3 g p s)) (y 0) (y 1)

/-- The zero offset, written out and as a function. -/
theorem hz : (![0, 0] : Fin 2 → ℕ) = fun _ => 0 := by funext a; fin_cases a <;> rfl

/-- What the run leaves in the staging buffer of the output: the block of `x` plus the gated product of the block times the
    output weights. The sixty-four tiles the body writes into its scratch are read back as one block. -/
theorem out_eq (c : Dev nD) (i : grid0.Coords)
    (arg1 : Memref sig .tc .vmem S1024x1024 .f32) (harg1 : arg1.IsWhole)
    (arg2 : Memref sig .tc .vmem S1x1024 .f32) (harg2 : arg2.IsWhole)
    (arg3 : Memref sig .tc .vmem S1024x2048 .bf16) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S8x128x128 .f32) (harg6 : arg6.IsWhole)
    (arg7 : Memref sig .tc .vmem S8x128x128 .f32) (harg7 : arg7.IsWhole)
    (arg8 : Memref sig .tc .vmem S1024x1024 .bf16) (harg8 : arg8.IsWhole)
    (arg9 : Memref sig .tc .vmem S1024x1024 .f32) (harg9 : arg9.IsWhole)
    (arg10 : Memref sig .tc .vmem S1024x1024 .bf16) (harg10 : arg10.IsWhole)
    (x0 : Vec Ideal S1024x1024 .f32) (x1 : Vec Ideal S1x1024 .f32) (x2 : Vec Ideal S1024x2048 .bf16) (x3 : Vec Ideal S1x1024 .f32) (x4 : Vec Ideal S1x1024 .f32) (x5 : Vec Ideal S8x128x128 .f32) (x6 : Vec Ideal S8x128x128 .f32) (x7 : Vec Ideal S1024x1024 .bf16)
    (y : S1024x1024.Idx) :
    out0_A_8 c i arg1 harg1 arg2 harg2 arg3 harg3 arg4 harg4 arg5 harg5 arg6 harg6 arg7 harg7 arg8 harg8 arg9 harg9 arg10 harg10 x0 x1 x2 x3 x4 x5 x6 x7 y
      = k0_pay4 (k0_pay5 x0) (gated (k0_pay7 x0 x1 x2) (k0_pay10 (k0_pay8 x0 x1 x2) (k0_pay9 x0 x1 x2) (Scalar.ofBits (F := Ideal) .f32 0x3727C5AC#32) x3 x4) x5 x6) x7 y := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread]
  have l0 : View.ld (Val := Elt Ideal) (e' := .f32) x0 (Rect.unit ![0, 0] ![1024, 1024] inb_S1024x1024_S1024x1024_0_0) = x0 := View.ld_unit_zero hz _ _
  have l1 : View.ld (Val := Elt Ideal) (e' := .f32) x1 (Rect.unit ![0, 0] ![1, 1024] inb_S1x1024_S1x1024_0_0) = x1 := View.ld_unit_zero hz _ _
  have l2 : View.ld (Val := Elt Ideal) (e' := .bf16) x2 (Rect.unit ![0, 0] ![1024, 2048] inb_S1024x2048_S1024x2048_0_0) = x2 := View.ld_unit_zero hz _ _
  have l3 : View.ld (Val := Elt Ideal) (e' := .f32) x3 (Rect.unit ![0, 0] ![1, 1024] inb_S1x1024_S1x1024_0_0) = x3 := View.ld_unit_zero hz _ _
  have l4 : View.ld (Val := Elt Ideal) (e' := .f32) x4 (Rect.unit ![0, 0] ![1, 1024] inb_S1x1024_S1x1024_0_0) = x4 := View.ld_unit_zero hz _ _
  have l7 : View.ld (Val := Elt Ideal) (e' := .bf16) x7 (Rect.unit ![0, 0] ![1024, 1024] inb_S1024x1024_S1024x1024_0_0) = x7 := View.ld_unit_zero hz _ _
  simp only [l0, l1, l2, l3, l4, l7]
  refine (congrFun (View.canon_unit_zero hz _ _) y).trans ?_
  refine congrFun (congrArg (fun g => k0_pay4 (k0_pay5 x0) g x7) ?_) y
  rw [View.readCov_eq_canon']
  funext y'
  refine (congrFun (View.ld_unit_zero (S := S1024x1024) hz inb_S1024x1024_S1024x1024_0_0 (View.canon _)) y').trans ?_
  unfold gated
  canon_tiles y' h
  all_goals
    open_payloads
    exact piece_apply _ _ x5 x6 _ _ _ _ _ (by decide) (by decide) (by decide) (by decide) (by decide) (by decide) (by decide) (by decide)
      (by decide) (by decide) (by decide) (by decide) (by decide) y' _ (by omega) (by omega)

end Cert.KernelIdeal.Gmlp

end
-- ==== Proof.GmlpMath.lean ====
/- The mathematics of the gMLP mixer, row by row, over the extended reals: what the kernel's program and the reference's are
   each shown to compute. -/
module

public import Idealize.ShloMosaic.Lib.Pointwise

@[expose] public section

noncomputable section

namespace Cert.Gmlp

open Idealize.ShloMosaic

/-- The 128-lane group a column lies in. -/
def grp (j : Fin 1024) : Fin 8 := ⟨j.val / 128, by omega⟩

/-- A row's position within its chunk of 128. -/
def pos (n : Nat) : Fin 128 := ⟨n % 128, by omega⟩

/-- One row of root-mean-square normalization with a gain. -/
def rms (x g : Fin 1024 → EReal) (k : Fin 1024) : EReal :=
  x k * Ideal.rsqrt (Ideal.div (∑ i, x i * x i) (Ideal.ofBits .f32 0x44800000#32) + Ideal.ofBits .f32 0x358637BD#32) * g k

/-- The error-function GELU. -/
def gelu (z : EReal) : EReal :=
  (Ideal.ofBits .f32 0x3F000000#32 * z) * (1 + Ideal.erf (z * Ideal.ofBits .f32 0x3F3504F3#32))

/-- One row of the up-projection: normalize, multiply by the weights, GELU. -/
def up (x g : Fin 1024 → EReal) (w : Fin 1024 → Fin 2048 → EReal) (j : Fin 2048) : EReal :=
  gelu (∑ k, rms x g k * w k j)

/-- The gating half of a row of the up-projection. -/
def upU (x g : Fin 1024 → EReal) (w : Fin 1024 → Fin 2048 → EReal) (j : Fin 1024) : EReal := up x g w ⟨j.val, by omega⟩

/-- The half of a row of the up-projection that is normalized and mixed over positions. -/
def upV (x g : Fin 1024 → EReal) (w : Fin 1024 → Fin 2048 → EReal) (j : Fin 1024) : EReal := up x g w ⟨1024 + j.val, by omega⟩

/-- A row less its mean. -/
def center (v : Fin 1024 → EReal) (j : Fin 1024) : EReal := v j - Ideal.div (∑ i, v i) (Ideal.ofBits .f32 0x44800000#32)

/-- One row of layer normalization with a gain and a shift. -/
def lnorm (v lg lb : Fin 1024 → EReal) (j : Fin 1024) : EReal :=
  center v j * Ideal.rsqrt (Ideal.div (∑ i, center v i * center v i) (Ideal.ofBits .f32 0x44800000#32) + Ideal.ofBits .f32 0x3727C5AC#32) * lg j + lb j

/-- Row `s` of the 128-row chunk that holds row `R`. -/
def chunk (R : Fin 16384) (s : Fin 128) : Fin 16384 := ⟨128 * (R.val / 128) + s.val, by omega⟩

/-- The gated value at row `R`, column `k`: the gating half times the causally masked product over the row's chunk with the
    column's group of position weights, plus the group's bias at the row's position. -/
def gated (X : Fin 16384 → Fin 1024 → EReal) (g : Fin 1024 → EReal) (win : Fin 1024 → Fin 2048 → EReal) (lg lb : Fin 1024 → EReal)
    (W : Fin 8 → Fin 128 → Fin 128 → EReal) (B : Fin 8 → Fin 128 → EReal) (R : Fin 16384) (k : Fin 1024) : EReal :=
  upU (X R) g win k *
    ((∑ s : Fin 128, (if s.val ≤ (pos R.val).val then W (grp k) (pos R.val) s else 0) * lnorm (upV (X (chunk R s)) g win) lg lb k)
      + B (grp k) (pos R.val))

/-- The mixer with its residual, at row `R`, column `j`. -/
def mixer (X : Fin 16384 → Fin 1024 → EReal) (g : Fin 1024 → EReal) (win : Fin 1024 → Fin 2048 → EReal) (lg lb : Fin 1024 → EReal)
    (W : Fin 8 → Fin 128 → Fin 128 → EReal) (B : Fin 8 → Fin 128 → EReal) (wout : Fin 1024 → Fin 1024 → EReal) (R : Fin 16384) (j : Fin 1024) : EReal :=
  X R j + ∑ k, gated X g win lg lb W B R k * wout k j

end Cert.Gmlp

end
-- ==== Proof.GmlpArray.lean ====
/- The kernel's result array: what one block is at an index, and the whole array as the mixer of the argument arrays. -/
module

public import proofs.«01_k».proof.Proof.GmlpBlock
public import proofs.«01_k».proof.Proof.GmlpMath

@[expose] public section

set_option maxRecDepth 16384

noncomputable section

namespace Cert.KernelIdeal.Gmlp

open Cert.KernelIdeal Cert.KernelIdeal.Gen Cert.KernelIdeal.Value Idealize.ShloMosaic Idealize.ShloMosaic.TcCoe Idealize.SL.Sem
open Idealize.ShloMosaic.Pipeline (Dat)

section Block
variable (x0 : Vec Ideal S1024x1024 .f32) (x1 : Vec Ideal S1x1024 .f32) (x2 : Vec Ideal S1024x2048 .bf16) (x3 x4 : Vec Ideal S1x1024 .f32)

/-- The body's up-projection at an index is the row's. -/
theorem pay6_apply (r : Fin 1024) (j : Fin 2048) :
    k0_pay6 x0 x1 x2 (ix2 r j) = Cert.Gmlp.up (fun k => x0 (ix2 r k)) (fun k => x1 (ix2 0 k)) (fun k j => x2 (ix2 k j)) j := by
  unfold k0_pay6 k0_pay5
  pointwise [Ideal.erf_def]
  rfl

/-- The half of the body's up-projection that gates, at an index. -/
theorem pay7_apply (r : Fin 1024) (j : Fin 1024) :
    k0_pay7 x0 x1 x2 (ix2 r j) = Cert.Gmlp.upU (fun k => x0 (ix2 r k)) (fun k => x1 (ix2 0 k)) (fun k j => x2 (ix2 k j)) j := by
  unfold k0_pay7
  pointwise [pay6_apply]
  rfl

/-- The other half less its row's mean, at an index. -/
theorem pay8_apply (r : Fin 1024) (j : Fin 1024) :
    k0_pay8 x0 x1 x2 (ix2 r j) = Cert.Gmlp.center (Cert.Gmlp.upV (fun k => x0 (ix2 r k)) (fun k => x1 (ix2 0 k)) (fun k j => x2 (ix2 k j))) j := by
  unfold k0_pay8
  pointwise [pay6_apply]
  rfl

/-- The layer-normalized half at an index. -/
theorem pay10_apply (r : Fin 1024) (j : Fin 1024) :
    k0_pay10 (k0_pay8 x0 x1 x2) (k0_pay9 x0 x1 x2) (Scalar.ofBits (F := Ideal) .f32 0x3727C5AC#32) x3 x4 (ix2 r j)
      = Cert.Gmlp.lnorm (Cert.Gmlp.upV (fun k => x0 (ix2 r k)) (fun k => x1 (ix2 0 k)) (fun k j => x2 (ix2 k j))) (fun k => x3 (ix2 0 k)) (fun k => x4 (ix2 0 k)) j := by
  unfold k0_pay10 k0_pay9
  pointwise [pay8_apply]
  rfl

/-- What the body stores: its rows of `x` plus the gated rows times the output weights. -/
theorem pay4_apply (x7 s : Vec Ideal S1024x1024 .bf16) (r j : Fin 1024) :
    k0_pay4 (k0_pay5 x0) s x7 (ix2 r j) = x0 (ix2 r j) + ∑ k, s (ix2 r k) * x7 (ix2 k j) := by
  unfold k0_pay4 k0_pay5
  pointwise
end Block

variable (m : (ℓ : Loc nD τ sig) → Buf (Elt Ideal) ℓ) (ρ : Dev nD → PrngReg)

/-- The mixer as one array of the argument arrays. -/
def G (a0 : Vec Ideal S8x2048x1024 .f32) (a1 : Vec Ideal S1024 .f32) (a2 : Vec Ideal S1024x2048 .f32) (a3 a4 : Vec Ideal S1024 .f32)
    (a5 : Vec Ideal S8x128x128 .f32) (a6 : Vec Ideal S8x128 .f32) (a7 : Vec Ideal S1024x1024 .f32) : Vec Ideal S16384x1024 .f32 :=
  fun i => Cert.Gmlp.mixer (fun R k => a0 (ix3 (⟨R.val / 2048, by omega⟩ : Fin 8) (⟨R.val % 2048, by omega⟩ : Fin 2048) k)) (fun k => a1 (ix1 k)) (fun k j => a2 (ix2 k j))
    (fun k => a3 (ix1 k)) (fun k => a4 (ix1 k)) (fun g p s => a5 (ix3 g p s)) (fun g p => a6 (ix2 g p)) (fun k j => a7 (ix2 k j)) (i 0) (i 1)

/-- The batch and sequence axes joined: row `R` is row `R % 2048` of batch `R / 2048`. -/
theorem rows_apply (x : S8x2048x1024.Idx → EReal) (R : Fin 16384) (k : Fin 1024) :
    shapeCast S16384x1024 x shapeCasts_S8x2048x1024_S16384x1024 (ix2 R k) = x (ix3 (⟨R.val / 2048, by omega⟩ : Fin 8) (⟨R.val % 2048, by omega⟩ : Fin 2048) k) :=
  shapeCast_apply x _ _ _ (by
    rw [Shape.rowMajor_val_three, Shape.rowMajor_val_two]
    show (R.val / 2048 * 2048 + R.val % 2048) * 1024 + k.val = R.val * 1024 + k.val
    omega)

/-! The arrays the kernel's windows read, as the host operations before it leave them. -/

/-- The array window 0 reads is the activations, argument 0, reshaped. -/
theorem V0 (c : Dev nD) (R : Fin 16384) (k : Fin 1024) : V m c main_v0 (ix2 R k) =
    (m ((c : Thread nD τ).loc main_arg0) : Vec Ideal S8x2048x1024 .f32) (ix3 (⟨R.val / 2048, by omega⟩ : Fin 8) (⟨R.val % 2048, by omega⟩ : Fin 2048) k) := by
  have h : V m c main_v0 = shapeCast S16384x1024 (m ((c : Thread nD τ).loc main_arg0)) shapeCasts_S8x2048x1024_S16384x1024 := by
    show StableHlo.after _ _ _ = _
    after_results
    rfl
  rw [h, rows_apply]

/-- The array window 1 reads is the normalization gain, argument 1, reshaped. -/
theorem V1 (c : Dev nD) (k : Fin 1024) : V m c main_v5 (ix2 0 k) = (m ((c : Thread nD τ).loc main_arg1) : Vec Ideal S1024 .f32) (ix1 k) := by
  have h : V m c main_v5 = shapeCast S1x1024 (m ((c : Thread nD τ).loc main_arg1)) shapeCasts_S1024_S1x1024 := by
    show StableHlo.after _ _ _ = _
    after_results
    rfl
  rw [h]
  pointwise

/-- The array window 3 reads is the layer norm gain, argument 3, reshaped. -/
theorem V3 (c : Dev nD) (k : Fin 1024) : V m c main_v6 (ix2 0 k) = (m ((c : Thread nD τ).loc main_arg3) : Vec Ideal S1024 .f32) (ix1 k) := by
  have h : V m c main_v6 = shapeCast S1x1024 (m ((c : Thread nD τ).loc main_arg3)) shapeCasts_S1024_S1x1024 := by
    show StableHlo.after _ _ _ = _
    after_results
    rfl
  rw [h]
  pointwise

/-- The array window 4 reads is the layer norm shift, argument 4, reshaped. -/
theorem V4 (c : Dev nD) (k : Fin 1024) : V m c main_v7 (ix2 0 k) = (m ((c : Thread nD τ).loc main_arg4) : Vec Ideal S1024 .f32) (ix1 k) := by
  have h : V m c main_v7 = shapeCast S1x1024 (m ((c : Thread nD τ).loc main_arg4)) shapeCasts_S1024_S1x1024 := by
    show StableHlo.after _ _ _ = _
    after_results
    rfl
  rw [h]
  pointwise

/-- The array window 2 reads is the up-projection weights, argument 2, reshaped. -/
theorem V2 (c : Dev nD) (k : Fin 1024) (j : Fin 2048) : V m c main_v1 (ix2 k j) = (m ((c : Thread nD τ).loc main_arg2) : Vec Ideal S1024x2048 .f32) (ix2 k j) := by
  have h : V m c main_v1 = (truncf (F := Ideal) (s := S1024x2048) (φ := .f32) .bf16 (m ((c : Thread nD τ).loc main_arg2)) bitsLt_bf16_f32) := by
    show StableHlo.after _ _ _ = _
    after_results
  rw [h]
  pointwise

/-- The array window 7 reads is the output weights, argument 7, reshaped. -/
theorem V7 (c : Dev nD) (k : Fin 1024) (j : Fin 1024) : V m c main_v2 (ix2 k j) = (m ((c : Thread nD τ).loc main_arg7) : Vec Ideal S1024x1024 .f32) (ix2 k j) := by
  have h : V m c main_v2 = (truncf (F := Ideal) (s := S1024x1024) (φ := .f32) .bf16 (m ((c : Thread nD τ).loc main_arg7)) bitsLt_bf16_f32) := by
    show StableHlo.after _ _ _ = _
    after_results
  rw [h]
  pointwise

/-- The array window 6 reads is the position bias, argument 6, reshaped. -/
theorem V6 (c : Dev nD) (g : Fin 8) (p s : Fin 128) : V m c main_v4 (ix3 g p s) = (m ((c : Thread nD τ).loc main_arg6) : Vec Ideal S8x128 .f32) (ix2 g p) := by
  have h : V m c main_v4 = broadcastInDim S8x128x128 ![0, 1, 2] bcast_S8x128x1_S8x128x128_0_1_2 (broadcastInDim S8x128x1 ![0, 1] bcast_S8x128_S8x128x1_0_1 (m ((c : Thread nD τ).loc main_arg6))) := by
    show StableHlo.after _ _ _ = _
    after_results
  rw [h]
  pointwise

/-! Window 0 and the output window stand at rows `1024 t` on; every other window is its whole array at every point. -/

/-- The block index of window 0 at each grid point. -/
theorem idx0 : ∀ t : Fin cfg0.N, win0_0.index t (0 : Fin 2) = t.val ∧ win0_0.index t (1 : Fin 2) = 0 := (by decide +kernel : ∀ t : Fin grid0.N, _)
/-- The block index of window 8 at each grid point. -/
theorem idx8 : ∀ t : Fin cfg0.N, win0_8.index t (0 : Fin 2) = t.val ∧ win0_8.index t (1 : Fin 2) = 0 := (by decide +kernel : ∀ t : Fin grid0.N, _)
/-- The block index of window 1 at each grid point. -/
theorem idx1 : ∀ t : Fin cfg0.N, win0_1.index t (0 : Fin 2) = 0 ∧ win0_1.index t (1 : Fin 2) = 0 := (by decide +kernel : ∀ t : Fin grid0.N, _)
/-- The block index of window 2 at each grid point. -/
theorem idx2 : ∀ t : Fin cfg0.N, win0_2.index t (0 : Fin 2) = 0 ∧ win0_2.index t (1 : Fin 2) = 0 := (by decide +kernel : ∀ t : Fin grid0.N, _)
/-- The block index of window 3 at each grid point. -/
theorem idx3 : ∀ t : Fin cfg0.N, win0_3.index t (0 : Fin 2) = 0 ∧ win0_3.index t (1 : Fin 2) = 0 := (by decide +kernel : ∀ t : Fin grid0.N, _)
/-- The block index of window 4 at each grid point. -/
theorem idx4 : ∀ t : Fin cfg0.N, win0_4.index t (0 : Fin 2) = 0 ∧ win0_4.index t (1 : Fin 2) = 0 := (by decide +kernel : ∀ t : Fin grid0.N, _)
/-- The block index of window 7 at each grid point. -/
theorem idx7 : ∀ t : Fin cfg0.N, win0_7.index t (0 : Fin 2) = 0 ∧ win0_7.index t (1 : Fin 2) = 0 := (by decide +kernel : ∀ t : Fin grid0.N, _)
/-- The block index of window 5 at each grid point. -/
theorem idx5 : ∀ t : Fin cfg0.N, win0_5.index t (0 : Fin 3) = 0 ∧ win0_5.index t (1 : Fin 3) = 0 ∧ win0_5.index t (2 : Fin 3) = 0 := (by decide +kernel : ∀ t : Fin grid0.N, _)
/-- The block index of window 6 at each grid point. -/
theorem idx6 : ∀ t : Fin cfg0.N, win0_6.index t (0 : Fin 3) = 0 ∧ win0_6.index t (1 : Fin 3) = 0 ∧ win0_6.index t (2 : Fin 3) = 0 := (by decide +kernel : ∀ t : Fin grid0.N, _)

/-- Row `r` of block `t`. -/
def row (t : Fin cfg0.N) (r : Fin 1024) : Fin 16384 := ⟨1024 * t.val + r.val, by have : t.val < 16 := t.isLt; omega⟩

/-- Where an index of window 0's block lies in its array. -/
theorem emb0 (t : Fin cfg0.N) (j : S1024x1024.Idx) : ((cfg0.win 0).blk t).view.emb j = (ix2 (row t (j 0)) (j 1) : S16384x1024.Idx) := by
  obtain ⟨e0, e1⟩ := idx0 t
  funext a; apply Fin.ext
  match a with
  | ⟨0, _⟩ => show win0_0.index t (0 : Fin 2) * 1024 + 1 * (j 0).val = 1024 * t.val + (j 0).val; omega
  | ⟨1, _⟩ => show win0_0.index t (1 : Fin 2) * 1024 + 1 * (j 1).val = (j 1).val; omega

/-- Where an index of window 8's block lies in its array. -/
theorem emb8 (t : Fin cfg0.N) (j : S1024x1024.Idx) : ((cfg0.win 8).blk t).view.emb j = (ix2 (row t (j 0)) (j 1) : S16384x1024.Idx) := by
  obtain ⟨e0, e1⟩ := idx8 t
  funext a; apply Fin.ext
  match a with
  | ⟨0, _⟩ => show win0_8.index t (0 : Fin 2) * 1024 + 1 * (j 0).val = 1024 * t.val + (j 0).val; omega
  | ⟨1, _⟩ => show win0_8.index t (1 : Fin 2) * 1024 + 1 * (j 1).val = (j 1).val; omega

/-- Where an index of window 1's block lies in its array. -/
theorem emb1 (t : Fin cfg0.N) (j : S1x1024.Idx) : ((cfg0.win 1).blk t).view.emb j = (j : S1x1024.Idx) := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- Where an index of window 2's block lies in its array. -/
theorem emb2 (t : Fin cfg0.N) (j : S1024x2048.Idx) : ((cfg0.win 2).blk t).view.emb j = (j : S1024x2048.Idx) := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 2048 + 1 * (j 1).val = (j 1).val; omega

/-- Where an index of window 3's block lies in its array. -/
theorem emb3 (t : Fin cfg0.N) (j : S1x1024.Idx) : ((cfg0.win 3).blk t).view.emb j = (j : S1x1024.Idx) := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega

/-- Where an index of window 4's block lies in its array. -/
theorem emb4 (t : Fin cfg0.N) (j : S1x1024.Idx) : ((cfg0.win 4).blk t).view.emb j = (j : S1x1024.Idx) := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

/-- Where an index of window 5's block lies in its array. -/
theorem emb5 (t : Fin cfg0.N) (j : S8x128x128.Idx) : ((cfg0.win 5).blk t).view.emb j = (j : S8x128x128.Idx) := by
  obtain ⟨e0, e1, e2⟩ := idx5 t
  funext a; apply Fin.ext
  match a with
  | ⟨0, _⟩ => show win0_5.index t (0 : Fin 3) * 8 + 1 * (j 0).val = (j 0).val; omega
  | ⟨1, _⟩ => show win0_5.index t (1 : Fin 3) * 128 + 1 * (j 1).val = (j 1).val; omega
  | ⟨2, _⟩ => show win0_5.index t (2 : Fin 3) * 128 + 1 * (j 2).val = (j 2).val; omega

/-- Where an index of window 6's block lies in its array. -/
theorem emb6 (t : Fin cfg0.N) (j : S8x128x128.Idx) : ((cfg0.win 6).blk t).view.emb j = (j : S8x128x128.Idx) := by
  obtain ⟨e0, e1, e2⟩ := idx6 t
  funext a; apply Fin.ext
  match a with
  | ⟨0, _⟩ => show win0_6.index t (0 : Fin 3) * 8 + 1 * (j 0).val = (j 0).val; omega
  | ⟨1, _⟩ => show win0_6.index t (1 : Fin 3) * 128 + 1 * (j 1).val = (j 1).val; omega
  | ⟨2, _⟩ => show win0_6.index t (2 : Fin 3) * 128 + 1 * (j 2).val = (j 2).val; omega

/-- Where an index of window 7's block lies in its array. -/
theorem emb7 (t : Fin cfg0.N) (j : S1024x1024.Idx) : ((cfg0.win 7).blk t).view.emb j = (j : S1024x1024.Idx) := by
  obtain ⟨e0, e1⟩ := idx7 t
  funext a; apply Fin.ext
  match a with
  | ⟨0, _⟩ => show win0_7.index t (0 : Fin 2) * 1024 + 1 * (j 0).val = (j 0).val; omega
  | ⟨1, _⟩ => show win0_7.index t (1 : Fin 2) * 1024 + 1 * (j 1).val = (j 1).val; omega

/-! What each input block holds, in terms of the argument arrays. -/

/-- Input block 0 at an index: the activations. -/
theorem iblk0_apply (c : Dev nD) (t : Fin cfg0.N) (r k : Fin 1024) : (iblk m c 0 t : Vec Ideal S1024x1024 .f32) (ix2 r k)
    = (m ((c : Thread nD τ).loc main_arg0) : Vec Ideal S8x2048x1024 .f32) (ix3 (⟨(row t r).val / 2048, by omega⟩ : Fin 8) (⟨(row t r).val % 2048, by omega⟩ : Fin 2048) k) := by
  show V m c main_v0 (((cfg0.win 0).blk t).view.emb (ix2 r k)) = _
  rw [emb0]
  exact V0 m c (row t r) k

/-- Input block 1 at an index: the normalization gain. -/
theorem iblk1_apply (c : Dev nD) (t : Fin cfg0.N) (k : Fin 1024) : (iblk m c 1 t : Vec Ideal S1x1024 .f32) (ix2 0 k) = (m ((c : Thread nD τ).loc main_arg1) : Vec Ideal S1024 .f32) (ix1 k) := by
  show V m c main_v5 (((cfg0.win 1).blk t).view.emb (ix2 0 k)) = _
  rw [emb1]
  exact V1 m c k

/-- Input block 2 at an index: the up-projection weights. -/
theorem iblk2_apply (c : Dev nD) (t : Fin cfg0.N) (k : Fin 1024) (j : Fin 2048) : (iblk m c 2 t : Vec Ideal S1024x2048 .bf16) (ix2 k j) = (m ((c : Thread nD τ).loc main_arg2) : Vec Ideal S1024x2048 .f32) (ix2 k j) := by
  show V m c main_v1 (((cfg0.win 2).blk t).view.emb (ix2 k j)) = _
  rw [emb2]
  exact V2 m c k j

/-- Input block 3 at an index: the layer norm gain. -/
theorem iblk3_apply (c : Dev nD) (t : Fin cfg0.N) (k : Fin 1024) : (iblk m c 3 t : Vec Ideal S1x1024 .f32) (ix2 0 k) = (m ((c : Thread nD τ).loc main_arg3) : Vec Ideal S1024 .f32) (ix1 k) := by
  show V m c main_v6 (((cfg0.win 3).blk t).view.emb (ix2 0 k)) = _
  rw [emb3]
  exact V3 m c k

/-- Input block 4 at an index: the layer norm shift. -/
theorem iblk4_apply (c : Dev nD) (t : Fin cfg0.N) (k : Fin 1024) : (iblk m c 4 t : Vec Ideal S1x1024 .f32) (ix2 0 k) = (m ((c : Thread nD τ).loc main_arg4) : Vec Ideal S1024 .f32) (ix1 k) := by
  show V m c main_v7 (((cfg0.win 4).blk t).view.emb (ix2 0 k)) = _
  rw [emb4]
  exact V4 m c k

/-- Input block 5 at an index: the position weights. -/
theorem iblk5_apply (c : Dev nD) (t : Fin cfg0.N) (g : Fin 8) (p s : Fin 128) : (iblk m c 5 t : Vec Ideal S8x128x128 .f32) (ix3 g p s) = (m ((c : Thread nD τ).loc main_arg5) : Vec Ideal S8x128x128 .f32) (ix3 g p s) := by
  show V m c main_arg5 (((cfg0.win 5).blk t).view.emb (ix3 g p s)) = _
  rw [emb5]
  rw [V_main_arg5]

/-- Input block 6 at an index: the position bias. -/
theorem iblk6_apply (c : Dev nD) (t : Fin cfg0.N) (g : Fin 8) (p s : Fin 128) : (iblk m c 6 t : Vec Ideal S8x128x128 .f32) (ix3 g p s) = (m ((c : Thread nD τ).loc main_arg6) : Vec Ideal S8x128 .f32) (ix2 g p) := by
  show V m c main_v4 (((cfg0.win 6).blk t).view.emb (ix3 g p s)) = _
  rw [emb6]
  exact V6 m c g p s

/-- Input block 7 at an index: the output weights. -/
theorem iblk7_apply (c : Dev nD) (t : Fin cfg0.N) (k j : Fin 1024) : (iblk m c 7 t : Vec Ideal S1024x1024 .bf16) (ix2 k j) = (m ((c : Thread nD τ).loc main_arg7) : Vec Ideal S1024x1024 .f32) (ix2 k j) := by
  show V m c main_v2 (((cfg0.win 7).blk t).view.emb (ix2 k j)) = _
  rw [emb7]
  exact V7 m c k j

/-- The gated block at an index. -/
theorem gated_apply (u v : Vec Ideal S1024x1024 .f32) (W B : Vec Ideal S8x128x128 .f32) (r j : Fin 1024) :
    gated u v W B (ix2 r j) = gate (fun r j => u (ix2 r j)) (fun r j => v (ix2 r j)) (fun g p s => W (ix3 g p s)) (fun g p s => B (ix3 g p s)) r j := rfl

/-- A row's position within its chunk is the position of its place in the block: blocks hold whole chunks. -/
theorem pos_row (t : Fin cfg0.N) (r : Fin 1024) : Cert.Gmlp.pos (row t r).val = pos r := by
  apply Fin.ext
  show (1024 * t.val + r.val) % 128 = r.val % 128
  omega

/-- The rows of a block row's chunk lie in the same block. -/
theorem chunk_row (t : Fin cfg0.N) (r : Fin 1024) (s : Fin 128) : Cert.Gmlp.chunk (row t r) s = row t (chunkRow r s) := by
  apply Fin.ext
  show 128 * ((1024 * t.val + r.val) / 128) + s.val = 1024 * t.val + (128 * (r.val / 128) + s.val)
  omega

/-- What point `t` leaves for its block is its rows of the mixer. -/
theorem outsAt0_apply (c : Dev nD) (t : Fin cfg0.N) (r j : Fin 1024) : outsAt0 m c t (ix2 r j)
    = G (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (ix2 (row t r) j) := by
  unfold outsAt0
  rw [out_eq, pay4_apply]
  simp only [gated_apply, gate, pay7_apply, pay10_apply, iblk0_apply, iblk1_apply, iblk2_apply, iblk3_apply, iblk4_apply, iblk5_apply,
    iblk6_apply, iblk7_apply]
  show _ = Cert.Gmlp.mixer _ _ _ _ _ _ _ _ (row t r) j
  simp only [Cert.Gmlp.mixer, Cert.Gmlp.gated, pos_row, chunk_row]
  rfl

/-- The result array, as the launch's argument arrays determine it. -/
def GM (c : Dev nD) : Vec Ideal S16384x1024 .f32 :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What the point writes back is its block of the mixer. -/
theorem flushed8_eq (c : Dev nD) (t : Fin cfg0.N) : (dats m 0 c).flushed 8 t = ((cfg0.win 8).blk t).view.read (Elt Ideal) (GM m c) := by
  rw [flushed8]
  funext y
  show outsAt0 m c t y = GM m c (((cfg0.win 8).blk t).view.emb y)
  rw [emb8]
  have h := outsAt0_apply m c t (y 0) (y 1)
  rwa [show (ix2 (y 0) (y 1) : S1024x1024.Idx) = y from by funext a; match a with | ⟨0, _⟩ => rfl | ⟨1, _⟩ => rfl] at h

/-- Every index of the result array is in the block of its row's point. -/
theorem covered8 (i : S16384x1024.Idx) : ∃ t : Fin cfg0.N, (cfg0.win 8).flush t = true ∧ i ∈ ((cfg0.win 8).blk t).view.set := by
  idx_vars i
  obtain ⟨t, r, hr⟩ : ∃ (t : Fin cfg0.N) (r : Fin 1024), row t r = i0 :=
    ⟨⟨i0.val / 1024, by show i0.val / 1024 < 16; omega⟩, ⟨i0.val % 1024, by omega⟩, Fin.ext (by show 1024 * (i0.val / 1024) + i0.val % 1024 = i0.val; omega)⟩
  refine ⟨t, flush0_8 t, ?_⟩
  have h := ((cfg0.win 8).blk t).view.emb_mem_set (ix2 r i1 : S1024x1024.Idx)
  rw [emb8] at h
  subst hr
  exact h

/-- The result array after the run is the mixer of the argument arrays. -/
theorem final8 (c : Dev nD) : (dats m 0 c).arrAt 8 cfg0.N = GM m c :=
  (dats m 0 c).arrAt_eq_of_cover 8 (GM m c) (fun t _ => flushed8_eq m c t) covered8

/-- The generated run with the result array at its function of the arguments. -/
theorem run : θ_run defs (onTc (τ := τ) (main (F := Ideal))) ⟨m, fun _ => 0, ρ⟩ fun r => ∀ c : Dev nD,
      r.2.mem ((c : Thread nD τ).loc main_v8) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2⟩) (run_blocks m ρ)

end Cert.KernelIdeal.Gmlp

end
-- ==== Proof.GmlpRef.lean ====
/- The reference's result array is the mixer of the argument arrays. -/
module

public import proofs.«01_k».proof.Proof.GmlpMath
public import proofs.«01_k».proof.Proof.Gen.ReferenceIdeal.Read

@[expose] public section

set_option maxRecDepth 16384

noncomputable section

namespace Cert.ReferenceIdeal.Gmlp

open Cert.ReferenceIdeal Cert.ReferenceIdeal.Gen Cert.ReferenceIdeal.Read Idealize.ShloMosaic Idealize.ShloMosaic.TcCoe Idealize.SL.Sem

variable (x0 : Vec Ideal S8x2048x1024 .f32) (x1 : Vec Ideal S1024 .f32) (x2 : Vec Ideal S1024x2048 .f32) (x3 x4 : Vec Ideal S1024 .f32)
  (x5 : Vec Ideal S8x128x128 .f32) (x6 : Vec Ideal S8x128 .f32) (x7 : Vec Ideal S1024x1024 .f32)

/-- The reference's normalized activations at an index. -/
theorem v12_apply (b : Fin 8) (s : Fin 2048) (k : Fin 1024) : val_main_v12 (F := Ideal) x0 x1 (ix3 b s k)
    = Cert.Gmlp.rms (fun k => x0 (ix3 b s k)) (fun k => x1 (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- Its up-projection after the GELU, at an index. -/
theorem v20_apply (b : Fin 8) (s : Fin 2048) (j : Fin 2048) : val_main_v20 (F := Ideal) x0 x1 x2 (ix3 b s j)
    = Cert.Gmlp.up (fun k => x0 (ix3 b s k)) (fun k => x1 (ix1 k)) (fun k j => x2 (ix2 k j)) j := by
  unfold val_main_v20 val_main_v19 val_main_v18 val_main_v17 val_main_v16 val_main_v15 val_main_v14 val_main_v13 val_main_cst_2 val_main_cst_3
  pointwise [v12_apply, Ideal.hostUnary_erfc_def, Ideal.hostNegf_def, neg_mul, Ideal.erfc_neg]
  rfl

/-- The gating half of it. -/
theorem v21_apply (b : Fin 8) (s : Fin 2048) (j : Fin 1024) : val_main_v21 (F := Ideal) x0 x1 x2 (ix3 b s j)
    = Cert.Gmlp.upU (fun k => x0 (ix3 b s k)) (fun k => x1 (ix1 k)) (fun k j => x2 (ix2 k j)) j := by
  unfold val_main_v21
  pointwise [v20_apply]
  rfl

/-- The half that is mixed over positions. -/
theorem v22_apply (b : Fin 8) (s : Fin 2048) (j : Fin 1024) : val_main_v22 (F := Ideal) x0 x1 x2 (ix3 b s j)
    = Cert.Gmlp.upV (fun k => x0 (ix3 b s k)) (fun k => x1 (ix1 k)) (fun k j => x2 (ix2 k j)) j := by
  unfold val_main_v22
  pointwise [v20_apply]
  rfl

/-- That half's mean over a row. -/
theorem v26_apply (b : Fin 8) (s : Fin 2048) : val_main_v26 (F := Ideal) x0 x1 x2 (ix3 b s 0)
    = Ideal.div (∑ i, Cert.Gmlp.upV (fun k => x0 (ix3 b s k)) (fun k => x1 (ix1 k)) (fun k j => x2 (ix2 k j)) i) (Ideal.ofBits .f32 0x44800000#32) := by
  unfold val_main_v26 val_main_v25 val_main_v24 val_main_v23 val_main_cst_4 val_main_cst_5
  pointwise [v22_apply]

/-- That half less its row's mean. -/
theorem v28_apply (b : Fin 8) (s : Fin 2048) (j : Fin 1024) : val_main_v28 (F := Ideal) x0 x1 x2 (ix3 b s j)
    = Cert.Gmlp.center (Cert.Gmlp.upV (fun k => x0 (ix3 b s k)) (fun k => x1 (ix1 k)) (fun k j => x2 (ix2 k j))) j := by
  unfold val_main_v28 val_main_v27
  pointwise [v22_apply, v26_apply]
  rfl

/-- That half layer-normalized. -/
theorem v46_apply (b : Fin 8) (s : Fin 2048) (j : Fin 1024) : val_main_v46 (F := Ideal) x0 x1 x2 x3 x4 (ix3 b s j)
    = Cert.Gmlp.lnorm (Cert.Gmlp.upV (fun k => x0 (ix3 b s k)) (fun k => x1 (ix1 k)) (fun k j => x2 (ix2 k j))) (fun k => x3 (ix1 k)) (fun k => x4 (ix1 k)) j := by
  unfold val_main_v46 val_main_v45 val_main_v44 val_main_v43 val_main_v42 val_main_v41 val_main_v40 val_main_v39 val_main_v38 val_main_v37 val_main_v36
    val_main_v35 val_main_v34 val_main_v33 val_main_v32 val_main_v31 val_main_v30 val_main_v29 val_main_cst_6 val_main_cst_7 val_main_cst_8
  pointwise [v22_apply, v26_apply, v28_apply]
  rfl

/-- The position weights under the causal mask. -/
theorem v50_apply (g : Fin 8) (p s : Fin 128) : val_main_v50 (F := Ideal) x5 (ix3 g p s) = if s.val ≤ p.val then x5 (ix3 g p s) else 0 := by
  unfold val_main_v50 val_main_call1_v2 val_main_call1_v1 val_main_call1_v0 val_main_v49 val_main_v48 val_main_call0_v5 val_main_call0_v4 val_main_call0_v3 val_main_call0_v2 val_main_call0_v1 val_main_call0_v0 val_main_c val_main_c_9 val_main_call0_c val_main_call0_c_0
  pointwise
  have h : (IntOp.cmpi CmpIPredicate.sge (IntOp.addi (BitVec.ofNat 32 p.val) 0#32) (BitVec.ofNat 32 s.val)) = if s.val ≤ p.val then 1#1 else 0#1 := by
    revert p s; decide +kernel
  have h0 : (FloatOps.sitofp FTy.f32 0#32 : Ideal .f32) = (0 : EReal) := by
    show (((0#32 : BitVec 32).toInt : ℝ) : EReal) = 0
    rw [show (0#32 : BitVec 32).toInt = 0 from rfl, Int.cast_zero, EReal.coe_zero]
  rw [h, h0]
  split_ifs <;> rfl

/-- The reference's split of the row and column axes into chunks and groups. -/
theorem v47_apply (b : Fin 8) (c : Fin 16) (p : Fin 128) (g : Fin 8) (d : Fin 128) : val_main_v47 (F := Ideal) x0 x1 x2 x3 x4 (ix5 b c p g d)
    = val_main_v46 (F := Ideal) x0 x1 x2 x3 x4 (ix3 b (⟨128 * c.val + p.val, by omega⟩ : Fin 2048) (⟨128 * g.val + d.val, by omega⟩ : Fin 1024)) := by
  unfold val_main_v47
  exact shapeCast_apply _ _ _ _ (by
    rw [Shape.rowMajor_val_three, Shape.rowMajor_val_five]
    show (b.val * 2048 + (128 * c.val + p.val)) * 1024 + (128 * g.val + d.val) = (((b.val * 16 + c.val) * 128 + p.val) * 8 + g.val) * 128 + d.val
    omega)

/-- The same split undone. -/
theorem v58_apply (b : Fin 8) (s : Fin 2048) (j : Fin 1024) : val_main_v58 (F := Ideal) x0 x1 x2 x3 x4 x5 x6 (ix3 b s j)
    = val_main_v57 (F := Ideal) x0 x1 x2 x3 x4 x5 x6 (ix5 b (⟨s.val / 128, by omega⟩ : Fin 16) (Cert.Gmlp.pos s.val) (Cert.Gmlp.grp j) (⟨j.val % 128, by omega⟩ : Fin 128)) := by
  unfold val_main_v58
  exact shapeCast_apply _ _ _ _ (by
    rw [Shape.rowMajor_val_three, Shape.rowMajor_val_five]
    show (((b.val * 16 + s.val / 128) * 128 + s.val % 128) * 8 + j.val / 128) * 128 + j.val % 128 = (b.val * 2048 + s.val) * 1024 + j.val
    omega)

/-- The mixed values with their bias. -/
theorem v57_apply (b : Fin 8) (c : Fin 16) (p : Fin 128) (g : Fin 8) (d : Fin 128) : val_main_v57 (F := Ideal) x0 x1 x2 x3 x4 x5 x6 (ix5 b c p g d)
    = (∑ s : Fin 128, (if s.val ≤ p.val then x5 (ix3 g p s) else 0) *
        Cert.Gmlp.lnorm (Cert.Gmlp.upV (fun k => x0 (ix3 b (⟨128 * c.val + s.val, by omega⟩ : Fin 2048) k)) (fun k => x1 (ix1 k)) (fun k j => x2 (ix2 k j)))
          (fun k => x3 (ix1 k)) (fun k => x4 (ix1 k)) (⟨128 * g.val + d.val, by omega⟩ : Fin 1024)) + x6 (ix2 g p) := by
  unfold val_main_v57 val_main_v56 val_main_v55 val_main_v54 val_main_v53 val_main_v52 val_main_v51
  pointwise [v47_apply, v46_apply, v50_apply]
  exact congrArg (· + _) (Finset.sum_congr rfl fun s _ => mul_comm _ _)

/-- The gated values: row `s` of batch `b` is row `R` of the flattened activations. -/
theorem v59_apply (R : Fin 16384) (j : Fin 1024) : val_main_v59 (F := Ideal) x0 x1 x2 x3 x4 x5 x6 (ix3 (⟨R.val / 2048, by omega⟩ : Fin 8) (⟨R.val % 2048, by omega⟩ : Fin 2048) j)
    = Cert.Gmlp.gated (fun R k => x0 (ix3 (⟨R.val / 2048, by omega⟩ : Fin 8) (⟨R.val % 2048, by omega⟩ : Fin 2048) k)) (fun k => x1 (ix1 k)) (fun k j => x2 (ix2 k j))
      (fun k => x3 (ix1 k)) (fun k => x4 (ix1 k)) (fun g p s => x5 (ix3 g p s)) (fun g p => x6 (ix2 g p)) R j := by
  unfold val_main_v59
  pointwise [v21_apply, v58_apply, v57_apply]
  have e1 : Cert.Gmlp.pos (R.val % 2048) = Cert.Gmlp.pos R.val := Fin.ext (by show R.val % 2048 % 128 = R.val % 128; omega)
  have e2 : (⟨128 * (Cert.Gmlp.grp j).val + j.val % 128, by have := (Cert.Gmlp.grp j).isLt; omega⟩ : Fin 1024) = j :=
    Fin.ext (by show 128 * (j.val / 128) + j.val % 128 = j.val; omega)
  have e3 : ∀ s k, x0 (ix3 (⟨R.val / 2048, by omega⟩ : Fin 8) (⟨128 * (R.val % 2048 / 128) + s.val, by omega⟩ : Fin 2048) k)
      = x0 (ix3 (⟨(Cert.Gmlp.chunk R s).val / 2048, by omega⟩ : Fin 8) (⟨(Cert.Gmlp.chunk R s).val % 2048, by omega⟩ : Fin 2048) k) := fun s k => by
    have a : (⟨R.val / 2048, by omega⟩ : Fin 8) = ⟨(Cert.Gmlp.chunk R s).val / 2048, by omega⟩ :=
      Fin.ext (by show R.val / 2048 = (128 * (R.val / 128) + s.val) / 2048; omega)
    have b : (⟨128 * (R.val % 2048 / 128) + s.val, by omega⟩ : Fin 2048) = ⟨(Cert.Gmlp.chunk R s).val % 2048, by omega⟩ :=
      Fin.ext (by show 128 * (R.val % 2048 / 128) + s.val = (128 * (R.val / 128) + s.val) % 2048; omega)
    rw [a, b]
  simp only [e1, e2, e3]
  rfl

/-- The reference's result at row `R`, column `j` is the mixer there. -/
theorem v62_apply (R : Fin 16384) (j : Fin 1024) : val_main_v62 (F := Ideal) x0 x1 x2 x3 x4 x5 x6 x7 (ix2 R j)
    = Cert.Gmlp.mixer (fun R k => x0 (ix3 (⟨R.val / 2048, by omega⟩ : Fin 8) (⟨R.val % 2048, by omega⟩ : Fin 2048) k)) (fun k => x1 (ix1 k)) (fun k j => x2 (ix2 k j))
      (fun k => x3 (ix1 k)) (fun k => x4 (ix1 k)) (fun g p s => x5 (ix3 g p s)) (fun g p => x6 (ix2 g p)) (fun k j => x7 (ix2 k j)) R j := by
  have h : val_main_v62 (F := Ideal) x0 x1 x2 x3 x4 x5 x6 x7 (ix2 R j)
      = val_main_v61 (F := Ideal) x0 x1 x2 x3 x4 x5 x6 x7 (ix3 (⟨R.val / 2048, by omega⟩ : Fin 8) (⟨R.val % 2048, by omega⟩ : Fin 2048) j) := by
    unfold val_main_v62
    exact shapeCast_apply _ _ _ _ (by
      rw [Shape.rowMajor_val_three, Shape.rowMajor_val_two]
      show (R.val / 2048 * 2048 + R.val % 2048) * 1024 + j.val = R.val * 1024 + j.val
      omega)
  rw [h]
  unfold val_main_v61 val_main_v60
  pointwise [v59_apply]
  rfl

end Cert.ReferenceIdeal.Gmlp

end
-- ==== Proof.GmlpClaims.lean ====
/- The five claims about the gMLP mixer. -/
module

public import proofs.«01_k».proof.Defs
public import proofs.«01_k».proof.Proof.Gen.Kernel.Frame
public import proofs.«01_k».proof.Proof.Gen.ReferenceIdeal.Run
public import proofs.«01_k».proof.Proof.GmlpArray
public import proofs.«01_k».proof.Proof.GmlpRef

@[expose] public section

noncomputable section

namespace Cert.Proof.Gmlp

open Idealize.ShloMosaic Idealize.SL.Sem

/-- The kernel runs from any launch and leaves its arguments and semaphores as they were. -/
theorem frame_kernel : Cert.quiescent_Kernel := fun m g _ => Cert.Kernel.Gen.frame m g

/-- So does its idealization. -/
theorem frame_ideal : Cert.quiescent_KernelIdeal := fun m g _ => Cert.KernelIdeal.Gen.frame m g

/-- So does the reference. -/
theorem frame_reference : Cert.quiescent_ReferenceIdeal := fun m g _ =>
  (θ_run Cert.ReferenceIdeal.defs _ _).mono (fun r h => And.intro (fun c => (h c).2) (sem_eq_zero_of_no_sems (by decide) r.2))
    (Cert.ReferenceIdeal.Value.run m g)

/-- The reference's result array is the same function of the arguments as the kernel's. -/
theorem reference_value (a0 : Vec Ideal Cert.KernelIdeal.S8x2048x1024 .f32) (a1 : Vec Ideal Cert.KernelIdeal.S1024 .f32)
    (a2 : Vec Ideal Cert.KernelIdeal.S1024x2048 .f32) (a3 a4 : Vec Ideal Cert.KernelIdeal.S1024 .f32) (a5 : Vec Ideal Cert.KernelIdeal.S8x128x128 .f32)
    (a6 : Vec Ideal Cert.KernelIdeal.S8x128 .f32) (a7 : Vec Ideal Cert.KernelIdeal.S1024x1024 .f32) :
    Cert.ReferenceIdeal.Read.val_main_v62 (F := Ideal) a0 a1 a2 a3 a4 a5 a6 a7 = Cert.KernelIdeal.Gmlp.G a0 a1 a2 a3 a4 a5 a6 a7 := by
  funext i
  idx_vars i
  exact Cert.ReferenceIdeal.Gmlp.v62_apply a0 a1 a2 a3 a4 a5 a6 a7 i0 i1

/-- Over the extended reals the kernel and the reference end with one result array. -/
theorem value : Cert.algebraic_KernelIdeal_ReferenceIdeal := by
  intro m g m' g' _ same
  refine ⟨fun c => Cert.KernelIdeal.Gmlp.GM m c, Cert.KernelIdeal.Gmlp.run m g, ?_⟩
  refine (θ_run Cert.ReferenceIdeal.defs _ _).mono (fun r h c => And.intro ?_ (h c).2) (Cert.ReferenceIdeal.Value.run (F := Ideal) m' g')
  obtain ⟨e0, e1, e2, e3, e4, e5, e6, e7⟩ := same c
  rw [(h c).1, Cert.ReferenceIdeal.Read.val_main_v62_eq, e0, e1, e2, e3, e4, e5, e6, e7]
  exact reference_value _ _ _ _ _ _ _ _

end Cert.Proof.Gmlp

end
-- ==== Proof.FfnMath.lean ====
/- The mathematics of the gated feed-forward layer, row by row, over the extended reals, and its inner sum taken a run of terms at a
   time. -/
module

public import proofs.«01_k».proof.Proof.GmlpMath

@[expose] public section

noncomputable section

namespace Cert.Ffn

open Idealize.ShloMosaic

/-- One hidden unit of a row: the gate's projection times its logistic, times the other projection. -/
def hidden (h : Fin 1024 → EReal) (wg wu : Fin 1024 → Fin 3584 → EReal) (q : Fin 3584) : EReal :=
  (∑ k, h k * wg k q) * Ideal.logistic (∑ k, h k * wg k q) * ∑ k, h k * wu k q

/-- One entry of a row's result: the hidden units times a column of the output weights. -/
def swiglu (h : Fin 1024 → EReal) (wg wu : Fin 1024 → Fin 3584 → EReal) (wd : Fin 3584 → Fin 1024 → EReal) (j : Fin 1024) : EReal :=
  ∑ q, hidden h wg wu q * wd q j

/-- The term of that sum at a number, zero past the last hidden unit. -/
def term (h : Fin 1024 → EReal) (wg wu : Fin 1024 → Fin 3584 → EReal) (wd : Fin 3584 → Fin 1024 → EReal) (j : Fin 1024) (n : ℕ) : EReal :=
  if b : n < 3584 then hidden h wg wu ⟨n, b⟩ * wd ⟨n, b⟩ j else 0

/-- The sum of the first `n` terms. -/
def first (h : Fin 1024 → EReal) (wg wu : Fin 1024 → Fin 3584 → EReal) (wd : Fin 3584 → Fin 1024 → EReal) (j : Fin 1024) (n : ℕ) : EReal :=
  ∑ i ∈ Finset.range n, term h wg wu wd j i

variable (h : Fin 1024 → EReal) (wg wu : Fin 1024 → Fin 3584 → EReal) (wd : Fin 3584 → Fin 1024 → EReal) (j : Fin 1024)

/-- No terms add to zero. -/
theorem first_zero : first h wg wu wd j 0 = 0 := Finset.sum_range_zero _

/-- All the terms add to the entry. -/
theorem first_all : first h wg wu wd j 3584 = swiglu h wg wu wd j := by
  unfold first swiglu
  rw [Finset.sum_range]
  refine Finset.sum_congr rfl fun q _ => ?_
  unfold term
  rw [dif_pos q.isLt]

/-- The next 512 terms, added to those before them. -/
theorem first_tile (s : ℕ) (hs : s < 7) : first h wg wu wd j (512 * s)
      + ∑ q : Fin 512, hidden h wg wu (⟨512 * s + q.val, by omega⟩ : Fin 3584) * wd (⟨512 * s + q.val, by omega⟩ : Fin 3584) j
    = first h wg wu wd j (512 * (s + 1)) := by
  unfold first
  rw [show 512 * (s + 1) = 512 * s + 512 from rfl, Finset.sum_range_add, Finset.sum_range (n := 512)]
  refine congrArg (_ + ·) (Finset.sum_congr rfl fun q _ => ?_)
  unfold term
  rw [dif_pos (by omega)]

end Cert.Ffn

end
-- ==== Proof.FfnBlock.lean ====
/- What one grid point of the feed-forward kernel leaves in its scratch and its output block, as the body's payloads of what it read,
   and those payloads at an index. -/
module

public import proofs.«01_k».proof.Proof.Gen.Kernel2Ideal.Value
public import proofs.«01_k».proof.Proof.FfnMath

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

/-- The zero offset of two axes, written out and as a function. -/
theorem hz : (![0, 0] : Fin 2 → ℕ) = fun _ => 0 := by funext a; fin_cases a <;> rfl

/-- The zero offset of three axes, written out and as a function. -/
theorem hz3 : (![0, 0, 0] : Fin 3 → ℕ) = fun _ => 0 := by funext a; fin_cases a <;> rfl

section Point
variable (c : Dev nD) (i : grid0.Coords)
    (a2 : Memref sig .tc .vmem S1024x1024 .f32) (h2 : a2.IsWhole) (a3 : Memref sig .tc .vmem S1x1024 .f32) (h3 : a3.IsWhole)
    (a4 : Memref sig .tc .vmem S1x1024x512 .bf16) (h4 : a4.IsWhole) (a5 : Memref sig .tc .vmem S1x1024x512 .bf16) (h5 : a5.IsWhole)
    (a6 : Memref sig .tc .vmem S1x512x1024 .bf16) (h6 : a6.IsWhole) (a7 : Memref sig .tc .vmem S1024x1024 .f32) (h7 : a7.IsWhole)
    (a8 : Memref sig .tc .vmem S1024x1024 .bf16) (h8 : a8.IsWhole) (a9 : Memref sig .tc .vmem S1024x1024 .f32) (h9 : a9.IsWhole)
    (x0 : Vec Ideal S1024x1024 .f32) (x1 : Vec Ideal S1x1024 .f32) (x2 x3 : Vec Ideal S1x1024x512 .bf16) (x4 : Vec Ideal S1x512x1024 .bf16)
    (s0 : Vec Ideal S1024x1024 .bf16) (s1 : Vec Ideal S1024x1024 .f32)

/-- The first point of a row block leaves the normalized rows in the first scratch. -/
theorem first_rows (hc0 : cond0_0 i) (hc1 : ¬cond0_1 i) : sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  simp only [View.readAt_eq_ld, h2.read_unread, h3.read_unread]
  rw [View.canon_unit_zero hz]
  simp only [View.ld_unit_zero (S := S1024x1024) hz, View.ld_unit_zero (S := S1x1024) hz]

/-- It leaves the first 512 hidden units' share, over zero, in the second. -/
theorem first_acc (hc0 : cond0_0 i) (hc1 : ¬cond0_1 i) : sout0_A_1 c i a2 h2 a3 h3 a4 h4 a5 h5 a6 h6 a7 h7 a8 h8 a9 h9 hc0 hc1 x0 x1 x2 x3 x4
    = k0_pay3 (k0_pay1 x0 x1) x2 x3 (k0_pay2 (F := Ideal)) x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  simp only [View.readAt_eq_ld, h2.read_unread, h3.read_unread, h4.read_unread, h5.read_unread, h6.read_unread]
  rw [View.canon_cons_unit_zero (S := S1024x1024) hz, View.readCov_unit_zero (S := S1024x1024) _ hz, View.readCov_unit_zero (S := S1024x1024) _ hz]
  simp only [View.ld_unit_zero (S := S1024x1024) hz, View.ld_unit_zero (S := S1x1024) hz, View.ld_unit_zero (S := S1x1024x512) hz3, View.ld_unit_zero (S := S1x512x1024) hz3]

/-- A middle point adds its hidden units' share to what the second scratch held. -/
theorem middle_acc (hc0 : ¬cond0_0 i) (hc1 : ¬cond0_1 i) : sout0_B_1 c i a2 h2 a3 h3 a4 h4 a5 h5 a6 h6 a7 h7 a8 h8 a9 h9 hc0 hc1 x0 x1 x2 x3 x4 s0 s1
    = k0_pay3 s0 x2 x3 s1 x4 := by
  unfold sout0_B_1
  rw [View.read_writes_eq_canon _ _ _ (scover0_B_1 c i a2 h2 a3 h3 a4 h4 a5 h5 a6 h6 a7 h7 a8 h8 a9 h9 hc0 hc1 x0 x1 x2 x3 x4 s0 s1)]
  unfold kernelRun0_B
  dsimp only
  sl_unfold_words
  simp only [View.readAt_eq_ld, h4.read_unread, h5.read_unread, h6.read_unread, h8.read_unread, h9.read_unread]
  rw [View.canon_unit_zero hz]
  simp only [View.ld_unit_zero (S := S1024x1024) hz, View.ld_unit_zero (S := S1x1024x512) hz3, View.ld_unit_zero (S := S1x512x1024) hz3]

/-- So does the last point of a row block. -/
theorem last_acc (hc0 : ¬cond0_0 i) (hc1 : cond0_1 i) : sout0_C_1 c i a2 h2 a3 h3 a4 h4 a5 h5 a6 h6 a7 h7 a8 h8 a9 h9 hc0 hc1 x0 x1 x2 x3 x4 s0 s1
    = k0_pay3 s0 x2 x3 s1 x4 := by
  unfold sout0_C_1
  rw [View.read_writes_eq_canon _ _ _ (scover0_C_1 c i a2 h2 a3 h3 a4 h4 a5 h5 a6 h6 a7 h7 a8 h8 a9 h9 hc0 hc1 x0 x1 x2 x3 x4 s0 s1)]
  unfold kernelRun0_C
  dsimp only
  sl_unfold_words
  simp only [View.readAt_eq_ld, h4.read_unread, h5.read_unread, h6.read_unread, h8.read_unread, h9.read_unread]
  rw [View.canon_unit_zero hz]
  simp only [View.ld_unit_zero (S := S1024x1024) hz, View.ld_unit_zero (S := S1x1024x512) hz3, View.ld_unit_zero (S := S1x512x1024) hz3]

/-- And it leaves in the output's block the rows of `x` plus what the second scratch then holds. -/
theorem last_out (hc0 : ¬cond0_0 i) (hc1 : cond0_1 i) : out0_C_5 c i a2 h2 a3 h3 a4 h4 a5 h5 a6 h6 a7 h7 a8 h8 a9 h9 hc0 hc1 x0 x1 x2 x3 x4 s0 s1
    = k0_pay4 x0 (k0_pay3 s0 x2 x3 s1 x4) := by
  unfold out0_C_5
  rw [View.read_writes_eq_canon _ _ _ (cover0_C_5 c i a2 h2 a3 h3 a4 h4 a5 h5 a6 h6 a7 h7 a8 h8 a9 h9 hc0 hc1 x0 x1 x2 x3 x4 s0 s1)]
  unfold kernelRun0_C
  dsimp only
  sl_unfold_words
  simp only [View.readAt_eq_ld, h2.read_unread, h4.read_unread, h5.read_unread, h6.read_unread, h8.read_unread, h9.read_unread]
  rw [View.canon_unit_zero hz, View.readCov_unit_zero (S := S1024x1024) _ hz]
  simp only [View.ld_unit_zero (S := S1024x1024) hz, View.ld_unit_zero (S := S1x1024x512) hz3, View.ld_unit_zero (S := S1x512x1024) hz3]

end Point

section Payload
variable (x0 : Vec Ideal S1024x1024 .f32) (x1 : Vec Ideal S1x1024 .f32) (x2 x3 : Vec Ideal S1x1024x512 .bf16) (x4 : Vec Ideal S1x512x1024 .bf16)
    (s0 : Vec Ideal S1024x1024 .bf16) (s1 : Vec Ideal S1024x1024 .f32)

/-- The normalized rows at an index. -/
theorem pay1_apply (r k : Fin 1024) : k0_pay1 x0 x1 (ix2 r k) = Cert.Gmlp.rms (fun k => x0 (ix2 r k)) (fun k => x1 (ix2 0 k)) k := by
  unfold k0_pay1
  pointwise
  rfl

/-- The zero block at an index. -/
theorem pay2_apply (r j : Fin 1024) : k0_pay2 (F := Ideal) (ix2 r j) = 0 := by
  unfold k0_pay2
  pointwise

/-- The accumulated block at an index. -/
theorem pay3_apply (r j : Fin 1024) : k0_pay3 s0 x2 x3 s1 x4 (ix2 r j) = s1 (ix2 r j)
    + ∑ q : Fin 512, (∑ k, s0 (ix2 r k) * x2 (ix3 0 k q)) * Ideal.logistic (∑ k, s0 (ix2 r k) * x2 (ix3 0 k q))
        * (∑ k, s0 (ix2 r k) * x3 (ix3 0 k q)) * x4 (ix3 0 q j) := by
  unfold k0_pay3
  pointwise [Ideal.logistic_def]

/-- The stored block at an index. -/
theorem pay4_apply (r j : Fin 1024) : k0_pay4 x0 s1 (ix2 r j) = x0 (ix2 r j) + s1 (ix2 r j) := by
  unfold k0_pay4
  pointwise

/-- A point's accumulation at an index: given the row of normalized activations, the 512 hidden units' weights and the sum of the terms
    before, the sum with the point's terms. -/
theorem pay3_first (r j : Fin 1024) (s : ℕ) (hs : s < 7) (h : Fin 1024 → EReal) (wg wu : Fin 1024 → Fin 3584 → EReal) (wd : Fin 3584 → Fin 1024 → EReal)
    (e0 : ∀ k, s0 (ix2 r k) = h k) (e2 : ∀ k (q : Fin 512), x2 (ix3 0 k q) = wg k (⟨512 * s + q.val, by omega⟩ : Fin 3584))
    (e3 : ∀ k (q : Fin 512), x3 (ix3 0 k q) = wu k (⟨512 * s + q.val, by omega⟩ : Fin 3584))
    (e4 : ∀ (q : Fin 512), x4 (ix3 0 q j) = wd (⟨512 * s + q.val, by omega⟩ : Fin 3584) j)
    (e1 : s1 (ix2 r j) = Cert.Ffn.first h wg wu wd j (512 * s)) :
    k0_pay3 s0 x2 x3 s1 x4 (ix2 r j) = Cert.Ffn.first h wg wu wd j (512 * (s + 1)) := by
  rw [pay3_apply, e1]
  simp only [e0, e2, e3, e4]
  exact Cert.Ffn.first_tile h wg wu wd j s hs

end Payload

end Cert.Kernel2Ideal.Ffn

end
-- ==== Proof.FfnArray.lean ====
/- The feed-forward kernel's result array as a function of the argument arrays: what each point reads, what its scratch then holds, and the
   blocks that are written back. -/
module

public import proofs.«01_k».proof.Proof.FfnBlock

@[expose] public section

set_option maxRecDepth 16384

noncomputable section

namespace Cert.Kernel2Ideal.Ffn

open Cert.Kernel2Ideal Cert.Kernel2Ideal.Gen Cert.Kernel2Ideal.Value Idealize.ShloMosaic Idealize.ShloMosaic.TcCoe Idealize.SL.Sem
open Idealize.ShloMosaic.Pipeline (Dat)

/-- The normalized activations at row `R`. -/
def normed (a0 : Vec Ideal S8x2048x1024 .f32) (a1 : Vec Ideal S1024 .f32) (R : Fin 16384) : Fin 1024 → EReal :=
  Cert.Gmlp.rms (fun k => a0 (ix3 (⟨R.val / 2048, by omega⟩ : Fin 8) (⟨R.val % 2048, by omega⟩ : Fin 2048) k)) (fun k => a1 (ix1 k))

/-- The layer with its residual as one array of the argument arrays. -/
def G (a0 : Vec Ideal S8x2048x1024 .f32) (a1 : Vec Ideal S1024 .f32) (a2 a3 : Vec Ideal S2x1024x3584 .f32) (a4 : Vec Ideal S2x3584x1024 .f32) : Vec Ideal S16384x1024 .f32 :=
  fun i => a0 (ix3 (⟨(i 0).val / 2048, by have : (i 0).val < 16384 := (i 0).isLt; omega⟩ : Fin 8) (⟨(i 0).val % 2048, by omega⟩ : Fin 2048) (i 1))
    + Cert.Ffn.swiglu (normed a0 a1 (i 0)) (fun k q => a2 (ix3 0 k q)) (fun k q => a3 (ix3 0 k q)) (fun q j => a4 (ix3 0 q j)) (i 1)

/-- The batch and sequence axes joined: row `R` is row `R % 2048` of batch `R / 2048`. -/
theorem rows_apply (x : S8x2048x1024.Idx → EReal) (R : Fin 16384) (k : Fin 1024) :
    shapeCast S16384x1024 x shapeCasts_S8x2048x1024_S16384x1024 (ix2 R k) = x (ix3 (⟨R.val / 2048, by omega⟩ : Fin 8) (⟨R.val % 2048, by omega⟩ : Fin 2048) k) :=
  shapeCast_apply x _ _ _ (by
    rw [Shape.rowMajor_val_three, Shape.rowMajor_val_two]
    show (R.val / 2048 * 2048 + R.val % 2048) * 1024 + k.val = R.val * 1024 + k.val
    omega)

variable (m : (ℓ : Loc nD τ sig) → Buf (Elt Ideal) ℓ) (ρ : Dev nD → PrngReg)

/-- Argument 0, the activations. -/
abbrev A0 (c : Dev nD) : Vec Ideal S8x2048x1024 .f32 := m ((c : Thread nD τ).loc main_arg0)
/-- Argument 1, the normalization gain. -/
abbrev A1 (c : Dev nD) : Vec Ideal S1024 .f32 := m ((c : Thread nD τ).loc main_arg1)
/-- Argument 2, the gate's weights. -/
abbrev A2 (c : Dev nD) : Vec Ideal S2x1024x3584 .f32 := m ((c : Thread nD τ).loc main_arg2)
/-- Argument 3, the other projection's weights. -/
abbrev A3 (c : Dev nD) : Vec Ideal S2x1024x3584 .f32 := m ((c : Thread nD τ).loc main_arg3)
/-- Argument 4, the output weights. -/
abbrev A4 (c : Dev nD) : Vec Ideal S2x3584x1024 .f32 := m ((c : Thread nD τ).loc main_arg4)

/-! The arrays the kernel's windows read, as the host operations before it leave them. -/

/-- Window 0 reads the activations, their first two axes joined. -/
theorem V0 (c : Dev nD) (R : Fin 16384) (k : Fin 1024) : V m c main_v0 (ix2 R k) =
    A0 m c (ix3 (⟨R.val / 2048, by omega⟩ : Fin 8) (⟨R.val % 2048, by omega⟩ : Fin 2048) k) := by
  have h : V m c main_v0 = shapeCast S16384x1024 (A0 m c) shapeCasts_S8x2048x1024_S16384x1024 := by
    show StableHlo.after _ _ _ = _
    after_results
    rfl
  rw [h, rows_apply]

/-- Window 1 reads the normalization gain as one row. -/
theorem V1 (c : Dev nD) (k : Fin 1024) : V m c main_v4 (ix2 0 k) = A1 m c (ix1 k) := by
  have h : V m c main_v4 = shapeCast S1x1024 (A1 m c) shapeCasts_S1024_S1x1024 := by
    show StableHlo.after _ _ _ = _
    after_results
    rfl
  rw [h]
  pointwise

/-- Window 2 reads the gate's weights. -/
theorem V2 (c : Dev nD) (l : Fin 2) (k : Fin 1024) (q : Fin 3584) : V m c main_v1 (ix3 l k q) = A2 m c (ix3 l k q) := by
  have h : V m c main_v1 = (truncf (F := Ideal) (s := S2x1024x3584) (φ := .f32) .bf16 (A2 m c) bitsLt_bf16_f32) := by
    show StableHlo.after _ _ _ = _
    after_results
  rw [h]
  pointwise

/-- Window 3 reads the other projection's weights. -/
theorem V3 (c : Dev nD) (l : Fin 2) (k : Fin 1024) (q : Fin 3584) : V m c main_v2 (ix3 l k q) = A3 m c (ix3 l k q) := by
  have h : V m c main_v2 = (truncf (F := Ideal) (s := S2x1024x3584) (φ := .f32) .bf16 (A3 m c) bitsLt_bf16_f32) := by
    show StableHlo.after _ _ _ = _
    after_results
  rw [h]
  pointwise

/-- Window 4 reads the output weights. -/
theorem V4 (c : Dev nD) (l : Fin 2) (q : Fin 3584) (j : Fin 1024) : V m c main_v3 (ix3 l q j) = A4 m c (ix3 l q j) := by
  have h : V m c main_v3 = (truncf (F := Ideal) (s := S2x3584x1024) (φ := .f32) .bf16 (A4 m c) bitsLt_bf16_f32) := by
    show StableHlo.after _ _ _ = _
    after_results
  rw [h]
  pointwise

/-! Point `t` is row block `t / 7`, hidden block `t % 7`. -/

/-- The block index of window 0 at each grid point. -/
theorem idx0 : ∀ t : Fin cfg0.N, win0_0.index t (0 : Fin 2) = t.val / 7 ∧ win0_0.index t (1 : Fin 2) = 0 := (by decide +kernel : ∀ t : Fin grid0.N, _)
/-- The block index of window 1 at each grid point. -/
theorem idx1 : ∀ t : Fin cfg0.N, win0_1.index t (0 : Fin 2) = 0 ∧ win0_1.index t (1 : Fin 2) = 0 := (by decide +kernel : ∀ t : Fin grid0.N, _)
/-- The block index of window 2 at each grid point. -/
theorem idx2 : ∀ t : Fin cfg0.N, win0_2.index t (0 : Fin 3) = 0 ∧ win0_2.index t (1 : Fin 3) = 0 ∧ win0_2.index t (2 : Fin 3) = t.val % 7 := (by decide +kernel : ∀ t : Fin grid0.N, _)
/-- The block index of window 3 at each grid point. -/
theorem idx3 : ∀ t : Fin cfg0.N, win0_3.index t (0 : Fin 3) = 0 ∧ win0_3.index t (1 : Fin 3) = 0 ∧ win0_3.index t (2 : Fin 3) = t.val % 7 := (by decide +kernel : ∀ t : Fin grid0.N, _)
/-- The block index of window 4 at each grid point. -/
theorem idx4 : ∀ t : Fin cfg0.N, win0_4.index t (0 : Fin 3) = 0 ∧ win0_4.index t (1 : Fin 3) = t.val % 7 ∧ win0_4.index t (2 : Fin 3) = 0 := (by decide +kernel : ∀ t : Fin grid0.N, _)
/-- The block index of the output window at each grid point. -/
theorem idx5 : ∀ t : Fin cfg0.N, win0_5.index t (0 : Fin 2) = t.val / 7 ∧ win0_5.index t (1 : Fin 2) = 0 := (by decide +kernel : ∀ t : Fin grid0.N, _)

/-- Row `r` of point `t`'s row block. -/
def row (t : Fin cfg0.N) (r : Fin 1024) : Fin 16384 := ⟨1024 * (t.val / 7) + r.val, by have : t.val < 112 := t.isLt; omega⟩

/-- Hidden unit `q` of point `t`'s hidden block. -/
def unit (t : Fin cfg0.N) (q : Fin 512) : Fin 3584 := ⟨512 * (t.val % 7) + q.val, by omega⟩

/-- Where an index of window 0's block lies in its array. -/
theorem emb0 (t : Fin cfg0.N) (j : S1024x1024.Idx) : ((cfg0.win 0).blk t).view.emb j = (ix2 (row t (j 0)) (j 1) : S16384x1024.Idx) := by
  obtain ⟨e0, e1⟩ := idx0 t
  funext a; apply Fin.ext
  match a with
  | ⟨0, _⟩ => show win0_0.index t (0 : Fin 2) * 1024 + 1 * (j 0).val = 1024 * (t.val / 7) + (j 0).val; omega
  | ⟨1, _⟩ => show win0_0.index t (1 : Fin 2) * 1024 + 1 * (j 1).val = (j 1).val; omega

/-- Where an index of window 1's block lies in its array. -/
theorem emb1 (t : Fin cfg0.N) (j : S1x1024.Idx) : ((cfg0.win 1).blk t).view.emb j = (j : S1x1024.Idx) := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- Where an index of window 2's block lies in its array. -/
theorem emb2 (t : Fin cfg0.N) (k : Fin 1024) (q : Fin 512) : ((cfg0.win 2).blk t).view.emb (ix3 0 k q) = (ix3 0 k (unit t q) : S2x1024x3584.Idx) := by
  obtain ⟨e0, e1, e2⟩ := idx2 t
  funext a; apply Fin.ext
  match a with
  | ⟨0, _⟩ => show win0_2.index t (0 : Fin 3) * 1 + 1 * 0 = 0; omega
  | ⟨1, _⟩ => show win0_2.index t (1 : Fin 3) * 1024 + 1 * k.val = k.val; omega
  | ⟨2, _⟩ => show win0_2.index t (2 : Fin 3) * 512 + 1 * q.val = 512 * (t.val % 7) + q.val; omega

/-- Where an index of window 3's block lies in its array. -/
theorem emb3 (t : Fin cfg0.N) (k : Fin 1024) (q : Fin 512) : ((cfg0.win 3).blk t).view.emb (ix3 0 k q) = (ix3 0 k (unit t q) : S2x1024x3584.Idx) := by
  obtain ⟨e0, e1, e2⟩ := idx3 t
  funext a; apply Fin.ext
  match a with
  | ⟨0, _⟩ => show win0_3.index t (0 : Fin 3) * 1 + 1 * 0 = 0; omega
  | ⟨1, _⟩ => show win0_3.index t (1 : Fin 3) * 1024 + 1 * k.val = k.val; omega
  | ⟨2, _⟩ => show win0_3.index t (2 : Fin 3) * 512 + 1 * q.val = 512 * (t.val % 7) + q.val; omega

/-- Where an index of window 4's block lies in its array. -/
theorem emb4 (t : Fin cfg0.N) (q : Fin 512) (j : Fin 1024) : ((cfg0.win 4).blk t).view.emb (ix3 0 q j) = (ix3 0 (unit t q) j : S2x3584x1024.Idx) := by
  obtain ⟨e0, e1, e2⟩ := idx4 t
  funext a; apply Fin.ext
  match a with
  | ⟨0, _⟩ => show win0_4.index t (0 : Fin 3) * 1 + 1 * 0 = 0; omega
  | ⟨1, _⟩ => show win0_4.index t (1 : Fin 3) * 512 + 1 * q.val = 512 * (t.val % 7) + q.val; omega
  | ⟨2, _⟩ => show win0_4.index t (2 : Fin 3) * 1024 + 1 * j.val = j.val; omega

/-- Where an index of the output window's block lies in its array. -/
theorem emb5 (t : Fin cfg0.N) (j : S1024x1024.Idx) : ((cfg0.win 5).blk t).view.emb j = (ix2 (row t (j 0)) (j 1) : S16384x1024.Idx) := by
  obtain ⟨e0, e1⟩ := idx5 t
  funext a; apply Fin.ext
  match a with
  | ⟨0, _⟩ => show win0_5.index t (0 : Fin 2) * 1024 + 1 * (j 0).val = 1024 * (t.val / 7) + (j 0).val; omega
  | ⟨1, _⟩ => show win0_5.index t (1 : Fin 2) * 1024 + 1 * (j 1).val = (j 1).val; omega

/-! What each input block holds, in terms of the argument arrays. -/

/-- Input block 0 at an index: the activations. -/
theorem iblk0_apply (c : Dev nD) (t : Fin cfg0.N) (r k : Fin 1024) : (iblk m c 0 t : Vec Ideal S1024x1024 .f32) (ix2 r k)
    = A0 m c (ix3 (⟨(row t r).val / 2048, by omega⟩ : Fin 8) (⟨(row t r).val % 2048, by omega⟩ : Fin 2048) k) := by
  show V m c main_v0 (((cfg0.win 0).blk t).view.emb (ix2 r k)) = _
  rw [emb0]
  exact V0 m c (row t r) k

/-- Input block 1 at an index: the normalization gain. -/
theorem iblk1_apply (c : Dev nD) (t : Fin cfg0.N) (k : Fin 1024) : (iblk m c 1 t : Vec Ideal S1x1024 .f32) (ix2 0 k) = A1 m c (ix1 k) := by
  show V m c main_v4 (((cfg0.win 1).blk t).view.emb (ix2 0 k)) = _
  rw [emb1]
  exact V1 m c k

/-- Input block 2 at an index: the gate's weights. -/
theorem iblk2_apply (c : Dev nD) (t : Fin cfg0.N) (k : Fin 1024) (q : Fin 512) : (iblk m c 2 t : Vec Ideal S1x1024x512 .bf16) (ix3 0 k q) = A2 m c (ix3 0 k (unit t q)) := by
  show V m c main_v1 (((cfg0.win 2).blk t).view.emb (ix3 0 k q)) = _
  rw [emb2]
  exact V2 m c 0 k (unit t q)

/-- Input block 3 at an index: the other projection's weights. -/
theorem iblk3_apply (c : Dev nD) (t : Fin cfg0.N) (k : Fin 1024) (q : Fin 512) : (iblk m c 3 t : Vec Ideal S1x1024x512 .bf16) (ix3 0 k q) = A3 m c (ix3 0 k (unit t q)) := by
  show V m c main_v2 (((cfg0.win 3).blk t).view.emb (ix3 0 k q)) = _
  rw [emb3]
  exact V3 m c 0 k (unit t q)

/-- Input block 4 at an index: the output weights. -/
theorem iblk4_apply (c : Dev nD) (t : Fin cfg0.N) (q : Fin 512) (j : Fin 1024) : (iblk m c 4 t : Vec Ideal S1x512x1024 .bf16) (ix3 0 q j) = A4 m c (ix3 0 (unit t q) j) := by
  show V m c main_v3 (((cfg0.win 4).blk t).view.emb (ix3 0 q j)) = _
  rw [emb4]
  exact V4 m c 0 (unit t q) j

/-- The sum of the first `n` hidden units' terms at row `R`, column `j`. -/
def part (c : Dev nD) (R : Fin 16384) (j : Fin 1024) (n : ℕ) : EReal :=
  Cert.Ffn.first (normed (A0 m c) (A1 m c) R) (fun k q => A2 m c (ix3 0 k q)) (fun k q => A3 m c (ix3 0 k q)) (fun q j => A4 m c (ix3 0 q j)) j n

/-- The normalized rows a row block's first point computes. -/
theorem rows (c : Dev nD) (t : Fin cfg0.N) (r k : Fin 1024) : k0_pay1 (iblk m c 0 t) (iblk m c 1 t) (ix2 r k) = normed (A0 m c) (A1 m c) (row t r) k := by
  rw [pay1_apply]
  simp only [iblk0_apply, iblk1_apply]
  rfl

/-- A point's accumulation: over the normalized rows and the sum of the terms before, the sum with the point's terms. -/
theorem step (c : Dev nD) (t : Fin cfg0.N) (s0 : Vec Ideal S1024x1024 .bf16) (s1 : Vec Ideal S1024x1024 .f32) (r j : Fin 1024)
    (e0 : ∀ k, s0 (ix2 r k) = normed (A0 m c) (A1 m c) (row t r) k) (e1 : s1 (ix2 r j) = part m c (row t r) j (512 * (t.val % 7))) :
    k0_pay3 s0 (iblk m c 2 t) (iblk m c 3 t) s1 (iblk m c 4 t) (ix2 r j) = part m c (row t r) j (512 * (t.val % 7 + 1)) :=
  pay3_first (iblk m c 2 t) (iblk m c 3 t) (iblk m c 4 t) s0 s1 r j (t.val % 7) (Nat.mod_lt _ (by decide)) _ _ _ _ e0
    (fun k q => iblk2_apply m c t k q) (fun k q => iblk3_apply m c t k q) (fun q => iblk4_apply m c t q j) e1

/-- What the scratches hold after a point: the row block's normalized rows, and the terms of the hidden blocks up to the point's. -/
theorem held (c : Dev nD) : ∀ (n : ℕ) (h : n < cfg0.N),
    (∀ r k : Fin 1024, (outsAt0 m c n h).2.1 (ix2 r k) = normed (A0 m c) (A1 m c) (row ⟨n, h⟩ r) k)
    ∧ ∀ r j : Fin 1024, (outsAt0 m c n h).2.2 (ix2 r j) = part m c (row ⟨n, h⟩ r) j (512 * (n % 7 + 1))
  | n, h => by
    by_cases h0 : n % 7 = 0
    · have e := outsAt0_A m c ⟨n, h⟩ h0 (by dsimp only; omega)
      dsimp only at e
      rw [e, first_rows, first_acc]
      refine ⟨fun r k => rows m c ⟨n, h⟩ r k, fun r j => step m c ⟨n, h⟩ _ _ r j (fun k => rows m c ⟨n, h⟩ r k) ?_⟩
      rw [pay2_apply]
      dsimp only
      rw [h0]
      exact (Cert.Ffn.first_zero _ _ _ _ _).symm
    · have hp : n - 1 < cfg0.N := Nat.lt_of_le_of_lt (Nat.sub_le _ _) h
      obtain ⟨p0, p1⟩ := held c (n - 1) hp
      have hr : ∀ r, row ⟨n - 1, hp⟩ r = row ⟨n, h⟩ r := fun r => Fin.ext (by
        show 1024 * ((n - 1) / 7) + r.val = 1024 * (n / 7) + r.val
        omega)
      have hm : (n - 1) % 7 + 1 = n % 7 := by omega
      simp only [hr, hm] at p0 p1
      by_cases h1 : n % 7 = 6
      · have e := outsAt0_C m c ⟨n, h⟩ h0 h1
        dsimp only at e
        rw [e, last_acc]
        exact ⟨p0, fun r j => step m c ⟨n, h⟩ _ _ r j (p0 r) (p1 r j)⟩
      · have e := outsAt0_B m c ⟨n, h⟩ h0 h1
        dsimp only at e
        rw [e, middle_acc]
        exact ⟨p0, fun r j => step m c ⟨n, h⟩ _ _ r j (p0 r) (p1 r j)⟩
  termination_by n => n
  decreasing_by omega

/-- The result array, as the launch's argument arrays determine it. -/
def GM (c : Dev nD) : Vec Ideal S16384x1024 .f32 := G (A0 m c) (A1 m c) (A2 m c) (A3 m c) (A4 m c)

/-- What the last point of a row block leaves for the output is the layer's rows. -/
theorem out_apply (c : Dev nD) (t : Fin cfg0.N) (h1 : t.val % 7 = 6) (r j : Fin 1024) : (outsAt0 m c t.val t.isLt).1 (ix2 r j) = GM m c (ix2 (row t r) j) := by
  have h0 : ¬t.val % 7 = 0 := by omega
  have e := outsAt0_C m c t h0 h1
  have b := (held m c t.val t.isLt).2 r j
  rw [e, last_acc] at b
  rw [e, last_out]
  dsimp only
  rw [pay4_apply, iblk0_apply]
  dsimp only at b
  rw [b, h1]
  show _ + Cert.Ffn.first _ _ _ _ j 3584 = _
  rw [Cert.Ffn.first_all]
  rfl

/-- What such a point writes back is its block of the layer. -/
theorem flushed5_eq (c : Dev nD) (t : Fin cfg0.N) (hf : (cfg0.win 5).flush t = true) : (dats m 0 c).flushed 5 t = ((cfg0.win 5).blk t).view.read (Elt Ideal) (GM m c) := by
  rw [flushed5]
  funext y
  show (outsAt0 m c t.val t.isLt).1 y = GM m c (((cfg0.win 5).blk t).view.emb y)
  rw [emb5]
  have h := out_apply m c t ((flush0_5 t).mp hf) (y 0) (y 1)
  rwa [show (ix2 (y 0) (y 1) : S1024x1024.Idx) = y from by funext a; match a with | ⟨0, _⟩ => rfl | ⟨1, _⟩ => rfl] at h

/-- Every index of the result array is in the block written back at its row block's last point. -/
theorem covered5 (i : S16384x1024.Idx) : ∃ t : Fin cfg0.N, (cfg0.win 5).flush t = true ∧ i ∈ ((cfg0.win 5).blk t).view.set := by
  idx_vars i
  obtain ⟨t, r, hr, ht⟩ : ∃ (t : Fin cfg0.N) (r : Fin 1024), row t r = i0 ∧ t.val % 7 = 6 :=
    ⟨⟨7 * (i0.val / 1024) + 6, by show 7 * (i0.val / 1024) + 6 < 112; omega⟩, ⟨i0.val % 1024, by omega⟩,
      Fin.ext (by show 1024 * ((7 * (i0.val / 1024) + 6) / 7) + i0.val % 1024 = i0.val; omega), by show (7 * (i0.val / 1024) + 6) % 7 = 6; omega⟩
  refine ⟨t, (flush0_5 t).mpr ht, ?_⟩
  have h := ((cfg0.win 5).blk t).view.emb_mem_set (ix2 r i1 : S1024x1024.Idx)
  rw [emb5] at h
  subst hr
  exact h

/-- The result array after the run is the layer of the argument arrays. -/
theorem final5 (c : Dev nD) : (dats m 0 c).arrAt 5 cfg0.N = GM m c :=
  (dats m 0 c).arrAt_eq_of_cover 5 (GM m c) (fun t hf => flushed5_eq m c t hf) covered5

/-- The generated run with the result array at its function of the arguments. -/
theorem run : θ_run defs (onTc (τ := τ) (main (F := Ideal))) ⟨m, fun _ => 0, ρ⟩ fun r => ∀ c : Dev nD,
      r.2.mem ((c : Thread nD τ).loc main_v5) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.Kernel2Ideal.Ffn

end
-- ==== Proof.FfnRef.lean ====
/- The feed-forward reference's result array is the layer of the argument arrays. -/
module

public import proofs.«01_k».proof.Proof.FfnMath
public import proofs.«01_k».proof.Proof.Gen.Reference2Ideal.Read

@[expose] public section

set_option maxRecDepth 16384

noncomputable section

namespace Cert.Reference2Ideal.Ffn

open Cert.Reference2Ideal Cert.Reference2Ideal.Gen Cert.Reference2Ideal.Read Idealize.ShloMosaic Idealize.ShloMosaic.TcCoe Idealize.SL.Sem

variable (x0 : Vec Ideal S8x2048x1024 .f32) (x1 : Vec Ideal S1024 .f32) (x2 x3 : Vec Ideal S2x1024x3584 .f32) (x4 : Vec Ideal S2x3584x1024 .f32)

/-- The normalized activations at an index. -/
theorem v12_apply (b : Fin 8) (s : Fin 2048) (k : Fin 1024) : val_main_v12 (F := Ideal) x0 x1 (ix3 b s k)
    = Cert.Gmlp.rms (fun k => x0 (ix3 b s k)) (fun k => x1 (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The first layer's gate weights. -/
theorem v14_apply (k : Fin 1024) (q : Fin 3584) : val_main_v14 (F := Ideal) x2 (ix2 k q) = x2 (ix3 0 k q) := by
  unfold val_main_v14 val_main_v13
  pointwise

/-- The first layer's other weights. -/
theorem v16_apply (k : Fin 1024) (q : Fin 3584) : val_main_v16 (F := Ideal) x3 (ix2 k q) = x3 (ix3 0 k q) := by
  unfold val_main_v16 val_main_v15
  pointwise

/-- The first layer's output weights. -/
theorem v18_apply (q : Fin 3584) (j : Fin 1024) : val_main_v18 (F := Ideal) x4 (ix2 q j) = x4 (ix3 0 q j) := by
  unfold val_main_v18 val_main_v17
  pointwise

/-- The gate's projection. -/
theorem v19_apply (b : Fin 8) (s : Fin 2048) (q : Fin 3584) : val_main_v19 (F := Ideal) x0 x1 x2 (ix3 b s q)
    = ∑ k, Cert.Gmlp.rms (fun k => x0 (ix3 b s k)) (fun k => x1 (ix1 k)) k * x2 (ix3 0 k q) := by
  unfold val_main_v19
  pointwise [v12_apply, v14_apply]

/-- The gate times its logistic. -/
theorem v20_apply (b : Fin 8) (s : Fin 2048) (q : Fin 3584) : val_main_v20 (F := Ideal) x0 x1 x2 (ix3 b s q)
    = val_main_v19 (F := Ideal) x0 x1 x2 (ix3 b s q) * Ideal.logistic (val_main_v19 (F := Ideal) x0 x1 x2 (ix3 b s q)) := by
  unfold val_main_v20 val_main_call0_v5 val_main_call0_v4 val_main_call0_v3 val_main_call0_v2 val_main_call0_v1 val_main_call0_v0 val_main_call0_cst val_main_call0_cst_0
  generalize val_main_v19 (F := Ideal) x0 x1 x2 = g
  pointwise [Ideal.hostNegf_def]
  rfl

/-- The hidden units. -/
theorem v22_apply (b : Fin 8) (s : Fin 2048) (q : Fin 3584) : val_main_v22 (F := Ideal) x0 x1 x2 x3 (ix3 b s q)
    = Cert.Ffn.hidden (Cert.Gmlp.rms (fun k => x0 (ix3 b s k)) (fun k => x1 (ix1 k))) (fun k q => x2 (ix3 0 k q)) (fun k q => x3 (ix3 0 k q)) q := by
  unfold val_main_v22 val_main_v21
  pointwise [v12_apply, v16_apply, v20_apply, v19_apply]
  rfl

/-- The reference's result at row `R`, column `j` is the layer there. -/
theorem v25_apply (R : Fin 16384) (j : Fin 1024) : val_main_v25 (F := Ideal) x0 x1 x2 x3 x4 (ix2 R j)
    = x0 (ix3 (⟨R.val / 2048, by omega⟩ : Fin 8) (⟨R.val % 2048, by omega⟩ : Fin 2048) j)
      + Cert.Ffn.swiglu (Cert.Gmlp.rms (fun k => x0 (ix3 (⟨R.val / 2048, by omega⟩ : Fin 8) (⟨R.val % 2048, by omega⟩ : Fin 2048) k)) (fun k => x1 (ix1 k)))
          (fun k q => x2 (ix3 0 k q)) (fun k q => x3 (ix3 0 k q)) (fun q j => x4 (ix3 0 q j)) j := by
  have h : val_main_v25 (F := Ideal) x0 x1 x2 x3 x4 (ix2 R j)
      = val_main_v24 (F := Ideal) x0 x1 x2 x3 x4 (ix3 (⟨R.val / 2048, by omega⟩ : Fin 8) (⟨R.val % 2048, by omega⟩ : Fin 2048) j) := by
    unfold val_main_v25
    exact shapeCast_apply _ _ _ _ (by
      rw [Shape.rowMajor_val_three, Shape.rowMajor_val_two]
      show (R.val / 2048 * 2048 + R.val % 2048) * 1024 + j.val = R.val * 1024 + j.val
      omega)
  rw [h]
  unfold val_main_v24 val_main_v23
  pointwise [v22_apply, v18_apply]
  rfl

end Cert.Reference2Ideal.Ffn

end
-- ==== Proof.FfnClaims.lean ====
/- The five claims about the dense feed-forward layer. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnArray
public import proofs.«01_k».proof.Proof.FfnRef

@[expose] public section

noncomputable section

namespace Cert.Proof.Ffn

open Idealize.ShloMosaic Idealize.SL.Sem

/-- The kernel runs from any launch and leaves its arguments and semaphores as they were. -/
theorem frame_kernel : Cert.quiescent_Kernel2 := fun m g _ => Cert.Kernel2.Gen.frame m g

/-- So does its idealization. -/
theorem frame_ideal : Cert.quiescent_Kernel2Ideal := fun m g _ => Cert.Kernel2Ideal.Gen.frame m g

/-- So does the reference. -/
theorem frame_reference : Cert.quiescent_Reference2Ideal := fun m g _ =>
  (θ_run Cert.Reference2Ideal.defs _ _).mono (fun r h => And.intro (fun c => (h c).2) (sem_eq_zero_of_no_sems (by decide) r.2))
    (Cert.Reference2Ideal.Value.run m g)

/-- The reference's result array is the same function of the arguments as the kernel's. -/
theorem reference_value (a0 : Vec Ideal Cert.Kernel2Ideal.S8x2048x1024 .f32) (a1 : Vec Ideal Cert.Kernel2Ideal.S1024 .f32)
    (a2 a3 : Vec Ideal Cert.Kernel2Ideal.S2x1024x3584 .f32) (a4 : Vec Ideal Cert.Kernel2Ideal.S2x3584x1024 .f32) :
    Cert.Reference2Ideal.Read.val_main_v25 (F := Ideal) a0 a1 a2 a3 a4 = Cert.Kernel2Ideal.Ffn.G a0 a1 a2 a3 a4 := by
  funext i
  idx_vars i
  exact Cert.Reference2Ideal.Ffn.v25_apply a0 a1 a2 a3 a4 i0 i1

/-- Over the extended reals the kernel and the reference end with one result array. -/
theorem value : Cert.algebraic_Kernel2Ideal_Reference2Ideal := by
  intro m g m' g' _ same
  refine ⟨fun c => Cert.Kernel2Ideal.Ffn.GM m c, Cert.Kernel2Ideal.Ffn.run m g, ?_⟩
  refine (θ_run Cert.Reference2Ideal.defs _ _).mono (fun r h c => And.intro ?_ (h c).2) (Cert.Reference2Ideal.Value.run (F := Ideal) m' g')
  obtain ⟨e0, e1, e2, e3, e4⟩ := same c
  rw [(h c).1, Cert.Reference2Ideal.Read.val_main_v25_eq, e0, e1, e2, e3, e4]
  exact reference_value _ _ _ _ _

end Cert.Proof.Ffn

end
-- ==== Proof.MoeRun.lean ====
/- The routed feed-forward kernel's body, run once at one grid point. -/
module

public import proofs.«01_k».proof.Proof.Gen.Kernel3Ideal.Skeleton
public import proofs.«01_k».proof.Proof.Gen.Kernel3Ideal.Launch
public import proofs.«01_k».proof.Proof.Gen.Kernel3Ideal
public import proofs.«01_k».proof.Proof.Gen.Kernel3
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_experts_named
public import proofs.«01_k».proof.Proof.Gen.On_rows_in_use
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.Pointwise
public import Idealize.ShloMosaic.Lib.Pipeline.ValueKit.Tiles

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first prefetched table, each block's expert. -/
abbrev tb0 : Memref sig .tc .smem S40 .i32 := Memref.whole main_arg1
/-- The second prefetched table, each block's row count. -/
abbrev tb1 : Memref sig .tc .smem S40 .i32 := Memref.whole main_arg2
/-- A table held for reading. -/
abbrev tbPt (c : Dev nD) (M : Memref sig .tc .smem S40 .i32) (f : Buf (Elt F) (M.view.loc (c : Thread nD τ))) : sProp 𝕄 :=
  M.view.loc (c : Thread nD τ) ↦{fullShare.right} f

/-- The point is the first of its row block. -/
abbrev isFirst (i : grid0.Coords) : Prop := Scalar.cmpi .ne (Scalar.extui (Scalar.cmpi .eq (BitVec.ofNat 32 (i 1).val) 0#32)) 0#32 = 1#1

/-- The row count a point reads from the second table. -/
def word (c : Dev nD) (T1 : Buf (Elt F) (tb1.view.loc (c : Thread nD τ))) (i : grid0.Coords) : BitVec 32 :=
  View.readAt (Elt F) tb1.view (Rect.unit (s := S40) (k0_off1 i) S1.size (k0_off1_inb i)).toLoadRect T1 (Shape.Idx.first (numel1_S1.symm ▸ Nat.one_pos))

/-- More than half of the block's rows are in use. -/
abbrev isFull (n : BitVec 32) : Prop := Scalar.cmpi .ne (Scalar.extui (Scalar.cmpi .sgt n 512#32)) 0#32 = 1#1
/-- Some of the block's rows are in use, but no more than half. -/
abbrev isHalf (n : BitVec 32) : Prop := Scalar.cmpi .ne (Scalar.extui (Scalar.andi (Scalar.cmpi .sgt n 0#32) (Scalar.cmpi .sle n 512#32))) 0#32 = 1#1
/-- Some of the block's rows are in use. -/
abbrev isSome (n : BitVec 32) : Prop := Scalar.cmpi .ne (Scalar.extui (Scalar.cmpi .sgt n 0#32)) 0#32 = 1#1

/-- The elements of a block a load reads. -/
def strided (r : LoadRect S8192x128) (x : Vec F S8192x128 .f32) : r.shape.Idx → Elt F .f32 := fun j => x (r.idx j)

/-- The tokens of a block, gathered from its eight interleaved runs of rows. -/
def tokens (x0 : Vec F S8192x128 .f32) : Vec F S1024x1024 .bf16 :=
  k0_pay1 (strided (⟨![0, 0], S1024x128.size, ![8, 1], inb_S8192x128_S1024x128_0_0_s_8_1⟩ : LoadRect S8192x128) x0)
    (strided (⟨![1, 0], S1024x128.size, ![8, 1], inb_S8192x128_S1024x128_1_0_s_8_1⟩ : LoadRect S8192x128) x0)
    (strided (⟨![2, 0], S1024x128.size, ![8, 1], inb_S8192x128_S1024x128_2_0_s_8_1⟩ : LoadRect S8192x128) x0)
    (strided (⟨![3, 0], S1024x128.size, ![8, 1], inb_S8192x128_S1024x128_3_0_s_8_1⟩ : LoadRect S8192x128) x0)
    (strided (⟨![4, 0], S1024x128.size, ![8, 1], inb_S8192x128_S1024x128_4_0_s_8_1⟩ : LoadRect S8192x128) x0)
    (strided (⟨![5, 0], S1024x128.size, ![8, 1], inb_S8192x128_S1024x128_5_0_s_8_1⟩ : LoadRect S8192x128) x0)
    (strided (⟨![6, 0], S1024x128.size, ![8, 1], inb_S8192x128_S1024x128_6_0_s_8_1⟩ : LoadRect S8192x128) x0)
    (strided (⟨![7, 0], S1024x128.size, ![8, 1], inb_S8192x128_S1024x128_7_0_s_8_1⟩ : LoadRect S8192x128) x0)

/-- The first 512 rows of a block. -/
def top {e : EltTy} (a : Vec F S1024x1024 e) : Vec F S512x1024 e := View.ld a (Rect.unit (s := S1024x1024) ![0, 0] S512x1024.size inb_S1024x1024_S512x1024_0_0)

/-- A block with its first 512 rows replaced. -/
def topped (p : Vec F S512x1024 .f32) (a : Vec F S1024x1024 .f32) : Vec F S1024x1024 .f32 := fun y =>
  if h : ∀ b, (![0, 0] : Fin 2 → ℕ) b ≤ (y b).val ∧ (y b).val < (![0, 0] : Fin 2 → ℕ) b + S512x1024.size b then
    p (Rect.unitLocal (s := S1024x1024) (off := ![0, 0]) (size := S512x1024.size) y h) else a y

/-- What a point leaves in the accumulator if more than half of the block's rows are in use. -/
def addFull (n : BitVec 32) (h : Vec F S1024x1024 .bf16) (x1 x2 : Vec F S1x1x1024x512 .f32) (a : Vec F S1024x1024 .f32) (x3 : Vec F S1x1x512x1024 .f32) : Vec F S1024x1024 .f32 :=
  if isFull n then k0_pay3 h x1 x2 a x3 else a

/-- What a point leaves in the accumulator. -/
def add (n : BitVec 32) (h : Vec F S1024x1024 .bf16) (x1 x2 : Vec F S1x1x1024x512 .f32) (a : Vec F S1024x1024 .f32) (x3 : Vec F S1x1x512x1024 .f32) : Vec F S1024x1024 .f32 :=
  if isHalf n then (if isSome n then topped (k0_pay4 (top h) x1 x2 (top (addFull n h x1 x2 a x3)) x3) (addFull n h x1 x2 a x3) else addFull n h x1 x2 a x3)
  else addFull n h x1 x2 a x3

/-- The eight stores that write the accumulator to the output block: column tile `k` to the rows that are `k` modulo 8. -/
abbrev runs (a : Vec F S1024x1024 .f32) : List (View.Piece (Elt F) S8192x128 .f32) := [
  ⟨⟨(⟨![7, 0], S1024x128.size, ![8, 1], inb_S8192x128_S1024x128_7_0_s_8_1⟩ : LoadRect S8192x128), spos_8_1⟩, k0_pay12 a⟩,
  ⟨⟨(⟨![6, 0], S1024x128.size, ![8, 1], inb_S8192x128_S1024x128_6_0_s_8_1⟩ : LoadRect S8192x128), spos_8_1⟩, k0_pay11 a⟩,
  ⟨⟨(⟨![5, 0], S1024x128.size, ![8, 1], inb_S8192x128_S1024x128_5_0_s_8_1⟩ : LoadRect S8192x128), spos_8_1⟩, k0_pay10 a⟩,
  ⟨⟨(⟨![4, 0], S1024x128.size, ![8, 1], inb_S8192x128_S1024x128_4_0_s_8_1⟩ : LoadRect S8192x128), spos_8_1⟩, k0_pay9 a⟩,
  ⟨⟨(⟨![3, 0], S1024x128.size, ![8, 1], inb_S8192x128_S1024x128_3_0_s_8_1⟩ : LoadRect S8192x128), spos_8_1⟩, k0_pay8 a⟩,
  ⟨⟨(⟨![2, 0], S1024x128.size, ![8, 1], inb_S8192x128_S1024x128_2_0_s_8_1⟩ : LoadRect S8192x128), spos_8_1⟩, k0_pay7 a⟩,
  ⟨⟨(⟨![1, 0], S1024x128.size, ![8, 1], inb_S8192x128_S1024x128_1_0_s_8_1⟩ : LoadRect S8192x128), spos_8_1⟩, k0_pay6 a⟩,
  ⟨⟨(⟨![0, 0], S1024x128.size, ![8, 1], inb_S8192x128_S1024x128_0_0_s_8_1⟩ : LoadRect S8192x128), spos_8_1⟩, k0_pay5 a⟩]

/-- The accumulator laid out as the output block. -/
def spread (a : Vec F S1024x1024 .f32) : Vec F S8192x128 .f32 := View.canon (runs a)

/-- The zero offset of two axes, written out and as a function. -/
theorem hz : (![0, 0] : Fin 2 → ℕ) = fun _ => 0 := by funext a; fin_cases a <;> rfl

/-- The zero offset of four axes, written out and as a function. -/
theorem hz4 : (![0, 0, 0, 0] : Fin 4 → ℕ) = fun _ => 0 := by funext a; fin_cases a <;> rfl

/-- A load of some of a block's elements. -/
theorem readAt_strided (M : Memref sig .tc .vmem S8192x128 .f32) (h : M.IsWhole) (r : LoadRect S8192x128) (x : Vec F S8192x128 .f32) :
    View.readAt (Elt F) M.view r (h.unread x) = strided r x := by
  funext j
  rw [View.readAt_apply, h.read_unread]
  rfl

/-- Reading back a scratch that a whole-block store replaced last. -/
theorem read_whole {e : EltTy} (v : View sig .tc .vmem S1024x1024 e) (f : v.ty.Contents (Elt F)) (p : Vec F S1024x1024 e) (L : List (View.Piece (Elt F) S1024x1024 e)) :
    v.read (Elt F) (v.writes (Elt F) f (⟨Rect.unit (s := S1024x1024) ![0, 0] S1024x1024.size inb_S1024x1024_S1024x1024_0_0, p⟩ :: L)) = p := by
  funext y
  exact View.read_writes_cons_unit_of_mem v f inb_S1024x1024_S1024x1024_0_0 p L y y hz fun a => (Nat.zero_add _).symm

/-- Reading back an accumulator whose first 512 rows a store replaced. -/
theorem read_top (v : View sig .tc .vmem S1024x1024 .f32) (f : v.ty.Contents (Elt F)) (p : Vec F S512x1024 .f32) :
    v.read (Elt F) (v.writes (Elt F) f [⟨Rect.unit (s := S1024x1024) ![0, 0] S512x1024.size inb_S1024x1024_S512x1024_0_0, p⟩]) = topped p (v.read (Elt F) f) := by
  funext y
  exact View.read_writes_cons_unit v f inb_S1024x1024_S512x1024_0_0 p [] y rfl

/-- Reading the first 512 rows of a scratch that one whole-block store filled. -/
theorem readCov_top {e : EltTy} (v : View sig .tc .vmem S1024x1024 e) (p : Vec F S1024x1024 e) :
    v.readCov [⟨Rect.unit (s := S1024x1024) ![0, 0] S1024x1024.size inb_S1024x1024_S1024x1024_0_0, p⟩] (Rect.unit (s := S1024x1024) ![0, 0] S512x1024.size inb_S1024x1024_S512x1024_0_0).toLoadRect = top p := by
  unfold View.readCov
  rw [View.readAt_eq_ld, read_whole]
  rfl

/-- What the two guarded stores leave in the accumulator: `g` holds it after the first. -/
theorem read_add (v : View sig .tc .vmem S1024x1024 .f32) (f g : v.ty.Contents (Elt F)) (n : BitVec 32) (h : Vec F S1024x1024 .bf16) (ht : Vec F S512x1024 .bf16)
    (x1 x2 : Vec F S1x1x1024x512 .f32) (a : Vec F S1024x1024 .f32) (x3 : Vec F S1x1x512x1024 .f32) (hf : v.read (Elt F) f = a) (hg : v.read (Elt F) g = k0_pay3 h x1 x2 a x3) (hh : ht = top h) :
    v.read (Elt F) (if hc : isHalf n then
        (if hc : isSome n then
          v.writes (Elt F) (if hc : isFull n then g else f)
            [⟨Rect.unit (s := S1024x1024) ![0, 0] S512x1024.size inb_S1024x1024_S512x1024_0_0, k0_pay4 ht x1 x2
              (View.ld (View.read (Elt F) v (if hc : isFull n then g else f)) (Rect.unit (s := S1024x1024) ![0, 0] S512x1024.size inb_S1024x1024_S512x1024_0_0)) x3⟩]
        else (if hc : isFull n then g else f))
      else (if hc : isFull n then g else f))
      = add n h x1 x2 a x3 := by
  have hF : v.read (Elt F) (if hc : isFull n then g else f) = addFull n h x1 x2 a x3 := by
    unfold addFull
    split
    · exact hg
    · exact hf
  subst hh
  unfold add
  split
  · split
    · rw [read_top, hF]; rfl
    · exact hF
  · exact hF

/-- A row that is `k` modulo 8 lies in the block's `k`th interleaved run. -/
theorem row_mem (k : ℕ) (inb : ∀ a, S1024x128.size a = 0 ∨ ![k, 0] a + ![8, 1] a * (S1024x128.size a - 1) < S8192x128.size a) (pos : ∀ a, 0 < (![8, 1] : Fin 2 → ℕ) a) (y : S8192x128.Idx) (hk : (y 0).val % 8 = k) :
    y ∈ (⟨(⟨![k, 0], S1024x128.size, ![8, 1], inb⟩ : LoadRect S8192x128), pos⟩ : Rect S8192x128).set := by
  have h0 : (y 0).val < 8192 := (y 0).isLt
  rw [← Rect.map_emb_univ, Finset.mem_map]
  refine ⟨ix2 ⟨(y 0).val / 8, by omega⟩ (y 1), Finset.mem_univ _, funext fun a => Fin.ext ?_⟩
  fin_cases a
  · show k + 8 * ((y 0).val / 8) = (y 0).val
    omega
  · show 0 + 1 * (y 1).val = (y 1).val
    omega

/-- The eight stores reach every element of the block. -/
theorem runs_cover (a : Vec F S1024x1024 .f32) (y : S8192x128.Idx) : ∃ p ∈ runs a, y ∈ p.1.set := by
  obtain ⟨k, hk⟩ : ∃ k : Fin 8, (y 0).val % 8 = k.val := ⟨⟨(y 0).val % 8, Nat.mod_lt _ (by decide)⟩, rfl⟩
  exact match k, hk with
    | 0, hk => ⟨_, .tail _ (.tail _ (.tail _ (.tail _ (.tail _ (.tail _ (.tail _ (.head _))))))), row_mem 0 _ _ y hk⟩
    | 1, hk => ⟨_, .tail _ (.tail _ (.tail _ (.tail _ (.tail _ (.tail _ (.head _)))))), row_mem 1 _ _ y hk⟩
    | 2, hk => ⟨_, .tail _ (.tail _ (.tail _ (.tail _ (.tail _ (.head _))))), row_mem 2 _ _ y hk⟩
    | 3, hk => ⟨_, .tail _ (.tail _ (.tail _ (.tail _ (.head _)))), row_mem 3 _ _ y hk⟩
    | 4, hk => ⟨_, .tail _ (.tail _ (.tail _ (.head _))), row_mem 4 _ _ y hk⟩
    | 5, hk => ⟨_, .tail _ (.tail _ (.head _)), row_mem 5 _ _ y hk⟩
    | 6, hk => ⟨_, .tail _ (.head _), row_mem 6 _ _ y hk⟩
    | 7, hk => ⟨_, .head _, row_mem 7 _ _ y hk⟩

/-- Reading back an output block that the eight interleaved stores filled. -/
theorem read_spread (v : View sig .tc .vmem S8192x128 .f32) (f : v.ty.Contents (Elt F)) (b a : Vec F S1024x1024 .f32) (hb : b = a) :
    v.read (Elt F) (v.writes (Elt F) f (runs b)) = spread a := by
  subst hb
  exact View.read_writes_eq_canon _ _ _ (runs_cover b)

section Run
variable (c : Dev nD) (i : grid0.Coords)
    (a4 : Memref sig .tc .vmem S8192x128 .f32) (h4 : a4.IsWhole) (a5 a6 : Memref sig .tc .vmem S1x1x1024x512 .f32) (h5 : a5.IsWhole) (h6 : a6.IsWhole)
    (a7 : Memref sig .tc .vmem S1x1x512x1024 .f32) (h7 : a7.IsWhole) (a8 : Memref sig .tc .vmem S8192x128 .f32) (h8 : a8.IsWhole)
    (a9 : Memref sig .tc .vmem S1024x1024 .bf16) (h9 : a9.IsWhole) (a10 : Memref sig .tc .vmem S1024x1024 .f32) (h10 : a10.IsWhole)
    (x0 : Vec F S8192x128 .f32) (x1 x2 : Vec F S1x1x1024x512 .f32) (x3 : Vec F S1x1x512x1024 .f32) (y : Vec F S8192x128 .f32)
    (s0 : Vec F S1024x1024 .bf16) (s1 : Vec F S1024x1024 .f32)
    (T0 : Buf (Elt F) (tb0.view.loc (c : Thread nD τ))) (T1 : Buf (Elt F) (tb1.view.loc (c : Thread nD τ)))

/-- A point that is neither first nor last of its row block adds its share to the accumulator. -/
theorem run_middle (hc0 : ¬isFirst i) (hc5 : ¬k0_cond5 i = 1#1) (E : Set ℕ) (K : PUnit → sProp 𝕄) :
        iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare y ∗ owns (c : Thread nD τ) a9 fullShare s0 ∗ owns (c : Thread nD τ) a10 fullShare s1
            ∗ tbPt c tb0 T0 ∗ tbPt c tb1 T1
            ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare y ∗ owns (c : Thread nD τ) a9 fullShare s0 ∗ owns (c : Thread nD τ) a10 fullShare (add (word c T1 i) s0 x1 x2 s1 x3) ∗ tbPt c tb0 T0 ∗ tbPt c tb1 T1) -∗ K ⟨⟩))
          ⊢ wp frame (wpE (defs₀ (F := F)) Variants.none c none) E (cc0_moe_ffn i tb0 (Memref.isWhole_whole _) tb1 (Memref.isWhole_whole _) a4 h4 a5 h5 a6 h6 a7 h7 a8 h8 a9 h9 a10 h10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, Hk⟩
  obtain rfl := h4.eq_unread hf0; obtain rfl := h5.eq_unread hf1; obtain rfl := h6.eq_unread hf2; obtain rfl := h7.eq_unread hf3; obtain rfl := h8.eq_unread hf4; obtain rfl := h9.eq_unread hf5; obtain rfl := h10.eq_unread hf6
  sl_exec (disch := first | sl_exact hc0 | sl_exact hc5)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; swap
    · iexact H4
    · ipureintro
      exact h8.read_unread _
  isplitl [H5]
  · iexists _; isplitr; swap
    · iexact H5
    · ipureintro
      exact h9.read_unread _
  isplitl [H6]
  · iexists _; isplitr; swap
    · iexact H6
    · ipureintro
      sl_unfold_words
      simp only [readAt_strided, View.readAt_eq_ld, h4.read_unread, h5.read_unread, h6.read_unread, h7.read_unread, h9.read_unread, h10.read_unread, View.ld_unit_zero (S := S1024x1024) hz, View.ld_unit_zero (S := S1x1x1024x512) hz4, View.ld_unit_zero (S := S1x1x512x1024) hz4]
      exact read_add a10.view (h10.unread s1) _ (word c T1 i) s0 _ x1 x2 s1 x3 (h10.read_unread _) (read_whole _ _ _ _) rfl
  isplitl [HT0]; · iexact HT0
  iexact HT1

/-- The first point of a row block gathers the tokens and starts the accumulator from zero. -/
theorem run_first (hc0 : isFirst i) (hc5 : ¬k0_cond5 i = 1#1) (E : Set ℕ) (K : PUnit → sProp 𝕄) :
        iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare y ∗ owns (c : Thread nD τ) a9 fullShare s0 ∗ owns (c : Thread nD τ) a10 fullShare s1
            ∗ tbPt c tb0 T0 ∗ tbPt c tb1 T1
            ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare y ∗ owns (c : Thread nD τ) a9 fullShare (tokens x0) ∗ owns (c : Thread nD τ) a10 fullShare (add (word c T1 i) (tokens x0) x1 x2 (k0_pay2 (F := F)) x3) ∗ tbPt c tb0 T0 ∗ tbPt c tb1 T1) -∗ K ⟨⟩))
          ⊢ wp frame (wpE (defs₀ (F := F)) Variants.none c none) E (cc0_moe_ffn i tb0 (Memref.isWhole_whole _) tb1 (Memref.isWhole_whole _) a4 h4 a5 h5 a6 h6 a7 h7 a8 h8 a9 h9 a10 h10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, Hk⟩
  obtain rfl := h4.eq_unread hf0; obtain rfl := h5.eq_unread hf1; obtain rfl := h6.eq_unread hf2; obtain rfl := h7.eq_unread hf3; obtain rfl := h8.eq_unread hf4; obtain rfl := h9.eq_unread hf5; obtain rfl := h10.eq_unread hf6
  sl_exec (disch := first | sl_exact hc0 | sl_exact hc5)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; swap
    · iexact H4
    · ipureintro
      exact h8.read_unread _
  isplitl [H5]
  · iexists _; isplitr; swap
    · iexact H5
    · ipureintro
      sl_unfold_words
      rw [read_whole]
      simp only [readAt_strided]
      rfl
  isplitl [H6]
  · iexists _; isplitr; swap
    · iexact H6
    · ipureintro
      sl_unfold_words
      simp only [readAt_strided, View.readAt_eq_ld, h4.read_unread, h5.read_unread, h6.read_unread, h7.read_unread, h10.read_unread, View.ld_unit_zero (S := S1024x1024) hz, View.ld_unit_zero (S := S1x1x1024x512) hz4, View.ld_unit_zero (S := S1x1x512x1024) hz4,
        View.readCov_unit_zero (S := S1024x1024) _ hz]
      refine read_add a10.view _ _ (word c T1 i) (tokens x0) _ x1 x2 (k0_pay2 (F := F)) x3 ?_ ?_ ?_
      · exact read_whole _ _ _ _
      · exact read_whole _ _ _ _
      · exact readCov_top _ _
  isplitl [HT0]; · iexact HT0
  iexact HT1

/-- The last point of a row block adds its share and lays the accumulator out in the output block. -/
theorem run_last (hc0 : ¬isFirst i) (hc5 : k0_cond5 i = 1#1) (E : Set ℕ) (K : PUnit → sProp 𝕄) :
        iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare y ∗ owns (c : Thread nD τ) a9 fullShare s0 ∗ owns (c : Thread nD τ) a10 fullShare s1
            ∗ tbPt c tb0 T0 ∗ tbPt c tb1 T1
            ∗ (iprop(owns (c : Thread nD τ) a4 fullShare x0 ∗ owns (c : Thread nD τ) a5 fullShare x1 ∗ owns (c : Thread nD τ) a6 fullShare x2 ∗ owns (c : Thread nD τ) a7 fullShare x3 ∗ owns (c : Thread nD τ) a8 fullShare (spread (add (word c T1 i) s0 x1 x2 s1 x3)) ∗ owns (c : Thread nD τ) a9 fullShare s0 ∗ owns (c : Thread nD τ) a10 fullShare (add (word c T1 i) s0 x1 x2 s1 x3) ∗ tbPt c tb0 T0 ∗ tbPt c tb1 T1) -∗ K ⟨⟩))
          ⊢ wp frame (wpE (defs₀ (F := F)) Variants.none c none) E (cc0_moe_ffn i tb0 (Memref.isWhole_whole _) tb1 (Memref.isWhole_whole _) a4 h4 a5 h5 a6 h6 a7 h7 a8 h8 a9 h9 a10 h10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, Hk⟩
  obtain rfl := h4.eq_unread hf0; obtain rfl := h5.eq_unread hf1; obtain rfl := h6.eq_unread hf2; obtain rfl := h7.eq_unread hf3; obtain rfl := h8.eq_unread hf4; obtain rfl := h9.eq_unread hf5; obtain rfl := h10.eq_unread hf6
  sl_exec (disch := first | sl_exact hc0 | sl_exact hc5)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr; swap
    · iexact H4
    · ipureintro
      sl_unfold_words
      simp only [View.readAt_eq_ld, h4.read_unread, h5.read_unread, h6.read_unread, h7.read_unread, h9.read_unread, h10.read_unread, View.ld_unit_zero (S := S1024x1024) hz, View.ld_unit_zero (S := S1x1x1024x512) hz4, View.ld_unit_zero (S := S1x1x512x1024) hz4]
      refine read_spread a8.view (h8.unread y) _ _ ?_
      exact read_add a10.view (h10.unread s1) _ (word c T1 i) s0 _ x1 x2 s1 x3 (h10.read_unread _) (read_whole _ _ _ _) rfl
  isplitl [H5]
  · iexists _; isplitr; swap
    · iexact H5
    · ipureintro
      exact h9.read_unread _
  isplitl [H6]
  · iexists _; isplitr; swap
    · iexact H6
    · ipureintro
      sl_unfold_words
      simp only [View.readAt_eq_ld, h4.read_unread, h5.read_unread, h6.read_unread, h7.read_unread, h9.read_unread, h10.read_unread, View.ld_unit_zero (S := S1024x1024) hz, View.ld_unit_zero (S := S1x1x1024x512) hz4, View.ld_unit_zero (S := S1x1x512x1024) hz4]
      exact read_add a10.view (h10.unread s1) _ (word c T1 i) s0 _ x1 x2 s1 x3 (h10.read_unread _) (read_whole _ _ _ _) rfl
  isplitl [HT0]; · iexact HT0
  iexact HT1

end Run

end Cert.Kernel3Ideal.Moe

end
-- ==== Proof.MoeFrame.lean ====
/- The routed feed-forward kernel's proof data, its body obligation at every grid point, its launch, and the frame: it runs, whatever
   the row counts are, whenever every expert named is one of the eight. -/
module

public import proofs.«01_k».proof.Proof.MoeRun

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the pipeline starts: as launched. -/
abbrev V (c : Dev nD) (b : Ref sig .tc) : Buf (Elt F) ((c : Thread nD τ).loc b) := m ((c : Thread nD τ).loc b)

/-- The program is its one pipeline. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched tables' contents. -/
def tbl : pre0.Contents (Elt F) := fun j => V m (0 : Dev nD) (pre0.ref j)

/-- Every core's tables hold those contents. -/
theorem V_pre (c : Dev nD) (j : Fin 2) : V m c (pre0.ref j) = tbl m j := by
  obtain rfl : c = 0 := Subsingleton.elim _ _
  rfl

/-- The blocks the tables name lie inside the arrays. -/
abbrev Ok : Prop := ok0 (F := F) (tbl m)
/-- The tables' contents, admissible. -/
abbrev adm (hO : Ok m) : (pcfg0 (F := F)).Adm := ⟨tbl m, hO⟩
/-- The pipeline at those tables. -/
abbrev cfgM (hO : Ok m) : Pipeline.Cfg sig Λ₀ := cfg0 (adm m hO)

/-- The tables' halves the body is handed. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [bigSep_univ_eq_bigSepL [(0 : Fin 2), (1 : Fin 2)] (by decide) (by decide)]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The tokens' staging buffer holds its block at every point. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- So does the gate weights'. -/
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- So does the other hidden weights'. -/
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- So does the output weights'. -/
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The output block is written back at the last point of each row block. -/
theorem flush_4 (a : (pcfg0 (F := F)).Adm) : ∀ t : Fin (cfg0 a).N, ((cfg0 a).win 4).flush t = true ↔ t.val % 7 = 6 :=
  (fun t => (Pipeline.Window.flushOf_reads cc0_transform_4 reads0_4 hreads0_4 0 (by decide) (by decide) (Pipeline.Window.sep_of_coord cc0_transform_4 0 0 (fun _ => rfl) (by decide)) (P := 7) (m := 6) (by decide) rfl t) : ∀ t : Fin grid0.N, Pipeline.Window.flushOf grid0 true cc0_transform_4 t = true ↔ t.val % 7 = 6)

/-- A point is the first of its row block where its number is a multiple of seven. -/
theorem isFirst_iff : ∀ t : Fin grid0.N, isFirst (grid0.coords t) ↔ t.val % 7 = 0 := by decide +kernel

/-- A point is the last of its row block where its number is six more than one. -/
theorem isLast_iff : ∀ t : Fin grid0.N, k0_cond5 (grid0.coords t) = 1#1 ↔ t.val % 7 = 6 := by decide +kernel

/-- The output is idle at the other points. -/
theorem idle_4 (hO : Ok m) (t : Fin (cfgM m hO).N) (h : ¬t.val % 7 = 6) : (cfgM m hO).idle 4 ((cfgM m hO).grid.coords t) = true := by
  show (!(k0_cond5 (grid0.coords t) == 1#1)) = true
  rw [Bool.not_eq_true', beq_eq_false_iff_ne]
  exact fun e => h ((isLast_iff t).mp e)

/-- And live there. -/
theorem live_4 (hO : Ok m) (t : Fin (cfgM m hO).N) (h : t.val % 7 = 6) : (cfgM m hO).idle 4 ((cfgM m hO).grid.coords t) = false := by
  show (!(k0_cond5 (grid0.coords t) == 1#1)) = false
  rw [Bool.not_eq_false', beq_iff_eq]
  exact (isLast_iff t).mpr h

/-- The two scratch buffers' contents. -/
abbrev Held (F : FTy → Type) : Type := Vec F S1024x1024 .bf16 × Vec F S1024x1024 .f32

/-- What the first point of a row block leaves in them. -/
def start (hO : Ok m) (c : Dev nD) (t : Fin (cfgM m hO).N) : Held F :=
  (tokens (iblk m hO c 0 t), add (word c (tbl m 1) (grid0.coords t)) (tokens (iblk m hO c 0 t)) (iblk m hO c 1 t) (iblk m hO c 2 t) (k0_pay2 (F := F)) (iblk m hO c 3 t))

/-- What any other point leaves in them. -/
def next (hO : Ok m) (c : Dev nD) (t : Fin (cfgM m hO).N) (p : Held F) : Held F :=
  (p.1, add (word c (tbl m 1) (grid0.coords t)) p.1 (iblk m hO c 1 t) (iblk m hO c 2 t) p.2 (iblk m hO c 3 t))

/-- What a point leaves in them. -/
def held (hO : Ok m) (c : Dev nD) : (n : ℕ) → n < (cfgM m hO).N → Held F
  | 0, h => start m hO c ⟨0, h⟩
  | n + 1, h => if (n + 1) % 7 = 0 then start m hO c ⟨n + 1, h⟩ else next m hO c ⟨n + 1, h⟩ (held hO c n (Nat.lt_of_succ_lt h))

/-- At the first point of a row block. -/
theorem held_first (hO : Ok m) (c : Dev nD) (t : Fin (cfgM m hO).N) (h0 : t.val % 7 = 0) : held m hO c t.val t.isLt = start m hO c t := by
  obtain ⟨n, hn⟩ := t
  cases n with
  | zero => rfl
  | succ n => exact if_pos h0

/-- At any other point. -/
theorem held_next (hO : Ok m) (c : Dev nD) (t : Fin (cfgM m hO).N) (h0 : ¬t.val % 7 = 0) :
    held m hO c t.val t.isLt = next m hO c t (held m hO c (t.val - 1) (lt_of_le_of_lt (Nat.sub_le _ _) t.isLt)) := by
  obtain ⟨n, hn⟩ := t
  cases n with
  | zero => exact absurd rfl h0
  | succ n => exact if_neg h0

/-- The first scratch buffer, the tokens, as a memref. -/
abbrev sc0 : Memref sig .tc .vmem S1024x1024 .bf16 := Memref.whole cc0_scratch0
/-- The second, the accumulator. -/
abbrev sc1 : Memref sig .tc .vmem S1024x1024 .f32 := Memref.whole cc0_scratch1

/-- The launch's invariant, with the scratch buffers as memrefs. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The scratch between points: anything at the start, then what the point before left. -/
def PhiS (hO : Ok m) (c : Dev nD) : (n : ℕ) → n ≤ (cfgM m hO).N → sProp 𝕄
  | 0, _ => Pipeline.ΦA spec0 c
  | n + 1, hn => iprop(iprop(owns (c : Thread nD τ) sc0 fullShare (held m hO c n hn).1 ∗ owns (c : Thread nD τ) sc1 fullShare (held m hO c n hn).2) ∗ (∃ r, prngReg c r))

/-- After a point. -/
theorem PhiS_succ (hO : Ok m) (c : Dev nD) (n : ℕ) (hn : n < (cfgM m hO).N) :
    PhiS m hO c (n + 1) hn = iprop(iprop(owns (c : Thread nD τ) sc0 fullShare (held m hO c n hn).1 ∗ owns (c : Thread nD τ) sc1 fullShare (held m hO c n hn).2) ∗ (∃ r, prngReg c r)) := rfl

/-- Before a point that is not the first. -/
theorem PhiS_pos (hO : Ok m) (c : Dev nD) (n : ℕ) (h : n ≤ (cfgM m hO).N) (hz : n ≠ 0) :
    PhiS m hO c n h = iprop(iprop(owns (c : Thread nD τ) sc0 fullShare (held m hO c (n - 1) (by omega)).1 ∗ owns (c : Thread nD τ) sc1 fullShare (held m hO c (n - 1) (by omega)).2) ∗ (∃ r, prngReg c r)) := by
  cases n with
  | zero => exact absurd rfl hz
  | succ n => rfl

/-- The scratch at anything, whatever point it is. -/
theorem PhiS_any (hO : Ok m) (c : Dev nD) (n : ℕ) (h : n ≤ (cfgM m hO).N) : PhiS m hO c n h ⊢ Pipeline.ΦA spec0 c := by
  cases n with
  | zero => exact Idealize.SL.BI.Entails.refl _
  | succ n =>
    rw [PhiS_succ, PhiA_eq]
    iintro ⟨⟨HS0, HS1⟩, Hg⟩
    isplitl [HS0 HS1]
    · isplitl [HS0]
      · iexists _; iexact HS0
      iexists _; iexact HS1
    iexact Hg

/-- The same, spelled out. -/
theorem PhiS_open (hO : Ok m) (c : Dev nD) (n : ℕ) (h : n ≤ (cfgM m hO).N) :
    PhiS m hO c n h ⊢ iprop(iprop((∃ d, owns (c : Thread nD τ) sc0 fullShare d) ∗ (∃ d, owns (c : Thread nD τ) sc1 fullShare d)) ∗ (∃ r, prngReg c r)) := by
  rw [← PhiA_eq]
  exact PhiS_any m hO c n h

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => spread (held m hO c t.val t.isLt).2
  Φ t := iprop(PhiS m hO c t.val (Nat.le_of_lt_succ t.isLt) ∗ Pipeline.ΦT pre0 (tbl m) c)
  q _ := fullShare
  owed _ := 0

/-- Its arrays. -/
theorem A_eq (hO : Ok m) (c : Dev nD) (w : Fin (cfgM m hO).W) : (dats m hO 0 c).A w = V m c (Pipeline.arrRef spec0 w) := by
  dsimp only [dats]

/-- What a point leaves in each staging buffer: the tokens' block, -/
theorem after_0 (hO : Ok m) (c : Dev nD) (t : Fin (cfgM m hO).N) : (dats m hO 0 c).after 0 t = iblk m hO c 0 t := by dsimp only [dats]; rfl
/-- The gate weights' block, -/
theorem after_1 (hO : Ok m) (c : Dev nD) (t : Fin (cfgM m hO).N) : (dats m hO 0 c).after 1 t = iblk m hO c 1 t := by dsimp only [dats]; rfl
/-- the other hidden weights', -/
theorem after_2 (hO : Ok m) (c : Dev nD) (t : Fin (cfgM m hO).N) : (dats m hO 0 c).after 2 t = iblk m hO c 2 t := by dsimp only [dats]; rfl
/-- the output weights', -/
theorem after_3 (hO : Ok m) (c : Dev nD) (t : Fin (cfgM m hO).N) : (dats m hO 0 c).after 3 t = iblk m hO c 3 t := by dsimp only [dats]; rfl
/-- and in the output's the accumulator laid out. -/
theorem after_4 (hO : Ok m) (c : Dev nD) (t : Fin (cfgM m hO).N) : (dats m hO 0 c).after 4 t = spread (held m hO c t.val t.isLt).2 := by dsimp only [dats]; rfl

/-- A point finds its block in the tokens' staging buffer. -/
theorem before_0 (hO : Ok m) (c : Dev nD) (t : Fin (cfgM m hO).N) (d) : (dats m hO 0 c).before 0 t d = iblk m hO c 0 t := before_0_of m hO (dats m hO 0 c) (A_eq m hO c 0) (after_0 m hO c) t d
/-- In the gate weights' too, -/
theorem before_1 (hO : Ok m) (c : Dev nD) (t : Fin (cfgM m hO).N) (d) : (dats m hO 0 c).before 1 t d = iblk m hO c 1 t := before_1_of m hO (dats m hO 0 c) (A_eq m hO c 1) (after_1 m hO c) t d
/-- in the other hidden weights', -/
theorem before_2 (hO : Ok m) (c : Dev nD) (t : Fin (cfgM m hO).N) (d) : (dats m hO 0 c).before 2 t d = iblk m hO c 2 t := before_2_of m hO (dats m hO 0 c) (A_eq m hO c 2) (after_2 m hO c) t d
/-- and in the output weights'. -/
theorem before_3 (hO : Ok m) (c : Dev nD) (t : Fin (cfgM m hO).N) (d) : (dats m hO 0 c).before 3 t d = iblk m hO c 3 t := before_3_of m hO (dats m hO 0 c) (A_eq m hO c 3) (after_3 m hO c) t d

/-- A window's staging memref at a point. -/
abbrev ms (hO : Ok m) (w : Fin 5) (t : Fin (cfgM m hO).N) := (spec0 w).stage ((cfgM m hO).slots t w)

/-- The body at a point, on what the pipeline calls it with. -/
abbrev bodyAt (a : (pcfg0 (F := F)).Adm) (t : Fin (cfg0 a).N) : Prog (TpuEff nD τ sig (Elt F) Λ₀ .tc) PUnit :=
  cc0_moe_ffn (grid0.coords t) (Memref.whole main_arg1) (Memref.isWhole_whole _) (Memref.whole main_arg2) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) (Memref.whole cc0_scratch0) (Memref.isWhole_whole _) (Memref.whole cc0_scratch1) (Memref.isWhole_whole _)

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms m hO 0 t) fullShare ((dats m hO 0 c).before 0 t d))
    ∗ (∃ d, owns (c : Thread nD τ) (ms m hO 1 t) fullShare ((dats m hO 0 c).before 1 t d))
    ∗ (∃ d, owns (c : Thread nD τ) (ms m hO 2 t) fullShare ((dats m hO 0 c).before 2 t d))
    ∗ (∃ d, owns (c : Thread nD τ) (ms m hO 3 t) fullShare ((dats m hO 0 c).before 3 t d))
    ∗ (∃ d, owns (c : Thread nD τ) (ms m hO 4 t) fullShare ((dats m hO 0 c).before 4 t d)))

/-- What it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The tokens' staging buffer comes back as it was. -/
theorem leaves_0 (hO : Ok m) (c : Dev nD) (t : Fin (cfgM m hO).N) : (dats m hO 0 c).leavesExact 0 t = owns (c : Thread nD τ) (ms m hO 0 t) fullShare (iblk m hO c 0 t) := by
  rw [← after_0]; unfold Dat.leavesExact; rw [show (cfgM m hO).idle 0 ((cfgM m hO).grid.coords t) = false from rfl]; rfl
/-- So do the gate weights', -/
theorem leaves_1 (hO : Ok m) (c : Dev nD) (t : Fin (cfgM m hO).N) : (dats m hO 0 c).leavesExact 1 t = owns (c : Thread nD τ) (ms m hO 1 t) fullShare (iblk m hO c 1 t) := by
  rw [← after_1]; unfold Dat.leavesExact; rw [show (cfgM m hO).idle 1 ((cfgM m hO).grid.coords t) = false from rfl]; rfl
/-- the other hidden weights', -/
theorem leaves_2 (hO : Ok m) (c : Dev nD) (t : Fin (cfgM m hO).N) : (dats m hO 0 c).leavesExact 2 t = owns (c : Thread nD τ) (ms m hO 2 t) fullShare (iblk m hO c 2 t) := by
  rw [← after_2]; unfold Dat.leavesExact; rw [show (cfgM m hO).idle 2 ((cfgM m hO).grid.coords t) = false from rfl]; rfl
/-- and the output weights'. -/
theorem leaves_3 (hO : Ok m) (c : Dev nD) (t : Fin (cfgM m hO).N) : (dats m hO 0 c).leavesExact 3 t = owns (c : Thread nD τ) (ms m hO 3 t) fullShare (iblk m hO c 3 t) := by
  rw [← after_3]; unfold Dat.leavesExact; rw [show (cfgM m hO).idle 3 ((cfgM m hO).grid.coords t) = false from rfl]; rfl

/-- The output's, at the last point of a row block, comes back with the accumulator laid out. -/
theorem leaves_4 (hO : Ok m) (c : Dev nD) (t : Fin (cfgM m hO).N) (h : t.val % 7 = 6) :
    (dats m hO 0 c).leavesExact 4 t = owns (c : Thread nD τ) (ms m hO 4 t) fullShare (spread (held m hO c t.val t.isLt).2) := by
  rw [← after_4]; unfold Dat.leavesExact; rw [live_4 m hO t h]; rfl

/-- At a point that is not the last of its row block the output's comes back with anything. -/
theorem leaves_idle (hO : Ok m) (c : Dev nD) (t : Fin (cfgM m hO).N) (h : ¬t.val % 7 = 6) :
    (dats m hO 0 c).leavesExact 4 t = iprop(∃ d, owns (c : Thread nD τ) (ms m hO 4 t) fullShare ((dats m hO 0 c).before 4 t d)) :=
  Dat.leavesExact_idle (dats m hO 0 c) 4 t (idle_4 m hO t h) (Bool.eq_false_iff.mpr fun e => h ((flush_4 (adm m hO) t).mp e))

/-- What is known before a point. -/
theorem Phi_castSucc (hO : Ok m) (c : Dev nD) (t : Fin (cfgM m hO).N) :
    (dats m hO 0 c).Φ t.castSucc = iprop(PhiS m hO c t.val (Nat.le_of_lt t.isLt) ∗ Pipeline.ΦT pre0 (tbl m) c) := by
  dsimp only [dats]; rfl

/-- What is known after it. -/
theorem Phi_succ (hO : Ok m) (c : Dev nD) (t : Fin (cfgM m hO).N) :
    (dats m hO 0 c).Φ t.succ = iprop(PhiS m hO c (t.val + 1) t.isLt ∗ Pipeline.ΦT pre0 (tbl m) c) := by
  dsimp only [dats]; rfl

set_option maxHeartbeats 1600000 in
/-- The body at every point: the run of its case, on what the point finds. -/
theorem sound_body (hO : Ok m) (c : Dev nD) (t : Fin (cfgM m hO).N) :
    bodyPre m hO c t ⊢ wp frame (wpE (defs₀ (F := F)) Variants.none c none) ⊤ (bodyAt (adm m hO) t) (fun _ => bodyPost m hO c t) := by
  unfold bodyPre bodyPost bodyAt
  simp only [before_0, before_1, before_2, before_3]
  rw [show (dats m hO 0 c).owesAt () t.succ = (dats m hO 0 c).owesAt () t.castSucc from rfl]
  rw [Phi_castSucc, Phi_succ, PhiS_succ, PhiT_eq, leaves_0, leaves_1, leaves_2, leaves_3]
  by_cases h0 : t.val % 7 = 0
  · have h6 : ¬t.val % 7 = 6 := by omega
    rw [leaves_idle m hO c t h6, held_first m hO c t h0]
    iintro ⟨⟨HS, HT0, HT1⟩, Ho, ⟨%d0, H0⟩, ⟨%d1, H1⟩, ⟨%d2, H2⟩, ⟨%d3, H3⟩, ⟨%d4, H4⟩⟩
    ihave HA := (PhiS_open m hO c t.val (Nat.le_of_lt t.isLt)) $$ HS
    icases HA with ⟨⟨⟨%e0, HS0⟩, ⟨%e1, HS1⟩⟩, Hg⟩
    iapply (run_first c (grid0.coords t) _ _ _ _ _ _ _ _ _ _ _ _ _ _ (iblk m hO c 0 t) (iblk m hO c 1 t) (iblk m hO c 2 t) (iblk m hO c 3 t) ((dats m hO 0 c).before 4 t d4) e0 e1 (tbl m 0) (tbl m 1)
      ((isFirst_iff t).mpr h0) (fun e => h6 ((isLast_iff t).mp e)) ⊤ _)
    isplitl [H0]
    · iexact H0
    isplitl [H1]
    · iexact H1
    isplitl [H2]
    · iexact H2
    isplitl [H3]
    · iexact H3
    isplitl [H4]
    · iexact H4
    isplitl [HS0]
    · iexact HS0
    isplitl [HS1]
    · iexact HS1
    isplitl [HT0]
    · iexact HT0
    isplitl [HT1]
    · iexact HT1
    iintro ⟨H0, H1, H2, H3, H4, HS0, HS1, HT0, HT1⟩
    isplitl [HS0 HS1 Hg HT0 HT1]
    · isplitl [HS0 HS1 Hg]
      · isplitl [HS0 HS1]
        · isplitl [HS0]
          · iexact HS0
          iexact HS1
        iexact Hg
      isplitl [HT0]
      · iexact HT0
      iexact HT1
    isplitl [Ho]
    · iexact Ho
    isplitl [H0]
    · iexact H0
    isplitl [H1]
    · iexact H1
    isplitl [H2]
    · iexact H2
    isplitl [H3]
    · iexact H3
    iexists _
    iexact H4
  · have hp : t.val ≠ 0 := fun e => h0 (by rw [e])
    rw [PhiS_pos m hO c t.val (Nat.le_of_lt t.isLt) hp, held_next m hO c t h0]
    by_cases h6 : t.val % 7 = 6
    · rw [leaves_4 m hO c t h6, held_next m hO c t h0]
      iintro ⟨⟨⟨⟨HS0, HS1⟩, Hg⟩, HT0, HT1⟩, Ho, ⟨%d0, H0⟩, ⟨%d1, H1⟩, ⟨%d2, H2⟩, ⟨%d3, H3⟩, ⟨%d4, H4⟩⟩
      iapply (run_last c (grid0.coords t) _ _ _ _ _ _ _ _ _ _ _ _ _ _ (iblk m hO c 0 t) (iblk m hO c 1 t) (iblk m hO c 2 t) (iblk m hO c 3 t) ((dats m hO 0 c).before 4 t d4) _ _ (tbl m 0) (tbl m 1)
        (fun e => h0 ((isFirst_iff t).mp e)) ((isLast_iff t).mpr h6) ⊤ _)
      isplitl [H0]
      · iexact H0
      isplitl [H1]
      · iexact H1
      isplitl [H2]
      · iexact H2
      isplitl [H3]
      · iexact H3
      isplitl [H4]
      · iexact H4
      isplitl [HS0]
      · iexact HS0
      isplitl [HS1]
      · iexact HS1
      isplitl [HT0]
      · iexact HT0
      isplitl [HT1]
      · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]
        · iexact HT0
        iexact HT1
      isplitl [Ho]
      · iexact Ho
      isplitl [H0]
      · iexact H0
      isplitl [H1]
      · iexact H1
      isplitl [H2]
      · iexact H2
      isplitl [H3]
      · iexact H3
      iexact H4
    · rw [leaves_idle m hO c t h6]
      iintro ⟨⟨⟨⟨HS0, HS1⟩, Hg⟩, HT0, HT1⟩, Ho, ⟨%d0, H0⟩, ⟨%d1, H1⟩, ⟨%d2, H2⟩, ⟨%d3, H3⟩, ⟨%d4, H4⟩⟩
      iapply (run_middle c (grid0.coords t) _ _ _ _ _ _ _ _ _ _ _ _ _ _ (iblk m hO c 0 t) (iblk m hO c 1 t) (iblk m hO c 2 t) (iblk m hO c 3 t) ((dats m hO 0 c).before 4 t d4) _ _ (tbl m 0) (tbl m 1)
        (fun e => h0 ((isFirst_iff t).mp e)) (fun e => h6 ((isLast_iff t).mp e)) ⊤ _)
      isplitl [H0]
      · iexact H0
      isplitl [H1]
      · iexact H1
      isplitl [H2]
      · iexact H2
      isplitl [H3]
      · iexact H3
      isplitl [H4]
      · iexact H4
      isplitl [HS0]
      · iexact HS0
      isplitl [HS1]
      · iexact HS1
      isplitl [HT0]
      · iexact HT0
      isplitl [HT1]
      · iexact HT1
      iintro ⟨H0, H1, H2, H3, H4, HS0, HS1, HT0, HT1⟩
      isplitl [HS0 HS1 Hg HT0 HT1]
      · isplitl [HS0 HS1 Hg]
        · isplitl [HS0 HS1]
          · isplitl [HS0]
            · iexact HS0
            iexact HS1
          iexact Hg
        isplitl [HT0]
        · iexact HT0
        iexact HT1
      isplitl [Ho]
      · iexact Ho
      isplitl [H0]
      · iexact H0
      isplitl [H1]
      · iexact H1
      isplitl [H2]
      · iexact H2
      isplitl [H3]
      · iexact H3
      iexists _
      iexact H4

/-- The body the pipeline calls at a point is the body as spelled here. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The body's obligation, at every point. -/
theorem body_obligation (hO : Ok m) (c : Dev nD) : BodyObligation (dats (F := F) m hO 0 c) (defs₀ (F := F)) Variants.none () ⊤ := fun t => by
  rw [bigSep_W0, bigSep_W0, defs₀_row m hO]
  exact triple_restated (sound_body m hO c t) rfl .rfl fun _ => .rfl

/-- What the pipeline starts from is what is known before the first point. -/
theorem hin (hO : Ok m) (c : Dev nD) : iprop(Pipeline.ΦA spec0 c ∗ Pipeline.ΦT pre0 (tbl m) c) ⊢ (dats m hO 0 c).Φ 0 :=
  Idealize.SL.BI.Entails.refl _

/-- What is known after the last gives back what the pipeline took. -/
theorem hout (hO : Ok m) (c : Dev nD) : (dats m hO 0 c).Φ (Fin.last (cfgM m hO).N) ⊢ Pipeline.ΦA spec0 c := by
  have e : (dats m hO 0 c).Φ (Fin.last (cfgM m hO).N) = iprop(PhiS m hO c (cfgM m hO).N le_rfl ∗ Pipeline.ΦT pre0 (tbl m) c) := by dsimp only [dats]; rfl
  rw [e]
  iintro ⟨HD, -⟩
  iapply (PhiS_any m hO c (cfgM m hO).N le_rfl)
  iexact HD

set_option backward.isDefEq.respectTransparency.types false in
/-- The launch: every execution ends, with the arrays at what the proof data says and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hin := hin m hO) (hout := hout m hO)

/-- The argument arrays end as they were. -/
theorem args_of (hO : Ok m) {r : PUnit × MemSt nD τ sig (Elt F)} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(((h c).1 0).trans ((dats m hO 0 c).arrAt_in 0 rfl _)).trans (A_eq m hO c 0),
   (h c).2 main_arg1 (by decide : main_arg1 ∈ Pipeline.restRefs sig spec0),
   (h c).2 main_arg2 (by decide : main_arg2 ∈ Pipeline.restRefs sig spec0),
   (((h c).1 1).trans ((dats m hO 0 c).arrAt_in 1 rfl _)).trans (A_eq m hO c 1),
   (((h c).1 2).trans ((dats m hO 0 c).arrAt_in 2 rfl _)).trans (A_eq m hO c 2),
   (((h c).1 3).trans ((dats m hO 0 c).arrAt_in 3 rfl _)).trans (A_eq m hO c 3)⟩

/-- The expert named for row block `b`. -/
theorem at_lt (h : ∀ x : S40.Idx, ((tbl m 0 : IVec S40 32) x).toNat < 8) (i : grid0.Coords) :
    ((tbl m).at 0 (Rect.unit (s := S40) (k0_off1 i) S1.size (k0_off1_inb i)) numel1_S1 : BitVec 32).toNat < 8 := h _

/-- The hidden block read is one of the seven. -/
theorem hidden_lt (v : BitVec 32) (i : grid0.Coords) : (Scalar.select (Scalar.cmpi .sgt v 0#32) (BitVec.ofNat 32 (i 1).val) 6#32).toNat ≤ 6 := by
  have h1 : (i 1).val < 7 := (i 1).isLt
  unfold Scalar.select
  split
  · rw [BitVec.toNat_ofNat]; omega
  · decide

/-- Where every expert named is one of the eight, the blocks lie inside the arrays. -/
theorem ok_of (h : ∀ x : S40.Idx, ((tbl m 0 : IVec S40 32) x).toNat < 8) : Ok m := by
  refine ⟨fun i => ⟨fun a => ?_, .inl rfl⟩, fun i => ⟨fun a => ?_, .inl rfl⟩, fun i => ⟨fun a => ?_, .inl rfl⟩⟩
  all_goals
    have e := at_lt m h i
    have g := hidden_lt ((tbl m).at 1 (Rect.unit (s := S40) (k0_off1 i) S1.size (k0_off1_inb i)) numel1_S1) i
  · match a with
    | ⟨0, _⟩ => show (0 + 1) * 1 ≤ 2; omega
    | ⟨1, _⟩ => show (((tbl m).at 0 (Rect.unit (s := S40) (k0_off1 i) S1.size (k0_off1_inb i)) numel1_S1 : BitVec 32).toNat + 1) * 1 ≤ 8; omega
    | ⟨2, _⟩ => show (0 + 1) * 1024 ≤ 1024; omega
    | ⟨3, _⟩ => show ((Scalar.select (Scalar.cmpi .sgt ((tbl m).at 1 (Rect.unit (s := S40) (k0_off1 i) S1.size (k0_off1_inb i)) numel1_S1 : BitVec 32) 0#32) (BitVec.ofNat 32 (i 1).val) 6#32).toNat + 1) * 512 ≤ 3584; omega
  · match a with
    | ⟨0, _⟩ => show (0 + 1) * 1 ≤ 2; omega
    | ⟨1, _⟩ => show (((tbl m).at 0 (Rect.unit (s := S40) (k0_off1 i) S1.size (k0_off1_inb i)) numel1_S1 : BitVec 32).toNat + 1) * 1 ≤ 8; omega
    | ⟨2, _⟩ => show (0 + 1) * 1024 ≤ 1024; omega
    | ⟨3, _⟩ => show ((Scalar.select (Scalar.cmpi .sgt ((tbl m).at 1 (Rect.unit (s := S40) (k0_off1 i) S1.size (k0_off1_inb i)) numel1_S1 : BitVec 32) 0#32) (BitVec.ofNat 32 (i 1).val) 6#32).toNat + 1) * 512 ≤ 3584; omega
  · match a with
    | ⟨0, _⟩ => show (0 + 1) * 1 ≤ 2; omega
    | ⟨1, _⟩ => show (((tbl m).at 0 (Rect.unit (s := S40) (k0_off1 i) S1.size (k0_off1_inb i)) numel1_S1 : BitVec 32).toNat + 1) * 1 ≤ 8; omega
    | ⟨2, _⟩ => show ((Scalar.select (Scalar.cmpi .sgt ((tbl m).at 1 (Rect.unit (s := S40) (k0_off1 i) S1.size (k0_off1_inb i)) numel1_S1 : BitVec 32) 0#32) (BitVec.ofNat 32 (i 1).val) 6#32).toNat + 1) * 512 ≤ 3584; omega
    | ⟨3, _⟩ => show (0 + 1) * 1024 ≤ 1024; omega

/-- The frame: every execution ends, the argument arrays unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m hO h.1, h.2⟩) (run_main m ρ hO)

end Cert.Kernel3Ideal.Moe

end
-- ==== Proof.MoeBlock.lean ====
/- The routed feed-forward kernel's blocks at an index: the tokens it gathers, what a point adds to the accumulator for a row in use, and
   the output block. -/
module

public import proofs.«01_k».proof.Proof.MoeRun
public import proofs.«01_k».proof.Proof.FfnMath
public import Idealize.ShloMosaic.Lib.StableHlo.Predicate

@[expose] public section

set_option maxRecDepth 16384

noncomputable section

namespace Cert.Kernel3Ideal.Moe

open Cert.Kernel3Ideal Cert.Kernel3Ideal.Gen Idealize.ShloMosaic Idealize.ShloMosaic.TcCoe Idealize.SL.Sem
open Idealize.ShloMosaic.Pipeline (Dat)

/-! ## The conditions on a block's row count -/

/-- A bit widened to a word is not zero where the bit is one. -/
theorem bit_ne : ∀ b : BitVec 1, Scalar.cmpi .ne (Scalar.extui b) 0#32 = 1#1 ↔ b = 1#1 := by decide

/-- Both of two bits are one where each is. -/
theorem bit_and : ∀ a b : BitVec 1, Scalar.andi a b = 1#1 ↔ a = 1#1 ∧ b = 1#1 := by decide

/-- A signed greater-than. -/
theorem sgt_iff (a b : BitVec 32) : Scalar.cmpi .sgt a b = 1#1 ↔ b.toInt < a.toInt := by
  show BitVec.ofBool (b.slt a) = 1#1 ↔ _
  rw [StableHlo.Predicate.ofBool_eq_one_iff, BitVec.slt_eq_decide, decide_eq_true_iff]

/-- A signed at-most. -/
theorem sle_iff (a b : BitVec 32) : Scalar.cmpi .sle a b = 1#1 ↔ a.toInt ≤ b.toInt := by
  show BitVec.ofBool (a.sle b) = 1#1 ↔ _
  rw [StableHlo.Predicate.ofBool_eq_one_iff, BitVec.sle_eq_decide, decide_eq_true_iff]

/-- More than half of the rows: more than 512. -/
theorem isFull_iff (n : BitVec 32) : isFull n ↔ 512 < n.toInt := by
  unfold isFull
  rw [bit_ne, sgt_iff]
  rfl

/-- Some rows but no more than half. -/
theorem isHalf_iff (n : BitVec 32) : isHalf n ↔ 0 < n.toInt ∧ n.toInt ≤ 512 := by
  unfold isHalf
  rw [bit_ne, bit_and, sgt_iff, sle_iff]
  rfl

/-- Some rows. -/
theorem isSome_iff (n : BitVec 32) : isSome n ↔ 0 < n.toInt := by
  unfold isSome
  rw [bit_ne, sgt_iff]
  rfl

/-! ## The tokens -/

/-- Eight column tiles side by side. -/
theorem pay1_apply (f : Fin 8 → Vec Ideal S1024x128 .f32) (r j : Fin 1024) :
    k0_pay1 (f 0) (f 1) (f 2) (f 3) (f 4) (f 5) (f 6) (f 7) (ix2 r j)
      = f (⟨j.val / 128, by omega⟩ : Fin 8) (ix2 r (⟨j.val % 128, by omega⟩ : Fin 128)) := by
  unfold k0_pay1
  refine (shapeCast_apply _ _ (ix2 r j) (ix2 r j) rfl).trans ?_
  exact concatenate_ofFn_apply (t := S1024x1024) (s₁ := S1024x128) 1 f concatenates_S1024x128_S1024x128_S1024x128_S1024x128_S1024x128_S1024x128_S1024x128_S1024x128_S1024x1024_d1
    rfl 128 rfl (ix2 r j) (⟨j.val / 128, by omega⟩ : Fin 8) rfl (ix2 r (⟨j.val % 128, by omega⟩ : Fin 128)) rfl
    (fun b hb => by
      match b with
      | ⟨0, _⟩ => rfl
      | ⟨1, _⟩ => exact absurd rfl hb)

/-- Every eighth row from row `k` on lies inside the block. -/
theorem run_inb (k : Fin 8) : ∀ a, S1024x128.size a = 0 ∨ ![k.val, 0] a + ![8, 1] a * (S1024x128.size a - 1) < S8192x128.size a := fun a => by
  match a with
  | ⟨0, _⟩ => exact Or.inr (by show k.val + 8 * (1024 - 1) < 8192; omega)
  | ⟨1, _⟩ => exact Or.inr (by show 0 + 1 * (128 - 1) < 128; omega)

/-- The tokens at an index: column `j` of a token is in the row `j / 128` of its eight, at lane `j % 128`. -/
theorem tokens_apply (x : Vec Ideal S8192x128 .f32) (r j : Fin 1024) : tokens x (ix2 r j)
    = x (ix2 (⟨8 * r.val + j.val / 128, by omega⟩ : Fin 8192) (⟨j.val % 128, by omega⟩ : Fin 128)) := by
  have h := pay1_apply (fun k => strided (⟨![k.val, 0], S1024x128.size, ![8, 1], run_inb k⟩ : LoadRect S8192x128) x) r j
  refine (show tokens x (ix2 r j) = _ from h).trans ?_
  refine congrArg x (funext fun a => Fin.ext ?_)
  match a with
  | ⟨0, _⟩ => show j.val / 128 + 8 * r.val = 8 * r.val + j.val / 128; omega
  | ⟨1, _⟩ => show 0 + 1 * (j.val % 128) = j.val % 128; omega

/-! ## A point's accumulation -/

section Payload
variable (h : Vec Ideal S1024x1024 .bf16) (h' : Vec Ideal S512x1024 .bf16) (x1 x2 : Vec Ideal S1x1x1024x512 .f32) (x3 : Vec Ideal S1x1x512x1024 .f32)
    (a : Vec Ideal S1024x1024 .f32) (a' : Vec Ideal S512x1024 .f32)

/-- The zero block at an index. -/
theorem pay2_apply (r j : Fin 1024) : k0_pay2 (F := Ideal) (ix2 r j) = 0 := by
  unfold k0_pay2
  pointwise

/-- The accumulated block at an index. -/
theorem pay3_apply (r j : Fin 1024) : k0_pay3 h x1 x2 a x3 (ix2 r j) = a (ix2 r j)
    + ∑ q : Fin 512, (∑ k, h (ix2 r k) * x1 (ix4 0 0 k q)) * Ideal.logistic (∑ k, h (ix2 r k) * x1 (ix4 0 0 k q))
        * (∑ k, h (ix2 r k) * x2 (ix4 0 0 k q)) * x3 (ix4 0 0 q j) := by
  unfold k0_pay3
  pointwise [Ideal.logistic_def]

/-- The accumulated upper half of a block at an index. -/
theorem pay4_apply (r : Fin 512) (j : Fin 1024) : k0_pay4 h' x1 x2 a' x3 (ix2 r j) = a' (ix2 r j)
    + ∑ q : Fin 512, (∑ k, h' (ix2 r k) * x1 (ix4 0 0 k q)) * Ideal.logistic (∑ k, h' (ix2 r k) * x1 (ix4 0 0 k q))
        * (∑ k, h' (ix2 r k) * x2 (ix4 0 0 k q)) * x3 (ix4 0 0 q j) := by
  unfold k0_pay4
  pointwise [Ideal.logistic_def]

/-- The upper half at an index is the block there. -/
theorem top_apply {e : EltTy} (b : Vec Ideal S1024x1024 e) (r : Fin 512) (j : Fin 1024) : top b (ix2 r j) = b (ix2 (⟨r.val, by omega⟩ : Fin 1024) j) :=
  congrArg b (funext fun c => Fin.ext (by
    match c with
    | ⟨0, _⟩ => show 0 + 1 * r.val = r.val; omega
    | ⟨1, _⟩ => show 0 + 1 * j.val = j.val; omega))

/-- A block whose upper half is replaced, in the upper half. -/
theorem topped_apply (p : Vec Ideal S512x1024 .f32) (b : Vec Ideal S1024x1024 .f32) (r : Fin 512) (j : Fin 1024) :
    topped p b (ix2 (⟨r.val, by omega⟩ : Fin 1024) j) = p (ix2 r j) := by
  unfold topped
  rw [dif_pos (fun c => by
    match c with
    | ⟨0, _⟩ => exact ⟨Nat.zero_le _, by show r.val < 0 + 512; omega⟩
    | ⟨1, _⟩ => exact ⟨Nat.zero_le _, by show j.val < 0 + 1024; omega⟩)]
  refine congrArg p (funext fun c => Fin.ext ?_)
  match c with
  | ⟨0, _⟩ => rfl
  | ⟨1, _⟩ => rfl

/-- A point's accumulation in a row in use: the point's hidden units are added, however many rows the block has. -/
theorem add_apply (n : BitVec 32) (r j : Fin 1024) (hr : (r.val : ℤ) < n.toInt) : add n h x1 x2 a x3 (ix2 r j) = a (ix2 r j)
    + ∑ q : Fin 512, (∑ k, h (ix2 r k) * x1 (ix4 0 0 k q)) * Ideal.logistic (∑ k, h (ix2 r k) * x1 (ix4 0 0 k q))
        * (∑ k, h (ix2 r k) * x2 (ix4 0 0 k q)) * x3 (ix4 0 0 q j) := by
  unfold add addFull
  by_cases hn : 512 < n.toInt
  · rw [if_neg (fun e => by have := (isHalf_iff n).mp e; omega), if_pos ((isFull_iff n).mpr hn)]
    exact pay3_apply h x1 x2 x3 a r j
  · rw [if_pos ((isHalf_iff n).mpr ⟨by omega, by omega⟩), if_pos ((isSome_iff n).mpr (by omega)), if_neg (fun e => hn ((isFull_iff n).mp e))]
    have hq : r.val < 512 := by omega
    refine (topped_apply _ a ⟨r.val, hq⟩ j).trans ?_
    rw [pay4_apply]
    simp only [top_apply]

/-- A point's accumulation in a row in use: given the row's token, the 512 hidden units' weights and the sum of the terms before, the sum
    with the point's terms. -/
theorem add_first (n : BitVec 32) (r j : Fin 1024) (hr : (r.val : ℤ) < n.toInt) (s : ℕ) (hs : s < 7) (z : Fin 1024 → EReal)
    (wg wu : Fin 1024 → Fin 3584 → EReal) (wd : Fin 3584 → Fin 1024 → EReal)
    (e0 : ∀ k, h (ix2 r k) = z k) (e1 : ∀ k (q : Fin 512), x1 (ix4 0 0 k q) = wg k (⟨512 * s + q.val, by omega⟩ : Fin 3584))
    (e2 : ∀ k (q : Fin 512), x2 (ix4 0 0 k q) = wu k (⟨512 * s + q.val, by omega⟩ : Fin 3584))
    (e3 : ∀ (q : Fin 512), x3 (ix4 0 0 q j) = wd (⟨512 * s + q.val, by omega⟩ : Fin 3584) j)
    (e4 : a (ix2 r j) = Cert.Ffn.first z wg wu wd j (512 * s)) :
    add n h x1 x2 a x3 (ix2 r j) = Cert.Ffn.first z wg wu wd j (512 * (s + 1)) := by
  rw [add_apply h x1 x2 x3 a n r j hr, e4]
  simp only [e0, e1, e2, e3]
  exact Cert.Ffn.first_tile z wg wu wd j s hs

end Payload

/-! ## The output block -/

/-- A column tile lies inside the accumulator. -/
theorem tile_slices (k : ℕ) (hk : k < 8) : S1024x1024.Slices ![0, 128 * k] S1024x128 := ⟨rfl, fun a => by
  match a with
  | ⟨0, _⟩ => show 0 + 1024 ≤ 1024; omega
  | ⟨1, _⟩ => show 128 * k + 128 ≤ 1024; omega⟩

/-- One of the eight stores of the output block, read at the element it reaches. -/
theorem run_at (k : ℕ) (hk : k < 8) (inb : ∀ a, S1024x128.size a = 0 ∨ ![k, 0] a + ![8, 1] a * (S1024x128.size a - 1) < S8192x128.size a)
    (pos : ∀ a, 0 < (![8, 1] : Fin 2 → ℕ) a) (a : Vec Ideal S1024x1024 .f32) (w : Vec Ideal S1024x128 .f32)
    (hw : w = extractStridedSlice S1024x128 ![0, 128 * k] a (tile_slices k hk)) (R : Fin 8192) (l : Fin 128) :
    View.RectAt (Val := Elt Ideal) (e := .f32) (ix2 R l : S8192x128.Idx) (⟨(⟨![k, 0], S1024x128.size, ![8, 1], inb⟩ : LoadRect S8192x128), pos⟩ : Rect S8192x128) w
      (a (ix2 (⟨R.val / 8, by omega⟩ : Fin 1024) (⟨128 * (R.val % 8) + l.val, by omega⟩ : Fin 1024))) := by
  intro x hx
  subst hw
  have h0 : k + 8 * (x 0).val = R.val := congrArg Fin.val (congrFun hx 0)
  have h1 : 0 + 1 * (x 1).val = l.val := congrArg Fin.val (congrFun hx 1)
  refine extractStridedSlice_apply _ a (tile_slices k hk) x _ fun b => ?_
  match b with
  | ⟨0, _⟩ => show R.val / 8 = 0 + (x 0).val; omega
  | ⟨1, _⟩ => show 128 * (R.val % 8) + l.val = 128 * k + (x 1).val; omega

/-- The output block at an index: column tile `R % 8` of the accumulator's row `R / 8`. -/
theorem spread_apply (a : Vec Ideal S1024x1024 .f32) (R : Fin 8192) (l : Fin 128) :
    spread a (ix2 R l) = a (ix2 (⟨R.val / 8, by omega⟩ : Fin 1024) (⟨128 * (R.val % 8) + l.val, by omega⟩ : Fin 1024)) :=
  View.canon_eq_of_allAt (runs a) _ _ (runs_cover a _) <|
    View.allAt_cons _ _ _ (run_at 7 (by decide) _ _ a (k0_pay12 a) rfl R l) <| View.allAt_cons _ _ _ (run_at 6 (by decide) _ _ a (k0_pay11 a) rfl R l) <|
    View.allAt_cons _ _ _ (run_at 5 (by decide) _ _ a (k0_pay10 a) rfl R l) <| View.allAt_cons _ _ _ (run_at 4 (by decide) _ _ a (k0_pay9 a) rfl R l) <|
    View.allAt_cons _ _ _ (run_at 3 (by decide) _ _ a (k0_pay8 a) rfl R l) <| View.allAt_cons _ _ _ (run_at 2 (by decide) _ _ a (k0_pay7 a) rfl R l) <|
    View.allAt_cons _ _ _ (run_at 1 (by decide) _ _ a (k0_pay6 a) rfl R l) <| View.allAt_cons _ _ _ (run_at 0 (by decide) _ _ a (k0_pay5 a) rfl R l) <|
    View.allAt_nil _ _

end Cert.Kernel3Ideal.Moe

end
-- ==== Proof.MoeArray.lean ====
/- The routed feed-forward kernel's result array, in the rows in use, as a function of the argument arrays: what each point reads, what its
   scratch then holds, and the blocks that are written back. -/
module

public import proofs.«01_k».proof.Proof.MoeFrame
public import proofs.«01_k».proof.Proof.MoeBlock

@[expose] public section

set_option maxRecDepth 16384

noncomputable section

namespace Cert.Kernel3Ideal.Moe

open Cert.Kernel3Ideal Cert.Kernel3Ideal.Gen Idealize.ShloMosaic Idealize.ShloMosaic.TcCoe Idealize.SL.Sem
open Idealize.ShloMosaic.Pipeline (Dat)

/-- The token of row `r` of row block `b`: its column `k` is in the row `k / 128` of its eight, at lane `k % 128`. -/
def token (a0 : Vec Ideal S327680x128 .f32) (b : Fin 40) (r : Fin 1024) (k : Fin 1024) : EReal :=
  a0 (ix2 (⟨8192 * b.val + (8 * r.val + k.val / 128), by omega⟩ : Fin 327680) (⟨k.val % 128, by omega⟩ : Fin 128))

/-- The expert of a row block. -/
def expert (a1 : IVec S40 32) (b : Fin 40) : Fin 8 := ⟨min (a1 (ix1 b)).toNat 7, by omega⟩

/-- The layer at row `r`, column `j` of row block `b`. -/
def layer (a0 : Vec Ideal S327680x128 .f32) (a1 : IVec S40 32) (a3 a4 : Vec Ideal S2x8x1024x3584 .f32) (a5 : Vec Ideal S2x8x3584x1024 .f32)
    (b : Fin 40) (r j : Fin 1024) : EReal :=
  Cert.Ffn.swiglu (token a0 b r) (fun k q => a3 (ix4 0 (expert a1 b) k q)) (fun k q => a4 (ix4 0 (expert a1 b) k q)) (fun q j => a5 (ix4 0 (expert a1 b) q j)) j

/-- The row block a row of the array is in. -/
def blockOf (R : Fin 327680) : Fin 40 := ⟨R.val / 8192, by omega⟩
/-- The token it belongs to, in its row block. -/
def rowOf (R : Fin 327680) : Fin 1024 := ⟨R.val % 8192 / 8, by omega⟩
/-- The column of the token one of its lanes is. -/
def colOf (R : Fin 327680) (l : Fin 128) : Fin 1024 := ⟨128 * (R.val % 8) + l.val, by omega⟩

/-- The layer as one array of the argument arrays. -/
def G (a0 : Vec Ideal S327680x128 .f32) (a1 : IVec S40 32) (a3 a4 : Vec Ideal S2x8x1024x3584 .f32) (a5 : Vec Ideal S2x8x3584x1024 .f32) : Vec Ideal S327680x128 .f32 :=
  fun i => layer a0 a1 a3 a4 a5 (blockOf (i 0)) (rowOf (i 0)) (colOf (i 0) (i 1))

/-- A row of the array is in use: its token's row number is below its row block's count. -/
def InUse (a2 : IVec S40 32) (i : S327680x128.Idx) : Prop := ((rowOf (i 0)).val : ℤ) < (a2 (ix1 (blockOf (i 0)))).toInt

variable (m : (ℓ : Loc nD τ sig) → Buf (Elt Ideal) ℓ) (ρ : Dev nD → PrngReg)

/-- Argument 0, the tokens. -/
abbrev A0 (c : Dev nD) : Vec Ideal S327680x128 .f32 := m ((c : Thread nD τ).loc main_arg0)
/-- Argument 1, the row blocks' experts. -/
abbrev A1 (c : Dev nD) : IVec S40 32 := m ((c : Thread nD τ).loc main_arg1)
/-- Argument 2, the row blocks' counts of rows in use. -/
abbrev A2 (c : Dev nD) : IVec S40 32 := m ((c : Thread nD τ).loc main_arg2)
/-- Argument 3, the gate's weights. -/
abbrev A3 (c : Dev nD) : Vec Ideal S2x8x1024x3584 .f32 := m ((c : Thread nD τ).loc main_arg3)
/-- Argument 4, the other projection's weights. -/
abbrev A4 (c : Dev nD) : Vec Ideal S2x8x1024x3584 .f32 := m ((c : Thread nD τ).loc main_arg4)
/-- Argument 5, the output weights. -/
abbrev A5 (c : Dev nD) : Vec Ideal S2x8x3584x1024 .f32 := m ((c : Thread nD τ).loc main_arg5)

/-! Point `t` is row block `t / 7`, hidden block `t % 7`. -/

/-- The grid coordinates of a point. -/
theorem coords_val : ∀ t : Fin grid0.N, ((grid0.coords t) 0).val = t.val / 7 ∧ ((grid0.coords t) 1).val = t.val % 7 := by decide +kernel

/-- A point's row block. -/
def bno (t : Fin grid0.N) : Fin 40 := ⟨t.val / 7, by have : t.val < 280 := t.isLt; omega⟩

/-- Where a table is read at a point. -/
theorem point_eq (t : Fin grid0.N) : (Rect.unit (s := S40) (k0_off1 (grid0.coords t)) S1.size (k0_off1_inb (grid0.coords t))).point numel1_S1 = ix1 (bno t) := by
  funext a
  match a with
  | ⟨0, _⟩ =>
    refine Fin.ext ?_
    show k0_off1 (grid0.coords t) 0 + 1 * 0 = t.val / 7
    rw [k0_off1_eq]
    show ((grid0.coords t) 0).val + 1 * 0 = t.val / 7
    have := (coords_val t).1
    omega

/-- The expert a point reads. -/
theorem at_0 (c : Dev nD) (t : Fin grid0.N) : (tbl m).at 0 (Rect.unit (s := S40) (k0_off1 (grid0.coords t)) S1.size (k0_off1_inb (grid0.coords t))) numel1_S1 = A1 m c (ix1 (bno t)) := by
  obtain rfl : c = 0 := Subsingleton.elim _ _
  exact congrArg (A1 m 0) (point_eq t)

/-- The count of rows in use a point reads. -/
theorem at_1 (c : Dev nD) (t : Fin grid0.N) : (tbl m).at 1 (Rect.unit (s := S40) (k0_off1 (grid0.coords t)) S1.size (k0_off1_inb (grid0.coords t))) numel1_S1 = A2 m c (ix1 (bno t)) := by
  obtain rfl : c = 0 := Subsingleton.elim _ _
  exact congrArg (A2 m 0) (point_eq t)

/-- The same count, as the body reads it. -/
theorem word_eq (c : Dev nD) (t : Fin grid0.N) : word c (tbl m 1) (grid0.coords t) = A2 m c (ix1 (bno t)) := by
  exact at_1 m c t

/-- The hidden block read where some rows are in use: the point's own. -/
theorem hidden_eq (t : Fin grid0.N) (n : BitVec 32) (hn : 0 < n.toInt) :
    (Scalar.select (Scalar.cmpi .sgt n 0#32) (BitVec.ofNat 32 ((grid0.coords t) 1).val) 6#32).toNat = t.val % 7 := by
  have h := (coords_val t).2
  unfold Scalar.select
  rw [if_pos (show Scalar.cmpi .sgt n 0#32 = 1 from (sgt_iff n 0#32).mpr hn), h, BitVec.toNat_ofNat]
  omega

section Blocks
variable (hO : Ok m)

/-- The expert a point reads is its row block's. -/
theorem expert_val (hE : ∀ x : S40.Idx, ((tbl m 0 : IVec S40 32) x).toNat < 8) (c : Dev nD) (b : Fin 40) : (expert (A1 m c) b).val = (A1 m c (ix1 b)).toNat := by
  obtain rfl : c = 0 := Subsingleton.elim _ _
  have : (A1 m 0 (ix1 b)).toNat < 8 := hE (ix1 b)
  show min (A1 m 0 (ix1 b)).toNat 7 = _
  omega

/-- Hidden unit `q` of point `t`'s hidden block. -/
def unit (t : Fin grid0.N) (q : Fin 512) : Fin 3584 := ⟨512 * (t.val % 7) + q.val, by omega⟩

/-- Row `R` of point `t`'s block of the token and result arrays. -/
def line (t : Fin grid0.N) (R : Fin 8192) : Fin 327680 := ⟨8192 * (t.val / 7) + R.val, by have : t.val < 280 := t.isLt; omega⟩

/-- Where an index of the tokens' block lies in its array. -/
theorem emb0 (t : Fin (cfgM m hO).N) (R : Fin 8192) (l : Fin 128) : (((cfgM m hO).win 0).blk t).view.emb (ix2 R l : S8192x128.Idx) = (ix2 (line t R) l : S327680x128.Idx) := by
  have h := (coords_val t).1
  have b : ((grid0.coords t) 0).val < 40 := ((grid0.coords t) 0).isLt
  funext a; apply Fin.ext
  match a with
  | ⟨0, _⟩ =>
    show (BitVec.ofNat 32 ((grid0.coords t) 0).val).toNat * 8192 + 1 * R.val = 8192 * (t.val / 7) + R.val
    rw [BitVec.toNat_ofNat]
    omega
  | ⟨1, _⟩ => show 0 * 128 + 1 * l.val = l.val; omega

/-- Where an index of the output's block lies in its array. -/
theorem emb4 (t : Fin (cfgM m hO).N) (R : Fin 8192) (l : Fin 128) : (((cfgM m hO).win 4).blk t).view.emb (ix2 R l : S8192x128.Idx) = (ix2 (line t R) l : S327680x128.Idx) := by
  have h := (coords_val t).1
  have b : ((grid0.coords t) 0).val < 40 := ((grid0.coords t) 0).isLt
  funext a; apply Fin.ext
  match a with
  | ⟨0, _⟩ =>
    show (BitVec.ofNat 32 ((grid0.coords t) 0).val).toNat * 8192 + 1 * R.val = 8192 * (t.val / 7) + R.val
    rw [BitVec.toNat_ofNat]
    omega
  | ⟨1, _⟩ => show 0 * 128 + 1 * l.val = l.val; omega

/-- Where an index of the gate weights' block lies in its array, where some rows are in use. -/
theorem emb1 (hE : ∀ x : S40.Idx, ((tbl m 0 : IVec S40 32) x).toNat < 8) (c : Dev nD) (t : Fin (cfgM m hO).N) (hn : 0 < (A2 m c (ix1 (bno t))).toInt) (k : Fin 1024) (q : Fin 512) :
    (((cfgM m hO).win 1).blk t).view.emb (ix4 0 0 k q : S1x1x1024x512.Idx) = (ix4 0 (expert (A1 m c) (bno t)) k (unit t q) : S2x8x1024x3584.Idx) := by
  have f := hidden_eq t _ hn
  rw [← at_1 m c t] at f
  have g := expert_val m hE c (bno t)
  rw [← at_0 m c t] at g
  funext a; apply Fin.ext
  match a with
  | ⟨0, _⟩ => show 0 * 1 + 1 * 0 = 0; omega
  | ⟨1, _⟩ => show ((tbl m).at 0 (Rect.unit (s := S40) (k0_off1 (grid0.coords t)) S1.size (k0_off1_inb (grid0.coords t))) numel1_S1 : BitVec 32).toNat * 1 + 1 * 0 = (expert (A1 m c) (bno t)).val; omega
  | ⟨2, _⟩ => show 0 * 1024 + 1 * k.val = k.val; omega
  | ⟨3, _⟩ => show (Scalar.select (Scalar.cmpi .sgt ((tbl m).at 1 (Rect.unit (s := S40) (k0_off1 (grid0.coords t)) S1.size (k0_off1_inb (grid0.coords t))) numel1_S1 : BitVec 32) 0#32) (BitVec.ofNat 32 ((grid0.coords t) 1).val) 6#32).toNat * 512 + 1 * q.val = 512 * (t.val % 7) + q.val; omega

/-- Where an index of the other projection's block lies in its array, where some rows are in use. -/
theorem emb2 (hE : ∀ x : S40.Idx, ((tbl m 0 : IVec S40 32) x).toNat < 8) (c : Dev nD) (t : Fin (cfgM m hO).N) (hn : 0 < (A2 m c (ix1 (bno t))).toInt) (k : Fin 1024) (q : Fin 512) :
    (((cfgM m hO).win 2).blk t).view.emb (ix4 0 0 k q : S1x1x1024x512.Idx) = (ix4 0 (expert (A1 m c) (bno t)) k (unit t q) : S2x8x1024x3584.Idx) := by
  have f := hidden_eq t _ hn
  rw [← at_1 m c t] at f
  have g := expert_val m hE c (bno t)
  rw [← at_0 m c t] at g
  funext a; apply Fin.ext
  match a with
  | ⟨0, _⟩ => show 0 * 1 + 1 * 0 = 0; omega
  | ⟨1, _⟩ => show ((tbl m).at 0 (Rect.unit (s := S40) (k0_off1 (grid0.coords t)) S1.size (k0_off1_inb (grid0.coords t))) numel1_S1 : BitVec 32).toNat * 1 + 1 * 0 = (expert (A1 m c) (bno t)).val; omega
  | ⟨2, _⟩ => show 0 * 1024 + 1 * k.val = k.val; omega
  | ⟨3, _⟩ => show (Scalar.select (Scalar.cmpi .sgt ((tbl m).at 1 (Rect.unit (s := S40) (k0_off1 (grid0.coords t)) S1.size (k0_off1_inb (grid0.coords t))) numel1_S1 : BitVec 32) 0#32) (BitVec.ofNat 32 ((grid0.coords t) 1).val) 6#32).toNat * 512 + 1 * q.val = 512 * (t.val % 7) + q.val; omega

/-- Where an index of the output weights' block lies in its array, where some rows are in use. -/
theorem emb3 (hE : ∀ x : S40.Idx, ((tbl m 0 : IVec S40 32) x).toNat < 8) (c : Dev nD) (t : Fin (cfgM m hO).N) (hn : 0 < (A2 m c (ix1 (bno t))).toInt) (q : Fin 512) (j : Fin 1024) :
    (((cfgM m hO).win 3).blk t).view.emb (ix4 0 0 q j : S1x1x512x1024.Idx) = (ix4 0 (expert (A1 m c) (bno t)) (unit t q) j : S2x8x3584x1024.Idx) := by
  have f := hidden_eq t _ hn
  rw [← at_1 m c t] at f
  have g := expert_val m hE c (bno t)
  rw [← at_0 m c t] at g
  funext a; apply Fin.ext
  match a with
  | ⟨0, _⟩ => show 0 * 1 + 1 * 0 = 0; omega
  | ⟨1, _⟩ => show ((tbl m).at 0 (Rect.unit (s := S40) (k0_off1 (grid0.coords t)) S1.size (k0_off1_inb (grid0.coords t))) numel1_S1 : BitVec 32).toNat * 1 + 1 * 0 = (expert (A1 m c) (bno t)).val; omega
  | ⟨2, _⟩ => show (Scalar.select (Scalar.cmpi .sgt ((tbl m).at 1 (Rect.unit (s := S40) (k0_off1 (grid0.coords t)) S1.size (k0_off1_inb (grid0.coords t))) numel1_S1 : BitVec 32) 0#32) (BitVec.ofNat 32 ((grid0.coords t) 1).val) 6#32).toNat * 512 + 1 * q.val = 512 * (t.val % 7) + q.val; omega
  | ⟨3, _⟩ => show 0 * 1024 + 1 * j.val = j.val; omega

/-! What each input block holds, in terms of the argument arrays. -/

/-- The tokens' block at an index. -/
theorem iblk0_apply (c : Dev nD) (t : Fin (cfgM m hO).N) (R : Fin 8192) (l : Fin 128) : (iblk m hO c 0 t : Vec Ideal S8192x128 .f32) (ix2 R l) = A0 m c (ix2 (line t R) l) := by
  show V m c main_arg0 ((((cfgM m hO).win 0).blk t).view.emb (ix2 R l)) = _
  rw [emb0]

/-- The gate weights' block at an index, where some rows are in use. -/
theorem iblk1_apply (hE : ∀ x : S40.Idx, ((tbl m 0 : IVec S40 32) x).toNat < 8) (c : Dev nD) (t : Fin (cfgM m hO).N) (hn : 0 < (A2 m c (ix1 (bno t))).toInt) (k : Fin 1024) (q : Fin 512) :
    (iblk m hO c 1 t : Vec Ideal S1x1x1024x512 .f32) (ix4 0 0 k q) = A3 m c (ix4 0 (expert (A1 m c) (bno t)) k (unit t q)) := by
  show V m c main_arg3 ((((cfgM m hO).win 1).blk t).view.emb (ix4 0 0 k q)) = _
  rw [emb1 m hO hE c t hn k q]

/-- The other projection's block at an index, where some rows are in use. -/
theorem iblk2_apply (hE : ∀ x : S40.Idx, ((tbl m 0 : IVec S40 32) x).toNat < 8) (c : Dev nD) (t : Fin (cfgM m hO).N) (hn : 0 < (A2 m c (ix1 (bno t))).toInt) (k : Fin 1024) (q : Fin 512) :
    (iblk m hO c 2 t : Vec Ideal S1x1x1024x512 .f32) (ix4 0 0 k q) = A4 m c (ix4 0 (expert (A1 m c) (bno t)) k (unit t q)) := by
  show V m c main_arg4 ((((cfgM m hO).win 2).blk t).view.emb (ix4 0 0 k q)) = _
  rw [emb2 m hO hE c t hn k q]

/-- The output weights' block at an index, where some rows are in use. -/
theorem iblk3_apply (hE : ∀ x : S40.Idx, ((tbl m 0 : IVec S40 32) x).toNat < 8) (c : Dev nD) (t : Fin (cfgM m hO).N) (hn : 0 < (A2 m c (ix1 (bno t))).toInt) (q : Fin 512) (j : Fin 1024) :
    (iblk m hO c 3 t : Vec Ideal S1x1x512x1024 .f32) (ix4 0 0 q j) = A5 m c (ix4 0 (expert (A1 m c) (bno t)) (unit t q) j) := by
  show V m c main_arg5 ((((cfgM m hO).win 3).blk t).view.emb (ix4 0 0 q j)) = _
  rw [emb3 m hO hE c t hn q j]

/-- The tokens a row block's first point gathers. -/
theorem tokens_eq (c : Dev nD) (t : Fin (cfgM m hO).N) (r k : Fin 1024) : tokens (iblk m hO c 0 t) (ix2 r k) = token (A0 m c) (bno t) r k :=
  (tokens_apply (iblk m hO c 0 t) r k).trans (iblk0_apply m hO c t _ _)

/-- The sum of the first `n` hidden units' terms at row `r`, column `j` of a row block. -/
def part (c : Dev nD) (b : Fin 40) (r j : Fin 1024) (n : ℕ) : EReal :=
  Cert.Ffn.first (token (A0 m c) b r) (fun k q => A3 m c (ix4 0 (expert (A1 m c) b) k q)) (fun k q => A4 m c (ix4 0 (expert (A1 m c) b) k q))
    (fun q j => A5 m c (ix4 0 (expert (A1 m c) b) q j)) j n

/-- A point's accumulation in a row in use: over the row's token and the sum of the terms before, the sum with the point's terms. -/
theorem step (hE : ∀ x : S40.Idx, ((tbl m 0 : IVec S40 32) x).toNat < 8) (c : Dev nD) (t : Fin (cfgM m hO).N) (s0 : Vec Ideal S1024x1024 .bf16) (s1 : Vec Ideal S1024x1024 .f32) (r j : Fin 1024)
    (hr : (r.val : ℤ) < (A2 m c (ix1 (bno t))).toInt) (e0 : ∀ k, s0 (ix2 r k) = token (A0 m c) (bno t) r k) (e1 : s1 (ix2 r j) = part m c (bno t) r j (512 * (t.val % 7))) :
    add (word c (tbl m 1) (grid0.coords t)) s0 (iblk m hO c 1 t) (iblk m hO c 2 t) s1 (iblk m hO c 3 t) (ix2 r j) = part m c (bno t) r j (512 * (t.val % 7 + 1)) := by
  have hn : 0 < (A2 m c (ix1 (bno t))).toInt := by omega
  exact add_first s0 (iblk m hO c 1 t) (iblk m hO c 2 t) (iblk m hO c 3 t) s1 _ r j (by rw [word_eq]; exact hr) (t.val % 7) (Nat.mod_lt _ (by decide)) _ _ _ _ e0
    (fun k q => iblk1_apply m hO hE c t hn k q) (fun k q => iblk2_apply m hO hE c t hn k q) (fun q => iblk3_apply m hO hE c t hn q j) e1

/-- What the scratches hold after a point: the row block's tokens, and in its rows in use the terms of the hidden blocks up to the
    point's. -/
theorem held_apply (hE : ∀ x : S40.Idx, ((tbl m 0 : IVec S40 32) x).toNat < 8) (c : Dev nD) : ∀ (n : ℕ) (h : n < (cfgM m hO).N),
    (∀ r k : Fin 1024, (held m hO c n h).1 (ix2 r k) = token (A0 m c) (bno ⟨n, h⟩) r k)
    ∧ ∀ r j : Fin 1024, (r.val : ℤ) < (A2 m c (ix1 (bno ⟨n, h⟩))).toInt → (held m hO c n h).2 (ix2 r j) = part m c (bno ⟨n, h⟩) r j (512 * (n % 7 + 1))
  | n, h => by
    by_cases h0 : n % 7 = 0
    · rw [held_first m hO c ⟨n, h⟩ h0]
      refine ⟨fun r k => tokens_eq m hO c ⟨n, h⟩ r k, fun r j hr => step m hO hE c ⟨n, h⟩ _ _ r j hr (fun k => tokens_eq m hO c ⟨n, h⟩ r k) ?_⟩
      rw [pay2_apply]
      dsimp only
      rw [h0]
      exact (Cert.Ffn.first_zero _ _ _ _ _).symm
    · have hp : n - 1 < (cfgM m hO).N := Nat.lt_of_le_of_lt (Nat.sub_le _ _) h
      obtain ⟨p0, p1⟩ := held_apply hE c (n - 1) hp
      have hb : bno ⟨n - 1, hp⟩ = bno ⟨n, h⟩ := Fin.ext (by show (n - 1) / 7 = n / 7; omega)
      have hm : (n - 1) % 7 + 1 = n % 7 := by omega
      simp only [hb, hm] at p0 p1
      rw [held_next m hO c ⟨n, h⟩ h0]
      exact ⟨p0, fun r j hr => step m hO hE c ⟨n, h⟩ _ _ r j hr (p0 r) (p1 r j hr)⟩
  termination_by n => n
  decreasing_by omega

/-- The result array in the rows in use, as the launch's argument arrays determine it. -/
def GM (c : Dev nD) : Vec Ideal S327680x128 .f32 := G (A0 m c) (A1 m c) (A3 m c) (A4 m c) (A5 m c)

/-- What the last point of a row block leaves for the output is, in the rows in use, the layer's. -/
theorem out_apply (hE : ∀ x : S40.Idx, ((tbl m 0 : IVec S40 32) x).toNat < 8) (c : Dev nD) (t : Fin (cfgM m hO).N) (h6 : t.val % 7 = 6) (R : Fin 8192) (l : Fin 128)
    (hr : InUse (A2 m c) (ix2 (line t R) l)) : spread (held m hO c t.val t.isLt).2 (ix2 R l) = GM m c (ix2 (line t R) l) := by
  have hb : blockOf (line t R) = bno t := Fin.ext (by show (8192 * (t.val / 7) + R.val) / 8192 = t.val / 7; omega)
  have hw : rowOf (line t R) = (⟨R.val / 8, by omega⟩ : Fin 1024) := Fin.ext (by show (8192 * (t.val / 7) + R.val) % 8192 / 8 = R.val / 8; omega)
  have hc : colOf (line t R) l = (⟨128 * (R.val % 8) + l.val, by omega⟩ : Fin 1024) := Fin.ext (by show 128 * ((8192 * (t.val / 7) + R.val) % 8) + l.val = 128 * (R.val % 8) + l.val; omega)
  unfold InUse at hr
  rw [spread_apply]
  show _ = layer _ _ _ _ _ (blockOf (line t R)) (rowOf (line t R)) (colOf (line t R) l)
  have hr : ((rowOf (line t R)).val : ℤ) < (A2 m c (ix1 (blockOf (line t R)))).toInt := hr
  rw [hb, hw] at hr
  rw [hb, hw, hc, (held_apply m hO hE c t.val t.isLt).2 _ _ hr, h6]
  exact Cert.Ffn.first_all _ _ _ _ _

/-- Every index of the result array is in the block written back at its row block's last point. -/
theorem covered4 (i : S327680x128.Idx) : ∃ t : Fin (cfgM m hO).N, ((cfgM m hO).win 4).flush t = true ∧ i ∈ (((cfgM m hO).win 4).blk t).view.set := by
  idx_vars i
  obtain ⟨t, R, hr, ht⟩ : ∃ (t : Fin (cfgM m hO).N) (R : Fin 8192), line t R = i0 ∧ t.val % 7 = 6 :=
    ⟨⟨7 * (i0.val / 8192) + 6, by show 7 * (i0.val / 8192) + 6 < 280; omega⟩, ⟨i0.val % 8192, by omega⟩,
      Fin.ext (by show 8192 * ((7 * (i0.val / 8192) + 6) / 7) + i0.val % 8192 = i0.val; omega), by show (7 * (i0.val / 8192) + 6) % 7 = 6; omega⟩
  refine ⟨t, (flush_4 (adm m hO) t).mpr ht, ?_⟩
  have h := (((cfgM m hO).win 4).blk t).view.emb_mem_set (ix2 R i1 : S8192x128.Idx)
  rw [emb4] at h
  subst hr
  exact h

/-- An index of a block is its two coordinates. -/
theorem pair (y : S8192x128.Idx) : ∃ (R : Fin 8192) (l : Fin 128), y = ix2 R l :=
  ⟨y 0, y 1, by funext a; match a with | ⟨0, _⟩ => rfl | ⟨1, _⟩ => rfl⟩

/-- The result array after the run is, in the rows in use, the layer of the argument arrays. -/
theorem final4 (hE : ∀ x : S40.Idx, ((tbl m 0 : IVec S40 32) x).toNat < 8) (c : Dev nD) (i : S327680x128.Idx) (hi : InUse (A2 m c) i) : (dats m hO 0 c).arrAt 4 (cfgM m hO).N i = GM m c i := by
  refine (dats m hO 0 c).arrAt_forall_of_cover 4 (fun i v => InUse (A2 m c) i → v = GM m c i) (fun t hf y => ?_) (covered4 m hO) i hi
  have h6 := (flush_4 (adm m hO) t).mp hf
  obtain ⟨R, l, rfl⟩ : ∃ (R : Fin 8192) (l : Fin 128), y = (ix2 R l : S8192x128.Idx) := pair y
  rw [emb4]
  intro hu
  exact (show _ = ((dats m hO 0 c).after 4 t : Vec Ideal S8192x128 .f32) (ix2 R l) from rfl).trans
    ((congrFun (after_4 m hO c t) (ix2 R l)).trans (out_apply m hO hE c t h6 R l hu))

end Blocks

/-- The run, where every expert named is one of the eight: the result array in its rows in use at its function of the arguments, the
    arguments unchanged. -/
theorem run (hE : ∀ x : S40.Idx, ((tbl m 0 : IVec S40 32) x).toNat < 8) : θ_run defs (onTc (τ := τ) (main (F := Ideal))) ⟨m, fun _ => 0, ρ⟩ fun r => ∀ c : Dev nD,
      (∀ i : S327680x128.Idx, InUse (A2 m c) i → (r.2.mem ((c : Thread nD τ).loc main_v0) : Vec Ideal S327680x128 .f32) i = GM m c i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  have hO := ok_of m hE
  (θ_run defs _ _).mono (fun r h c => ⟨fun i hi => (congrFun ((h.1 c).1 4) i).trans (final4 m hO hE c i hi), args_of m hO h.1 c⟩) (run_main m ρ hO)

end Cert.Kernel3Ideal.Moe

end
-- ==== Proof.MoeRef.lean ====
/- The routed feed-forward reference's result array is the layer of the argument arrays, and its mask is the rows in use. -/
module

public import proofs.«01_k».proof.Proof.MoeArray
public import proofs.«01_k».proof.Proof.Gen.Reference3Ideal.Read
public import Idealize.ShloMosaic.Lib.StableHlo.Predicate
public import Idealize.ShloMosaic.Lib.Pointwise

@[expose] public section

set_option maxRecDepth 16384

noncomputable section

namespace Cert.Reference3Ideal.Moe

open Cert.Reference3Ideal Cert.Reference3Ideal.Gen Cert.Reference3Ideal.Read Idealize.ShloMosaic Idealize.ShloMosaic.TcCoe Idealize.SL.Sem

/-- The dimension numbers of taking whole matrices of a stack of eight, by a list of forty numbers. -/
abbrev stackDims (M N : ℕ) (wf : GatherDims.WF ⟨3, ![8, M, N]⟩ ⟨2, ![40, 1]⟩ ⟨3, ![40, M, N]⟩ [1, 2] [0] [] [0] [] 1 ![1, M, N]) :
    GatherDims ⟨3, ![8, M, N]⟩ ⟨2, ![40, 1]⟩ ⟨3, ![40, M, N]⟩ where
  offsetDims := [1, 2]
  collapsedSliceDims := [0]
  operandBatchingDims := []
  startIndicesBatchingDims := []
  startIndexMap := [0]
  indexVectorDim := 1
  sliceSizes := ![1, M, N]
  wf := wf

/-- Where the list names matrix `e`, the matrix taken is it. -/
theorem gather_stack {M N : ℕ} (wf : GatherDims.WF ⟨3, ![8, M, N]⟩ ⟨2, ![40, 1]⟩ ⟨3, ![40, M, N]⟩ [1, 2] [0] [] [0] [] 1 ![1, M, N])
    (x : (⟨3, ![8, M, N]⟩ : Shape).Idx → EReal) (idx : IVec ⟨2, ![40, 1]⟩ 32) (b : Fin 40) (p : Fin M) (q : Fin N) (e : Fin 8)
    (he : (idx (ix2 b 0)).toNat = e.val) : Host.gather (stackDims M N wf) x idx (ix3 b p q) = x (ix3 e p q) := by
  unfold Host.gather
  refine congrArg x (funext fun a => Fin.ext ?_)
  show (stackDims M N wf).start (ix3 b p q) idx a + (stackDims M N wf).batchCoord (ix3 b p q) a + (stackDims M N wf).offCoord (ix3 b p q) a = _
  rw [GatherDims.batchCoord_eq_zero _ _ _ List.not_mem_nil, Nat.add_zero]
  have other : ∀ a : Fin 3, a ≠ 0 → (stackDims M N wf).start (ix3 b p q) idx a = 0 := by
    intro a ha
    unfold GatherDims.start
    rw [dif_neg (fun h => ha (List.mem_singleton.mp h))]
  have first : (stackDims M N wf).start (ix3 b p q) idx (0 : Fin 3) = e.val := by
    unfold GatherDims.start
    rw [dif_pos (show (0 : Fin 3) ∈ (stackDims M N wf).startIndexMap from List.mem_singleton.mpr rfl)]
    have hs : (stackDims M N wf).siIdx (ix3 b p q) ⟨List.idxOf (0 : Fin 3) (stackDims M N wf).startIndexMap, List.idxOf_lt_length_iff.2 (List.mem_singleton.mpr rfl)⟩ = ix2 b 0 := by
      funext c; refine Fin.ext ?_
      match c with
      | ⟨0, _⟩ => rfl
      | ⟨1, _⟩ => rfl
    have hl := e.isLt
    have hi := StableHlo.Predicate.toInt_eq_toNat_of_lt (a := idx (ix2 b 0)) (by omega)
    show min ((idx ((stackDims M N wf).siIdx (ix3 b p q) _)).toInt.toNat) (8 - 1) = e.val
    rw [hs, hi]
    omega
  match a with
  | ⟨0, _⟩ =>
    rw [GatherDims.offCoord_eq_zero _ _ _ (fun h => ((GatherDims.mem_sKept _ _).mp h).1 (List.mem_singleton.mpr rfl)), Nat.add_zero]
    exact first
  | ⟨1, _⟩ => exact (congrArg (· + _) (other 1 (by decide))).trans (Nat.zero_add _)
  | ⟨2, _⟩ => exact (congrArg (· + _) (other 2 (by decide))).trans (Nat.zero_add _)

/-- A number below eight is not negative, and stays itself where negative numbers are counted from the end. -/
theorem wrap (w : BitVec 32) (h : w.toNat < 8) : Scalar.select (IntOp.cmpi .slt w 0#32) (IntOp.addi w 8#32) w = w := by
  unfold Scalar.select
  refine if_neg fun hc => ?_
  have hc : BitVec.ofBool (w.slt 0#32) = 1#1 := hc
  rw [StableHlo.Predicate.ofBool_eq_one_iff, BitVec.slt_eq_decide, decide_eq_true_eq, StableHlo.Predicate.toInt_eq_toNat_of_lt (by omega)] at hc
  have : (0#32 : BitVec 32).toInt = 0 := by decide
  omega

section Weights
variable (x1 : IVec S40 32) (b : Fin 40)

/-- The expert list the weights are taken by. -/
theorem index_apply (h : (x1 (ix1 b)).toNat < 8) : val_main_v8 (F := Ideal) x1 (ix2 b 0) = x1 (ix1 b) := by
  unfold val_main_v8 val_main_v7 val_main_v6 val_main_v5 val_main_v4 val_main_v3 val_main_c val_main_c_0
  pointwise
  exact wrap _ h

/-- It names the row block's expert. -/
theorem index_val (h : (x1 (ix1 b)).toNat < 8) : (val_main_v8 (F := Ideal) x1 (ix2 b 0)).toNat = (Cert.Kernel3Ideal.Moe.expert x1 b).val := by
  rw [index_apply x1 b h]
  show _ = min (x1 (ix1 b)).toNat 7
  omega

/-- The first layer's input weights. -/
theorem v2_apply (x3 : Vec Ideal S2x8x1024x3584 .f32) (e : Fin 8) (k : Fin 1024) (q : Fin 3584) : val_main_v2 (F := Ideal) x3 (ix3 e k q) = x3 (ix4 0 e k q) := by
  unfold val_main_v2 val_main_v1
  pointwise

/-- The first layer's output weights. -/
theorem v20_apply (x5 : Vec Ideal S2x8x3584x1024 .f32) (e : Fin 8) (q : Fin 3584) (j : Fin 1024) : val_main_v20 (F := Ideal) x5 (ix3 e q j) = x5 (ix4 0 e q j) := by
  unfold val_main_v20 val_main_v19
  pointwise

/-- The input weights a row block uses are its expert's. -/
theorem v9_apply (h : (x1 (ix1 b)).toNat < 8) (x3 : Vec Ideal S2x8x1024x3584 .f32) (k : Fin 1024) (q : Fin 3584) :
    val_main_v9 (F := Ideal) x1 x3 (ix3 b k q) = x3 (ix4 0 (Cert.Kernel3Ideal.Moe.expert x1 b) k q) := by
  unfold val_main_v9
  exact (gather_stack gather_S8x1024x3584_S40x1_S40x1024x3584_12_0_n_n_0_1_110243584.wf (val_main_v2 (F := Ideal) x3) (val_main_v8 (F := Ideal) x1) b k q _ (index_val x1 b h)).trans (v2_apply x3 _ k q)

/-- The output weights a row block uses are its expert's. -/
theorem v27_apply (h : (x1 (ix1 b)).toNat < 8) (x5 : Vec Ideal S2x8x3584x1024 .f32) (q : Fin 3584) (j : Fin 1024) :
    val_main_v27 (F := Ideal) x1 x5 (ix3 b q j) = x5 (ix4 0 (Cert.Kernel3Ideal.Moe.expert x1 b) q j) := by
  unfold val_main_v27
  exact (gather_stack gather_S8x3584x1024_S40x1_S40x3584x1024_12_0_n_n_0_1_135841024.wf (val_main_v20 (F := Ideal) x5) (val_main_v26 (F := Ideal) x1) b q j _ (index_val x1 b h)).trans (v20_apply x5 _ q j)

end Weights

section Layer
variable (x0 : Vec Ideal S327680x128 .f32) (x1 : IVec S40 32) (b : Fin 40) (h : (x1 (ix1 b)).toNat < 8)
variable (x3 x4 : Vec Ideal S2x8x1024x3584 .f32) (x5 : Vec Ideal S2x8x3584x1024 .f32)

/-- The tokens, each as one row. -/
theorem v0_apply (r k : Fin 1024) : val_main_v0 (F := Ideal) x0 (ix3 b r k) = Cert.Kernel3Ideal.Moe.token x0 b r k := by
  unfold val_main_v0
  refine shapeCast_apply _ _ _ _ ?_
  rw [Shape.rowMajor_val_three, Shape.rowMajor_val_two]
  show (8192 * b.val + (8 * r.val + k.val / 128)) * 128 + k.val % 128 = (b.val * 1024 + r.val) * 1024 + k.val
  omega

include h in
/-- A projection of a token by its expert's input weights. -/
theorem v28_apply (r : Fin 1024) (q : Fin 3584) : val_main_v28 (F := Ideal) x0 x1 x3 (ix3 b r q)
    = ∑ k, Cert.Kernel3Ideal.Moe.token x0 b r k * x3 (ix4 0 (Cert.Kernel3Ideal.Moe.expert x1 b) k q) := by
  unfold val_main_v28
  pointwise [v0_apply, v9_apply x1 b h]

/-- The gate times its logistic. -/
theorem v29_apply (r : Fin 1024) (q : Fin 3584) : val_main_v29 (F := Ideal) x0 x1 x3 (ix3 b r q)
    = val_main_v28 (F := Ideal) x0 x1 x3 (ix3 b r q) * Ideal.logistic (val_main_v28 (F := Ideal) x0 x1 x3 (ix3 b r q)) := by
  unfold val_main_v29 val_main_call0_v5 val_main_call0_v4 val_main_call0_v3 val_main_call0_v2 val_main_call0_v1 val_main_call0_v0 val_main_call0_cst val_main_call0_cst_0
  generalize val_main_v28 (F := Ideal) x0 x1 x3 = g
  pointwise [Ideal.hostNegf_def]
  rfl

/-- The other projection is the gate's, by other weights. -/
theorem v30_eq : val_main_v30 (F := Ideal) x0 x1 x4 = val_main_v28 (F := Ideal) x0 x1 x4 := rfl

include h in
/-- The hidden units. -/
theorem v31_apply (r : Fin 1024) (q : Fin 3584) : val_main_v31 (F := Ideal) x0 x1 x3 x4 (ix3 b r q)
    = Cert.Ffn.hidden (Cert.Kernel3Ideal.Moe.token x0 b r) (fun k q => x3 (ix4 0 (Cert.Kernel3Ideal.Moe.expert x1 b) k q))
        (fun k q => x4 (ix4 0 (Cert.Kernel3Ideal.Moe.expert x1 b) k q)) q := by
  unfold val_main_v31
  rw [v30_eq]
  pointwise [v29_apply x0 x1 b, v28_apply x0 x1 b h]
  rfl

include h in
/-- The layer at a row block's token. -/
theorem v32_apply (r j : Fin 1024) : val_main_v32 (F := Ideal) x0 x1 x3 x4 x5 (ix3 b r j) = Cert.Kernel3Ideal.Moe.layer x0 x1 x3 x4 x5 b r j := by
  unfold val_main_v32
  pointwise [v31_apply x0 x1 b h, v27_apply x1 b h]
  rfl

end Layer

/-- Where a lane of the array lies among the row blocks' tokens. -/
theorem place (R : Fin 327680) (l : Fin 128) :
    (S40x1024x1024.rowMajor (ix3 (Cert.Kernel3Ideal.Moe.blockOf R) (Cert.Kernel3Ideal.Moe.rowOf R) (Cert.Kernel3Ideal.Moe.colOf R l))).val
      = (S327680x128.rowMajor (ix2 R l)).val := by
  rw [Shape.rowMajor_val_three, Shape.rowMajor_val_two]
  show (R.val / 8192 * 1024 + R.val % 8192 / 8) * 1024 + (128 * (R.val % 8) + l.val) = R.val * 128 + l.val
  omega

/-- The reference's result array is the layer of the argument arrays, where every expert named is one of the eight. -/
theorem v33_apply (x0 : Vec Ideal S327680x128 .f32) (x1 : IVec S40 32) (h : ∀ b, (x1 (ix1 b)).toNat < 8) (x3 x4 : Vec Ideal S2x8x1024x3584 .f32)
    (x5 : Vec Ideal S2x8x3584x1024 .f32) (R : Fin 327680) (l : Fin 128) :
    val_main_v33 (F := Ideal) x0 x1 x3 x4 x5 (ix2 R l) = Cert.Kernel3Ideal.Moe.G x0 x1 x3 x4 x5 (ix2 R l) := by
  unfold val_main_v33
  exact (shapeCast_apply _ _ _ _ (place R l)).trans (v32_apply x0 x1 _ (h _) x3 x4 x5 _ _)

end Cert.Reference3Ideal.Moe

end
-- ==== Proof.MoeClaims.lean ====
/- The claims about the routed feed-forward layer. -/
module

public import proofs.«01_k».proof.Defs
public import proofs.«01_k».proof.Proof.Gen.Kernel3
public import proofs.«01_k».proof.Proof.Gen.On_rows_in_use
public import proofs.«01_k».proof.Proof.MoeArray
public import proofs.«01_k».proof.Proof.MoeRef
public import Idealize.ShloMosaic.Lib.StableHlo.Predicate

@[expose] public section

set_option maxRecDepth 16384

noncomputable section

namespace Cert.Proof.Moe

open Idealize.ShloMosaic Idealize.SL.Sem Idealize.ShloMosaic.TcCoe

/-- A word at least zero and below eight, both signed, is below eight. -/
theorem word_lt (w : BitVec 32) (h : IntOp.cmpi .sge w 0#32 &&& IntOp.cmpi .slt w 8#32 = 1#1) : w.toNat < 8 := by
  have h : IntOp.cmpi .sge w 0#32 = 1#1 ∧ IntOp.cmpi .slt w 8#32 = 1#1 := by
    revert h
    generalize IntOp.cmpi .sge w 0#32 = a
    generalize IntOp.cmpi .slt w 8#32 = b
    revert a b
    decide
  simp only [IntOp.cmpi, StableHlo.Predicate.ofBool_eq_one_iff, BitVec.sle, BitVec.slt, decide_eq_true_eq, show (0#32 : BitVec 32).toInt = 0 from by decide, show (8#32 : BitVec 32).toInt = 8 from by decide] at h
  obtain ⟨h0, h8⟩ := h
  rw [BitVec.toInt_eq_toNat_cond] at h0 h8
  split at h0 <;> omega

/-- The precondition: every expert named is one of the eight. -/
theorem experts {F : FTy → Type} [FloatOps F] (a0 : FVec F Cert.Kernel3Ideal.S327680x128 .f32) (a1 a2 : IVec Cert.Kernel3Ideal.S40 32)
    (a3 a4 : FVec F Cert.Kernel3Ideal.S2x8x1024x3584 .f32) (a5 : FVec F Cert.Kernel3Ideal.S2x8x3584x1024 .f32)
    (h : Cert.Pre_experts_named.fn a0 a1 a2 a3 a4 a5 = fun _ => 1#1) (x : Cert.Kernel3Ideal.S40.Idx) : (a1 x).toNat < 8 :=
  word_lt _ (congrFun h x)

/-- The kernel and its idealization are printed with one body, -/
theorem body_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

/-- one pipeline, -/
theorem defs_eq : Cert.Kernel3.defs (F := Bits) = Cert.Kernel3Ideal.defs (F := Bits) := by
  unfold Cert.Kernel3.defs Cert.Kernel3Ideal.defs
  rw [body_eq]
  rfl

/-- and one program. -/
theorem main_eq : Cert.Kernel3.main (F := Bits) = Cert.Kernel3Ideal.main (F := Bits) := rfl

/-- What every execution of a program ends in, every execution of an equal one does. -/
theorem transport {D D' : Defs Cert.Kernel3Ideal.nD Cert.Kernel3Ideal.τ Cert.Kernel3Ideal.sig (Elt Bits) (Pipeline.Sig Cert.Kernel3Ideal.Λ₀ (Fin 1) fun p => (Cert.Kernel3Ideal.pcfgs (F := Bits) p).Adm)}
    {M M' : Dev Cert.Kernel3Ideal.nD → Prog (TpuEff Cert.Kernel3Ideal.nD Cert.Kernel3Ideal.τ Cert.Kernel3Ideal.sig (Elt Bits) (Pipeline.Sig Cert.Kernel3Ideal.Λ₀ (Fin 1) fun p => (Cert.Kernel3Ideal.pcfgs (F := Bits) p).Adm) .tc) PUnit}
    (hD : D' = D) (hM : M' = M) (s : MemSt Cert.Kernel3Ideal.nD Cert.Kernel3Ideal.τ Cert.Kernel3Ideal.sig (Elt Bits))
    (P : PUnit × MemSt Cert.Kernel3Ideal.nD Cert.Kernel3Ideal.τ Cert.Kernel3Ideal.sig (Elt Bits) → Prop)
    (h : θ_run D (onTc (τ := Cert.Kernel3Ideal.τ) M) s P) : θ_run D' (onTc (τ := Cert.Kernel3Ideal.τ) M') s P := by
  subst hD hM
  exact h

/-- The kernel runs from any launch that names experts among the eight, and leaves its arguments and semaphores as they were. -/
theorem frame_kernel : Cert.quiescent_Kernel3 := fun m g h =>
  transport defs_eq main_eq _ _ (Cert.Kernel3Ideal.Moe.frame (F := Bits) m g (Cert.Kernel3Ideal.Moe.ok_of m (experts _ _ _ _ _ _ (h 0))))

/-- So does its idealization. -/
theorem frame_ideal : Cert.quiescent_Kernel3Ideal := fun m g h =>
  Cert.Kernel3Ideal.Moe.frame m g (Cert.Kernel3Ideal.Moe.ok_of m (experts _ _ _ _ _ _ (h 0)))

/-- The reference runs from any launch and leaves its arguments and semaphores as they were. -/
theorem frame_reference : Cert.quiescent_Reference3Ideal := fun m g _ =>
  (θ_run Cert.Reference3Ideal.defs _ _).mono (fun r h => And.intro (fun c => (h c).2) (sem_eq_zero_of_no_sems (by decide) r.2))
    (Cert.Reference3Ideal.Value.run m g)

/-- In particular from one that names experts among the eight. -/
theorem frame_reference_named : Cert.quiescent_Reference3Ideal_pre_experts_named := fun m g _ => frame_reference m g trivial

/-- Where the mask is set the row is in use. -/
theorem in_use (a0 : Vec Ideal Cert.Kernel3Ideal.S327680x128 .f32) (a1 a2 : IVec Cert.Kernel3Ideal.S40 32) (a3 a4 : Vec Ideal Cert.Kernel3Ideal.S2x8x1024x3584 .f32)
    (a5 : Vec Ideal Cert.Kernel3Ideal.S2x8x3584x1024 .f32) (i : Cert.Kernel3Ideal.S327680x128.Idx)
    (h : Cert.On_rows_in_use.fn (F := Ideal) a0 a1 a2 a3 a4 a5 i = 1#1) : Cert.Kernel3Ideal.Moe.InUse a2 i := by
  revert h
  idx_vars i
  intro h
  unfold Cert.On_rows_in_use.fn at h
  have h := (shapeCast_apply _ _ _ _ (Cert.Reference3Ideal.Moe.place i0 i1)).symm.trans h
  have h : BitVec.ofBool ((BitVec.ofNat 32 (Cert.Kernel3Ideal.Moe.rowOf i0).val).slt (a2 (ix1 (Cert.Kernel3Ideal.Moe.blockOf i0)))) = 1#1 := by
    refine Eq.trans ?_ h
    pointwise
    rfl
  rw [StableHlo.Predicate.ofBool_eq_one_iff, BitVec.slt_eq_decide, decide_eq_true_eq] at h
  have hr := (Cert.Kernel3Ideal.Moe.rowOf i0).isLt
  rw [StableHlo.Predicate.toInt_eq_toNat_of_lt (by rw [BitVec.toNat_ofNat]; omega), BitVec.toNat_ofNat, Nat.mod_eq_of_lt (by omega)] at h
  exact h

/-- The reference's result array is the same function of the arguments as the kernel's. -/
theorem reference_value (a0 : Vec Ideal Cert.Kernel3Ideal.S327680x128 .f32) (a1 : IVec Cert.Kernel3Ideal.S40 32) (h : ∀ x, (a1 x).toNat < 8)
    (a3 a4 : Vec Ideal Cert.Kernel3Ideal.S2x8x1024x3584 .f32) (a5 : Vec Ideal Cert.Kernel3Ideal.S2x8x3584x1024 .f32) :
    Cert.Reference3Ideal.Read.val_main_v33 (F := Ideal) a0 a1 a3 a4 a5 = Cert.Kernel3Ideal.Moe.G a0 a1 a3 a4 a5 := by
  funext i
  idx_vars i
  exact Cert.Reference3Ideal.Moe.v33_apply a0 a1 (fun b => h _) a3 a4 a5 i0 i1

/-- Over the extended reals, launched with experts among the eight, the kernel and the reference end with one result array in the rows in use. -/
theorem value : Cert.algebraic_Kernel3Ideal_Reference3Ideal_on_rows_in_use := by
  intro m g m' g' pre same
  have hE := fun c => experts _ _ _ _ _ _ (pre c)
  refine ⟨fun c => Cert.Kernel3Ideal.Moe.GM m c, ?_, ?_⟩
  · exact (θ_run Cert.Kernel3Ideal.defs _ _).mono (fun r h c => And.intro (fun i hi => (h c).1 i (in_use _ _ _ _ _ _ i hi)) (h c).2)
      (Cert.Kernel3Ideal.Moe.run m g (hE 0))
  · refine (θ_run Cert.Reference3Ideal.defs _ _).mono (fun r h c => And.intro (fun i _ => ?_) (h c).2) (Cert.Reference3Ideal.Value.run (F := Ideal) m' g')
    obtain ⟨e0, e1, e2, e3, e4, e5⟩ := same c
    rw [(h c).1, Cert.Reference3Ideal.Read.val_main_v33_eq, e0, e1, e3, e4, e5]
    exact congrFun (reference_value _ _ (hE c) _ _ _) i

end Cert.Proof.Moe

end
-- ==== Proof.PoolMath.lean ====
/- The mathematics of the pooling mixer over the extended reals: each position's average of the trailing projections less its own, and
   the same sums as differences of running sums, where the projections are finite. -/
module

public import proofs.«01_k».proof.Proof.GmlpMath
public import Idealize.ShloMosaic.Lib.Pointwise

@[expose] public section

set_option maxRecDepth 16384

noncomputable section

namespace Cert.Pool

open Idealize.ShloMosaic

/-- A value that is a real number. -/
def IsReal (x : EReal) : Prop := ∃ r : ℝ, x = (r : EReal)

/-- A sum of real numbers is one. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

/-- A product of real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- What is absolutely below infinity is a real number. -/
theorem IsReal.of_abs {x : EReal} (h : max x (-x) < ⊤) : IsReal x := by
  induction x using EReal.rec with
  | bot => simp at h
  | top => simp at h
  | coe r => exact ⟨r, rfl⟩

/-- A square is not negative. -/
theorem sq_nonneg (x : EReal) : 0 ≤ x * x := by
  induction x using EReal.rec with
  | bot => simp
  | top => simp
  | coe r =>
    rw [← EReal.coe_mul]
    exact EReal.coe_nonneg.mpr (mul_self_nonneg r)

/-- A sum of squares is a real number that is not negative, or infinite. -/
theorem sum_sq (x : Fin 1024 → EReal) : (∃ r : ℝ, 0 ≤ r ∧ (∀ i, IsReal (x i)) ∧ ∑ i, x i * x i = (r : EReal)) ∨ ∑ i, x i * x i = ⊤ := by
  by_cases hx : ∀ i, IsReal (x i)
  · left
    have h0 : 0 ≤ ∑ i, x i * x i := Finset.sum_nonneg fun i _ => sq_nonneg (x i)
    obtain ⟨r, hr⟩ := IsReal.sum Finset.univ (fun i => x i * x i) fun i => (hx i).mul (hx i)
    exact ⟨r, by rw [hr] at h0; exact EReal.coe_nonneg.mp h0, hx, hr⟩
  · right
    obtain ⟨i, hi⟩ := not_forall.mp hx
    have hs : x i * x i = ⊤ := by
      revert hi
      generalize x i = y
      intro hi
      induction y using EReal.rec with
      | bot => simp
      | top => simp
      | coe r => exact absurd ⟨r, rfl⟩ hi
    rw [← Finset.add_sum_erase _ _ (Finset.mem_univ i), hs]
    refine EReal.top_add_of_ne_bot fun hb => ?_
    have h0 : 0 ≤ ∑ j ∈ Finset.univ.erase i, x j * x j := Finset.sum_nonneg fun j _ => sq_nonneg (x j)
    rw [hb] at h0
    exact absurd h0 (by simp)

/-- The root-mean-square normalization with a real gain is real. The mean of squares is not negative and what is added to it is positive;
    and where the row holds an infinity the root is infinite, so the normalized row is zero. -/
theorem IsReal.rms (x g : Fin 1024 → EReal) (hg : ∀ k, IsReal (g k)) (k : Fin 1024) : IsReal (Cert.Gmlp.rms x g k) := by
  have hn : Ideal.ofBits .f32 0x44800000#32 = ((1024 : ℝ) : EReal) := by
    simp only [Ideal.ofBits, Ideal.ieee]
    simp
    rw [← EReal.coe_mul]
    norm_num
  have he : ∃ e : ℝ, 0 < e ∧ Ideal.ofBits .f32 0x358637BD#32 = (e : EReal) := by
    refine ⟨8796093 * (2 : ℝ) ^ (-43 : Int), by positivity, ?_⟩
    simp [Ideal.ofBits, Ideal.ieee]
  obtain ⟨e, he0, he⟩ := he
  unfold Cert.Gmlp.rms
  rcases sum_sq x with ⟨r, hr0, hx, hr⟩ | hr
  · rw [hr, hn, he]
    have hd : Ideal.div (r : EReal) ((1024 : ℝ) : EReal) = ((r / 1024 : ℝ) : EReal) := by
      unfold Ideal.div
      rw [if_neg (by norm_num), ← EReal.coe_inv, ← EReal.coe_mul, div_eq_mul_inv]
    rw [hd, ← EReal.coe_add]
    have hs : IsReal (Ideal.rsqrt ((r / 1024 + e : ℝ) : EReal)) := by
      have hp : 0 < r / 1024 + e := by positivity
      refine ⟨(Real.sqrt (r / 1024 + e))⁻¹, ?_⟩
      show (if r / 1024 + e < 0 then ⊥ else if r / 1024 + e = 0 then ⊤ else (((Real.sqrt (r / 1024 + e))⁻¹ : ℝ) : EReal)) = _
      rw [if_neg (not_lt.mpr hp.le), if_neg hp.ne']
    exact ((hx k).mul hs).mul (hg k)
  · rw [hr, hn, he]
    have hd : Ideal.div ⊤ ((1024 : ℝ) : EReal) = ⊤ := by
      unfold Ideal.div
      rw [if_neg (by norm_num), ← EReal.coe_inv]
      exact EReal.top_mul_coe_of_pos (by norm_num)
    rw [hd, EReal.top_add_coe, Ideal.rsqrt_top, mul_zero, zero_mul]
    exact ⟨0, rfl⟩

/-- The sum of a sequence's `w` entries up to `s`, none before its first. -/
def wsum (p : ℕ → EReal) (s w : ℕ) : EReal := ∑ d ∈ Finset.range w, if d ≤ s then p (s - d) else 0

/-- The running sum of a sequence. -/
def csum (p : ℕ → EReal) (s : ℕ) : EReal := ∑ n ∈ Finset.range (s + 1), p n

/-- The sum over a window as the difference of two running sums, the entries being real numbers. -/
theorem csum_sub (p : ℕ → EReal) (hp : ∀ n, IsReal (p n)) (s w : ℕ) : csum p s - (if w ≤ s then csum p (s - w) else 0) = wsum p s w := by
  by_cases h : w ≤ s
  · rw [if_pos h]
    have hw : wsum p s w = ∑ x ∈ Finset.range w, p (s - w + 1 + x) := by
      rw [← Finset.sum_range_reflect]
      unfold wsum
      refine Finset.sum_congr rfl fun d hd => ?_
      have := Finset.mem_range.mp hd
      rw [if_pos (by omega)]
      exact congrArg p (by omega)
    have hc : csum p s = csum p (s - w) + wsum p s w := by
      rw [hw]
      unfold csum
      rw [← Finset.sum_range_add, show s - w + 1 + w = s + 1 by omega]
    obtain ⟨a, ha⟩ : IsReal (csum p (s - w)) := IsReal.sum _ _ hp
    obtain ⟨b, hb⟩ : IsReal (wsum p s w) := by rw [hw]; exact IsReal.sum _ _ fun _ => hp _
    rw [hc, ha, hb, ← EReal.coe_add, ← EReal.coe_sub, add_sub_cancel_left]
  · rw [if_neg h, sub_zero]
    unfold wsum csum
    obtain ⟨k, rfl⟩ : ∃ k, w = (s + 1) + k := ⟨w - (s + 1), by omega⟩
    have hr : ∑ n ∈ Finset.range (s + 1), p n = ∑ d ∈ Finset.range (s + 1), p (s + 1 - 1 - d) := (Finset.sum_range_reflect p (s + 1)).symm
    rw [hr, Finset.sum_range_add (n := s + 1) (m := k)]
    have hz : ∑ x ∈ Finset.range k, (if s + 1 + x ≤ s then p (s - (s + 1 + x)) else 0) = 0 :=
      Finset.sum_eq_zero fun x _ => if_neg (by omega)
    rw [hz, add_zero]
    refine Finset.sum_congr rfl fun d hd => ?_
    have := Finset.mem_range.mp hd
    rw [if_pos (by omega)]
    exact congrArg p (by omega)

/-- A window of twice the width: the two windows of the width, added. -/
theorem run_double (a : ℕ → EReal) (n w : ℕ) :
    (∑ d ∈ Finset.range w, a (w + n + d)) + ∑ d ∈ Finset.range w, a (n + d) = ∑ d ∈ Finset.range (w + w), a (n + d) := by
  rw [Finset.sum_range_add, add_comm]
  refine congrArg (_ + ·) (Finset.sum_congr rfl fun d _ => congrArg a (by omega))

/-- A run of `w` rows of a block that begins sixteen rows early, those before the sequence's start read as zero: the window's sum. -/
theorem run_wsum (p : ℕ → EReal) (t0 r w : ℕ) (hw : w ≤ 16) :
    (∑ d ∈ Finset.range w, if 16 ≤ t0 + (r + 17 - w + d) then p (t0 + (r + 17 - w + d) - 16) else 0) = wsum p (t0 + r) w := by
  unfold wsum
  rw [← Finset.sum_range_reflect]
  refine Finset.sum_congr rfl fun d hd => ?_
  have := Finset.mem_range.mp hd
  by_cases h : d ≤ t0 + r
  · rw [if_pos h, if_pos (by omega)]
    exact congrArg p (by omega)
  · rw [if_neg h, if_neg (by omega)]

/-- The width of a group's window. -/
def win (g : Fin 4) : ℕ := 2 ^ (g.val + 1)

/-- How many entries a window of width `w` at position `s` holds, as the machine counts them. -/
def count (s w : ℕ) : EReal := FloatOps.sitofp (F := Ideal) .f32 (IntOp.minsi (BitVec.ofNat 32 (s + 1)) (BitVec.ofNat 32 w))

/-- A window's average less the entry itself. -/
def mixd (p : ℕ → EReal) (s w : ℕ) : EReal := Ideal.div (wsum p s w) (count s w) - p s

/-- A row of projections. -/
def proj (x g : Fin 1024 → EReal) (w : Fin 1024 → Fin 1024 → EReal) (c : Fin 1024) : EReal := ∑ k, Cert.Gmlp.rms x g k * w k c

/-- Column `i` of group `g`. -/
def col (g : Fin 4) (i : Fin 256) : Fin 1024 := ⟨256 * g.val + i.val, by omega⟩

/-- A column's group and its place in it. -/
def grp (q : Fin 1024) : Fin 4 := ⟨q.val / 256, by omega⟩
/-- A column's place in its group. -/
def pos (q : Fin 1024) : Fin 256 := ⟨q.val % 256, by omega⟩

/-- One entry of the mixer's result before the residual: each group's averages times its weights, scaled, times the output weights. -/
def mix (P : ℕ → Fin 1024 → EReal) (wg : Fin 4 → Fin 256 → Fin 256 → EReal) (sc : Fin 1024 → EReal)
    (wo : Fin 1024 → Fin 1024 → EReal) (s : ℕ) (j : Fin 1024) : EReal :=
  ∑ q, (∑ i, mixd (fun n => P n (col (grp q) i)) s (win (grp q)) * wg (grp q) i (pos q)) * sc q * wo q j

/-- The projections of a sequence's rows, zero past its last. -/
def seqProj (X : Fin 2048 → Fin 1024 → EReal) (g : Fin 1024 → EReal) (w : Fin 1024 → Fin 1024 → EReal) (n : ℕ) (c : Fin 1024) : EReal :=
  if h : n < 2048 then proj (X ⟨n, h⟩) g w c else 0

/-- They are real where the gain and the weights are. -/
theorem seqProj_fin (X : Fin 2048 → Fin 1024 → EReal) (g : Fin 1024 → EReal) (w : Fin 1024 → Fin 1024 → EReal)
    (hg : ∀ k, IsReal (g k)) (hw : ∀ k c, IsReal (w k c)) (n : ℕ) (c : Fin 1024) : IsReal (seqProj X g w n c) := by
  unfold seqProj proj
  split_ifs with h
  · exact IsReal.sum _ _ fun k => (IsReal.rms _ _ hg k).mul (hw k c)
  · exact ⟨0, rfl⟩

end Cert.Pool

end
-- ==== Proof.PoolPiece.lean ====
/- The pooling body's trailing sums: each doubled window of its projections at an index, and the four pieces it stores. -/
module

public import proofs.«01_k».proof.Proof.Gen.Kernel4Ideal.Value
public import proofs.«01_k».proof.Proof.PoolMath
public import Idealize.ShloMosaic.Lib.Pointwise

@[expose] public section

set_option maxRecDepth 16384

noncomputable section

namespace Cert.Kernel4Ideal.Pool

open Cert.Kernel4Ideal Cert.Kernel4Ideal.Gen Idealize.ShloMosaic Idealize.ShloMosaic.TcCoe Idealize.SL.Sem

/-- Where in its sequence a grid point's rows begin. -/
def start (i : grid0.Coords) : ℕ := 1024 * ((i 0).val % 2)

/-- The same as the body computes it. -/
def startW (i : grid0.Coords) : BitVec 32 := BitVec.ofNat 32 (start i)

/-- A column of a block of 1040 rows, zero past its last. -/
def colOf (q : FVec Ideal S1040x1024 .f32) (c : Fin 1024) (n : ℕ) : EReal := if h : n < 1040 then q (ix2 ⟨n, h⟩ c) else 0

variable (v33 : FVec Ideal S1040x1024 .f32) (v37 : IVec S1040x1 32) (z : BitVec 32)

/-- A row inside the block. -/
theorem colOf_lt (q : FVec Ideal S1040x1024 .f32) (c : Fin 1024) (n : Fin 1040) : q (ix2 n c) = colOf q c n.val := by
  unfold colOf
  rw [dif_pos n.isLt]

/-- The two-row sums at an index. -/
theorem pay7_apply (k : Fin 1039) (c : Fin 1024) : k0_pay7 v33 v37 z (ix2 k c) = ∑ d ∈ Finset.range 2, colOf (k0_pay5 v33 v37 z) c (k.val + d) := by
  rw [show 2 = 1 + 1 from rfl, ← Cert.Pool.run_double, Finset.sum_range_one, Finset.sum_range_one]
  unfold k0_pay7
  pointwise [colOf_lt]

/-- The four-row sums at an index. -/
theorem pay9_apply (k : Fin 1037) (c : Fin 1024) : k0_pay9 v33 v37 z (ix2 k c) = ∑ d ∈ Finset.range 4, colOf (k0_pay5 v33 v37 z) c (k.val + d) := by
  unfold k0_pay9
  pointwise [pay7_apply]
  exact Cert.Pool.run_double _ k.val 2

/-- The eight-row sums at an index. -/
theorem pay11_apply (k : Fin 1033) (c : Fin 1024) : k0_pay11 v33 v37 z (ix2 k c) = ∑ d ∈ Finset.range 8, colOf (k0_pay5 v33 v37 z) c (k.val + d) := by
  unfold k0_pay11
  pointwise [pay9_apply]
  exact Cert.Pool.run_double _ k.val 4

/-- The number of positions from the sequence's start through row `r`, as the body computes it. -/
theorem pay6_apply (i : grid0.Coords) (r : Fin 1024) : k0_pay6 (startW i) (ix2 r 0) = BitVec.ofNat 32 (start i + r.val + 1) := by
  unfold k0_pay6 startW
  pointwise
  show BitVec.ofNat 32 r.val + (BitVec.ofNat 32 (start i) + 1#32) = _
  rw [BitVec.ofNat_add, BitVec.ofNat_add, ← BitVec.add_assoc, BitVec.add_comm (BitVec.ofNat 32 r.val)]

/-- The average of a row's window less the row's own entry. -/
def pieceAt (q : FVec Ideal S1040x1024 .f32) (t0 : ℕ) (r c : Fin 1024) (w : ℕ) : EReal :=
  Ideal.div (∑ d ∈ Finset.range w, colOf q c (r.val + 17 - w + d)) (Cert.Pool.count (t0 + r.val) w) - colOf q c (16 + r.val)

variable (i : grid0.Coords) (r : Fin 1024) (x : Fin 256)

/-- The first group's piece at an index. -/
theorem pay8_apply : k0_pay8 (startW i) v33 v37 z (ix2 r x) = pieceAt (k0_pay5 v33 v37 z) (start i) r (Cert.Pool.col 0 x) 2 := by
  unfold k0_pay8
  pointwise [pay7_apply, pay6_apply, colOf_lt]
  rw [show 15 + r.val = r.val + 17 - 2 by omega, show (⟨x.val, by omega⟩ : Fin 1024) = Cert.Pool.col 0 x from Fin.ext (by show x.val = 256 * 0 + x.val; omega)]
  rfl

/-- The second group's piece at an index. -/
theorem pay10_apply : k0_pay10 (startW i) v33 v37 z (ix2 r x) = pieceAt (k0_pay5 v33 v37 z) (start i) r (Cert.Pool.col 1 x) 4 := by
  unfold k0_pay10
  pointwise [pay9_apply, pay6_apply, colOf_lt]
  rw [show 13 + r.val = r.val + 17 - 4 by omega]
  rfl

/-- The third group's piece at an index. -/
theorem pay13_apply : k0_pay13 (k0_pay5 v33 v37 z) (k0_pay12 (startW i) v33 v37 z) (ix2 r x) = pieceAt (k0_pay5 v33 v37 z) (start i) r (Cert.Pool.col 2 x) 8 := by
  unfold k0_pay13 k0_pay12
  pointwise [pay11_apply, pay6_apply, colOf_lt]
  rw [show 9 + r.val = r.val + 17 - 8 by omega]
  rfl

/-- The fourth group's piece at an index. -/
theorem pay14_apply : k0_pay14 (k0_pay5 v33 v37 z) (k0_pay6 (startW i)) (k0_pay11 v33 v37 z) (ix2 r x)
    = pieceAt (k0_pay5 v33 v37 z) (start i) r (Cert.Pool.col 3 x) 16 := by
  unfold k0_pay14
  pointwise [pay11_apply, pay6_apply, colOf_lt]
  refine congrArg₂ (· - ·) (congrArg₂ Ideal.div ?_ rfl) rfl
  rw [show r.val + 17 - 16 = 1 + r.val by omega]
  exact Cert.Pool.run_double _ (1 + r.val) 8

end Cert.Kernel4Ideal.Pool

end
-- ==== Proof.PoolBlock.lean ====
/- What the pooling body leaves in its output block, its four stored pieces read back as one block. -/
module

public import proofs.«01_k».proof.Proof.PoolPiece
public import Idealize.ShloMosaic.Lib.Pipeline.ValueKit.Tiles
public import Idealize.ShloMosaic.Lib.Pointwise

@[expose] public section

set_option maxRecDepth 16384

noncomputable section

namespace Cert.Kernel4Ideal.Pool

open Cert.Kernel4Ideal Cert.Kernel4Ideal.Gen Cert.Kernel4Ideal.Value Idealize.ShloMosaic Idealize.ShloMosaic.TcCoe Idealize.ShloMosaic.Tactic Idealize.SL.Sem

/-- The start word, computed as the body does. -/
theorem startW_eq (i : grid0.Coords) : Scalar.select
    (Scalar.andi (Scalar.xori (Scalar.cmpi .slt (Scalar.remsi (Scalar.muli (BitVec.ofNat 32 (i 0).val) 1024#32) 2048#32) 0#32) 0#1)
      (Scalar.cmpi .ne (Scalar.remsi (Scalar.muli (BitVec.ofNat 32 (i 0).val) 1024#32) 2048#32) 0#32))
    (Scalar.addi (Scalar.remsi (Scalar.muli (BitVec.ofNat 32 (i 0).val) 1024#32) 2048#32) 2048#32)
    (Scalar.remsi (Scalar.muli (BitVec.ofNat 32 (i 0).val) 1024#32) 2048#32) = startW i := by
  unfold startW start
  have h : (i 0).val < 16 := (i 0).isLt
  generalize (i 0).val = n at h ⊢
  interval_cases n <;> decide +kernel

/-- The zero offset, written out and as a function. -/
theorem hz : (![0, 0] : Fin 2 → ℕ) = fun _ => 0 := by funext a; fin_cases a <;> rfl

/-- The load of one group's page of the group weights. -/
theorem page_apply (W : Vec Ideal S4x256x256 .bf16) (n : Nat) (g : Fin 4) (hn : n = g.val) (inb : ∀ a, ![n, 0, 0] a + ![1, 256, 256] a ≤ S4x256x256.size a)
    (p s : Fin 256) : View.ld (Val := Elt Ideal) (e' := .bf16) W (Rect.unit ![n, 0, 0] ![1, 256, 256] inb) (ix3 0 p s) = W (ix3 g p s) := by
  subst hn
  refine View.ld_unit_apply_of W _ _ inb _ _ fun a => ?_
  fin_cases a <;> simp

/-- The scratch after the body's stores: each column's window averages less its entries. -/
def pooled (q : FVec Ideal S1040x1024 .f32) (t0 : ℕ) : Vec Ideal S1024x1024 .bf16 :=
  fun y => pieceAt q t0 (y 0) (y 1) (Cert.Pool.win (Cert.Pool.grp (y 1)))

/-- The block's masked projections. -/
def masked (i : grid0.Coords) (x0 : Vec Ideal S1024x1024 .f32) (x1 : Vec Ideal S16x1024 .f32) (x2 : Vec Ideal S1x1024 .f32) (x3 : Vec Ideal S1024x1024 .bf16) :
    FVec Ideal S1040x1024 .f32 := k0_pay5 (k0_pay3 x0 x1 x2 x3) (k0_pay4 i) 0#32

/-- A column's window average, the column named by its group and its place there. -/
theorem pieceAt_col (q : FVec Ideal S1040x1024 .f32) (t0 : ℕ) (y0 y1 : Fin 1024) (g : Fin 4) (x0 : Fin 1024) (x1 : Fin 256)
    (h0 : y0.val = x0.val) (h1 : y1.val = 256 * g.val + x1.val) :
    pieceAt q t0 x0 (Cert.Pool.col g x1) (Cert.Pool.win g) = pieceAt q t0 y0 y1 (Cert.Pool.win (Cert.Pool.grp y1)) := by
  obtain rfl : y0 = x0 := Fin.ext h0
  obtain rfl : y1 = Cert.Pool.col g x1 := Fin.ext h1
  have hg : Cert.Pool.grp (Cert.Pool.col g x1) = g := Fin.ext (by
    show (256 * g.val + x1.val) / 256 = g.val
    omega)
  rw [hg]

/-- The four stored pieces, read as one block. -/
theorem canon_pooled (i : grid0.Coords) (v33 : FVec Ideal S1040x1024 .f32) (v37 : IVec S1040x1 32) (y : S1024x1024.Idx) :
    View.canon (Val := Elt Ideal) (e := .bf16) (s := S1024x1024) [⟨Rect.unit ![0, 768] ![1024, 256] inb_S1024x1024_S1024x256_0_768,
        k0_pay14 (F := Ideal) (k0_pay5 v33 v37 0#32) (k0_pay6 (startW i)) (k0_pay11 v33 v37 0#32)⟩,
      ⟨Rect.unit ![0, 512] ![1024, 256] inb_S1024x1024_S1024x256_0_512, k0_pay13 (F := Ideal) (k0_pay5 v33 v37 0#32) (k0_pay12 (startW i) v33 v37 0#32)⟩,
      ⟨Rect.unit ![0, 256] ![1024, 256] inb_S1024x1024_S1024x256_0_256, k0_pay10 (F := Ideal) (startW i) v33 v37 0#32⟩,
      ⟨Rect.unit ![0, 0] ![1024, 256] inb_S1024x1024_S1024x256_0_0, k0_pay8 (F := Ideal) (startW i) v33 v37 0#32⟩] y
      = pooled (k0_pay5 v33 v37 0#32) (start i) y := by
  unfold pooled
  canon_tiles y h
  · idx_vars y
    exact (pay14_apply v33 v37 0#32 i y0 y1).trans (pieceAt_col _ _ _ _ 3 y0 y1 h0 h1)
  · idx_vars y
    exact (pay13_apply v33 v37 0#32 i y0 y1).trans (pieceAt_col _ _ _ _ 2 y0 y1 h0 h1)
  · idx_vars y
    exact (pay10_apply v33 v37 0#32 i y0 y1).trans (pieceAt_col _ _ _ _ 1 y0 y1 h0 h1)
  · idx_vars y
    exact (pay8_apply v33 v37 0#32 i y0 y1).trans (pieceAt_col _ _ _ _ 0 y0 y1 h0 (by rw [h1]; show y1.val = 256 * 0 + y1.val; omega))

/-- One group's columns of that block. -/
def group (q : FVec Ideal S1040x1024 .f32) (t0 : ℕ) (g : Fin 4) : Vec Ideal S1024x256 .bf16 :=
  fun j => pieceAt q t0 (j 0) (Cert.Pool.col g (j 1)) (Cert.Pool.win g)

/-- The load of one group's columns of the block. -/
theorem load_pooled (q : FVec Ideal S1040x1024 .f32) (t0 : ℕ) (g : Fin 4) (o : ℕ) (ho : o = 256 * g.val) (inb : ∀ a, ![0, o] a + ![1024, 256] a ≤ S1024x1024.size a) :
    (fun j => pooled q t0 ((Rect.unit (s := S1024x1024) ![0, o] ![1024, 256] inb).idx j)) = group q t0 g := by
  funext j
  have h0 : (Rect.unit (s := S1024x1024) ![0, o] ![1024, 256] inb).idx j 0 = j 0 := Fin.ext (by show 0 + 1 * (j 0).val = (j 0).val; omega)
  have h1 : (Rect.unit (s := S1024x1024) ![0, o] ![1024, 256] inb).idx j 1 = Cert.Pool.col g (j 1) :=
    Fin.ext (by show o + 1 * (j 1).val = 256 * g.val + (j 1).val; omega)
  have hg : Cert.Pool.grp (Cert.Pool.col g (j 1)) = g := Fin.ext (by
    have : (j 1).val < 256 := (j 1).isLt
    show (256 * g.val + (j 1).val) / 256 = g.val
    omega)
  unfold pooled group
  rw [h0, h1, hg]

/-- What the run leaves in the staging buffer of the output: the last payload of the four groups' columns, read back from the body's scratch. -/
theorem out_eq (c : Dev nD) (i : grid0.Coords)
    (arg1 : Memref sig .tc .vmem S1024x1024 .f32) (harg1 : arg1.IsWhole)
    (arg2 : Memref sig .tc .vmem S16x1024 .f32) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S4x256x256 .bf16) (harg5 : arg5.IsWhole)
    (arg6 : Memref sig .tc .vmem S1x1024 .f32) (harg6 : arg6.IsWhole)
    (arg7 : Memref sig .tc .vmem S1024x1024 .bf16) (harg7 : arg7.IsWhole)
    (arg8 : Memref sig .tc .vmem S1024x1024 .f32) (harg8 : arg8.IsWhole)
    (arg9 : Memref sig .tc .vmem S1024x1024 .bf16) (harg9 : arg9.IsWhole)
    (x0 : Vec Ideal S1024x1024 .f32) (x1 : Vec Ideal S16x1024 .f32) (x2 : Vec Ideal S1x1024 .f32) (x3 : Vec Ideal S1024x1024 .bf16)
    (x4 : Vec Ideal S4x256x256 .bf16) (x5 : Vec Ideal S1x1024 .f32) (x6 : Vec Ideal S1024x1024 .bf16) (y : S1024x1024.Idx) :
    out0_A_7 c i arg1 harg1 arg2 harg2 arg3 harg3 arg4 harg4 arg5 harg5 arg6 harg6 arg7 harg7 arg8 harg8 arg9 harg9 x0 x1 x2 x3 x4 x5 x6 y
      = k0_pay1 (k0_pay2 x0) (k0_pay15 (group (masked i x0 x1 x2 x3) (start i) 0) (View.ld x4 (Rect.unit ![0, 0, 0] ![1, 256, 256] inb_S4x256x256_S1x256x256_0_0_0)))
          (k0_pay16 (group (masked i x0 x1 x2 x3) (start i) 1) (View.ld x4 (Rect.unit ![1, 0, 0] ![1, 256, 256] inb_S4x256x256_S1x256x256_1_0_0)))
          (k0_pay17 (group (masked i x0 x1 x2 x3) (start i) 2) (View.ld x4 (Rect.unit ![2, 0, 0] ![1, 256, 256] inb_S4x256x256_S1x256x256_2_0_0)))
          (group (masked i x0 x1 x2 x3) (start i) 3) (View.ld x4 (Rect.unit ![3, 0, 0] ![1, 256, 256] inb_S4x256x256_S1x256x256_3_0_0)) x5 x6 y := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  have l0 : View.ld (Val := Elt Ideal) (e' := .f32) x0 (Rect.unit ![0, 0] ![1024, 1024] inb_S1024x1024_S1024x1024_0_0) = x0 := View.ld_unit_zero hz _ _
  have l1 : View.ld (Val := Elt Ideal) (e' := .f32) x1 (Rect.unit ![0, 0] ![16, 1024] inb_S16x1024_S16x1024_0_0) = x1 := View.ld_unit_zero hz _ _
  have l2 : View.ld (Val := Elt Ideal) (e' := .f32) x2 (Rect.unit ![0, 0] ![1, 1024] inb_S1x1024_S1x1024_0_0) = x2 := View.ld_unit_zero hz _ _
  have l3 : View.ld (Val := Elt Ideal) (e' := .bf16) x3 (Rect.unit ![0, 0] ![1024, 1024] inb_S1024x1024_S1024x1024_0_0) = x3 := View.ld_unit_zero hz _ _
  have l5 : View.ld (Val := Elt Ideal) (e' := .f32) x5 (Rect.unit ![0, 0] ![1, 1024] inb_S1x1024_S1x1024_0_0) = x5 := View.ld_unit_zero hz _ _
  have l6 : View.ld (Val := Elt Ideal) (e' := .bf16) x6 (Rect.unit ![0, 0] ![1024, 1024] inb_S1024x1024_S1024x1024_0_0) = x6 := View.ld_unit_zero hz _ _
  simp only [l0, l1, l2, l3, l5, l6]
  refine (congrFun (View.canon_unit_zero hz _ _) y).trans ?_
  simp only [View.readCov_eq_canon']
  simp only [startW_eq, canon_pooled]
  refine congrFun ?_ y
  unfold masked
  generalize k0_pay5 (k0_pay3 x0 x1 x2 x3) (k0_pay4 i) 0#32 = q
  rw [load_pooled q (start i) 0 0 rfl inb_S1024x1024_S1024x256_0_0, load_pooled q (start i) 1 256 rfl inb_S1024x1024_S1024x256_0_256,
    load_pooled q (start i) 2 512 rfl inb_S1024x1024_S1024x256_0_512, load_pooled q (start i) 3 768 rfl inb_S1024x1024_S1024x256_0_768]

section Payload
variable (s : Vec Ideal S1024x256 .bf16) (w : Vec Ideal S1x256x256 .bf16) (r : Fin 1024) (o : Fin 256)

/-- The first group's product at an index. -/
theorem pay15_apply : k0_pay15 s w (ix2 r o) = ∑ i, s (ix2 r i) * w (ix3 0 i o) := by
  unfold k0_pay15
  pointwise

/-- The second group's product at an index. -/
theorem pay16_apply : k0_pay16 s w (ix2 r o) = ∑ i, s (ix2 r i) * w (ix3 0 i o) := by
  unfold k0_pay16
  pointwise

/-- The third group's product at an index. -/
theorem pay17_apply : k0_pay17 s w (ix2 r o) = ∑ i, s (ix2 r i) * w (ix3 0 i o) := by
  unfold k0_pay17
  pointwise

/-- What the body stores at an index: its row of `x` plus the four groups' products, scaled, times the output weights. -/
theorem pay1_apply (x0 : Vec Ideal S1024x1024 .f32) (s : Fin 4 → Vec Ideal S1024x256 .bf16) (w : Fin 4 → Vec Ideal S1x256x256 .bf16)
    (x5 : Vec Ideal S1x1024 .f32) (x6 : Vec Ideal S1024x1024 .bf16) (j : Fin 1024) :
    k0_pay1 (k0_pay2 x0) (k0_pay15 (s 0) (w 0)) (k0_pay16 (s 1) (w 1)) (k0_pay17 (s 2) (w 2)) (s 3) (w 3) x5 x6 (ix2 r j)
      = x0 (ix2 r j) + ∑ q, (∑ i, s (Cert.Pool.grp q) (ix2 r i) * w (Cert.Pool.grp q) (ix3 0 i (Cert.Pool.pos q))) * x5 (ix2 0 q) * x6 (ix2 q j) := by
  unfold k0_pay1 k0_pay2
  pointwise [pay15_apply, pay16_apply, pay17_apply]
  refine congrArg (x0 (ix2 r j) + ·) (Finset.sum_congr rfl fun q _ => ?_)
  refine congrArg (· * x5 (ix2 0 q) * x6 (ix2 q j)) ?_
  have hq := q.isLt
  have key : ∀ (g : Fin 4) (p : Fin 256), q.val = 256 * g.val + p.val →
      ∑ i, s g (ix2 r i) * w g (ix3 0 i p)
        = ∑ i, s (Cert.Pool.grp q) (ix2 r i) * w (Cert.Pool.grp q) (ix3 0 i (Cert.Pool.pos q)) := by
    intro g p h
    have hg : Cert.Pool.grp q = g := Fin.ext (by show q.val / 256 = g.val; omega)
    have hp : Cert.Pool.pos q = p := Fin.ext (by show q.val % 256 = p.val; omega)
    rw [hg, hp]
  split_ifs with h0 h1 h2 h3 <;> first
    | exact key 0 ⟨q.val, by omega⟩ (by show q.val = 256 * 0 + q.val; omega)
    | exact key 1 ⟨q.val - 256, by omega⟩ (by show q.val = 256 * 1 + (q.val - 256); omega)
    | exact key 2 ⟨q.val - 256 - 256, by omega⟩ (by show q.val = 256 * 2 + (q.val - 256 - 256); omega)
    | exact key 3 ⟨q.val - 256 - 256 - 256, by omega⟩ (by show q.val = 256 * 3 + (q.val - 256 - 256 - 256); omega)
end Payload

section Masked
variable (x0 : Vec Ideal S1024x1024 .f32) (x1 : Vec Ideal S16x1024 .f32) (x2 : Vec Ideal S1x1024 .f32) (x3 : Vec Ideal S1024x1024 .bf16)

/-- Row `n` of the rows a block's projection reads: sixteen rows of the halo, then the block's own. -/
def halo (n : Fin 1040) (k : Fin 1024) : EReal :=
  if h : n.val < 16 then x1 (ix2 ⟨n.val, h⟩ k) else x0 (ix2 ⟨n.val - 16, by have := n.isLt; omega⟩ k)

/-- The projection at an index: the normalised row times the input weights. -/
theorem pay3_apply (n : Fin 1040) (c : Fin 1024) :
    k0_pay3 x0 x1 x2 x3 (ix2 n c) = Cert.Pool.proj (halo x0 x1 n) (fun k => x2 (ix2 0 k)) (fun k c => x3 (ix2 k c)) c := by
  unfold k0_pay3 k0_pay2
  pointwise
  unfold Cert.Pool.proj Cert.Gmlp.rms halo
  rfl

/-- The mask's comparison: a row is kept when it stands at or after the sequence's first token. -/
theorem mask_word (i : grid0.Coords) (n : Fin 1040) :
    IntOp.cmpi .sge (IntOp.addi (BitVec.ofNat 32 n.val) (Scalar.subi (startW i) 16#32)) 0#32 = if 16 ≤ start i + n.val then 1#1 else 0#1 := by
  have h0 : ∀ n : Fin 1040, IntOp.cmpi .sge (IntOp.addi (BitVec.ofNat 32 n.val) (Scalar.subi (BitVec.ofNat 32 0) 16#32)) 0#32
      = if 16 ≤ 0 + n.val then 1#1 else 0#1 := by decide +kernel
  have h1 : ∀ n : Fin 1040, IntOp.cmpi .sge (IntOp.addi (BitVec.ofNat 32 n.val) (Scalar.subi (BitVec.ofNat 32 1024) 16#32)) 0#32
      = if 16 ≤ 1024 + n.val then 1#1 else 0#1 := by decide +kernel
  unfold startW
  rcases (show start i = 0 ∨ start i = 1024 by unfold start; omega) with h | h
  · rw [h]; exact h0 n
  · rw [h]; exact h1 n

/-- The masked projection at an index: zero before the sequence's first token. -/
theorem masked_apply (i : grid0.Coords) (n : Fin 1040) (c : Fin 1024) :
    masked i x0 x1 x2 x3 (ix2 n c)
      = if 16 ≤ start i + n.val then Cert.Pool.proj (halo x0 x1 n) (fun k => x2 (ix2 0 k)) (fun k c => x3 (ix2 k c)) c else 0 := by
  rw [← pay3_apply]
  unfold masked
  generalize k0_pay3 x0 x1 x2 x3 = z
  unfold k0_pay5 k0_pay4
  pointwise
  refine (congrArg (fun v => Scalar.select (IntOp.cmpi .sge (IntOp.addi (BitVec.ofNat 32 n.val) (Scalar.subi v 16#32)) 0#32) (z (ix2 n c)) 0)
    (startW_eq i)).trans ?_
  show Scalar.select (IntOp.cmpi .sge (IntOp.addi (BitVec.ofNat 32 n.val) (Scalar.subi (startW i) 16#32)) 0#32) (z (ix2 n c)) 0 = _
  rw [mask_word]
  by_cases h : 16 ≤ start i + n.val
  · rw [if_pos h, if_pos h]; rfl
  · rw [if_neg h, if_neg h]; rfl
end Masked

end Cert.Kernel4Ideal.Pool

end
-- ==== Proof.PoolArray.lean ====
/- The pooling kernel's result array: what one block is at an index, and the whole array as the mixer of the argument arrays. -/
module

public import proofs.«01_k».proof.Proof.PoolBlock

@[expose] public section

set_option maxRecDepth 16384

noncomputable section

namespace Cert.Kernel4Ideal.Pool

open Cert.Kernel4Ideal Cert.Kernel4Ideal.Gen Cert.Kernel4Ideal.Value Idealize.ShloMosaic Idealize.ShloMosaic.TcCoe Idealize.ShloMosaic.Tactic Idealize.SL.Sem
open Idealize.ShloMosaic.Pipeline (Dat)

/-- A column's window average less its entry, where the column's rows are a sequence's from position `t0 - 16` on, zero before its start. -/
theorem pieceAt_eq (q : FVec Ideal S1040x1024 .f32) (t0 : ℕ) (r c : Fin 1024) (w : ℕ) (hw : w ≤ 16) (p : ℕ → EReal)
    (hq : ∀ n < 1040, colOf q c n = if 16 ≤ t0 + n then p (t0 + n - 16) else 0) : pieceAt q t0 r c w = Cert.Pool.mixd p (t0 + r.val) w := by
  have hr := r.isLt
  unfold pieceAt Cert.Pool.mixd
  rw [← Cert.Pool.run_wsum p t0 r.val w hw]
  refine congrArg₂ (· - ·) (congrArg₂ Ideal.div (Finset.sum_congr rfl fun d hd => ?_) rfl) ?_
  · have := Finset.mem_range.mp hd
    exact hq _ (by omega)
  · rw [hq _ (by omega), if_pos (by omega)]
    exact congrArg p (by omega)

/-- Every group's window is at most sixteen wide. -/
theorem win_le : ∀ g : Fin 4, Cert.Pool.win g ≤ 16 := by decide

/-- The four pages of the group weights as the body loads them. -/
def page (W : Vec Ideal S4x256x256 .bf16) : Fin 4 → Vec Ideal S1x256x256 .bf16 :=
  ![View.ld W (Rect.unit ![0, 0, 0] ![1, 256, 256] inb_S4x256x256_S1x256x256_0_0_0), View.ld W (Rect.unit ![1, 0, 0] ![1, 256, 256] inb_S4x256x256_S1x256x256_1_0_0),
    View.ld W (Rect.unit ![2, 0, 0] ![1, 256, 256] inb_S4x256x256_S1x256x256_2_0_0), View.ld W (Rect.unit ![3, 0, 0] ![1, 256, 256] inb_S4x256x256_S1x256x256_3_0_0)]

/-- A page at an index. -/
theorem page_at (W : Vec Ideal S4x256x256 .bf16) (g : Fin 4) (p s : Fin 256) : page W g (ix3 0 p s) = W (ix3 g p s) := by
  match g with
  | ⟨0, _⟩ => exact page_apply W 0 0 rfl _ p s
  | ⟨1, _⟩ => exact page_apply W 1 1 rfl _ p s
  | ⟨2, _⟩ => exact page_apply W 2 2 rfl _ p s
  | ⟨3, _⟩ => exact page_apply W 3 3 rfl _ p s

variable (m : (ℓ : Loc nD τ sig) → Buf (Elt Ideal) ℓ) (ρ : Dev nD → PrngReg)

/-- The projections of one batch's sequence, by position and column. -/
def P (a0 : Vec Ideal S8x2048x1024 .f32) (a1 : Vec Ideal S1024 .f32) (a2 : Vec Ideal S1024x1024 .f32) (b : Fin 8) (n : ℕ) (c : Fin 1024) : EReal :=
  Cert.Pool.seqProj (fun n k => a0 (ix3 b n k)) (fun k => a1 (ix1 k)) (fun k c => a2 (ix2 k c)) n c

/-- The mixer as one array of the argument arrays. -/
def G (a0 : Vec Ideal S8x2048x1024 .f32) (a1 : Vec Ideal S1024 .f32) (a2 : Vec Ideal S1024x1024 .f32) (a3 : Vec Ideal S4x256x256 .f32)
    (a4 : Vec Ideal S1024 .f32) (a5 : Vec Ideal S1024x1024 .f32) : Vec Ideal S16384x1024 .f32 :=
  fun i => a0 (ix3 (⟨(i 0).val / 2048, by have : (i 0).val < 16384 := (i 0).isLt; omega⟩ : Fin 8) (⟨(i 0).val % 2048, by omega⟩ : Fin 2048) (i 1))
    + Cert.Pool.mix (P a0 a1 a2 (⟨(i 0).val / 2048, by have : (i 0).val < 16384 := (i 0).isLt; omega⟩ : Fin 8)) (fun g i o => a3 (ix3 g i o)) (fun q => a4 (ix1 q)) (fun q j => a5 (ix2 q j)) ((i 0).val % 2048) (i 1)

/-- The batch and sequence axes joined: row `R` is row `R % 2048` of batch `R / 2048`. -/
theorem rows_apply (x : S8x2048x1024.Idx → EReal) (R : Fin 16384) (k : Fin 1024) :
    shapeCast S16384x1024 x shapeCasts_S8x2048x1024_S16384x1024 (ix2 R k) = x (ix3 (⟨R.val / 2048, by omega⟩ : Fin 8) (⟨R.val % 2048, by omega⟩ : Fin 2048) k) :=
  shapeCast_apply x _ _ _ (by
    rw [Shape.rowMajor_val_three, Shape.rowMajor_val_two]
    show (R.val / 2048 * 2048 + R.val % 2048) * 1024 + k.val = R.val * 1024 + k.val
    omega)

/-! The arrays the kernel's windows read, as the host operations before it leave them. -/

/-- The array windows 0 and 1 read is the activations, argument 0, reshaped. -/
theorem V0 (c : Dev nD) (R : Fin 16384) (k : Fin 1024) : V m c main_v0 (ix2 R k) =
    (m ((c : Thread nD τ).loc main_arg0) : Vec Ideal S8x2048x1024 .f32) (ix3 (⟨R.val / 2048, by omega⟩ : Fin 8) (⟨R.val % 2048, by omega⟩ : Fin 2048) k) := by
  have h : V m c main_v0 = shapeCast S16384x1024 (m ((c : Thread nD τ).loc main_arg0)) shapeCasts_S8x2048x1024_S16384x1024 := by
    show StableHlo.after _ _ _ = _
    after_results
    rfl
  rw [h, rows_apply]

/-- The array window 2 reads is the normalization gain, argument 1, reshaped. -/
theorem V2 (c : Dev nD) (k : Fin 1024) : V m c main_v4 (ix2 0 k) = (m ((c : Thread nD τ).loc main_arg1) : Vec Ideal S1024 .f32) (ix1 k) := by
  have h : V m c main_v4 = shapeCast S1x1024 (m ((c : Thread nD τ).loc main_arg1)) shapeCasts_S1024_S1x1024 := by
    show StableHlo.after _ _ _ = _
    after_results
    rfl
  rw [h]
  pointwise

/-- The array window 3 reads is the input weights, argument 2, cast. -/
theorem V3 (c : Dev nD) (k j : Fin 1024) : V m c main_v1 (ix2 k j) = (m ((c : Thread nD τ).loc main_arg2) : Vec Ideal S1024x1024 .f32) (ix2 k j) := by
  have h : V m c main_v1 = (truncf (F := Ideal) (s := S1024x1024) (φ := .f32) .bf16 (m ((c : Thread nD τ).loc main_arg2)) bitsLt_bf16_f32) := by
    show StableHlo.after _ _ _ = _
    after_results
  rw [h]
  pointwise

/-- The array window 4 reads is the group weights, argument 3, cast. -/
theorem V4 (c : Dev nD) (g : Fin 4) (p s : Fin 256) : V m c main_v2 (ix3 g p s) = (m ((c : Thread nD τ).loc main_arg3) : Vec Ideal S4x256x256 .f32) (ix3 g p s) := by
  have h : V m c main_v2 = (truncf (F := Ideal) (s := S4x256x256) (φ := .f32) .bf16 (m ((c : Thread nD τ).loc main_arg3)) bitsLt_bf16_f32) := by
    show StableHlo.after _ _ _ = _
    after_results
  rw [h]
  pointwise

/-- The array window 5 reads is the scale, argument 4, reshaped. -/
theorem V5 (c : Dev nD) (k : Fin 1024) : V m c main_v5 (ix2 0 k) = (m ((c : Thread nD τ).loc main_arg4) : Vec Ideal S1024 .f32) (ix1 k) := by
  have h : V m c main_v5 = shapeCast S1x1024 (m ((c : Thread nD τ).loc main_arg4)) shapeCasts_S1024_S1x1024 := by
    show StableHlo.after _ _ _ = _
    after_results
    rfl
  rw [h]
  pointwise

/-- The array window 6 reads is the output weights, argument 5, cast. -/
theorem V6 (c : Dev nD) (k j : Fin 1024) : V m c main_v3 (ix2 k j) = (m ((c : Thread nD τ).loc main_arg5) : Vec Ideal S1024x1024 .f32) (ix2 k j) := by
  have h : V m c main_v3 = (truncf (F := Ideal) (s := S1024x1024) (φ := .f32) .bf16 (m ((c : Thread nD τ).loc main_arg5)) bitsLt_bf16_f32) := by
    show StableHlo.after _ _ _ = _
    after_results
  rw [h]
  pointwise

/-! Window 0 and the output window stand at rows `1024 t` on, window 1 at the sixteen rows before them where there are some; every other
    window is its whole array at every point. -/

/-- The block index of window 0 at each grid point. -/
theorem idx0 : ∀ t : Fin cfg0.N, win0_0.index t (0 : Fin 2) = t.val ∧ win0_0.index t (1 : Fin 2) = 0 := (by decide +kernel : ∀ t : Fin grid0.N, _)
/-- The block index of window 7 at each grid point. -/
theorem idx7 : ∀ t : Fin cfg0.N, win0_7.index t (0 : Fin 2) = t.val ∧ win0_7.index t (1 : Fin 2) = 0 := (by decide +kernel : ∀ t : Fin grid0.N, _)
/-- The block index of window 1 at each grid point. -/
theorem idx1 : ∀ t : Fin cfg0.N, win0_1.index t (0 : Fin 2) = 64 * t.val - 1 ∧ win0_1.index t (1 : Fin 2) = 0 := (by decide +kernel : ∀ t : Fin grid0.N, _)
/-- The block index of window 2 at each grid point. -/
theorem idx2 : ∀ t : Fin cfg0.N, win0_2.index t (0 : Fin 2) = 0 ∧ win0_2.index t (1 : Fin 2) = 0 := (by decide +kernel : ∀ t : Fin grid0.N, _)
/-- The block index of window 3 at each grid point. -/
theorem idx3 : ∀ t : Fin cfg0.N, win0_3.index t (0 : Fin 2) = 0 ∧ win0_3.index t (1 : Fin 2) = 0 := (by decide +kernel : ∀ t : Fin grid0.N, _)
/-- The block index of window 5 at each grid point. -/
theorem idx5 : ∀ t : Fin cfg0.N, win0_5.index t (0 : Fin 2) = 0 ∧ win0_5.index t (1 : Fin 2) = 0 := (by decide +kernel : ∀ t : Fin grid0.N, _)
/-- The block index of window 6 at each grid point. -/
theorem idx6 : ∀ t : Fin cfg0.N, win0_6.index t (0 : Fin 2) = 0 ∧ win0_6.index t (1 : Fin 2) = 0 := (by decide +kernel : ∀ t : Fin grid0.N, _)
/-- The block index of window 4 at each grid point. -/
theorem idx4 : ∀ t : Fin cfg0.N, win0_4.index t (0 : Fin 3) = 0 ∧ win0_4.index t (1 : Fin 3) = 0 ∧ win0_4.index t (2 : Fin 3) = 0 := (by decide +kernel : ∀ t : Fin grid0.N, _)
/-- The grid has one axis: a point's coordinate is its number. -/
theorem coord : ∀ t : Fin cfg0.N, ((grid0.coords t) 0).val = t.val := (by decide +kernel : ∀ t : Fin grid0.N, _)

/-- Row `r` of block `t`. -/
def row (t : Fin cfg0.N) (r : Fin 1024) : Fin 16384 := ⟨1024 * t.val + r.val, by have : t.val < 16 := t.isLt; omega⟩

/-- Row `r` of the halo of block `t`. -/
def haloRow (t : Fin cfg0.N) (r : Fin 16) : Fin 16384 := ⟨(64 * t.val - 1) * 16 + r.val, by have : t.val < 16 := t.isLt; omega⟩

/-- Where an index of window 0's block lies in its array. -/
theorem emb0 (t : Fin cfg0.N) (j : S1024x1024.Idx) : ((cfg0.win 0).blk t).view.emb j = (ix2 (row t (j 0)) (j 1) : S16384x1024.Idx) := by
  obtain ⟨e0, e1⟩ := idx0 t
  funext a; apply Fin.ext
  match a with
  | ⟨0, _⟩ => show win0_0.index t (0 : Fin 2) * 1024 + 1 * (j 0).val = 1024 * t.val + (j 0).val; omega
  | ⟨1, _⟩ => show win0_0.index t (1 : Fin 2) * 1024 + 1 * (j 1).val = (j 1).val; omega

/-- Where an index of window 7's block lies in its array. -/
theorem emb7 (t : Fin cfg0.N) (j : S1024x1024.Idx) : ((cfg0.win 7).blk t).view.emb j = (ix2 (row t (j 0)) (j 1) : S16384x1024.Idx) := by
  obtain ⟨e0, e1⟩ := idx7 t
  funext a; apply Fin.ext
  match a with
  | ⟨0, _⟩ => show win0_7.index t (0 : Fin 2) * 1024 + 1 * (j 0).val = 1024 * t.val + (j 0).val; omega
  | ⟨1, _⟩ => show win0_7.index t (1 : Fin 2) * 1024 + 1 * (j 1).val = (j 1).val; omega

/-- Where an index of window 1's block lies in its array. -/
theorem emb1 (t : Fin cfg0.N) (j : S16x1024.Idx) : ((cfg0.win 1).blk t).view.emb j = (ix2 (haloRow t (j 0)) (j 1) : S16384x1024.Idx) := by
  obtain ⟨e0, e1⟩ := idx1 t
  funext a; apply Fin.ext
  match a with
  | ⟨0, _⟩ => show win0_1.index t (0 : Fin 2) * 16 + 1 * (j 0).val = (64 * t.val - 1) * 16 + (j 0).val; omega
  | ⟨1, _⟩ => show win0_1.index t (1 : Fin 2) * 1024 + 1 * (j 1).val = (j 1).val; omega

/-- Where an index of window 2's block lies in its array. -/
theorem emb2 (t : Fin cfg0.N) (j : S1x1024.Idx) : ((cfg0.win 2).blk t).view.emb j = (j : S1x1024.Idx) := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- Where an index of window 3's block lies in its array. -/
theorem emb3 (t : Fin cfg0.N) (j : S1024x1024.Idx) : ((cfg0.win 3).blk t).view.emb j = (j : S1024x1024.Idx) := by
  obtain ⟨e0, e1⟩ := idx3 t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- Where an index of window 5's block lies in its array. -/
theorem emb5 (t : Fin cfg0.N) (j : S1x1024.Idx) : ((cfg0.win 5).blk t).view.emb j = (j : S1x1024.Idx) := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

/-- Where an index of window 6's block lies in its array. -/
theorem emb6 (t : Fin cfg0.N) (j : S1024x1024.Idx) : ((cfg0.win 6).blk t).view.emb j = (j : S1024x1024.Idx) := by
  obtain ⟨e0, e1⟩ := idx6 t
  funext a; apply Fin.ext
  match a with
  | ⟨0, _⟩ => show win0_6.index t (0 : Fin 2) * 1024 + 1 * (j 0).val = (j 0).val; omega
  | ⟨1, _⟩ => show win0_6.index t (1 : Fin 2) * 1024 + 1 * (j 1).val = (j 1).val; omega

/-- Where an index of window 4's block lies in its array. -/
theorem emb4 (t : Fin cfg0.N) (j : S4x256x256.Idx) : ((cfg0.win 4).blk t).view.emb j = (j : S4x256x256.Idx) := by
  obtain ⟨e0, e1, e2⟩ := idx4 t
  funext a; apply Fin.ext
  match a with
  | ⟨0, _⟩ => show win0_4.index t (0 : Fin 3) * 4 + 1 * (j 0).val = (j 0).val; omega
  | ⟨1, _⟩ => show win0_4.index t (1 : Fin 3) * 256 + 1 * (j 1).val = (j 1).val; omega
  | ⟨2, _⟩ => show win0_4.index t (2 : Fin 3) * 256 + 1 * (j 2).val = (j 2).val; omega

/-! What each input block holds, in terms of the argument arrays. -/

/-- Input block 0 at an index: the block's activations. -/
theorem iblk0_apply (c : Dev nD) (t : Fin cfg0.N) (r k : Fin 1024) : (iblk m c 0 t : Vec Ideal S1024x1024 .f32) (ix2 r k)
    = (m ((c : Thread nD τ).loc main_arg0) : Vec Ideal S8x2048x1024 .f32) (ix3 (⟨(row t r).val / 2048, by omega⟩ : Fin 8) (⟨(row t r).val % 2048, by omega⟩ : Fin 2048) k) := by
  show V m c main_v0 (((cfg0.win 0).blk t).view.emb (ix2 r k)) = _
  rw [emb0]
  exact V0 m c (row t r) k

/-- Input block 1 at an index: the halo's activations. -/
theorem iblk1_apply (c : Dev nD) (t : Fin cfg0.N) (r : Fin 16) (k : Fin 1024) : (iblk m c 1 t : Vec Ideal S16x1024 .f32) (ix2 r k)
    = (m ((c : Thread nD τ).loc main_arg0) : Vec Ideal S8x2048x1024 .f32)
        (ix3 (⟨(haloRow t r).val / 2048, by omega⟩ : Fin 8) (⟨(haloRow t r).val % 2048, by omega⟩ : Fin 2048) k) := by
  show V m c main_v0 (((cfg0.win 1).blk t).view.emb (ix2 r k)) = _
  rw [emb1]
  exact V0 m c (haloRow t r) k

/-- Input block 2 at an index: the normalization gain. -/
theorem iblk2_apply (c : Dev nD) (t : Fin cfg0.N) (k : Fin 1024) : (iblk m c 2 t : Vec Ideal S1x1024 .f32) (ix2 0 k) = (m ((c : Thread nD τ).loc main_arg1) : Vec Ideal S1024 .f32) (ix1 k) := by
  show V m c main_v4 (((cfg0.win 2).blk t).view.emb (ix2 0 k)) = _
  rw [emb2]
  exact V2 m c k

/-- Input block 3 at an index: the input weights. -/
theorem iblk3_apply (c : Dev nD) (t : Fin cfg0.N) (k j : Fin 1024) : (iblk m c 3 t : Vec Ideal S1024x1024 .bf16) (ix2 k j) = (m ((c : Thread nD τ).loc main_arg2) : Vec Ideal S1024x1024 .f32) (ix2 k j) := by
  show V m c main_v1 (((cfg0.win 3).blk t).view.emb (ix2 k j)) = _
  rw [emb3]
  exact V3 m c k j

/-- Input block 4 at an index: the group weights. -/
theorem iblk4_apply (c : Dev nD) (t : Fin cfg0.N) (g : Fin 4) (p s : Fin 256) : (iblk m c 4 t : Vec Ideal S4x256x256 .bf16) (ix3 g p s) = (m ((c : Thread nD τ).loc main_arg3) : Vec Ideal S4x256x256 .f32) (ix3 g p s) := by
  show V m c main_v2 (((cfg0.win 4).blk t).view.emb (ix3 g p s)) = _
  rw [emb4]
  exact V4 m c g p s

/-- Input block 5 at an index: the scale. -/
theorem iblk5_apply (c : Dev nD) (t : Fin cfg0.N) (k : Fin 1024) : (iblk m c 5 t : Vec Ideal S1x1024 .f32) (ix2 0 k) = (m ((c : Thread nD τ).loc main_arg4) : Vec Ideal S1024 .f32) (ix1 k) := by
  show V m c main_v5 (((cfg0.win 5).blk t).view.emb (ix2 0 k)) = _
  rw [emb5]
  exact V5 m c k

/-- Input block 6 at an index: the output weights. -/
theorem iblk6_apply (c : Dev nD) (t : Fin cfg0.N) (k j : Fin 1024) : (iblk m c 6 t : Vec Ideal S1024x1024 .bf16) (ix2 k j) = (m ((c : Thread nD τ).loc main_arg5) : Vec Ideal S1024x1024 .f32) (ix2 k j) := by
  show V m c main_v3 (((cfg0.win 6).blk t).view.emb (ix2 k j)) = _
  rw [emb6]
  exact V6 m c k j

/-- The batch a block's rows lie in. -/
def batch (t : Fin cfg0.N) : Fin 8 := ⟨t.val / 2, by have : t.val < 16 := t.isLt; omega⟩

/-- A kept row of the rows a block projects is the sequence's row standing sixteen before it. -/
theorem halo_apply (c : Dev nD) (t : Fin cfg0.N) (n : Fin 1040) (h : 16 ≤ start (grid0.coords t) + n.val) (h' : start (grid0.coords t) + n.val - 16 < 2048) (k : Fin 1024) :
    halo (iblk m c 0 t) (iblk m c 1 t) n k
      = (m ((c : Thread nD τ).loc main_arg0) : Vec Ideal S8x2048x1024 .f32) (ix3 (batch t) (⟨start (grid0.coords t) + n.val - 16, h'⟩ : Fin 2048) k) := by
  have ht : t.val < 16 := t.isLt
  have hs : start (grid0.coords t) = 1024 * (t.val % 2) := by unfold start; rw [coord]
  have hn := n.isLt
  unfold halo
  by_cases hc : n.val < 16
  · rw [dif_pos hc]
    refine (iblk1_apply m c t ⟨n.val, hc⟩ k).trans (congrArg _ ?_)
    congr 1 <;> apply Fin.ext
    · show ((64 * t.val - 1) * 16 + n.val) / 2048 = t.val / 2
      omega
    · show ((64 * t.val - 1) * 16 + n.val) % 2048 = start (grid0.coords t) + n.val - 16
      omega
  · rw [dif_neg hc]
    refine (iblk0_apply m c t ⟨n.val - 16, by omega⟩ k).trans (congrArg _ ?_)
    congr 1 <;> apply Fin.ext
    · show (1024 * t.val + (n.val - 16)) / 2048 = t.val / 2
      omega
    · show (1024 * t.val + (n.val - 16)) % 2048 = start (grid0.coords t) + n.val - 16
      omega

/-- The projections of the launch's argument arrays. -/
abbrev PM (c : Dev nD) : Fin 8 → ℕ → Fin 1024 → EReal :=
  P (m ((c : Thread nD τ).loc main_arg0)) (m ((c : Thread nD τ).loc main_arg1)) (m ((c : Thread nD τ).loc main_arg2))

/-- A column of a block's masked projections: the sequence's from sixteen rows before the block, zero before its start. -/
theorem masked_col (c : Dev nD) (t : Fin cfg0.N) (j : Fin 1024) (n : ℕ) (hn : n < 1040) :
    colOf (masked (grid0.coords t) (iblk m c 0 t) (iblk m c 1 t) (iblk m c 2 t) (iblk m c 3 t)) j n
      = if 16 ≤ start (grid0.coords t) + n then PM m c (batch t) (start (grid0.coords t) + n - 16) j else 0 := by
  unfold colOf
  rw [dif_pos hn]
  refine (masked_apply _ _ _ _ (grid0.coords t) ⟨n, hn⟩ j).trans ?_
  by_cases h : 16 ≤ start (grid0.coords t) + n
  · have h' : start (grid0.coords t) + n - 16 < 2048 := by unfold start at h ⊢; omega
    rw [if_pos h, if_pos h]
    unfold PM P Cert.Pool.seqProj
    rw [dif_pos h']
    have e0 : halo (iblk m c 0 t) (iblk m c 1 t) ⟨n, hn⟩ = fun k => (m ((c : Thread nD τ).loc main_arg0) : Vec Ideal S8x2048x1024 .f32)
        (ix3 (batch t) (⟨start (grid0.coords t) + n - 16, h'⟩ : Fin 2048) k) := funext fun k => halo_apply m c t ⟨n, hn⟩ h h' k
    have e2 : (fun k => (iblk m c 2 t : Vec Ideal S1x1024 .f32) (ix2 0 k)) = fun k => (m ((c : Thread nD τ).loc main_arg1) : Vec Ideal S1024 .f32) (ix1 k) :=
      funext fun k => iblk2_apply m c t k
    have e3 : (fun k j => (iblk m c 3 t : Vec Ideal S1024x1024 .bf16) (ix2 k j)) = fun k j => (m ((c : Thread nD τ).loc main_arg2) : Vec Ideal S1024x1024 .f32) (ix2 k j) :=
      funext fun k => funext fun j => iblk3_apply m c t k j
    exact congrFun (congr (congr (congrArg Cert.Pool.proj e0) e2) e3) j
  · rw [if_neg h, if_neg h]

/-- What point `t` leaves for its block is its rows of the mixer. -/
theorem outsAt0_apply (c : Dev nD) (t : Fin cfg0.N) (r j : Fin 1024) : outsAt0 m c t (ix2 r j)
    = G (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (ix2 (row t r) j) := by
  have ht : t.val < 16 := t.isLt
  have hr := r.isLt
  have hs : start (grid0.coords t) = 1024 * (t.val % 2) := by unfold start; rw [coord]
  unfold outsAt0
  rw [out_eq]
  refine (pay1_apply r (iblk m c 0 t) (fun g => group (masked (grid0.coords t) (iblk m c 0 t) (iblk m c 1 t) (iblk m c 2 t) (iblk m c 3 t)) (start (grid0.coords t)) g)
    (page (iblk m c 4 t)) (iblk m c 5 t) (iblk m c 6 t) j).trans ?_
  have hb : (⟨(row t r).val / 2048, by omega⟩ : Fin 8) = batch t := Fin.ext (by show (1024 * t.val + r.val) / 2048 = t.val / 2; omega)
  have hp : (row t r).val % 2048 = start (grid0.coords t) + r.val := by
    show (1024 * t.val + r.val) % 2048 = _
    omega
  refine congrArg₂ (· + ·) (iblk0_apply m c t r j) ?_
  show _ = Cert.Pool.mix (PM m c (⟨(row t r).val / 2048, by omega⟩ : Fin 8)) _ _ _ ((row t r).val % 2048) j
  rw [hb, hp]
  refine Finset.sum_congr rfl fun q _ => ?_
  refine congrArg₂ (· * ·) (congrArg₂ (· * ·) (Finset.sum_congr rfl fun i _ => congrArg₂ (· * ·) ?_ ?_) (iblk5_apply m c t q)) (iblk6_apply m c t q j)
  · exact pieceAt_eq _ _ r (Cert.Pool.col (Cert.Pool.grp q) i) (Cert.Pool.win (Cert.Pool.grp q)) (win_le _) (fun n => PM m c (batch t) n (Cert.Pool.col (Cert.Pool.grp q) i))
      (fun n hn => masked_col m c t _ n hn)
  · exact (page_at _ _ _ _).trans (iblk4_apply m c t _ _ _)

/-- The result array, as the launch's argument arrays determine it. -/
def GM (c : Dev nD) : Vec Ideal S16384x1024 .f32 :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

/-- What the point writes back is its block of the mixer. -/
theorem flushed7_eq (c : Dev nD) (t : Fin cfg0.N) : (dats m 0 c).flushed 7 t = ((cfg0.win 7).blk t).view.read (Elt Ideal) (GM m c) := by
  rw [flushed7]
  funext y
  show outsAt0 m c t y = GM m c (((cfg0.win 7).blk t).view.emb y)
  rw [emb7]
  have h := outsAt0_apply m c t (y 0) (y 1)
  rwa [show (ix2 (y 0) (y 1) : S1024x1024.Idx) = y from by funext a; match a with | ⟨0, _⟩ => rfl | ⟨1, _⟩ => rfl] at h

/-- Every index of the result array is in the block of its row's point. -/
theorem covered7 (i : S16384x1024.Idx) : ∃ t : Fin cfg0.N, (cfg0.win 7).flush t = true ∧ i ∈ ((cfg0.win 7).blk t).view.set := by
  idx_vars i
  obtain ⟨t, r, hr⟩ : ∃ (t : Fin cfg0.N) (r : Fin 1024), row t r = i0 :=
    ⟨⟨i0.val / 1024, by show i0.val / 1024 < 16; omega⟩, ⟨i0.val % 1024, by omega⟩, Fin.ext (by show 1024 * (i0.val / 1024) + i0.val % 1024 = i0.val; omega)⟩
  refine ⟨t, flush0_7 t, ?_⟩
  have h := ((cfg0.win 7).blk t).view.emb_mem_set (ix2 r i1 : S1024x1024.Idx)
  rw [emb7] at h
  subst hr
  exact h

/-- The result array after the run is the mixer of the argument arrays. -/
theorem final7 (c : Dev nD) : (dats m 0 c).arrAt 7 cfg0.N = GM m c :=
  (dats m 0 c).arrAt_eq_of_cover 7 (GM m c) (fun t _ => flushed7_eq m c t) covered7

/-- The generated run with the result array at its function of the arguments. -/
theorem run : θ_run defs (onTc (τ := τ) (main (F := Ideal))) ⟨m, fun _ => 0, ρ⟩ fun r => ∀ c : Dev nD,
      r.2.mem ((c : Thread nD τ).loc main_v6) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2⟩) (run_blocks m ρ)

end Cert.Kernel4Ideal.Pool

end
-- ==== Proof.PoolRef.lean ====
/- The pooling mixer's reference: where the gain and the input weights are real, its result array is the mixer of the
   argument arrays. -/
module

public import proofs.«01_k».proof.Proof.PoolMath
public import proofs.«01_k».proof.Proof.Gen.Reference4Ideal.Read
public import Idealize.ShloMosaic.Lib.Pointwise

@[expose] public section

set_option maxRecDepth 16384

noncomputable section

namespace Cert.Reference4Ideal.Pool

open Cert.Reference4Ideal Cert.Reference4Ideal.Gen Cert.Reference4Ideal.Read Idealize.ShloMosaic Idealize.ShloMosaic.TcCoe Idealize.ShloMosaic.Tactic Idealize.SL.Sem

/-- Adding a list's terms from the left, one after another, is adding their sum. -/
theorem foldl_add {α : Type} (f : α → EReal) (l : List α) (v : EReal) : l.foldl (fun r n => r + f n) v = v + (l.map f).sum := by
  induction l generalizing v with
  | nil => simp
  | cons a l ih => simp [ih, add_assoc]

/-- The window of the running sum: one entry across, 2048 down the sequence. -/
abbrev W : Shape := ⟨3, ![1, 2048, 1]⟩

/-- A window's places, by how far down the sequence they stand. -/
theorem window_bij : Function.Bijective (fun k : Fin 2048 => (ix3 0 k 0 : W.Idx)) := by
  constructor
  · intro a b h
    exact congrFun h 1
  · intro y
    refine ⟨y 1, ?_⟩
    funext a
    match a with
    | ⟨0, _⟩ => exact (Subsingleton.elim (α := Fin 1) _ _)
    | ⟨1, _⟩ => rfl
    | ⟨2, _⟩ => exact (Subsingleton.elim (α := Fin 1) _ _)

/-- A sum over the 2048 places ending at position `s`, those before the start zero, is the running sum through `s`. -/
theorem window_sum (p : ℕ → EReal) (s : ℕ) (hs : s < 2048) :
    (∑ k : Fin 2048, if 2047 ≤ s + k.val then p (s + k.val - 2047) else 0) = Cert.Pool.csum p s := by
  rw [← Finset.sum_range (fun k => if 2047 ≤ s + k then p (s + k - 2047) else 0)]
  have h : 2048 = (2047 - s) + (s + 1) := by omega
  rw [h, Finset.sum_range_add, Finset.sum_eq_zero, zero_add]
  · unfold Cert.Pool.csum
    refine Finset.sum_congr rfl fun x _ => ?_
    rw [if_pos (by omega)]
    exact congrArg p (by omega)
  · intro k hk
    have := Finset.mem_range.mp hk
    rw [if_neg (by omega)]

/-- The reference's running sum down the sequence, at an index. -/
theorem running_apply (x : FVec Ideal S8x2048x1024 .f32) (z : FVec Ideal S_ .f32) (hz : z (Shape.Idx.first h_S_) = 0) (b : Fin 8) (s : Fin 2048) (c : Fin 1024) :
    Host.reduceWindowAdd ![1, 2048, 1] ![1, 1, 1] ![0, 2047, 0] ![0, 0, 0] x z reduceWindows_S8x2048x1024_S8x2048x1024_w1s1p0_0_w2048s1p2047_0_w1s1p0_0 h_S_ (ix3 b s c)
      = Cert.Pool.csum (fun n => if h : n < 2048 then x (ix3 b ⟨n, h⟩ c) else 0) s.val := by
  simp only [Host.reduceWindowAdd, Ideal.hostReduceWindowAdd_def]
  unfold Ideal.hostReduceWindowAdd Host.reduceWindow
  refine (foldl_add _ _ _).trans ?_
  rw [← Fin.sum_univ_def, hz, zero_add]
  rw [← Equiv.sum_comp W.rowMajor, ← window_bij.sum_comp, ← window_sum _ _ s.isLt]
  refine Finset.sum_congr rfl fun k _ => ?_
  simp only [Equiv.symm_apply_apply]
  have hs := s.isLt
  have hk := k.isLt
  have hc := c.isLt
  have hb := b.isLt
  by_cases h : 2047 ≤ s.val + k.val
  · rw [if_pos h, dif_pos (show s.val + k.val - 2047 < 2048 by omega), dif_pos]
    · refine congrArg x (funext fun a => Fin.ext ?_)
      match a with
      | ⟨0, _⟩ => show b.val * 1 + 0 - 0 = b.val; omega
      | ⟨1, _⟩ => show s.val * 1 + k.val - 2047 = s.val + k.val - 2047; omega
      | ⟨2, _⟩ => show c.val * 1 + 0 - 0 = c.val; omega
    · intro a
      match a with
      | ⟨0, _⟩ => show 0 ≤ b.val * 1 + 0 ∧ b.val * 1 + 0 - 0 < 8; omega
      | ⟨1, _⟩ => show 2047 ≤ s.val * 1 + k.val ∧ s.val * 1 + k.val - 2047 < 2048; omega
      | ⟨2, _⟩ => show 0 ≤ c.val * 1 + 0 ∧ c.val * 1 + 0 - 0 < 1024; omega
  · rw [if_neg h, dif_neg]
    intro H
    have h1 : 2047 ≤ s.val * 1 + k.val := (H 1).1
    omega

variable (x0 : Vec Ideal S8x2048x1024 .f32) (x1 : Vec Ideal S1024 .f32) (x2 : Vec Ideal S1024x1024 .f32)
  (x3 : Vec Ideal S4x256x256 .f32) (x4 : Vec Ideal S1024 .f32) (x5 : Vec Ideal S1024x1024 .f32)

/-- The normalized activations at an index. -/
theorem v12_apply (b : Fin 8) (s : Fin 2048) (k : Fin 1024) : val_main_v12 (F := Ideal) x0 x1 (ix3 b s k)
    = Cert.Gmlp.rms (fun k => x0 (ix3 b s k)) (fun k => x1 (ix1 k)) k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The projections of one batch's sequence, by position and column. -/
def P (b : Fin 8) (n : ℕ) (c : Fin 1024) : EReal := Cert.Pool.seqProj (fun n k => x0 (ix3 b n k)) (fun k => x1 (ix1 k)) (fun k c => x2 (ix2 k c)) n c

/-- The projection at an index. -/
theorem v13_apply (b : Fin 8) (s : Fin 2048) (c : Fin 1024) : val_main_v13 (F := Ideal) x0 x1 x2 (ix3 b s c) = P x0 x1 x2 b s.val c := by
  unfold P Cert.Pool.seqProj
  rw [dif_pos s.isLt]
  unfold val_main_v13
  pointwise [v12_apply]
  rfl

/-- The running sum at an index. -/
theorem v14_apply (b : Fin 8) (s : Fin 2048) (c : Fin 1024) : val_main_v14 (F := Ideal) x0 x1 x2 (ix3 b s c)
    = Cert.Pool.csum (fun n => P x0 x1 x2 b n c) s.val := by
  unfold val_main_v14
  rw [running_apply _ _ (by unfold val_main_call0_call0_v0 val_main_call0_call0_cst; pointwise)]
  refine congrArg (Cert.Pool.csum · s.val) (funext fun n => ?_)
  by_cases h : n < 2048
  · rw [dif_pos h]
    exact v13_apply x0 x1 x2 b ⟨n, h⟩ c
  · rw [dif_neg h]
    unfold P Cert.Pool.seqProj
    rw [dif_neg h]

/-- The difference of two running sums over the count, less the entry, is the window's average less the entry, the entries real. -/
theorem entry (p : ℕ → EReal) (hp : ∀ n, Cert.Pool.IsReal (p n)) (s : ℕ) (hs : s < 2048) (w : ℕ) :
    Ideal.div (Cert.Pool.csum p s - (if _ : w ≤ s ∧ s - w < 2048 then Cert.Pool.csum p (s - w) else FloatOps.sitofp (F := Ideal) .f32 0#32))
        (FloatOps.sitofp (F := Ideal) .f32 (IntOp.minsi (IntOp.addi 1#32 (BitVec.ofNat 32 s)) (BitVec.ofNat 32 w))) - p s
      = Cert.Pool.mixd p s w := by
  unfold Cert.Pool.mixd Cert.Pool.count
  rw [← Cert.Pool.csum_sub p hp s w]
  have hc : IntOp.addi 1#32 (BitVec.ofNat 32 s) = BitVec.ofNat 32 (s + 1) := by
    show 1#32 + BitVec.ofNat 32 s = _
    rw [BitVec.ofNat_add, BitVec.add_comm]
  rw [hc]
  have hz : FloatOps.sitofp (F := Ideal) .f32 (0#32) = 0 := by simp [FloatOps.sitofp]
  by_cases h : w ≤ s
  · rw [dif_pos ⟨h, by omega⟩, if_pos h]
  · rw [dif_neg (fun k => h k.1), if_neg h, hz]

section Groups
variable (f1 : ∀ i, Cert.Pool.IsReal (x1 i)) (f2 : ∀ i, Cert.Pool.IsReal (x2 i))
include f1 f2

/-- An entry of the first group at an index. -/
theorem v29_apply (b : Fin 8) (s : Fin 2048) (i : Fin 256) : val_main_v29 (F := Ideal) x0 x1 x2 (ix3 b s i)
    = Cert.Pool.mixd (fun n => P x0 x1 x2 b n (Cert.Pool.col 0 i)) s.val (Cert.Pool.win 0) := by
  unfold val_main_v29 val_main_v28 val_main_v27 val_main_v26 val_main_v25 val_main_v24 val_main_v23 val_main_v22 val_main_v21 val_main_v20 val_main_v19 val_main_v18
    val_main_v17 val_main_v16 val_main_v15 val_main_c val_main_c_3 val_main_call1_v0 val_main_c_2
  pointwise [v13_apply, v14_apply]
  have e : ∀ h, (⟨i.val, h⟩ : Fin 1024) = Cert.Pool.col 0 i := fun _ => Fin.ext (by show i.val = 256 * 0 + i.val; omega)
  simp only [e]
  exact entry _ (fun n => Cert.Pool.seqProj_fin _ _ _ (fun k => f1 (ix1 k)) (fun k c => f2 (ix2 k c)) n _) s.val s.isLt 2

/-- An entry of the second group at an index. -/
theorem v41_apply (b : Fin 8) (s : Fin 2048) (i : Fin 256) : val_main_v41 (F := Ideal) x0 x1 x2 (ix3 b s i)
    = Cert.Pool.mixd (fun n => P x0 x1 x2 b n (Cert.Pool.col 1 i)) s.val (Cert.Pool.win 1) := by
  unfold val_main_v41 val_main_v40 val_main_v39 val_main_v38 val_main_v37 val_main_v36 val_main_v35 val_main_v34 val_main_v33 val_main_v32 val_main_v31 val_main_v30
    val_main_v17 val_main_v16 val_main_v15 val_main_c val_main_c_5 val_main_call2_v0 val_main_c_4
  pointwise [v13_apply, v14_apply]
  exact entry _ (fun n => Cert.Pool.seqProj_fin _ _ _ (fun k => f1 (ix1 k)) (fun k c => f2 (ix2 k c)) n _) s.val s.isLt 4

/-- An entry of the third group at an index. -/
theorem v53_apply (b : Fin 8) (s : Fin 2048) (i : Fin 256) : val_main_v53 (F := Ideal) x0 x1 x2 (ix3 b s i)
    = Cert.Pool.mixd (fun n => P x0 x1 x2 b n (Cert.Pool.col 2 i)) s.val (Cert.Pool.win 2) := by
  unfold val_main_v53 val_main_v52 val_main_v51 val_main_v50 val_main_v49 val_main_v48 val_main_v47 val_main_v46 val_main_v45 val_main_v44 val_main_v43 val_main_v42
    val_main_v17 val_main_v16 val_main_v15 val_main_c val_main_c_7 val_main_call3_v0 val_main_c_6
  pointwise [v13_apply, v14_apply]
  exact entry _ (fun n => Cert.Pool.seqProj_fin _ _ _ (fun k => f1 (ix1 k)) (fun k c => f2 (ix2 k c)) n _) s.val s.isLt 8

/-- An entry of the fourth group at an index. -/
theorem v65_apply (b : Fin 8) (s : Fin 2048) (i : Fin 256) : val_main_v65 (F := Ideal) x0 x1 x2 (ix3 b s i)
    = Cert.Pool.mixd (fun n => P x0 x1 x2 b n (Cert.Pool.col 3 i)) s.val (Cert.Pool.win 3) := by
  unfold val_main_v65 val_main_v64 val_main_v63 val_main_v62 val_main_v61 val_main_v60 val_main_v59 val_main_v58 val_main_v57 val_main_v56 val_main_v55 val_main_v54
    val_main_v17 val_main_v16 val_main_v15 val_main_c val_main_c_9 val_main_call4_v0 val_main_c_8
  pointwise [v13_apply, v14_apply]
  exact entry _ (fun n => Cert.Pool.seqProj_fin _ _ _ (fun k => f1 (ix1 k)) (fun k c => f2 (ix2 k c)) n _) s.val s.isLt 16

/-- The four groups' entries together, at an index. -/
theorem v70_apply (b : Fin 8) (s : Fin 2048) (g : Fin 4) (i : Fin 256) : val_main_v70 (F := Ideal) x0 x1 x2 (ix4 b s g i)
    = Cert.Pool.mixd (fun n => P x0 x1 x2 b n (Cert.Pool.col g i)) s.val (Cert.Pool.win g) := by
  unfold val_main_v70 val_main_v69 val_main_v68 val_main_v67 val_main_v66
  pointwise [v29_apply x0 x1 x2 f1 f2, v41_apply x0 x1 x2 f1 f2, v53_apply x0 x1 x2 f1 f2, v65_apply x0 x1 x2 f1 f2]
  have hg := g.isLt
  have key : ∀ g' : Fin 4, g.val = g'.val →
      Cert.Pool.mixd (fun n => P x0 x1 x2 b n (Cert.Pool.col g' i)) s.val (Cert.Pool.win g')
        = Cert.Pool.mixd (fun n => P x0 x1 x2 b n (Cert.Pool.col g i)) s.val (Cert.Pool.win g) := by
    intro g' h
    obtain rfl : g = g' := Fin.ext h
    rfl
  split_ifs with h0 h1 h2 <;> first
    | exact key 0 (by show g.val = 0; omega)
    | exact key 1 (by show g.val = 1; omega)
    | exact key 2 (by show g.val = 2; omega)
    | exact key 3 (by show g.val = 3; omega)

/-- The groups' products at an index, the group and the place in it named by the column. -/
theorem v73_apply (b : Fin 8) (s : Fin 2048) (q : Fin 1024) : val_main_v73 (F := Ideal) x0 x1 x2 x3 (ix3 b s q)
    = ∑ i, Cert.Pool.mixd (fun n => P x0 x1 x2 b n (Cert.Pool.col (Cert.Pool.grp q) i)) s.val (Cert.Pool.win (Cert.Pool.grp q))
        * x3 (ix3 (Cert.Pool.grp q) i (Cert.Pool.pos q)) := by
  have h : val_main_v73 (F := Ideal) x0 x1 x2 x3 (ix3 b s q) = val_main_v72 (F := Ideal) x0 x1 x2 x3 (ix4 b s (Cert.Pool.grp q) (Cert.Pool.pos q)) := by
    unfold val_main_v73
    exact shapeCast_apply _ _ _ _ (by
      rw [Shape.rowMajor_val_three, Shape.rowMajor_val_four]
      show ((b.val * 2048 + s.val) * 4 + q.val / 256) * 256 + q.val % 256 = (b.val * 2048 + s.val) * 1024 + q.val
      omega)
  rw [h]
  unfold val_main_v72 val_main_v71
  pointwise [v70_apply x0 x1 x2 f1 f2]
  exact Finset.sum_congr rfl fun i _ => mul_comm _ _

/-- The result at row `R`, column `j`. -/
theorem v79_apply (R : Fin 16384) (j : Fin 1024) : val_main_v79 (F := Ideal) x0 x1 x2 x3 x4 x5 (ix2 R j)
    = x0 (ix3 (⟨R.val / 2048, by omega⟩ : Fin 8) (⟨R.val % 2048, by omega⟩ : Fin 2048) j)
      + Cert.Pool.mix (P x0 x1 x2 (⟨R.val / 2048, by omega⟩ : Fin 8)) (fun g i o => x3 (ix3 g i o)) (fun q => x4 (ix1 q)) (fun q j => x5 (ix2 q j)) (R.val % 2048) j := by
  have h : val_main_v79 (F := Ideal) x0 x1 x2 x3 x4 x5 (ix2 R j)
      = val_main_v78 (F := Ideal) x0 x1 x2 x3 x4 x5 (ix3 (⟨R.val / 2048, by omega⟩ : Fin 8) (⟨R.val % 2048, by omega⟩ : Fin 2048) j) := by
    unfold val_main_v79
    exact shapeCast_apply _ _ _ _ (by
      rw [Shape.rowMajor_val_three, Shape.rowMajor_val_two]
      show (R.val / 2048 * 2048 + R.val % 2048) * 1024 + j.val = R.val * 1024 + j.val
      omega)
  rw [h]
  generalize (⟨R.val / 2048, by omega⟩ : Fin 8) = b
  show _ = _ + Cert.Pool.mix _ _ _ _ (⟨R.val % 2048, by omega⟩ : Fin 2048).val j
  generalize (⟨R.val % 2048, by omega⟩ : Fin 2048) = s
  unfold val_main_v78 val_main_v77 val_main_v76 val_main_v75 val_main_v74
  pointwise [v73_apply x0 x1 x2 x3 f1 f2]
  rfl
end Groups

end Cert.Reference4Ideal.Pool

end
-- ==== Proof.PoolClaims.lean ====
/- The claims about the pooling mixer. -/
module

public import proofs.«01_k».proof.Defs
public import proofs.«01_k».proof.Proof.Gen.Kernel4.Frame
public import proofs.«01_k».proof.Proof.Gen.Reference4Ideal.Run
public import proofs.«01_k».proof.Proof.Gen.Pre_finite
public import proofs.«01_k».proof.Proof.PoolArray
public import proofs.«01_k».proof.Proof.PoolRef
public import Idealize.ShloMosaic.Lib.ReduceAll
public import Idealize.ShloMosaic.Lib.StableHlo.Predicate

@[expose] public section

set_option maxRecDepth 16384

noncomputable section

namespace Cert.Proof.Pool

open Idealize.ShloMosaic Idealize.ShloMosaic.TcCoe Idealize.SL.Sem

/-- Two bits whose conjunction is set are both set. -/
theorem both (a b : BitVec 1) (h : a &&& b = 1#1) : a = 1#1 ∧ b = 1#1 := by
  revert a b
  decide

/-- A number whose magnitude compares below infinity is real. -/
theorem real_of_lt (x : EReal) (h : Ideal.cmp .olt (max x (-x)) (Ideal.ofBits .f32 0x7F800000#32) = 1#1) : Cert.Pool.IsReal x := by
  have ht : Ideal.ofBits .f32 0x7F800000#32 = ⊤ := by simp [Ideal.ofBits, Ideal.ieee]
  rw [ht] at h
  refine Cert.Pool.IsReal.of_abs ?_
  simpa [Ideal.cmp, StableHlo.Predicate.ofBool_eq_one_iff] using h

/-- An index set of a scalar has one index. -/
instance : Subsingleton Cert.Pre_finite.S_.Idx := ⟨fun _ _ => funext fun a => a.elim0⟩

/-- The precondition: the gain and the input weights are real. -/
theorem finite (a0 : Vec Ideal Cert.Kernel4Ideal.S8x2048x1024 .f32) (a1 : Vec Ideal Cert.Kernel4Ideal.S1024 .f32)
    (a2 : Vec Ideal Cert.Kernel4Ideal.S1024x1024 .f32) (a3 : Vec Ideal Cert.Kernel4Ideal.S4x256x256 .f32) (a4 : Vec Ideal Cert.Kernel4Ideal.S1024 .f32)
    (a5 : Vec Ideal Cert.Kernel4Ideal.S1024x1024 .f32) (h : Cert.Pre_finite.fn (F := Ideal) a0 a1 a2 a3 a4 a5 = fun _ => 1#1) :
    (∀ i, Cert.Pool.IsReal (a1 i)) ∧ (∀ i, Cert.Pool.IsReal (a2 i)) := by
  have e := congrFun h (fun a => a.elim0)
  obtain ⟨e1, e2⟩ := both _ _ e
  exact ⟨fun i => real_of_lt _ (Host.reduce_andi_all _ _ _ _ _ e1 i),
    fun i => real_of_lt _ (Host.reduce_andi_all _ _ _ _ _ e2 i)⟩

/-- The kernel runs from any launch and leaves its arguments and semaphores as they were. -/
theorem frame_kernel : Cert.quiescent_Kernel4 := fun m g _ => Cert.Kernel4.Gen.frame m g

/-- So does its idealization. -/
theorem frame_ideal : Cert.quiescent_Kernel4Ideal := fun m g _ => Cert.Kernel4Ideal.Gen.frame m g

/-- In particular from one whose gain and input weights are finite. -/
theorem frame_ideal_finite : Cert.quiescent_Kernel4Ideal_pre_finite := fun m g _ => Cert.Kernel4Ideal.Gen.frame m g

/-- So does the reference. -/
theorem frame_reference : Cert.quiescent_Reference4Ideal := fun m g _ =>
  (θ_run Cert.Reference4Ideal.defs _ _).mono (fun r h => And.intro (fun c => (h c).2) (sem_eq_zero_of_no_sems (by decide) r.2))
    (Cert.Reference4Ideal.Value.run m g)

/-- In particular from one whose gain and input weights are finite. -/
theorem frame_reference_finite : Cert.quiescent_Reference4Ideal_pre_finite := fun m g _ => frame_reference m g trivial

/-- The reference's result array is the same function of the arguments as the kernel's, the gain and the input weights real. -/
theorem reference_value (a0 : Vec Ideal Cert.Kernel4Ideal.S8x2048x1024 .f32) (a1 : Vec Ideal Cert.Kernel4Ideal.S1024 .f32)
    (a2 : Vec Ideal Cert.Kernel4Ideal.S1024x1024 .f32) (a3 : Vec Ideal Cert.Kernel4Ideal.S4x256x256 .f32) (a4 : Vec Ideal Cert.Kernel4Ideal.S1024 .f32)
    (a5 : Vec Ideal Cert.Kernel4Ideal.S1024x1024 .f32)
    (h : (∀ i, Cert.Pool.IsReal (a1 i)) ∧ (∀ i, Cert.Pool.IsReal (a2 i))) :
    Cert.Reference4Ideal.Read.val_main_v79 (F := Ideal) a0 a1 a2 a3 a4 a5 = Cert.Kernel4Ideal.Pool.G a0 a1 a2 a3 a4 a5 := by
  funext i
  idx_vars i
  exact Cert.Reference4Ideal.Pool.v79_apply a0 a1 a2 a3 a4 a5 h.1 h.2 i0 i1

/-- Over the extended reals the kernel and the reference end with one result array, from a gain and input weights that are finite. -/
theorem value : Cert.algebraic_Kernel4Ideal_Reference4Ideal_pre_finite := by
  intro m g m' g' pre same
  refine ⟨fun c => Cert.Kernel4Ideal.Pool.GM m c, Cert.Kernel4Ideal.Pool.run m g, ?_⟩
  refine (θ_run Cert.Reference4Ideal.defs _ _).mono (fun r h c => And.intro ?_ (h c).2) (Cert.Reference4Ideal.Value.run (F := Ideal) m' g')
  obtain ⟨e0, e1, e2, e3, e4, e5⟩ := same c
  rw [(h c).1, Cert.Reference4Ideal.Read.val_main_v79_eq, e0, e1, e2, e3, e4, e5]
  exact reference_value _ _ _ _ _ _ (finite _ _ _ _ _ _ (pre c))

end Cert.Proof.Pool

end
-- ==== Proof.ProjMath.lean ====
/- The mathematics of the RWKV projections over the extended reals: each row blended with the one before it, and the projections, gates and
   per-head normalized keys of the blends. -/
module

public import proofs.«01_k».proof.Proof.PoolMath

@[expose] public section

set_option maxRecDepth 16384

noncomputable section

namespace Cert.Proj

open Idealize.ShloMosaic

/-- A row blended with the one before it, `p`, by the weights `mu`. -/
def shift (h p mu : Fin 1024 → EReal) (k : Fin 1024) : EReal := h k + (p k - h k) * mu k

/-- A row times a matrix. -/
def dot {m n : ℕ} (x : Fin m → EReal) (w : Fin m → Fin n → EReal) (j : Fin n) : EReal := ∑ k, x k * w k j

/-- The softplus, as the larger of its argument and zero plus a logarithm. -/
def soft (u : EReal) : EReal := max u 0 + Ideal.log1p (Ideal.exp (-(max u (-u))))

/-- The logarithm of the decay's logarithm. -/
def wlog (x : Fin 1024 → EReal) (w0 : Fin 1024 → EReal) (w1 : Fin 1024 → Fin 64 → EReal) (w2 : Fin 64 → Fin 1024 → EReal) (j : Fin 1024) : EReal :=
  -soft (-(w0 j + dot (fun l => Ideal.tanh (dot x w1 l)) w2 j)) - Ideal.ofBits .f32 0x3F000000#32

/-- The decay. -/
def decay (x : Fin 1024 → EReal) (w0 : Fin 1024 → EReal) (w1 : Fin 1024 → Fin 64 → EReal) (w2 : Fin 64 → Fin 1024 → EReal) (j : Fin 1024) : EReal :=
  Ideal.exp (-Ideal.exp (wlog x w0 w1 w2 j))

/-- The rate each key replaces what is stored at. -/
def rate (x : Fin 1024 → EReal) (a0 : Fin 1024 → EReal) (a1 : Fin 1024 → Fin 64 → EReal) (a2 : Fin 64 → Fin 1024 → EReal) (j : Fin 1024) : EReal :=
  Ideal.logistic (a0 j + dot (dot x a1) a2 j)

/-- The output gate. -/
def gate (x : Fin 1024 → EReal) (g1 : Fin 1024 → Fin 128 → EReal) (g2 : Fin 128 → Fin 1024 → EReal) (j : Fin 1024) : EReal :=
  dot (fun l => Ideal.logistic (dot x g1 l)) g2 j

/-- The key of a rate. -/
def key (k a ka : Fin 1024 → EReal) (j : Fin 1024) : EReal := k j * (1 + (a j - 1) * ka j)

/-- Column `d` of the head column `j` lies in. -/
def headCol (j : Fin 1024) (d : Fin 64) : Fin 1024 := ⟨64 * (j.val / 64) + d.val, by omega⟩

/-- The scaled key, normalized head by head. -/
def unitKey (k s : Fin 1024 → EReal) (j : Fin 1024) : EReal :=
  Ideal.div (k j * s j) (max (Ideal.sqrt (∑ d : Fin 64, (k (headCol j d) * s (headCol j d)) * (k (headCol j d) * s (headCol j d)))) (Ideal.ofBits .f32 0x2B8CBCCC#32))

/-- A real number less itself is zero. -/
theorem sub_self_real {x : EReal} (hx : Cert.Pool.IsReal x) : x - x = 0 := by
  obtain ⟨a, rfl⟩ := hx
  rw [← EReal.coe_sub, sub_self, EReal.coe_zero]

/-- The sum over all columns of a head's own, each counted once, is the sum over the head's columns. -/
theorem head_sum (f : Fin 1024 → EReal) (j : Fin 1024) (q : Fin 1024 → EReal) (hq : ∀ x : Fin 1024, q x = if x.val / 64 = j.val / 64 then 1 else 0) :
    ∑ x, f x * q x = ∑ d : Fin 64, f (headCol j d) := by
  have e : ∀ x : Fin 1024, f x * q x = if x.val / 64 = j.val / 64 then f x else 0 := fun x => by
    rw [hq]
    split_ifs
    · exact mul_one _
    · exact mul_zero _
  rw [Finset.sum_congr rfl fun x _ => e x, ← Finset.sum_filter]
  refine Finset.sum_nbij' (fun x => (⟨x.val % 64, by omega⟩ : Fin 64)) (headCol j) (fun _ _ => Finset.mem_univ _) (fun d _ => ?_) (fun x hx => ?_) (fun d _ => ?_) (fun x hx => ?_)
  · refine Finset.mem_filter.mpr ⟨Finset.mem_univ _, ?_⟩
    show (64 * (j.val / 64) + d.val) / 64 = j.val / 64
    omega
  · have := (Finset.mem_filter.mp hx).2
    apply Fin.ext
    show 64 * (j.val / 64) + x.val % 64 = x.val
    omega
  · apply Fin.ext
    show (64 * (j.val / 64) + d.val) % 64 = d.val
    omega
  · have := (Finset.mem_filter.mp hx).2
    refine congrArg f (Fin.ext ?_)
    show x.val = 64 * (j.val / 64) + x.val % 64
    omega

/-- The head sums taken in two parts, a value and what it left of itself, and spread over the heads' columns in two parts, are the head
    sums, where the values are real: what each part leaves is zero. -/
theorem split_sum (f : Fin 1024 → EReal) (hf : ∀ x, Cert.Pool.IsReal (f x)) (j : Fin 1024) (s : Fin 1024 → Fin 128 → EReal) (e : Fin 128 → Fin 1024 → EReal)
    (hs : ∀ x c, s x c = if x.val / 64 = c.val then 1 else 0) (he : ∀ c x, e c x = if x.val / 64 = c.val then 1 else 0) :
    (∑ c, (∑ x, f x * s x c + ∑ x, (f x - f x) * s x c) * e c j)
      + ∑ c, ((∑ x, f x * s x c + ∑ x, (f x - f x) * s x c) - (∑ x, f x * s x c + ∑ x, (f x - f x) * s x c)) * e c j
      = ∑ d : Fin 64, f (headCol j d) := by
  have hz : ∀ c, ∑ x, (f x - f x) * s x c = 0 := fun c => Finset.sum_eq_zero fun x _ => by rw [sub_self_real (hf x), zero_mul]
  have hs' : ∀ x c, Cert.Pool.IsReal (s x c) := fun x c => by
    rw [hs]
    split_ifs
    · exact ⟨1, EReal.coe_one.symm⟩
    · exact ⟨0, EReal.coe_zero.symm⟩
  have hr : ∀ c, Cert.Pool.IsReal (∑ x, f x * s x c) := fun c => Cert.Pool.IsReal.sum _ _ fun x => (hf x).mul (hs' x c)
  simp only [hz, add_zero]
  rw [Finset.sum_eq_zero (s := Finset.univ) (f := fun c => (∑ x, f x * s x c - ∑ x, f x * s x c) * e c j) fun c _ => by rw [sub_self_real (hr c), zero_mul], add_zero]
  have hj := j.isLt
  rw [Finset.sum_eq_single (⟨j.val / 64, by omega⟩ : Fin 128)]
  · rw [he, if_pos rfl, mul_one]
    exact head_sum f j _ fun x => hs x _
  · intro c _ hc
    rw [he, if_neg fun h => hc (Fin.ext h.symm), mul_zero]
  · exact fun h => absurd (Finset.mem_univ _) h

/-- What the projections take: the activations by batch and position, the normalization's gain, the six blending weights, the three square
    matrices, and the vectors and matrices of the decay, the rate, the gate and the keys. -/
structure Args where
  /-- the activations, by batch, position and column -/
  x : Fin 8 → Fin 2048 → Fin 1024 → EReal
  /-- the normalization's gain -/
  gain : Fin 1024 → EReal
  /-- the blending weights -/
  mu : Fin 6 → Fin 1024 → EReal
  /-- the square matrices -/
  W : Fin 3 → Fin 1024 → Fin 1024 → EReal
  /-- the decay's offset -/
  w0 : Fin 1024 → EReal
  /-- the decay's first matrix -/
  w1 : Fin 1024 → Fin 64 → EReal
  /-- the decay's second matrix -/
  w2 : Fin 64 → Fin 1024 → EReal
  /-- the rate's offset -/
  a0 : Fin 1024 → EReal
  /-- the rate's first matrix -/
  a1 : Fin 1024 → Fin 64 → EReal
  /-- the rate's second matrix -/
  a2 : Fin 64 → Fin 1024 → EReal
  /-- the gate's first matrix -/
  g1 : Fin 1024 → Fin 128 → EReal
  /-- the gate's second matrix -/
  g2 : Fin 128 → Fin 1024 → EReal
  /-- the scale of the keys that are normalized -/
  kk : Fin 1024 → EReal
  /-- the scale of the keys that are replaced -/
  ka : Fin 1024 → EReal

namespace Args
variable (A : Args) (b : Fin 8) (s : Fin 2048)

/-- A normalized row. -/
def h (k : Fin 1024) : EReal := Cert.Gmlp.rms (A.x b s) A.gain k

/-- The normalized row before: zero before a sequence's first. -/
def prev (k : Fin 1024) : EReal := if s.val = 0 then 0 else A.h b (⟨s.val - 1, by omega⟩ : Fin 2048) k

/-- A row's blend by the weights `i`. -/
def blend (i : Fin 6) : Fin 1024 → EReal := shift (A.h b s) (A.prev b s) (A.mu i)

/-- The receptance. -/
def recept (j : Fin 1024) : EReal := dot (A.blend b s 0) (A.W 0) j
/-- The keys before they are replaced. -/
def raw (j : Fin 1024) : EReal := dot (A.blend b s 1) (A.W 1) j
/-- The values. -/
def vals (j : Fin 1024) : EReal := dot (A.blend b s 2) (A.W 2) j
/-- The decay. -/
def dec (j : Fin 1024) : EReal := decay (A.blend b s 3) A.w0 A.w1 A.w2 j
/-- The rate. -/
def learn (j : Fin 1024) : EReal := rate (A.blend b s 4) A.a0 A.a1 A.a2 j
/-- The gate. -/
def gates (j : Fin 1024) : EReal := gate (A.blend b s 5) A.g1 A.g2 j
/-- The normalized keys. -/
def unit (j : Fin 1024) : EReal := unitKey (A.raw b s) A.kk j
/-- The replaced keys. -/
def keys (j : Fin 1024) : EReal := key (A.raw b s) (A.learn b s) A.ka j

/-- The arrays the normalized keys depend on, the activations aside, are real. -/
structure Real : Prop where
  /-- the gain -/
  gain : ∀ k, Cert.Pool.IsReal (A.gain k)
  /-- the keys' blending weights -/
  mu : ∀ k, Cert.Pool.IsReal (A.mu 1 k)
  /-- the keys' matrix -/
  W : ∀ k j, Cert.Pool.IsReal (A.W 1 k j)
  /-- the scale -/
  kk : ∀ k, Cert.Pool.IsReal (A.kk k)

/-- The scaled keys are real where what they depend on is. -/
theorem Real.scaled {A : Args} (hA : A.Real) (b : Fin 8) (s : Fin 2048) (j : Fin 1024) : Cert.Pool.IsReal (A.raw b s j * A.kk j) := by
  have hh : ∀ s k, Cert.Pool.IsReal (A.h b s k) := fun s k => Cert.Pool.IsReal.rms _ _ hA.gain k
  have hp : ∀ k, Cert.Pool.IsReal (A.prev b s k) := fun k => by
    unfold prev
    split_ifs
    · exact ⟨0, EReal.coe_zero.symm⟩
    · exact hh _ k
  have hb : ∀ k, Cert.Pool.IsReal (A.blend b s 1 k) := fun k => by
    obtain ⟨u, hu⟩ := hh s k
    obtain ⟨p, hp⟩ := hp k
    obtain ⟨q, hq⟩ := hA.mu k
    refine ⟨u + (p - u) * q, ?_⟩
    unfold blend shift
    rw [hu, hp, hq]
    push_cast
    rfl
  have hs : Cert.Pool.IsReal (A.raw b s j) := Cert.Pool.IsReal.sum Finset.univ (fun k => A.blend b s 1 k * A.W 1 k j) fun k => (hb k).mul (hA.W k j)
  exact hs.mul (hA.kk j)

end Args

end Cert.Proj

end
-- ==== Proof.ProjOuts.lean ====
/- What one point of the RWKV projection kernel leaves in its seven output blocks, its scratch read back. -/
module

public import proofs.«01_k».proof.Proof.Gen.Kernel5Ideal.Value
public import Idealize.ShloMosaic.Lib.Pointwise
public import Idealize.ShloMosaic.Lib.Pipeline.ValueKit.Tiles

@[expose] public section

set_option maxRecDepth 16384

noncomputable section

namespace Cert.Kernel5Ideal.Proj

open Cert.Kernel5Ideal Cert.Kernel5Ideal.Gen Idealize.ShloMosaic Idealize.ShloMosaic.TcCoe Idealize.SL.Sem
open Idealize.ShloMosaic.Tactic

/-- The scratch after the body's stores: column tile by column tile the block's rows, positions outermost and batches innermost. -/
def scr (x0 : Vec Ideal S8x32x1024 .f32) : Vec Ideal S8x256x128 .f32 := fun y =>
  x0 (ix3 (⟨(y 1).val % 8, by omega⟩ : Fin 8) (⟨(y 1).val / 8, by have : (y 1).val < 256 := (y 1).isLt; omega⟩ : Fin 32)
    (⟨128 * (y 0).val + (y 2).val, by have : (y 0).val < 8 := (y 0).isLt; have : (y 2).val < 128 := (y 2).isLt; omega⟩ : Fin 1024))

/-- A tile of one batch's rows lies inside the block. -/
theorem tile_inb (c b : ℕ) (hc : c < 8) (hb : b < 8) : ∀ a, ![b, 0, 128 * c] a + ![1, 32, 128] a ≤ S8x32x1024.size a
  | ⟨0, _⟩ => by show b + 1 ≤ 8; omega
  | ⟨1, _⟩ => by show 0 + 32 ≤ 32; omega
  | ⟨2, _⟩ => by show 128 * c + 128 ≤ 1024; omega

/-- One stored tile, read at an element of the scratch it reaches. -/
theorem piece_at (c b : ℕ) (hc : c < 8) (hb : b < 8)
    (inb : ∀ a, S1x32x128.size a = 0 ∨ ![c, b, 0] a + ![1, 8, 1] a * (S1x32x128.size a - 1) < S8x256x128.size a)
    (pos : ∀ a, 0 < (![1, 8, 1] : Fin 3 → ℕ) a) (x0 : Vec Ideal S8x32x1024 .f32) (w : Vec Ideal S1x32x128 .f32)
    (hw : w = k0_pay4 (View.ld x0 (Rect.unit ![b, 0, 128 * c] ![1, 32, 128] (tile_inb c b hc hb)))) (y : S8x256x128.Idx) :
    View.RectAt (Val := Elt Ideal) (e := .f32) y (⟨(⟨![c, b, 0], S1x32x128.size, ![1, 8, 1], inb⟩ : LoadRect S8x256x128), pos⟩ : Rect S8x256x128) w (scr x0 y) := by
  intro z hz
  subst hw
  have h0 : c + 1 * (z 0).val = (y 0).val := congrArg Fin.val (congrFun hz 0)
  have h1 : b + 8 * (z 1).val = (y 1).val := congrArg Fin.val (congrFun hz 1)
  have h2 : 0 + 1 * (z 2).val = (y 2).val := congrArg Fin.val (congrFun hz 2)
  idx_vars z
  unfold k0_pay4
  pointwise
  unfold scr
  refine congrArg x0 ?_
  congr 1 <;> apply Fin.ext
  · show b = (y 1).val % 8
    have : b + 8 * z1.val = (y 1).val := h1
    omega
  · show z1.val = (y 1).val / 8
    have : b + 8 * z1.val = (y 1).val := h1
    omega
  · show 128 * c + z2.val = 128 * (y 0).val + (y 2).val
    have e0 : z0.val < 1 := z0.isLt
    have : c + 1 * z0.val = (y 0).val := h0
    have : 0 + 1 * z2.val = (y 2).val := h2
    omega

/-- An element of the scratch lies in the tile its column tile and its batch name. -/
theorem piece_mem (c b : ℕ) (inb : ∀ a, S1x32x128.size a = 0 ∨ ![c, b, 0] a + ![1, 8, 1] a * (S1x32x128.size a - 1) < S8x256x128.size a)
    (pos : ∀ a, 0 < (![1, 8, 1] : Fin 3 → ℕ) a) (y : S8x256x128.Idx) (hc : (y 0).val = c) (hb : (y 1).val % 8 = b) :
    y ∈ (⟨(⟨![c, b, 0], S1x32x128.size, ![1, 8, 1], inb⟩ : LoadRect S8x256x128), pos⟩ : Rect S8x256x128).set := by
  have h1 : (y 1).val < 256 := (y 1).isLt
  rw [← Rect.map_emb_univ, Finset.mem_map]
  refine ⟨ix3 0 ⟨(y 1).val / 8, by omega⟩ (y 2), Finset.mem_univ _, funext fun a => Fin.ext ?_⟩
  fin_cases a
  · show c + 1 * 0 = (y 0).val
    omega
  · show b + 8 * ((y 1).val / 8) = (y 1).val
    omega
  · show 0 + 1 * (y 2).val = (y 2).val
    omega

/-- Where the tiles before a number are covered by the rest, the tile of that number covers one more. -/
theorem cover_cons (c b : ℕ) (hc : c < 8) (inb : ∀ a, S1x32x128.size a = 0 ∨ ![c, b, 0] a + ![1, 8, 1] a * (S1x32x128.size a - 1) < S8x256x128.size a)
    (pos : ∀ a, 0 < (![1, 8, 1] : Fin 3 → ℕ) a) (w : Vec Ideal S1x32x128 .f32) (L : List (View.Piece (Elt Ideal) S8x256x128 .f32)) (y : S8x256x128.Idx)
    (hn : 8 * ((y 1).val % 8) + (y 0).val < 8 * b + c + 1) (h : 8 * ((y 1).val % 8) + (y 0).val < 8 * b + c → ∃ p ∈ L, y ∈ p.1.set) :
    ∃ p ∈ (⟨(⟨(⟨![c, b, 0], S1x32x128.size, ![1, 8, 1], inb⟩ : LoadRect S8x256x128), pos⟩ : Rect S8x256x128), w⟩ :: L), y ∈ p.1.set := by
  have h0 : (y 0).val < 8 := (y 0).isLt
  rcases Nat.lt_or_ge (8 * ((y 1).val % 8) + (y 0).val) (8 * b + c) with hl | hl
  · obtain ⟨p, hp, hy⟩ := h hl
    exact ⟨p, List.mem_cons_of_mem _ hp, hy⟩
  · exact ⟨_, List.mem_cons_self, piece_mem c b inb pos y (by omega) (by omega)⟩

/-- The zero offset, written out and as a function. -/
theorem hz : (![0, 0] : Fin 2 → ℕ) = fun _ => 0 := by funext a; fin_cases a <;> rfl

/-- The gain as the body loads it. -/
def gain (x2 : Vec Ideal S1x1024 .f32) : FVec Ideal S1x1024 .f32 := k0_pay68 (View.ld x2 (Rect.unit ![0, 0] ![1, 1024] inb_S1x1024_S1x1024_0_0))

/-- The block's normalized rows, of a scratch. -/
def rows (S : Vec Ideal S8x256x128 .f32) (x2 : Vec Ideal S1x1024 .f32) : FVec Ideal S256x1024 .f32 :=
  k0_pay70 (gain x2) (k0_pay69 (fun j => S ((Rect.unit (s := S8x256x128) ![0, 0, 0] ![1, 256, 128] inb_S8x256x128_S1x256x128_0_0_0).idx j))) (fun j => S ((Rect.unit (s := S8x256x128) ![1, 0, 0] ![1, 256, 128] inb_S8x256x128_S1x256x128_1_0_0).idx j)) (fun j => S ((Rect.unit (s := S8x256x128) ![2, 0, 0] ![1, 256, 128] inb_S8x256x128_S1x256x128_2_0_0).idx j)) (fun j => S ((Rect.unit (s := S8x256x128) ![3, 0, 0] ![1, 256, 128] inb_S8x256x128_S1x256x128_3_0_0).idx j)) (fun j => S ((Rect.unit (s := S8x256x128) ![4, 0, 0] ![1, 256, 128] inb_S8x256x128_S1x256x128_4_0_0).idx j)) (fun j => S ((Rect.unit (s := S8x256x128) ![5, 0, 0] ![1, 256, 128] inb_S8x256x128_S1x256x128_5_0_0).idx j)) (fun j => S ((Rect.unit (s := S8x256x128) ![6, 0, 0] ![1, 256, 128] inb_S8x256x128_S1x256x128_6_0_0).idx j)) (fun j => S ((Rect.unit (s := S8x256x128) ![7, 0, 0] ![1, 256, 128] inb_S8x256x128_S1x256x128_7_0_0).idx j))

/-- The rows one position before, less the block's own. -/
def back (i : grid0.Coords) (x0 : Vec Ideal S8x32x1024 .f32) (x1 : Vec Ideal S8x8x1024 .f32) (x2 : Vec Ideal S1x1024 .f32) : FVec Ideal S256x1024 .f32 :=
  k0_pay73 (BitVec.ofNat 32 (i 0).val) (gain x2) (rows (scr x0) x2) (k0_pay71 (View.ld x1 (Rect.unit ![0, 7, 0] ![1, 1, 1024] inb_S8x8x1024_S1x1x1024_0_7_0))) (k0_pay72 (View.ld x1 (Rect.unit ![1, 7, 0] ![1, 1, 1024] inb_S8x8x1024_S1x1x1024_1_7_0))) (View.ld x1 (Rect.unit ![2, 7, 0] ![1, 1, 1024] inb_S8x8x1024_S1x1x1024_2_7_0)) (View.ld x1 (Rect.unit ![3, 7, 0] ![1, 1, 1024] inb_S8x8x1024_S1x1x1024_3_7_0)) (View.ld x1 (Rect.unit ![4, 7, 0] ![1, 1, 1024] inb_S8x8x1024_S1x1x1024_4_7_0)) (View.ld x1 (Rect.unit ![5, 7, 0] ![1, 1, 1024] inb_S8x8x1024_S1x1x1024_5_7_0)) (View.ld x1 (Rect.unit ![6, 7, 0] ![1, 1, 1024] inb_S8x8x1024_S1x1x1024_6_7_0)) (View.ld x1 (Rect.unit ![7, 7, 0] ![1, 1, 1024] inb_S8x8x1024_S1x1x1024_7_7_0))

section Outs
variable (c : Dev nD) (i : grid0.Coords)
    (arg1 : Memref sig .tc .vmem S8x32x1024 .f32) (harg1 : arg1.IsWhole)
    (arg2 : Memref sig .tc .vmem S8x8x1024 .f32) (harg2 : arg2.IsWhole)
    (arg3 : Memref sig .tc .vmem S1x1024 .f32) (harg3 : arg3.IsWhole)
    (arg4 : Memref sig .tc .vmem S6x1024 .f32) (harg4 : arg4.IsWhole)
    (arg5 : Memref sig .tc .vmem S3x1024x1024 .bf16) (harg5 : arg5.IsWhole)
    (arg6 : Memref sig .tc .vmem S1x1024 .f32) (harg6 : arg6.IsWhole)
    (arg7 : Memref sig .tc .vmem S1024x64 .bf16) (harg7 : arg7.IsWhole)
    (arg8 : Memref sig .tc .vmem S64x1024 .bf16) (harg8 : arg8.IsWhole)
    (arg9 : Memref sig .tc .vmem S1x1024 .f32) (harg9 : arg9.IsWhole)
    (arg10 : Memref sig .tc .vmem S1024x64 .bf16) (harg10 : arg10.IsWhole)
    (arg11 : Memref sig .tc .vmem S64x1024 .bf16) (harg11 : arg11.IsWhole)
    (arg12 : Memref sig .tc .vmem S1024x128 .bf16) (harg12 : arg12.IsWhole)
    (arg13 : Memref sig .tc .vmem S128x1024 .bf16) (harg13 : arg13.IsWhole)
    (arg14 : Memref sig .tc .vmem S1x1024 .f32) (harg14 : arg14.IsWhole)
    (arg15 : Memref sig .tc .vmem S1x1024 .f32) (harg15 : arg15.IsWhole)
    (arg16 : Memref sig .tc .vmem S1024x128 .bf16) (harg16 : arg16.IsWhole)
    (arg17 : Memref sig .tc .vmem S128x1024 .bf16) (harg17 : arg17.IsWhole)
    (arg18 : Memref sig .tc .vmem S256x1024 .f32) (harg18 : arg18.IsWhole)
    (arg19 : Memref sig .tc .vmem S256x1024 .f32) (harg19 : arg19.IsWhole)
    (arg20 : Memref sig .tc .vmem S256x1024 .f32) (harg20 : arg20.IsWhole)
    (arg21 : Memref sig .tc .vmem S256x1024 .f32) (harg21 : arg21.IsWhole)
    (arg22 : Memref sig .tc .vmem S256x1024 .f32) (harg22 : arg22.IsWhole)
    (arg23 : Memref sig .tc .vmem S256x1024 .f32) (harg23 : arg23.IsWhole)
    (arg24 : Memref sig .tc .vmem S256x1024 .f32) (harg24 : arg24.IsWhole)
    (arg25 : Memref sig .tc .vmem S8x256x128 .f32) (harg25 : arg25.IsWhole)
    (x0 : Vec Ideal S8x32x1024 .f32) (x1 : Vec Ideal S8x8x1024 .f32) (x2 : Vec Ideal S1x1024 .f32) (x3 : Vec Ideal S6x1024 .f32) (x4 : Vec Ideal S3x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1024x128 .bf16) (x12 : Vec Ideal S128x1024 .bf16) (x13 : Vec Ideal S1x1024 .f32) (x14 : Vec Ideal S1x1024 .f32) (x15 : Vec Ideal S1024x128 .bf16) (x16 : Vec Ideal S128x1024 .bf16)

set_option maxHeartbeats 1000000 in
/-- What the run leaves in the staging buffer of the output that holds the receptance rows. -/
theorem out17_eq : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
      = k0_pay77 (k0_pay74 (BitVec.ofNat 32 (i 0).val) (gain x2) (rows (scr x0) x2) (k0_pay71 (View.ld x1 (Rect.unit ![0, 7, 0] ![1, 1, 1024] inb_S8x8x1024_S1x1x1024_0_7_0))) (k0_pay72 (View.ld x1 (Rect.unit ![1, 7, 0] ![1, 1, 1024] inb_S8x8x1024_S1x1x1024_1_7_0))) (View.ld x1 (Rect.unit ![2, 7, 0] ![1, 1, 1024] inb_S8x8x1024_S1x1x1024_2_7_0)) (View.ld x1 (Rect.unit ![3, 7, 0] ![1, 1, 1024] inb_S8x8x1024_S1x1x1024_3_7_0)) (View.ld x1 (Rect.unit ![4, 7, 0] ![1, 1, 1024] inb_S8x8x1024_S1x1x1024_4_7_0)) (View.ld x1 (Rect.unit ![5, 7, 0] ![1, 1, 1024] inb_S8x8x1024_S1x1x1024_5_7_0)) (View.ld x1 (Rect.unit ![6, 7, 0] ![1, 1, 1024] inb_S8x8x1024_S1x1x1024_6_7_0)) (View.ld x1 (Rect.unit ![7, 7, 0] ![1, 1, 1024] inb_S8x8x1024_S1x1x1024_7_7_0)) (View.ld x3 (Rect.unit ![0, 0] ![6, 1024] inb_S6x1024_S6x1024_0_0))) (View.ld x4 (Rect.unit ![0, 0, 0] ![1, 1024, 1024] inb_S3x1024x1024_S1x1024x1024_0_0_0)) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.readCov_eq_canon']
  refine (View.canon_unit_zero hz _ _).trans ?_
  generalize hS : View.canon (Val := Elt Ideal) (s := S8x256x128) (e := .f32) _ = S
  have e : S = scr x0 := by
    rw [← hS]
    funext y
    refine View.canon_eq_of_allAt _ _ _ ?_ ?_
    · have hn : 8 * ((y 1).val % 8) + (y 0).val < 8 * 7 + 7 + 1 := by have : (y 0).val < 8 := (y 0).isLt; omega
      repeat' (first | exact absurd hn (Nat.not_lt_zero _) | refine cover_cons _ _ (by decide) _ _ _ _ y hn fun hn => ?_)
    · repeat' (first | exact View.allAt_nil _ _ | refine View.allAt_cons _ _ _ (piece_at _ _ (by decide) (by decide) _ _ x0 _ rfl y) ?_)
  subst e
  rfl

set_option maxHeartbeats 1000000 in
/-- What the run leaves in the staging buffer of the output that holds the decay rows. -/
theorem out18_eq : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
      = k0_pay88 (k0_pay83 (k0_pay80 (View.ld x5 (Rect.unit ![0, 0] ![1, 1024] inb_S1x1024_S1x1024_0_0))) (k0_pay81 (rows (scr x0) x2) (back i x0 x1 x2) (View.ld x3 (Rect.unit ![0, 0] ![6, 1024] inb_S6x1024_S6x1024_0_0)) (View.ld x6 (Rect.unit ![0, 0] ![1024, 64] inb_S1024x64_S1024x64_0_0))) (k0_pay82 (View.ld x7 (Rect.unit ![0, 0] ![64, 1024] inb_S64x1024_S64x1024_0_0)))) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.readCov_eq_canon']
  refine (View.canon_unit_zero hz _ _).trans ?_
  generalize hS : View.canon (Val := Elt Ideal) (s := S8x256x128) (e := .f32) _ = S
  have e : S = scr x0 := by
    rw [← hS]
    funext y
    refine View.canon_eq_of_allAt _ _ _ ?_ ?_
    · have hn : 8 * ((y 1).val % 8) + (y 0).val < 8 * 7 + 7 + 1 := by have : (y 0).val < 8 := (y 0).isLt; omega
      repeat' (first | exact absurd hn (Nat.not_lt_zero _) | refine cover_cons _ _ (by decide) _ _ _ _ y hn fun hn => ?_)
    · repeat' (first | exact View.allAt_nil _ _ | refine View.allAt_cons _ _ _ (piece_at _ _ (by decide) (by decide) _ _ x0 _ rfl y) ?_)
  subst e
  rfl

set_option maxHeartbeats 1000000 in
/-- What the run leaves in the staging buffer of the output that holds the key rows. -/
theorem out19_eq : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
      = k0_pay1 (k0_pay78 (rows (scr x0) x2) (back i x0 x1 x2) (View.ld x3 (Rect.unit ![0, 0] ![6, 1024] inb_S6x1024_S6x1024_0_0)) (View.ld x4 (Rect.unit ![1, 0, 0] ![1, 1024, 1024] inb_S3x1024x1024_S1x1024x1024_1_0_0))) (k0_pay89 (k0_pay84 (k0_pay75 (rows (scr x0) x2) (back i x0 x1 x2) (View.ld x3 (Rect.unit ![0, 0] ![6, 1024] inb_S6x1024_S6x1024_0_0))) (View.ld x8 (Rect.unit ![0, 0] ![1, 1024] inb_S1x1024_S1x1024_0_0)) (View.ld x9 (Rect.unit ![0, 0] ![1024, 64] inb_S1024x64_S1024x64_0_0)) (View.ld x10 (Rect.unit ![0, 0] ![64, 1024] inb_S64x1024_S64x1024_0_0)))) (View.ld x14 (Rect.unit ![0, 0] ![1, 1024] inb_S1x1024_S1x1024_0_0)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.readCov_eq_canon']
  refine (View.canon_unit_zero hz _ _).trans ?_
  generalize hS : View.canon (Val := Elt Ideal) (s := S8x256x128) (e := .f32) _ = S
  have e : S = scr x0 := by
    rw [← hS]
    funext y
    refine View.canon_eq_of_allAt _ _ _ ?_ ?_
    · have hn : 8 * ((y 1).val % 8) + (y 0).val < 8 * 7 + 7 + 1 := by have : (y 0).val < 8 := (y 0).isLt; omega
      repeat' (first | exact absurd hn (Nat.not_lt_zero _) | refine cover_cons _ _ (by decide) _ _ _ _ y hn fun hn => ?_)
    · repeat' (first | exact View.allAt_nil _ _ | refine View.allAt_cons _ _ _ (piece_at _ _ (by decide) (by decide) _ _ x0 _ rfl y) ?_)
  subst e
  rfl

set_option maxHeartbeats 1000000 in
/-- What the run leaves in the staging buffer of the output that holds the value rows. -/
theorem out20_eq : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
      = k0_pay79 (rows (scr x0) x2) (back i x0 x1 x2) (View.ld x3 (Rect.unit ![0, 0] ![6, 1024] inb_S6x1024_S6x1024_0_0)) (View.ld x4 (Rect.unit ![2, 0, 0] ![1, 1024, 1024] inb_S3x1024x1024_S1x1024x1024_2_0_0)) := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.readCov_eq_canon']
  refine (View.canon_unit_zero hz _ _).trans ?_
  generalize hS : View.canon (Val := Elt Ideal) (s := S8x256x128) (e := .f32) _ = S
  have e : S = scr x0 := by
    rw [← hS]
    funext y
    refine View.canon_eq_of_allAt _ _ _ ?_ ?_
    · have hn : 8 * ((y 1).val % 8) + (y 0).val < 8 * 7 + 7 + 1 := by have : (y 0).val < 8 := (y 0).isLt; omega
      repeat' (first | exact absurd hn (Nat.not_lt_zero _) | refine cover_cons _ _ (by decide) _ _ _ _ y hn fun hn => ?_)
    · repeat' (first | exact View.allAt_nil _ _ | refine View.allAt_cons _ _ _ (piece_at _ _ (by decide) (by decide) _ _ x0 _ rfl y) ?_)
  subst e
  rfl

set_option maxHeartbeats 1000000 in
/-- What the run leaves in the staging buffer of the output that holds the removal rows. -/
theorem out21_eq : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
      = k0_pay2 (k0_pay87 (k0_pay78 (rows (scr x0) x2) (back i x0 x1 x2) (View.ld x3 (Rect.unit ![0, 0] ![6, 1024] inb_S6x1024_S6x1024_0_0)) (View.ld x4 (Rect.unit ![1, 0, 0] ![1, 1024, 1024] inb_S3x1024x1024_S1x1024x1024_1_0_0))) (View.ld x13 (Rect.unit ![0, 0] ![1, 1024] inb_S1x1024_S1x1024_0_0)) (View.ld x15 (Rect.unit ![0, 0] ![1024, 128] inb_S1024x128_S1024x128_0_0)) (View.ld x16 (Rect.unit ![0, 0] ![128, 1024] inb_S128x1024_S128x1024_0_0))) := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.readCov_eq_canon']
  refine (View.canon_unit_zero hz _ _).trans ?_
  generalize hS : View.canon (Val := Elt Ideal) (s := S8x256x128) (e := .f32) _ = S
  have e : S = scr x0 := by
    rw [← hS]
    funext y
    refine View.canon_eq_of_allAt _ _ _ ?_ ?_
    · have hn : 8 * ((y 1).val % 8) + (y 0).val < 8 * 7 + 7 + 1 := by have : (y 0).val < 8 := (y 0).isLt; omega
      repeat' (first | exact absurd hn (Nat.not_lt_zero _) | refine cover_cons _ _ (by decide) _ _ _ _ y hn fun hn => ?_)
    · repeat' (first | exact View.allAt_nil _ _ | refine View.allAt_cons _ _ _ (piece_at _ _ (by decide) (by decide) _ _ x0 _ rfl y) ?_)
  subst e
  rfl

set_option maxHeartbeats 1000000 in
/-- What the run leaves in the staging buffer of the output that holds the bonus rows. -/
theorem out22_eq : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
      = k0_pay3 (k0_pay84 (k0_pay75 (rows (scr x0) x2) (back i x0 x1 x2) (View.ld x3 (Rect.unit ![0, 0] ![6, 1024] inb_S6x1024_S6x1024_0_0))) (View.ld x8 (Rect.unit ![0, 0] ![1, 1024] inb_S1x1024_S1x1024_0_0)) (View.ld x9 (Rect.unit ![0, 0] ![1024, 64] inb_S1024x64_S1024x64_0_0)) (View.ld x10 (Rect.unit ![0, 0] ![64, 1024] inb_S64x1024_S64x1024_0_0))) (k0_pay87 (k0_pay78 (rows (scr x0) x2) (back i x0 x1 x2) (View.ld x3 (Rect.unit ![0, 0] ![6, 1024] inb_S6x1024_S6x1024_0_0)) (View.ld x4 (Rect.unit ![1, 0, 0] ![1, 1024, 1024] inb_S3x1024x1024_S1x1024x1024_1_0_0))) (View.ld x13 (Rect.unit ![0, 0] ![1, 1024] inb_S1x1024_S1x1024_0_0)) (View.ld x15 (Rect.unit ![0, 0] ![1024, 128] inb_S1024x128_S1024x128_0_0)) (View.ld x16 (Rect.unit ![0, 0] ![128, 1024] inb_S128x1024_S128x1024_0_0))) := by
  unfold out0_A_22
  rw [View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.readCov_eq_canon']
  refine (View.canon_unit_zero hz _ _).trans ?_
  generalize hS : View.canon (Val := Elt Ideal) (s := S8x256x128) (e := .f32) _ = S
  have e : S = scr x0 := by
    rw [← hS]
    funext y
    refine View.canon_eq_of_allAt _ _ _ ?_ ?_
    · have hn : 8 * ((y 1).val % 8) + (y 0).val < 8 * 7 + 7 + 1 := by have : (y 0).val < 8 := (y 0).isLt; omega
      repeat' (first | exact absurd hn (Nat.not_lt_zero _) | refine cover_cons _ _ (by decide) _ _ _ _ y hn fun hn => ?_)
    · repeat' (first | exact View.allAt_nil _ _ | refine View.allAt_cons _ _ _ (piece_at _ _ (by decide) (by decide) _ _ x0 _ rfl y) ?_)
  subst e
  rfl

set_option maxHeartbeats 1000000 in
/-- What the run leaves in the staging buffer of the output that holds the gate rows. -/
theorem out23_eq : out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16
      = k0_pay86 (k0_pay85 (k0_pay76 (rows (scr x0) x2) (back i x0 x1 x2) (View.ld x3 (Rect.unit ![0, 0] ![6, 1024] inb_S6x1024_S6x1024_0_0))) (View.ld x11 (Rect.unit ![0, 0] ![1024, 128] inb_S1024x128_S1024x128_0_0))) (View.ld x12 (Rect.unit ![0, 0] ![128, 1024] inb_S128x1024_S128x1024_0_0)) := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 x0 x1 x2 x3 x4 x5 x6 x7 x8 x9 x10 x11 x12 x13 x14 x15 x16)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.readCov_eq_canon']
  refine (View.canon_unit_zero hz _ _).trans ?_
  generalize hS : View.canon (Val := Elt Ideal) (s := S8x256x128) (e := .f32) _ = S
  have e : S = scr x0 := by
    rw [← hS]
    funext y
    refine View.canon_eq_of_allAt _ _ _ ?_ ?_
    · have hn : 8 * ((y 1).val % 8) + (y 0).val < 8 * 7 + 7 + 1 := by have : (y 0).val < 8 := (y 0).isLt; omega
      repeat' (first | exact absurd hn (Nat.not_lt_zero _) | refine cover_cons _ _ (by decide) _ _ _ _ y hn fun hn => ?_)
    · repeat' (first | exact View.allAt_nil _ _ | refine View.allAt_cons _ _ _ (piece_at _ _ (by decide) (by decide) _ _ x0 _ rfl y) ?_)
  subst e
  rfl

end Outs

end Cert.Kernel5Ideal.Proj

end
-- ==== Proof.ProjBlock.lean ====
/- The RWKV projection kernel's payloads, read at an index: one row of a block's seven results, of the row and the one before it. -/
module

public import proofs.«01_k».proof.Proof.ProjMath
public import proofs.«01_k».proof.Proof.ProjOuts

@[expose] public section

set_option maxRecDepth 16384

noncomputable section

namespace Cert.Kernel5Ideal.Proj

open Cert.Kernel5Ideal Cert.Kernel5Ideal.Gen Idealize.ShloMosaic Idealize.ShloMosaic.TcCoe Idealize.SL.Sem
open Idealize.ShloMosaic.Tactic

section Pay
variable (h d : FVec Ideal S256x1024 .f32) (x3 : Vec Ideal S6x1024 .f32) (r : Fin 256) (j : Fin 1024) (H P : Fin 1024 → EReal)
  (hh : ∀ k, h (ix2 r k) = H k) (hd : ∀ k, d (ix2 r k) = P k - H k)
include hh hd

/-- The key's projection at an index. -/
theorem pay78_apply (w : Vec Ideal S1x1024x1024 .bf16) :
    k0_pay78 h d x3 w (ix2 r j) = Cert.Proj.dot (Cert.Proj.shift H P fun k => x3 (ix2 1 k)) (fun k j => w (ix3 0 k j)) j := by
  unfold k0_pay78
  pointwise
  simp only [hh, hd]
  rfl

/-- The value's projection at an index. -/
theorem pay79_apply (w : Vec Ideal S1x1024x1024 .bf16) :
    k0_pay79 h d x3 w (ix2 r j) = Cert.Proj.dot (Cert.Proj.shift H P fun k => x3 (ix2 2 k)) (fun k j => w (ix3 0 k j)) j := by
  unfold k0_pay79
  pointwise
  simp only [hh, hd]
  rfl

/-- The decay at an index. -/
theorem pay88_apply (w0 : Vec Ideal S1x1024 .f32) (w1 : Vec Ideal S1024x64 .bf16) (w2 : Vec Ideal S64x1024 .bf16) :
    k0_pay88 (k0_pay83 (k0_pay80 w0) (k0_pay81 h d x3 w1) (k0_pay82 w2)) (ix2 r j)
      = Cert.Proj.decay (Cert.Proj.shift H P fun k => x3 (ix2 3 k)) (fun k => w0 (ix2 0 k)) (fun k l => w1 (ix2 k l)) (fun l k => w2 (ix2 l k)) j := by
  unfold k0_pay88 k0_pay83 k0_pay82 k0_pay81 k0_pay80
  pointwise
  simp only [hh, hd, ne_eq, not_true_eq_false, if_false, zero_sub]
  rfl

/-- The rate at an index. -/
theorem pay84_apply (a0 : Vec Ideal S1x1024 .f32) (a1 : Vec Ideal S1024x64 .bf16) (a2 : Vec Ideal S64x1024 .bf16) :
    k0_pay84 (k0_pay75 h d x3) a0 a1 a2 (ix2 r j)
      = Cert.Proj.rate (Cert.Proj.shift H P fun k => x3 (ix2 4 k)) (fun k => a0 (ix2 0 k)) (fun k l => a1 (ix2 k l)) (fun l k => a2 (ix2 l k)) j := by
  unfold k0_pay84 k0_pay75
  pointwise
  simp only [hh, hd]
  rfl

/-- The gate at an index. -/
theorem pay86_apply (g1 : Vec Ideal S1024x128 .bf16) (g2 : Vec Ideal S128x1024 .bf16) :
    k0_pay86 (k0_pay85 (k0_pay76 h d x3) g1) g2 (ix2 r j)
      = Cert.Proj.gate (Cert.Proj.shift H P fun k => x3 (ix2 5 k)) (fun k l => g1 (ix2 k l)) (fun l k => g2 (ix2 l k)) j := by
  unfold k0_pay86 k0_pay85 k0_pay76
  pointwise
  simp only [hh, hd]
  rfl
end Pay

/-- The receptance at an index. -/
theorem pay77_apply (i : BitVec 32) (g : FVec Ideal S1x1024 .f32) (h : FVec Ideal S256x1024 .f32) (s0 s1 : FVec Ideal S1x1024 .f32) (s2 s3 s4 s5 s6 s7 : Vec Ideal S1x1x1024 .f32)
    (x3 : Vec Ideal S6x1024 .f32) (r : Fin 256) (j : Fin 1024) (H P : Fin 1024 → EReal) (hh : ∀ k, h (ix2 r k) = H k)
    (hd : ∀ k, k0_pay73 i g h s0 s1 s2 s3 s4 s5 s6 s7 (ix2 r k) = P k - H k) (w : Vec Ideal S1x1024x1024 .bf16) :
    k0_pay77 (k0_pay74 i g h s0 s1 s2 s3 s4 s5 s6 s7 x3) w (ix2 r j) = Cert.Proj.dot (Cert.Proj.shift H P fun k => x3 (ix2 0 k)) (fun k j => w (ix3 0 k j)) j := by
  unfold k0_pay74
  generalize k0_pay73 i g h s0 s1 s2 s3 s4 s5 s6 s7 = d at hd ⊢
  unfold k0_pay77
  pointwise
  simp only [hh, hd]
  rfl

/-- The normalized key at an index, where the scaled keys are real and the two spreading matrices hold a one where a column lies in a head. -/
theorem pay87_apply (k : FVec Ideal S256x1024 .f32) (s : Vec Ideal S1x1024 .f32) (hs : Vec Ideal S1024x128 .bf16) (he : Vec Ideal S128x1024 .bf16) (r : Fin 256) (j : Fin 1024)
    (K : Fin 1024 → EReal) (hk : ∀ x, k (ix2 r x) = K x) (hreal : ∀ x, Cert.Pool.IsReal (K x * s (ix2 0 x)))
    (h1 : ∀ (x : Fin 1024) (c : Fin 128), hs (ix2 x c) = if x.val / 64 = c.val then (1 : EReal) else 0)
    (h2 : ∀ (c : Fin 128) (x : Fin 1024), he (ix2 c x) = if x.val / 64 = c.val then (1 : EReal) else 0) :
    k0_pay87 k s hs he (ix2 r j) = Cert.Proj.unitKey K (fun x => s (ix2 0 x)) j := by
  unfold k0_pay87
  pointwise
  simp only [hk]
  have e := Cert.Proj.split_sum (fun x => (K x * s (ix2 0 x)) * (K x * s (ix2 0 x))) (fun x => (hreal x).mul (hreal x)) j (fun x c => hs (ix2 x c)) (fun c x => he (ix2 c x)) h1 h2
  exact congrArg (fun v => Ideal.div (K j * s (ix2 0 j)) (max (Ideal.sqrt v) (Ideal.ofBits .f32 0x2B8CBCCC#32))) e

/-- The replaced key at an index. -/
theorem pay1_apply (k a : FVec Ideal S256x1024 .f32) (s : Vec Ideal S1x1024 .f32) (r : Fin 256) (j : Fin 1024) :
    k0_pay1 k (k0_pay89 a) s (ix2 r j) = k (ix2 r j) * (1 + (a (ix2 r j) - 1) * s (ix2 0 j)) := by
  unfold k0_pay1 k0_pay89
  pointwise

/-- The key that is taken away, at an index. -/
theorem pay2_apply (k : FVec Ideal S256x1024 .f32) (r : Fin 256) (j : Fin 1024) : k0_pay2 k (ix2 r j) = -k (ix2 r j) := by
  unfold k0_pay2
  pointwise
  exact zero_sub _

/-- The key that is put in its place, at an index. -/
theorem pay3_apply (a k : FVec Ideal S256x1024 .f32) (r : Fin 256) (j : Fin 1024) : k0_pay3 a k (ix2 r j) = k (ix2 r j) * a (ix2 r j) := by
  unfold k0_pay3
  pointwise

/-- Row `r` of a block: position `r / 8` of batch `r % 8`. -/
def xrow (x0 : Vec Ideal S8x32x1024 .f32) (r : Fin 256) (k : Fin 1024) : EReal := x0 (ix3 (⟨r.val % 8, by omega⟩ : Fin 8) (⟨r.val / 8, by omega⟩ : Fin 32) k)

/-- A column tile of the scratch, loaded, at an index. -/
theorem tile_apply (x0 : Vec Ideal S8x32x1024 .f32) (c : ℕ) (hc : c < 8) (inb : ∀ a, ![c, 0, 0] a + ![1, 256, 128] a ≤ S8x256x128.size a) (r : Fin 256) (l : Fin 128) :
    scr x0 ((Rect.unit (s := S8x256x128) ![c, 0, 0] ![1, 256, 128] inb).idx (ix3 0 r l)) = xrow x0 r ⟨128 * c + l.val, by omega⟩ := by
  unfold scr xrow
  refine congrArg x0 ?_
  congr 1 <;> apply Fin.ext
  · show (0 + 1 * r.val) % 8 = r.val % 8
    omega
  · show (0 + 1 * r.val) / 8 = r.val / 8
    omega
  · show 128 * (c + 1 * 0) + (0 + 1 * l.val) = 128 * c + l.val
    omega

/-- The eight column tiles of the scratch as the body loads them. -/
def tiles (x0 : Vec Ideal S8x32x1024 .f32) : Fin 8 → Vec Ideal S1x256x128 .f32 :=
  ![fun j => scr x0 ((Rect.unit (s := S8x256x128) ![0, 0, 0] ![1, 256, 128] inb_S8x256x128_S1x256x128_0_0_0).idx j),
    fun j => scr x0 ((Rect.unit (s := S8x256x128) ![1, 0, 0] ![1, 256, 128] inb_S8x256x128_S1x256x128_1_0_0).idx j),
    fun j => scr x0 ((Rect.unit (s := S8x256x128) ![2, 0, 0] ![1, 256, 128] inb_S8x256x128_S1x256x128_2_0_0).idx j),
    fun j => scr x0 ((Rect.unit (s := S8x256x128) ![3, 0, 0] ![1, 256, 128] inb_S8x256x128_S1x256x128_3_0_0).idx j),
    fun j => scr x0 ((Rect.unit (s := S8x256x128) ![4, 0, 0] ![1, 256, 128] inb_S8x256x128_S1x256x128_4_0_0).idx j),
    fun j => scr x0 ((Rect.unit (s := S8x256x128) ![5, 0, 0] ![1, 256, 128] inb_S8x256x128_S1x256x128_5_0_0).idx j),
    fun j => scr x0 ((Rect.unit (s := S8x256x128) ![6, 0, 0] ![1, 256, 128] inb_S8x256x128_S1x256x128_6_0_0).idx j),
    fun j => scr x0 ((Rect.unit (s := S8x256x128) ![7, 0, 0] ![1, 256, 128] inb_S8x256x128_S1x256x128_7_0_0).idx j)]

/-- A tile at an index. -/
theorem tiles_at (x0 : Vec Ideal S8x32x1024 .f32) (r : Fin 256) (c : Fin 8) (l : Fin 128) : tiles x0 c (ix3 0 r l) = xrow x0 r ⟨128 * c.val + l.val, by omega⟩ := by
  match c with
  | ⟨0, _⟩ => exact tile_apply x0 0 (by decide) _ r l
  | ⟨1, _⟩ => exact tile_apply x0 1 (by decide) _ r l
  | ⟨2, _⟩ => exact tile_apply x0 2 (by decide) _ r l
  | ⟨3, _⟩ => exact tile_apply x0 3 (by decide) _ r l
  | ⟨4, _⟩ => exact tile_apply x0 4 (by decide) _ r l
  | ⟨5, _⟩ => exact tile_apply x0 5 (by decide) _ r l
  | ⟨6, _⟩ => exact tile_apply x0 6 (by decide) _ r l
  | ⟨7, _⟩ => exact tile_apply x0 7 (by decide) _ r l

/-- The halo's last row, loaded, at an index. -/
theorem halo_apply (x1 : Vec Ideal S8x8x1024 .f32) (b : ℕ) (hb : b < 8) (inb : ∀ a, ![b, 7, 0] a + ![1, 1, 1024] a ≤ S8x8x1024.size a) (k : Fin 1024) :
    View.ld (Val := Elt Ideal) (e' := .f32) x1 (Rect.unit ![b, 7, 0] ![1, 1, 1024] inb) (ix3 0 0 k) = x1 (ix3 (⟨b, hb⟩ : Fin 8) (7 : Fin 8) k) := by
  refine View.ld_unit_apply_of x1 _ _ inb _ _ fun a => ?_
  fin_cases a <;> simp

/-- The eight rows of the halo as the body loads them. -/
def halos (x1 : Vec Ideal S8x8x1024 .f32) : Fin 8 → Vec Ideal S1x1x1024 .f32 :=
  ![View.ld x1 (Rect.unit ![0, 7, 0] ![1, 1, 1024] inb_S8x8x1024_S1x1x1024_0_7_0),
    View.ld x1 (Rect.unit ![1, 7, 0] ![1, 1, 1024] inb_S8x8x1024_S1x1x1024_1_7_0),
    View.ld x1 (Rect.unit ![2, 7, 0] ![1, 1, 1024] inb_S8x8x1024_S1x1x1024_2_7_0),
    View.ld x1 (Rect.unit ![3, 7, 0] ![1, 1, 1024] inb_S8x8x1024_S1x1x1024_3_7_0),
    View.ld x1 (Rect.unit ![4, 7, 0] ![1, 1, 1024] inb_S8x8x1024_S1x1x1024_4_7_0),
    View.ld x1 (Rect.unit ![5, 7, 0] ![1, 1, 1024] inb_S8x8x1024_S1x1x1024_5_7_0),
    View.ld x1 (Rect.unit ![6, 7, 0] ![1, 1, 1024] inb_S8x8x1024_S1x1x1024_6_7_0),
    View.ld x1 (Rect.unit ![7, 7, 0] ![1, 1, 1024] inb_S8x8x1024_S1x1x1024_7_7_0)]

/-- A row of the halo at an index. -/
theorem halos_at (x1 : Vec Ideal S8x8x1024 .f32) (b : Fin 8) (k : Fin 1024) : halos x1 b (ix3 0 0 k) = x1 (ix3 b (7 : Fin 8) k) := by
  match b with
  | ⟨0, _⟩ => exact halo_apply x1 0 (by decide) _ k
  | ⟨1, _⟩ => exact halo_apply x1 1 (by decide) _ k
  | ⟨2, _⟩ => exact halo_apply x1 2 (by decide) _ k
  | ⟨3, _⟩ => exact halo_apply x1 3 (by decide) _ k
  | ⟨4, _⟩ => exact halo_apply x1 4 (by decide) _ k
  | ⟨5, _⟩ => exact halo_apply x1 5 (by decide) _ k
  | ⟨6, _⟩ => exact halo_apply x1 6 (by decide) _ k
  | ⟨7, _⟩ => exact halo_apply x1 7 (by decide) _ k

/-- The normalized rows at an index, of the eight column tiles. -/
theorem pay70_apply (g : Vec Ideal S1x1024 .f32) (S : Fin 8 → Vec Ideal S1x256x128 .f32) (r : Fin 256) (X : Fin 1024 → EReal)
    (hS : ∀ c l, S c (ix3 0 r l) = X ⟨128 * c.val + l.val, by omega⟩) (j : Fin 1024) :
    k0_pay70 (k0_pay68 g) (k0_pay69 (S 0)) (S 1) (S 2) (S 3) (S 4) (S 5) (S 6) (S 7) (ix2 r j) = Cert.Gmlp.rms X (fun k => g (ix2 0 k)) j := by
  have hc : ∀ j, concatenate S256x1024 1 [⟨S256x128, k0_pay69 (S 0)⟩,
      ⟨S256x128, shapeCast S256x128 (S 1) shapeCasts_S1x256x128_S256x128⟩,
      ⟨S256x128, shapeCast S256x128 (S 2) shapeCasts_S1x256x128_S256x128⟩,
      ⟨S256x128, shapeCast S256x128 (S 3) shapeCasts_S1x256x128_S256x128⟩,
      ⟨S256x128, shapeCast S256x128 (S 4) shapeCasts_S1x256x128_S256x128⟩,
      ⟨S256x128, shapeCast S256x128 (S 5) shapeCasts_S1x256x128_S256x128⟩,
      ⟨S256x128, shapeCast S256x128 (S 6) shapeCasts_S1x256x128_S256x128⟩,
      ⟨S256x128, shapeCast S256x128 (S 7) shapeCasts_S1x256x128_S256x128⟩]
      concatenates_S256x128_S256x128_S256x128_S256x128_S256x128_S256x128_S256x128_S256x128_S256x1024_d1 (ix2 r j) = X j := fun j => by
    unfold k0_pay69
    pointwise
    have hj := j.isLt
    have e0 : (((0 : Fin 8)) : ℕ) = 0 := rfl
    have e1 : (((1 : Fin 8)) : ℕ) = 1 := rfl
    have e2 : (((2 : Fin 8)) : ℕ) = 2 := rfl
    have e3 : (((3 : Fin 8)) : ℕ) = 3 := rfl
    have e4 : (((4 : Fin 8)) : ℕ) = 4 := rfl
    have e5 : (((5 : Fin 8)) : ℕ) = 5 := rfl
    have e6 : (((6 : Fin 8)) : ℕ) = 6 := rfl
    have e7 : (((7 : Fin 8)) : ℕ) = 7 := rfl
    split_ifs <;> refine (hS _ _).trans (congrArg X (Fin.ext ?_)) <;> dsimp only <;> omega
  unfold k0_pay70
  dsimp only
  revert hc
  generalize concatenate S256x1024 1 _ _ = z
  intro hc
  unfold k0_pay68
  pointwise
  simp only [hc]
  rfl

/-- The block's rows at an index: each normalized. -/
theorem rows_apply (x0 : Vec Ideal S8x32x1024 .f32) (x2 : Vec Ideal S1x1024 .f32) (r : Fin 256) (j : Fin 1024) :
    rows (scr x0) x2 (ix2 r j) = Cert.Gmlp.rms (xrow x0 r) (fun k => x2 (ix2 0 k)) j := by
  unfold rows gain
  rw [View.ld_unit_zero hz _ _]
  exact pay70_apply x2 (tiles x0) r (xrow x0 r) (tiles_at x0 r) j

/-- Whether the grid point is the first. -/
theorem first_word (n : ℕ) (hn : n < 64) : Scalar.cmpi .eq (BitVec.ofNat 32 n) 0#32 = if n = 0 then 1#1 else 0#1 := by
  interval_cases n <;> decide +kernel

/-- The normalized row one position before row `r` of block `n`: zero before the sequence's first. -/
def prev (n : ℕ) (x0 : Vec Ideal S8x32x1024 .f32) (x1 : Vec Ideal S8x8x1024 .f32) (x2 : Vec Ideal S1x1024 .f32) (r : Fin 256) (j : Fin 1024) : EReal :=
  if h : r.val < 8 then (if n = 0 then 0 else Cert.Gmlp.rms (fun k => x1 (ix3 (⟨r.val, h⟩ : Fin 8) (7 : Fin 8) k)) (fun k => x2 (ix2 0 k)) j)
  else Cert.Gmlp.rms (xrow x0 ⟨r.val - 8, by omega⟩) (fun k => x2 (ix2 0 k)) j

/-- The row before less the row itself, at an index, of the halo's eight rows. -/
theorem pay73_apply (n : ℕ) (hn : n < 64) (g : Vec Ideal S1x1024 .f32) (h : FVec Ideal S256x1024 .f32) (S : Fin 8 → Vec Ideal S1x1x1024 .f32)
    (r : Fin 256) (j : Fin 1024) :
    k0_pay73 (BitVec.ofNat 32 n) (k0_pay68 g) h (k0_pay71 (S 0)) (k0_pay72 (S 1)) (S 2) (S 3) (S 4) (S 5) (S 6) (S 7) (ix2 r j)
      = (if hr : r.val < 8 then (if n = 0 then 0 else Cert.Gmlp.rms (fun k => S (⟨r.val, hr⟩ : Fin 8) (ix3 0 0 k)) (fun k => g (ix2 0 k)) j)
          else h (ix2 (⟨r.val - 8, by omega⟩ : Fin 256) j)) - h (ix2 r j) := by
  have hc : ∀ (b : Fin 8) (k : Fin 1024), concatenate S8x1024 0 [⟨S1x1024, k0_pay71 (S 0)⟩,
      ⟨S1x1024, k0_pay72 (S 1)⟩,
      ⟨S1x1024, shapeCast S1x1024 (S 2) shapeCasts_S1x1x1024_S1x1024⟩,
      ⟨S1x1024, shapeCast S1x1024 (S 3) shapeCasts_S1x1x1024_S1x1024⟩,
      ⟨S1x1024, shapeCast S1x1024 (S 4) shapeCasts_S1x1x1024_S1x1024⟩,
      ⟨S1x1024, shapeCast S1x1024 (S 5) shapeCasts_S1x1x1024_S1x1024⟩,
      ⟨S1x1024, shapeCast S1x1024 (S 6) shapeCasts_S1x1x1024_S1x1024⟩,
      ⟨S1x1024, shapeCast S1x1024 (S 7) shapeCasts_S1x1x1024_S1x1024⟩]
      concatenates_S1x1024_S1x1024_S1x1024_S1x1024_S1x1024_S1x1024_S1x1024_S1x1024_S8x1024_d0 (ix2 b k) = S b (ix3 0 0 k) := fun b k => by
    unfold k0_pay71 k0_pay72
    pointwise
    have hb := b.isLt
    have e0 : (((0 : Fin 8)) : ℕ) = 0 := rfl
    have e1 : (((1 : Fin 8)) : ℕ) = 1 := rfl
    have e2 : (((2 : Fin 8)) : ℕ) = 2 := rfl
    have e3 : (((3 : Fin 8)) : ℕ) = 3 := rfl
    have e4 : (((4 : Fin 8)) : ℕ) = 4 := rfl
    have e5 : (((5 : Fin 8)) : ℕ) = 5 := rfl
    have e6 : (((6 : Fin 8)) : ℕ) = 6 := rfl
    have e7 : (((7 : Fin 8)) : ℕ) = 7 := rfl
    split_ifs <;> refine congrArg (fun b : Fin 8 => S b (ix3 0 0 k)) (Fin.ext ?_) <;> omega
  unfold k0_pay73
  dsimp only
  revert hc
  generalize concatenate S8x1024 0 _ _ = z
  intro hc
  unfold k0_pay68
  pointwise
  simp only [hc]
  refine congrArg₂ (· - ·) ?_ rfl
  by_cases hr : r.val < 8
  · rw [dif_pos hr, dif_pos hr, first_word n hn]
    by_cases h0 : n = 0
    · rw [if_pos h0, if_pos h0]; rfl
    · rw [if_neg h0, if_neg h0]; rfl
  · rw [dif_neg hr, dif_neg hr]

/-- The row before less the row itself, at an index. -/
theorem back_apply (i : grid0.Coords) (x0 : Vec Ideal S8x32x1024 .f32) (x1 : Vec Ideal S8x8x1024 .f32) (x2 : Vec Ideal S1x1024 .f32) (r : Fin 256) (j : Fin 1024) :
    back i x0 x1 x2 (ix2 r j) = prev (i 0).val x0 x1 x2 r j - Cert.Gmlp.rms (xrow x0 r) (fun k => x2 (ix2 0 k)) j := by
  have hi : (i 0).val < 64 := (i 0).isLt
  unfold back gain
  rw [View.ld_unit_zero hz _ _]
  refine (pay73_apply (i 0).val hi x2 (rows (scr x0) x2) (halos x1) r j).trans ?_
  simp only [rows_apply, halos_at]
  rfl

end Cert.Kernel5Ideal.Proj

end
-- ==== Proof.ProjValue.lean ====
/- The RWKV projection kernel's blocks as the mathematics of its windows' contents. -/
module

public import proofs.«01_k».proof.Proof.ProjBlock

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic Idealize.SL.Sem

/-- One matrix of the stack, loaded, at an index. -/
theorem page_apply (W : Vec Ideal S3x1024x1024 .bf16) (n : Nat) (g : Fin 3) (hn : n = g.val) (inb : ∀ a, ![n, 0, 0] a + ![1, 1024, 1024] a ≤ S3x1024x1024.size a)
    (p s : Fin 1024) : View.ld (Val := Elt Ideal) (e' := .bf16) W (Rect.unit ![n, 0, 0] ![1, 1024, 1024] inb) (ix3 0 p s) = W (ix3 g p s) := by
  subst hn
  refine View.ld_unit_apply_of W _ _ inb _ _ fun a => ?_
  fin_cases a <;> simp

/-- A whole array, loaded, is the array. -/
theorem ld_x3 (x : Vec Ideal S6x1024 .f32) : View.ld (Val := Elt Ideal) (e' := .f32) x (Rect.unit ![0, 0] ![6, 1024] inb_S6x1024_S6x1024_0_0) = x := View.ld_unit_zero hz _ _

/-- A whole array, loaded, is the array. -/
theorem ld_x5 (x : Vec Ideal S1x1024 .f32) : View.ld (Val := Elt Ideal) (e' := .f32) x (Rect.unit ![0, 0] ![1, 1024] inb_S1x1024_S1x1024_0_0) = x := View.ld_unit_zero hz _ _

/-- A whole array, loaded, is the array. -/
theorem ld_x6 (x : Vec Ideal S1024x64 .bf16) : View.ld (Val := Elt Ideal) (e' := .bf16) x (Rect.unit ![0, 0] ![1024, 64] inb_S1024x64_S1024x64_0_0) = x := View.ld_unit_zero hz _ _

/-- A whole array, loaded, is the array. -/
theorem ld_x7 (x : Vec Ideal S64x1024 .bf16) : View.ld (Val := Elt Ideal) (e' := .bf16) x (Rect.unit ![0, 0] ![64, 1024] inb_S64x1024_S64x1024_0_0) = x := View.ld_unit_zero hz _ _

/-- A whole array, loaded, is the array. -/
theorem ld_x11 (x : Vec Ideal S1024x128 .bf16) : View.ld (Val := Elt Ideal) (e' := .bf16) x (Rect.unit ![0, 0] ![1024, 128] inb_S1024x128_S1024x128_0_0) = x := View.ld_unit_zero hz _ _

/-- A whole array, loaded, is the array. -/
theorem ld_x12 (x : Vec Ideal S128x1024 .bf16) : View.ld (Val := Elt Ideal) (e' := .bf16) x (Rect.unit ![0, 0] ![128, 1024] inb_S128x1024_S128x1024_0_0) = x := View.ld_unit_zero hz _ _

/-- The windows of point `i` hold what row `r` needs: the row's own normalized entries and their change, position `s` of batch `b`, and the arguments. -/
structure Holds (A : Cert.Proj.Args) (b : Fin 8) (s : Fin 2048) (i : grid0.Coords) (r : Fin 256)
    (x0 : Vec Ideal S8x32x1024 .f32) (x1 : Vec Ideal S8x8x1024 .f32) (x2 : Vec Ideal S1x1024 .f32) (x3 : Vec Ideal S6x1024 .f32) (x4 : Vec Ideal S3x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1024x128 .bf16) (x12 : Vec Ideal S128x1024 .bf16) (x13 : Vec Ideal S1x1024 .f32) (x14 : Vec Ideal S1x1024 .f32) (x15 : Vec Ideal S1024x128 .bf16) (x16 : Vec Ideal S128x1024 .bf16) : Prop where
  /-- the row -/
  now : ∀ k, rows (scr x0) x2 (ix2 r k) = A.h b s k
  /-- the change -/
  bk : ∀ k, back i x0 x1 x2 (ix2 r k) = A.prev b s k - A.h b s k
  /-- the blending weights -/
  mu : ∀ n k, x3 (ix2 n k) = A.mu n k
  /-- the square matrices -/
  W : ∀ n k j, x4 (ix3 n k j) = A.W n k j
  /-- the decay's offset -/
  w0 : ∀ k, x5 (ix2 0 k) = A.w0 k
  /-- the decay's first matrix -/
  w1 : ∀ k l, x6 (ix2 k l) = A.w1 k l
  /-- the decay's second matrix -/
  w2 : ∀ l k, x7 (ix2 l k) = A.w2 l k
  /-- the rate's offset -/
  a0 : ∀ k, x8 (ix2 0 k) = A.a0 k
  /-- the rate's first matrix -/
  a1 : ∀ k l, x9 (ix2 k l) = A.a1 k l
  /-- the rate's second matrix -/
  a2 : ∀ l k, x10 (ix2 l k) = A.a2 l k
  /-- the gate's first matrix -/
  g1 : ∀ k l, x11 (ix2 k l) = A.g1 k l
  /-- the gate's second matrix -/
  g2 : ∀ l k, x12 (ix2 l k) = A.g2 l k
  /-- the scale of the normalized keys -/
  kk : ∀ k, x13 (ix2 0 k) = A.kk k
  /-- the scale of the replaced keys -/
  ka : ∀ k, x14 (ix2 0 k) = A.ka k
  /-- the heads' columns -/
  heads : ∀ (x : Fin 1024) (c : Fin 128), x15 (ix2 x c) = if x.val / 64 = c.val then (1 : EReal) else 0
  /-- the heads' columns, transposed -/
  spread : ∀ (c : Fin 128) (x : Fin 1024), x16 (ix2 c x) = if x.val / 64 = c.val then (1 : EReal) else 0

section Values
variable {A : Cert.Proj.Args} {b : Fin 8} {s : Fin 2048} {i : grid0.Coords} {r : Fin 256} (j : Fin 1024)
    {x0 : Vec Ideal S8x32x1024 .f32} {x1 : Vec Ideal S8x8x1024 .f32} {x2 : Vec Ideal S1x1024 .f32} {x3 : Vec Ideal S6x1024 .f32} {x4 : Vec Ideal S3x1024x1024 .bf16} {x5 : Vec Ideal S1x1024 .f32} {x6 : Vec Ideal S1024x64 .bf16} {x7 : Vec Ideal S64x1024 .bf16} {x8 : Vec Ideal S1x1024 .f32} {x9 : Vec Ideal S1024x64 .bf16} {x10 : Vec Ideal S64x1024 .bf16} {x11 : Vec Ideal S1024x128 .bf16} {x12 : Vec Ideal S128x1024 .bf16} {x13 : Vec Ideal S1x1024 .f32} {x14 : Vec Ideal S1x1024 .f32} {x15 : Vec Ideal S1024x128 .bf16} {x16 : Vec Ideal S128x1024 .bf16}

/-- The block of window 17 at an index: the receptance. -/
theorem val17 (H : Holds A b s i r x0 x1 x2 x3 x4 x5 x6 x7 x8 x9 x10 x11 x12 x13 x14 x15 x16) : (k0_pay77 (k0_pay74 (BitVec.ofNat 32 (i 0).val) (gain x2) (rows (scr x0) x2) (k0_pay71 (View.ld x1 (Rect.unit ![0, 7, 0] ![1, 1, 1024] inb_S8x8x1024_S1x1x1024_0_7_0))) (k0_pay72 (View.ld x1 (Rect.unit ![1, 7, 0] ![1, 1, 1024] inb_S8x8x1024_S1x1x1024_1_7_0))) (View.ld x1 (Rect.unit ![2, 7, 0] ![1, 1, 1024] inb_S8x8x1024_S1x1x1024_2_7_0)) (View.ld x1 (Rect.unit ![3, 7, 0] ![1, 1, 1024] inb_S8x8x1024_S1x1x1024_3_7_0)) (View.ld x1 (Rect.unit ![4, 7, 0] ![1, 1, 1024] inb_S8x8x1024_S1x1x1024_4_7_0)) (View.ld x1 (Rect.unit ![5, 7, 0] ![1, 1, 1024] inb_S8x8x1024_S1x1x1024_5_7_0)) (View.ld x1 (Rect.unit ![6, 7, 0] ![1, 1, 1024] inb_S8x8x1024_S1x1x1024_6_7_0)) (View.ld x1 (Rect.unit ![7, 7, 0] ![1, 1, 1024] inb_S8x8x1024_S1x1x1024_7_7_0)) (View.ld x3 (Rect.unit ![0, 0] ![6, 1024] inb_S6x1024_S6x1024_0_0))) (View.ld x4 (Rect.unit ![0, 0, 0] ![1, 1024, 1024] inb_S3x1024x1024_S1x1024x1024_0_0_0))) (ix2 r j) = A.recept b s j := by
  simp only [ld_x3, ld_x5, ld_x6, ld_x7, ld_x11, ld_x12]
  refine (pay77_apply _ _ _ _ _ _ _ _ _ _ _ x3 r j (A.h b s) (A.prev b s) ?_ ?_ _).trans ?_
  · exact H.now
  · exact H.bk
  simp only [page_apply x4 0 0 rfl, H.mu, H.W]
  rfl

/-- The block of window 18 at an index: the decay. -/
theorem val18 (H : Holds A b s i r x0 x1 x2 x3 x4 x5 x6 x7 x8 x9 x10 x11 x12 x13 x14 x15 x16) : (k0_pay88 (k0_pay83 (k0_pay80 (View.ld x5 (Rect.unit ![0, 0] ![1, 1024] inb_S1x1024_S1x1024_0_0))) (k0_pay81 (rows (scr x0) x2) (back i x0 x1 x2) (View.ld x3 (Rect.unit ![0, 0] ![6, 1024] inb_S6x1024_S6x1024_0_0)) (View.ld x6 (Rect.unit ![0, 0] ![1024, 64] inb_S1024x64_S1024x64_0_0))) (k0_pay82 (View.ld x7 (Rect.unit ![0, 0] ![64, 1024] inb_S64x1024_S64x1024_0_0))))) (ix2 r j) = A.dec b s j := by
  simp only [ld_x3, ld_x5, ld_x6, ld_x7, ld_x11, ld_x12]
  refine (pay88_apply _ _ x3 r j _ _ H.now H.bk _ _ _).trans ?_
  simp only [H.mu, H.w0, H.w1, H.w2]
  rfl

/-- The block of window 19 at an index: the replaced key. -/
theorem val19 (H : Holds A b s i r x0 x1 x2 x3 x4 x5 x6 x7 x8 x9 x10 x11 x12 x13 x14 x15 x16) : (k0_pay1 (k0_pay78 (rows (scr x0) x2) (back i x0 x1 x2) (View.ld x3 (Rect.unit ![0, 0] ![6, 1024] inb_S6x1024_S6x1024_0_0)) (View.ld x4 (Rect.unit ![1, 0, 0] ![1, 1024, 1024] inb_S3x1024x1024_S1x1024x1024_1_0_0))) (k0_pay89 (k0_pay84 (k0_pay75 (rows (scr x0) x2) (back i x0 x1 x2) (View.ld x3 (Rect.unit ![0, 0] ![6, 1024] inb_S6x1024_S6x1024_0_0))) (View.ld x8 (Rect.unit ![0, 0] ![1, 1024] inb_S1x1024_S1x1024_0_0)) (View.ld x9 (Rect.unit ![0, 0] ![1024, 64] inb_S1024x64_S1024x64_0_0)) (View.ld x10 (Rect.unit ![0, 0] ![64, 1024] inb_S64x1024_S64x1024_0_0)))) (View.ld x14 (Rect.unit ![0, 0] ![1, 1024] inb_S1x1024_S1x1024_0_0))) (ix2 r j) = A.keys b s j := by
  simp only [ld_x3, ld_x5, ld_x6, ld_x7, ld_x11, ld_x12]
  have hk : ∀ j, k0_pay78 (rows (scr x0) x2) (back i x0 x1 x2) x3 (View.ld x4 (Rect.unit ![1, 0, 0] ![1, 1024, 1024] inb_S3x1024x1024_S1x1024x1024_1_0_0)) (ix2 r j) = A.raw b s j := fun j => by
    refine (pay78_apply _ _ x3 r j _ _ H.now H.bk _).trans ?_
    simp only [page_apply x4 1 1 rfl, H.mu, H.W]
    rfl
  have ha : ∀ j, k0_pay84 (k0_pay75 (rows (scr x0) x2) (back i x0 x1 x2) x3) x8 x9 x10 (ix2 r j) = A.learn b s j := fun j => by
    refine (pay84_apply _ _ x3 r j _ _ H.now H.bk _ _ _).trans ?_
    simp only [H.mu, H.a0, H.a1, H.a2]
    rfl
  refine (pay1_apply _ _ x14 r j).trans ?_
  rw [hk, ha, H.ka]
  rfl

/-- The block of window 20 at an index: the value. -/
theorem val20 (H : Holds A b s i r x0 x1 x2 x3 x4 x5 x6 x7 x8 x9 x10 x11 x12 x13 x14 x15 x16) : (k0_pay79 (rows (scr x0) x2) (back i x0 x1 x2) (View.ld x3 (Rect.unit ![0, 0] ![6, 1024] inb_S6x1024_S6x1024_0_0)) (View.ld x4 (Rect.unit ![2, 0, 0] ![1, 1024, 1024] inb_S3x1024x1024_S1x1024x1024_2_0_0))) (ix2 r j) = A.vals b s j := by
  simp only [ld_x3, ld_x5, ld_x6, ld_x7, ld_x11, ld_x12]
  refine (pay79_apply _ _ x3 r j _ _ H.now H.bk _).trans ?_
  simp only [page_apply x4 2 2 rfl, H.mu, H.W]
  rfl

/-- The block of window 21 at an index: the key that is taken away. -/
theorem val21 (H : Holds A b s i r x0 x1 x2 x3 x4 x5 x6 x7 x8 x9 x10 x11 x12 x13 x14 x15 x16) (hA : A.Real) : (k0_pay2 (k0_pay87 (k0_pay78 (rows (scr x0) x2) (back i x0 x1 x2) (View.ld x3 (Rect.unit ![0, 0] ![6, 1024] inb_S6x1024_S6x1024_0_0)) (View.ld x4 (Rect.unit ![1, 0, 0] ![1, 1024, 1024] inb_S3x1024x1024_S1x1024x1024_1_0_0))) (View.ld x13 (Rect.unit ![0, 0] ![1, 1024] inb_S1x1024_S1x1024_0_0)) (View.ld x15 (Rect.unit ![0, 0] ![1024, 128] inb_S1024x128_S1024x128_0_0)) (View.ld x16 (Rect.unit ![0, 0] ![128, 1024] inb_S128x1024_S128x1024_0_0)))) (ix2 r j) = -A.unit b s j := by
  simp only [ld_x3, ld_x5, ld_x6, ld_x7, ld_x11, ld_x12]
  have hk : ∀ j, k0_pay78 (rows (scr x0) x2) (back i x0 x1 x2) x3 (View.ld x4 (Rect.unit ![1, 0, 0] ![1, 1024, 1024] inb_S3x1024x1024_S1x1024x1024_1_0_0)) (ix2 r j) = A.raw b s j := fun j => by
    refine (pay78_apply _ _ x3 r j _ _ H.now H.bk _).trans ?_
    simp only [page_apply x4 1 1 rfl, H.mu, H.W]
    rfl
  have hu : k0_pay87 (k0_pay78 (rows (scr x0) x2) (back i x0 x1 x2) x3 (View.ld x4 (Rect.unit ![1, 0, 0] ![1, 1024, 1024] inb_S3x1024x1024_S1x1024x1024_1_0_0))) x13 x15 x16 (ix2 r j) = A.unit b s j := by
    refine (pay87_apply _ x13 x15 x16 r j _ hk (fun x => ?_) H.heads H.spread).trans ?_
    · rw [H.kk]
      exact hA.scaled b s x
    · simp only [H.kk]
      rfl
  exact (pay2_apply _ r j).trans (congrArg Neg.neg hu)

/-- The block of window 22 at an index: the key that is put in its place. -/
theorem val22 (H : Holds A b s i r x0 x1 x2 x3 x4 x5 x6 x7 x8 x9 x10 x11 x12 x13 x14 x15 x16) (hA : A.Real) : (k0_pay3 (k0_pay84 (k0_pay75 (rows (scr x0) x2) (back i x0 x1 x2) (View.ld x3 (Rect.unit ![0, 0] ![6, 1024] inb_S6x1024_S6x1024_0_0))) (View.ld x8 (Rect.unit ![0, 0] ![1, 1024] inb_S1x1024_S1x1024_0_0)) (View.ld x9 (Rect.unit ![0, 0] ![1024, 64] inb_S1024x64_S1024x64_0_0)) (View.ld x10 (Rect.unit ![0, 0] ![64, 1024] inb_S64x1024_S64x1024_0_0))) (k0_pay87 (k0_pay78 (rows (scr x0) x2) (back i x0 x1 x2) (View.ld x3 (Rect.unit ![0, 0] ![6, 1024] inb_S6x1024_S6x1024_0_0)) (View.ld x4 (Rect.unit ![1, 0, 0] ![1, 1024, 1024] inb_S3x1024x1024_S1x1024x1024_1_0_0))) (View.ld x13 (Rect.unit ![0, 0] ![1, 1024] inb_S1x1024_S1x1024_0_0)) (View.ld x15 (Rect.unit ![0, 0] ![1024, 128] inb_S1024x128_S1024x128_0_0)) (View.ld x16 (Rect.unit ![0, 0] ![128, 1024] inb_S128x1024_S128x1024_0_0)))) (ix2 r j) = A.unit b s j * A.learn b s j := by
  simp only [ld_x3, ld_x5, ld_x6, ld_x7, ld_x11, ld_x12]
  have hk : ∀ j, k0_pay78 (rows (scr x0) x2) (back i x0 x1 x2) x3 (View.ld x4 (Rect.unit ![1, 0, 0] ![1, 1024, 1024] inb_S3x1024x1024_S1x1024x1024_1_0_0)) (ix2 r j) = A.raw b s j := fun j => by
    refine (pay78_apply _ _ x3 r j _ _ H.now H.bk _).trans ?_
    simp only [page_apply x4 1 1 rfl, H.mu, H.W]
    rfl
  have ha : ∀ j, k0_pay84 (k0_pay75 (rows (scr x0) x2) (back i x0 x1 x2) x3) x8 x9 x10 (ix2 r j) = A.learn b s j := fun j => by
    refine (pay84_apply _ _ x3 r j _ _ H.now H.bk _ _ _).trans ?_
    simp only [H.mu, H.a0, H.a1, H.a2]
    rfl
  have hu : k0_pay87 (k0_pay78 (rows (scr x0) x2) (back i x0 x1 x2) x3 (View.ld x4 (Rect.unit ![1, 0, 0] ![1, 1024, 1024] inb_S3x1024x1024_S1x1024x1024_1_0_0))) x13 x15 x16 (ix2 r j) = A.unit b s j := by
    refine (pay87_apply _ x13 x15 x16 r j _ hk (fun x => ?_) H.heads H.spread).trans ?_
    · rw [H.kk]
      exact hA.scaled b s x
    · simp only [H.kk]
      rfl
  exact (pay3_apply _ _ r j).trans (congrArg₂ (· * ·) hu (ha j))

/-- The block of window 23 at an index: the gate. -/
theorem val23 (H : Holds A b s i r x0 x1 x2 x3 x4 x5 x6 x7 x8 x9 x10 x11 x12 x13 x14 x15 x16) : (k0_pay86 (k0_pay85 (k0_pay76 (rows (scr x0) x2) (back i x0 x1 x2) (View.ld x3 (Rect.unit ![0, 0] ![6, 1024] inb_S6x1024_S6x1024_0_0))) (View.ld x11 (Rect.unit ![0, 0] ![1024, 128] inb_S1024x128_S1024x128_0_0))) (View.ld x12 (Rect.unit ![0, 0] ![128, 1024] inb_S128x1024_S128x1024_0_0))) (ix2 r j) = A.gates b s j := by
  simp only [ld_x3, ld_x5, ld_x6, ld_x7, ld_x11, ld_x12]
  refine (pay86_apply _ _ x3 r j _ _ H.now H.bk _ _).trans ?_
  simp only [H.mu, H.g1, H.g2]
  rfl

end Values

end Cert.Kernel5Ideal.Proj

end
-- ==== Proof.ProjHost.lean ====
/- The two constant matrices the projection kernel's host makes: which head each column lies in. -/
module

public import proofs.«01_k».proof.Proof.ProjOuts

@[expose] public section

set_option maxRecDepth 16384

noncomputable section

namespace Cert.Kernel5Ideal.Proj

open Cert.Kernel5Ideal Cert.Kernel5Ideal.Gen Idealize.ShloMosaic Idealize.ShloMosaic.TcCoe Idealize.ShloMosaic.Tactic Idealize.SL.Sem

variable (m : (ℓ : Loc nD τ sig) → Buf (Elt Ideal) ℓ)

/-- The head each column lies in, as the host reckons it: its number over sixty-four, rounded down. -/
def headNo : Vec Ideal S1024 .i32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))

/-- The heads' columns, as the host reckons them. -/
def headMat : Vec Ideal S1024x128 .bf16 :=
  uitofp (F := Ideal) .bf16 (cmpi .eq (broadcastInDim S1024x128 ![0, 1] bcast_S1024x1_S1024x128_0_1 (broadcastInDim S1024x1 ![0] bcast_S1024_S1024x1_0 headNo))
    (broadcastInDim S1024x128 ![0, 1] bcast_S1x128_S1024x128_0_1 (broadcastInDim S1x128 ![1] bcast_S128_S1x128_1 (iotaInDim S128 32 0))))

/-- The head's number at a column. -/
theorem headNo_apply (x : Fin 1024) : headNo (ix1 x) = BitVec.ofNat 32 (x.val / 64) := by
  unfold headNo
  pointwise
  revert x
  decide +kernel

/-- The heads' columns at an index. -/
theorem headMat_apply (x : Fin 1024) (h : Fin 128) : headMat (ix2 x h) = if x.val / 64 = h.val then (1 : EReal) else 0 := by
  unfold headMat
  pointwise
  rw [headNo_apply]
  have hx : x.val / 64 < 2 ^ 32 := by omega
  have hh : h.val < 2 ^ 32 := by omega
  by_cases e : x.val / 64 = h.val
  · rw [if_pos e, e]
    simp [FloatOps.uitofp, IntOp.cmpi]
  · rw [if_neg e]
    have hne : BitVec.ofNat 32 (x.val / 64) ≠ BitVec.ofNat 32 h.val := by
      intro he
      have := congrArg BitVec.toNat he
      rw [BitVec.toNat_ofNat, BitVec.toNat_ofNat, Nat.mod_eq_of_lt hx, Nat.mod_eq_of_lt hh] at this
      exact e this
    simp [FloatOps.uitofp, IntOp.cmpi, beq_eq_false_iff_ne.mpr hne]

/-- The array window 15 reads is the heads' columns. -/
theorem V15 (c : Dev nD) (x : Fin 1024) (h : Fin 128) : V m c main_v16 (ix2 x h) = if x.val / 64 = h.val then (1 : EReal) else 0 := by
  have e : V m c main_v16 = headMat := by
    show StableHlo.after _ _ _ = _
    simp only [List.flatten_cons, List.flatten_nil, hostOps0, hostOps0_1, hostOps0_2, List.cons_append, List.nil_append, List.append_nil]
    after_results
    simp -implicitDefEqProofs only [StableHlo.TRef.toBuf, StableHlo.TRef.ofBuf, cast_cast, cast_eq, id]
    rfl
  rw [e]
  exact headMat_apply x h

/-- The array window 16 reads is the heads' columns, transposed. -/
theorem V16 (c : Dev nD) (h : Fin 128) (x : Fin 1024) : V m c main_v17 (ix2 h x) = if x.val / 64 = h.val then (1 : EReal) else 0 := by
  have e : V m c main_v17 = transpose S128x1024 [1, 0] headMat transposes_S1024x128_S128x1024_1_0 := by
    show StableHlo.after _ _ _ = _
    simp only [List.flatten_cons, List.flatten_nil, hostOps0, hostOps0_1, hostOps0_2, List.cons_append, List.nil_append, List.append_nil]
    after_results
    simp -implicitDefEqProofs only [StableHlo.TRef.toBuf, StableHlo.TRef.ofBuf, cast_cast, cast_eq, id]
    rfl
  rw [e]
  refine Eq.trans ?_ (headMat_apply x h)
  pointwise

end Cert.Kernel5Ideal.Proj

end
-- ==== Proof.ProjArray.lean ====
/- The RWKV projection kernel's result arrays: what one block holds, and the seven arrays as functions of the argument arrays. -/
module

public import proofs.«01_k».proof.Proof.ProjValue
public import proofs.«01_k».proof.Proof.ProjHost

@[expose] public section

set_option maxRecDepth 16384

noncomputable section

namespace Cert.Proj

open Idealize.ShloMosaic Idealize.ShloMosaic.Tactic

/-- The keys that are taken away: the normalized keys, negated. -/
def Args.taken (A : Args) (b : Fin 8) (s : Fin 2048) (j : Fin 1024) : EReal := -A.unit b s j

/-- The keys that are put in their place: the normalized keys at their rates. -/
def Args.placed (A : Args) (b : Fin 8) (s : Fin 2048) (j : Fin 1024) : EReal := A.unit b s j * A.learn b s j

/-- A value per batch, position and column as one array: row `R` is position `R / 8` of batch `R % 8`. -/
def spread (f : Fin 8 → Fin 2048 → Fin 1024 → EReal) : Vec Ideal Cert.Kernel5Ideal.S16384x1024 .f32 :=
  fun i => f (⟨(i 0).val % 8, by omega⟩ : Fin 8) (⟨(i 0).val / 8, by have : (i 0).val < 16384 := (i 0).isLt; omega⟩ : Fin 2048) (i 1)

end Cert.Proj

namespace Cert.Kernel5Ideal.Proj

open Cert.Kernel5Ideal Cert.Kernel5Ideal.Gen Cert.Kernel5Ideal.Value Idealize.ShloMosaic Idealize.ShloMosaic.TcCoe Idealize.ShloMosaic.Tactic Idealize.SL.Sem
open Idealize.ShloMosaic.Pipeline (Dat)

/-- The argument arrays by name and index. -/
def argsOf (x0 : Vec Ideal S8x2048x1024 .f32) (x1 : Vec Ideal S1024 .f32) (x2 : Vec Ideal S6x1024 .f32) (x3 : Vec Ideal S3x1024x1024 .f32) (x4 : Vec Ideal S1024 .f32) (x5 : Vec Ideal S1024x64 .f32) (x6 : Vec Ideal S64x1024 .f32) (x7 : Vec Ideal S1024 .f32) (x8 : Vec Ideal S1024x64 .f32) (x9 : Vec Ideal S64x1024 .f32) (x10 : Vec Ideal S1024x128 .f32) (x11 : Vec Ideal S128x1024 .f32) (x12 : Vec Ideal S1024 .f32) (x13 : Vec Ideal S1024 .f32) : Cert.Proj.Args where
  x := fun b s k => x0 (ix3 b s k)
  gain := fun k => x1 (ix1 k)
  mu := fun n k => x2 (ix2 n k)
  W := fun n k j => x3 (ix3 n k j)
  w0 := fun k => x4 (ix1 k)
  w1 := fun k l => x5 (ix2 k l)
  w2 := fun l k => x6 (ix2 l k)
  a0 := fun k => x7 (ix1 k)
  a1 := fun k l => x8 (ix2 k l)
  a2 := fun l k => x9 (ix2 l k)
  g1 := fun k l => x10 (ix2 k l)
  g2 := fun l k => x11 (ix2 l k)
  kk := fun k => x12 (ix1 k)
  ka := fun k => x13 (ix1 k)

variable (m : (ℓ : Loc nD τ sig) → Buf (Elt Ideal) ℓ) (ρ : Dev nD → PrngReg)

/-- The launch's arguments. -/
def AM (c : Dev nD) : Cert.Proj.Args :=
  argsOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! The arrays the kernel's windows read, as the host operations before it leave them. -/

/-- The array windows 0 and 1 read is the activations, argument 0, reshaped and back. -/
theorem V0 (c : Dev nD) (b : Fin 8) (s : Fin 2048) (k : Fin 1024) : V m c main_v18 (ix3 b s k) = (m ((c : Thread nD τ).loc main_arg0) : Vec Ideal S8x2048x1024 .f32) (ix3 b s k) := by
  have h : V m c main_v18 = shapeCast S8x2048x1024 (shapeCast S16384x1024 (m ((c : Thread nD τ).loc main_arg0)) shapeCasts_S8x2048x1024_S16384x1024) shapeCasts_S16384x1024_S8x2048x1024 := by
    show StableHlo.after _ _ _ = _
    simp only [List.flatten_cons, List.flatten_nil, hostOps0, hostOps0_1, hostOps0_2, List.cons_append, List.nil_append, List.append_nil]
    after_results
    rfl
  rw [h]
  refine (shapeCast_apply _ shapeCasts_S16384x1024_S8x2048x1024 (ix3 b s k) (ix2 (⟨b.val * 2048 + s.val, by omega⟩ : Fin 16384) k) (by
    rw [Shape.rowMajor_val_three, Shape.rowMajor_val_two]
    show (b.val * 2048 + s.val) * 1024 + k.val = (b.val * 2048 + s.val) * 1024 + k.val
    rfl)).trans ?_
  exact shapeCast_apply _ shapeCasts_S8x2048x1024_S16384x1024 _ (ix3 b s k) (by
    rw [Shape.rowMajor_val_three, Shape.rowMajor_val_two]
    show (b.val * 2048 + s.val) * 1024 + k.val = (b.val * 2048 + s.val) * 1024 + k.val
    rfl)

/-- The block index of window 0 at each grid point. -/
theorem idx0 : ∀ t : Fin cfg0.N, win0_0.index t (0 : Fin 3) = 0 ∧ win0_0.index t (1 : Fin 3) = t.val ∧ win0_0.index t (2 : Fin 3) = 0 := (by decide +kernel : ∀ t : Fin grid0.N, _)
/-- The block index of window 1 at each grid point. -/
theorem idx1 : ∀ t : Fin cfg0.N, win0_1.index t (0 : Fin 3) = 0 ∧ win0_1.index t (1 : Fin 3) = 4 * t.val - 1 ∧ win0_1.index t (2 : Fin 3) = 0 := (by decide +kernel : ∀ t : Fin grid0.N, _)
/-- The grid has one axis: a point's coordinate is its number. -/
theorem coord : ∀ t : Fin cfg0.N, ((grid0.coords t) 0).val = t.val := (by decide +kernel : ∀ t : Fin grid0.N, _)

/-- Row `r` of block `t`. -/
def row (t : Fin cfg0.N) (r : Fin 256) : Fin 16384 := ⟨256 * t.val + r.val, by have : t.val < 64 := t.isLt; omega⟩

/-- Every row is in a block. -/
theorem row_of (R : Fin 16384) : ∃ (t : Fin cfg0.N) (r : Fin 256), row t r = R :=
  ⟨⟨R.val / 256, by show R.val / 256 < 64; omega⟩, ⟨R.val % 256, by omega⟩, Fin.ext (by show 256 * (R.val / 256) + R.val % 256 = R.val; omega)⟩

/-- Position `p` of block `t`. -/
def pos (t : Fin cfg0.N) (p : Fin 32) : Fin 2048 := ⟨32 * t.val + p.val, by have : t.val < 64 := t.isLt; omega⟩

/-- Position `p` of the halo of block `t`. -/
def halo (t : Fin cfg0.N) (p : Fin 8) : Fin 2048 := ⟨(4 * t.val - 1) * 8 + p.val, by have : t.val < 64 := t.isLt; omega⟩

/-- Where an index of window 0's block lies in its array. -/
theorem emb0 (t : Fin cfg0.N) (j : S8x32x1024.Idx) : ((cfg0.win 0).blk t).view.emb j = (ix3 (j 0) (pos t (j 1)) (j 2) : S8x2048x1024.Idx) := by
  obtain ⟨e0, e1, e2⟩ := idx0 t
  funext a; apply Fin.ext
  match a with
  | ⟨0, _⟩ => show win0_0.index t (0 : Fin 3) * 8 + 1 * (j 0).val = (j 0).val; omega
  | ⟨1, _⟩ => show win0_0.index t (1 : Fin 3) * 32 + 1 * (j 1).val = 32 * t.val + (j 1).val; omega
  | ⟨2, _⟩ => show win0_0.index t (2 : Fin 3) * 1024 + 1 * (j 2).val = (j 2).val; omega

/-- Where an index of window 1's block lies in its array. -/
theorem emb1 (t : Fin cfg0.N) (j : S8x8x1024.Idx) : ((cfg0.win 1).blk t).view.emb j = (ix3 (j 0) (halo t (j 1)) (j 2) : S8x2048x1024.Idx) := by
  obtain ⟨e0, e1, e2⟩ := idx1 t
  funext a; apply Fin.ext
  match a with
  | ⟨0, _⟩ => show win0_1.index t (0 : Fin 3) * 8 + 1 * (j 0).val = (j 0).val; omega
  | ⟨1, _⟩ => show win0_1.index t (1 : Fin 3) * 8 + 1 * (j 1).val = (4 * t.val - 1) * 8 + (j 1).val; omega
  | ⟨2, _⟩ => show win0_1.index t (2 : Fin 3) * 1024 + 1 * (j 2).val = (j 2).val; omega

/-- Input block 0 at an index: the block's activations. -/
theorem iblk0_apply (c : Dev nD) (t : Fin cfg0.N) (b : Fin 8) (p : Fin 32) (k : Fin 1024) : (iblk m c 0 t : Vec Ideal S8x32x1024 .f32) (ix3 b p k) = (AM m c).x b (pos t p) k := by
  show V m c main_v18 (((cfg0.win 0).blk t).view.emb (ix3 b p k)) = _
  rw [emb0]
  exact V0 m c b (pos t p) k

/-- Input block 1 at an index: the activations before the block. -/
theorem iblk1_apply (c : Dev nD) (t : Fin cfg0.N) (b p : Fin 8) (k : Fin 1024) : (iblk m c 1 t : Vec Ideal S8x8x1024 .f32) (ix3 b p k) = (AM m c).x b (halo t p) k := by
  show V m c main_v18 (((cfg0.win 1).blk t).view.emb (ix3 b p k)) = _
  rw [emb1]
  exact V0 m c b (halo t p) k

/-- The array window 2 reads is the normalization's gain, argument 1, reshaped. -/
theorem V2 (c : Dev nD) (k : Fin 1024) : V m c main_v19 (ix2 0 k) = (m ((c : Thread nD τ).loc main_arg1) : Vec Ideal S1024 .f32) (ix1 k) := by
  have h : V m c main_v19 = shapeCast S1x1024 (m ((c : Thread nD τ).loc main_arg1)) shapeCasts_S1024_S1x1024 := by
    show StableHlo.after _ _ _ = _
    simp only [List.flatten_cons, List.flatten_nil, hostOps0, hostOps0_1, hostOps0_2, List.cons_append, List.nil_append, List.append_nil]
    after_results
    rfl
  rw [h]
  pointwise

/-- The array window 3 reads is the blending weights, argument 2. -/
theorem V3 (c : Dev nD) : V m c main_arg2 = (m ((c : Thread nD τ).loc main_arg2)) := by
  show StableHlo.after _ _ _ = _
  simp only [List.flatten_cons, List.flatten_nil, hostOps0, hostOps0_1, hostOps0_2, List.cons_append, List.nil_append, List.append_nil]
  after_results

/-- The array window 4 reads is the square matrices, argument 3, cast. -/
theorem V4 (c : Dev nD) (n : Fin 3) (k : Fin 1024) (j : Fin 1024) : V m c main_v1 (ix3 n k j) = (m ((c : Thread nD τ).loc main_arg3) : Vec Ideal S3x1024x1024 .f32) (ix3 n k j) := by
  have h : V m c main_v1 = (truncf (F := Ideal) (s := S3x1024x1024) (φ := .f32) .bf16 (m ((c : Thread nD τ).loc main_arg3)) bitsLt_bf16_f32) := by
    show StableHlo.after _ _ _ = _
    simp only [List.flatten_cons, List.flatten_nil, hostOps0, hostOps0_1, hostOps0_2, List.cons_append, List.nil_append, List.append_nil]
    after_results
  rw [h]
  pointwise

/-- The array window 5 reads is the decay's offset, argument 4, reshaped. -/
theorem V5 (c : Dev nD) (k : Fin 1024) : V m c main_v20 (ix2 0 k) = (m ((c : Thread nD τ).loc main_arg4) : Vec Ideal S1024 .f32) (ix1 k) := by
  have h : V m c main_v20 = shapeCast S1x1024 (m ((c : Thread nD τ).loc main_arg4)) shapeCasts_S1024_S1x1024 := by
    show StableHlo.after _ _ _ = _
    simp only [List.flatten_cons, List.flatten_nil, hostOps0, hostOps0_1, hostOps0_2, List.cons_append, List.nil_append, List.append_nil]
    after_results
    rfl
  rw [h]
  pointwise

/-- The array window 6 reads is the decay's first matrix, argument 5, cast. -/
theorem V6 (c : Dev nD) (k : Fin 1024) (j : Fin 64) : V m c main_v2 (ix2 k j) = (m ((c : Thread nD τ).loc main_arg5) : Vec Ideal S1024x64 .f32) (ix2 k j) := by
  have h : V m c main_v2 = (truncf (F := Ideal) (s := S1024x64) (φ := .f32) .bf16 (m ((c : Thread nD τ).loc main_arg5)) bitsLt_bf16_f32) := by
    show StableHlo.after _ _ _ = _
    simp only [List.flatten_cons, List.flatten_nil, hostOps0, hostOps0_1, hostOps0_2, List.cons_append, List.nil_append, List.append_nil]
    after_results
  rw [h]
  pointwise

/-- The array window 7 reads is the decay's second matrix, argument 6, cast. -/
theorem V7 (c : Dev nD) (k : Fin 64) (j : Fin 1024) : V m c main_v3 (ix2 k j) = (m ((c : Thread nD τ).loc main_arg6) : Vec Ideal S64x1024 .f32) (ix2 k j) := by
  have h : V m c main_v3 = (truncf (F := Ideal) (s := S64x1024) (φ := .f32) .bf16 (m ((c : Thread nD τ).loc main_arg6)) bitsLt_bf16_f32) := by
    show StableHlo.after _ _ _ = _
    simp only [List.flatten_cons, List.flatten_nil, hostOps0, hostOps0_1, hostOps0_2, List.cons_append, List.nil_append, List.append_nil]
    after_results
  rw [h]
  pointwise

/-- The array window 8 reads is the rate's offset, argument 7, reshaped. -/
theorem V8 (c : Dev nD) (k : Fin 1024) : V m c main_v21 (ix2 0 k) = (m ((c : Thread nD τ).loc main_arg7) : Vec Ideal S1024 .f32) (ix1 k) := by
  have h : V m c main_v21 = shapeCast S1x1024 (m ((c : Thread nD τ).loc main_arg7)) shapeCasts_S1024_S1x1024 := by
    show StableHlo.after _ _ _ = _
    simp only [List.flatten_cons, List.flatten_nil, hostOps0, hostOps0_1, hostOps0_2, List.cons_append, List.nil_append, List.append_nil]
    after_results
    rfl
  rw [h]
  pointwise

/-- The array window 9 reads is the rate's first matrix, argument 8, cast. -/
theorem V9 (c : Dev nD) (k : Fin 1024) (j : Fin 64) : V m c main_v4 (ix2 k j) = (m ((c : Thread nD τ).loc main_arg8) : Vec Ideal S1024x64 .f32) (ix2 k j) := by
  have h : V m c main_v4 = (truncf (F := Ideal) (s := S1024x64) (φ := .f32) .bf16 (m ((c : Thread nD τ).loc main_arg8)) bitsLt_bf16_f32) := by
    show StableHlo.after _ _ _ = _
    simp only [List.flatten_cons, List.flatten_nil, hostOps0, hostOps0_1, hostOps0_2, List.cons_append, List.nil_append, List.append_nil]
    after_results
  rw [h]
  pointwise

/-- The array window 10 reads is the rate's second matrix, argument 9, cast. -/
theorem V10 (c : Dev nD) (k : Fin 64) (j : Fin 1024) : V m c main_v5 (ix2 k j) = (m ((c : Thread nD τ).loc main_arg9) : Vec Ideal S64x1024 .f32) (ix2 k j) := by
  have h : V m c main_v5 = (truncf (F := Ideal) (s := S64x1024) (φ := .f32) .bf16 (m ((c : Thread nD τ).loc main_arg9)) bitsLt_bf16_f32) := by
    show StableHlo.after _ _ _ = _
    simp only [List.flatten_cons, List.flatten_nil, hostOps0, hostOps0_1, hostOps0_2, List.cons_append, List.nil_append, List.append_nil]
    after_results
  rw [h]
  pointwise

/-- The array window 11 reads is the gate's first matrix, argument 10, cast. -/
theorem V11 (c : Dev nD) (k : Fin 1024) (j : Fin 128) : V m c main_v6 (ix2 k j) = (m ((c : Thread nD τ).loc main_arg10) : Vec Ideal S1024x128 .f32) (ix2 k j) := by
  have h : V m c main_v6 = (truncf (F := Ideal) (s := S1024x128) (φ := .f32) .bf16 (m ((c : Thread nD τ).loc main_arg10)) bitsLt_bf16_f32) := by
    show StableHlo.after _ _ _ = _
    simp only [List.flatten_cons, List.flatten_nil, hostOps0, hostOps0_1, hostOps0_2, List.cons_append, List.nil_append, List.append_nil]
    after_results
  rw [h]
  pointwise

/-- The array window 12 reads is the gate's second matrix, argument 11, cast. -/
theorem V12 (c : Dev nD) (k : Fin 128) (j : Fin 1024) : V m c main_v7 (ix2 k j) = (m ((c : Thread nD τ).loc main_arg11) : Vec Ideal S128x1024 .f32) (ix2 k j) := by
  have h : V m c main_v7 = (truncf (F := Ideal) (s := S128x1024) (φ := .f32) .bf16 (m ((c : Thread nD τ).loc main_arg11)) bitsLt_bf16_f32) := by
    show StableHlo.after _ _ _ = _
    simp only [List.flatten_cons, List.flatten_nil, hostOps0, hostOps0_1, hostOps0_2, List.cons_append, List.nil_append, List.append_nil]
    after_results
  rw [h]
  pointwise

/-- The array window 13 reads is the scale of the normalized keys, argument 12, reshaped. -/
theorem V13 (c : Dev nD) (k : Fin 1024) : V m c main_v22 (ix2 0 k) = (m ((c : Thread nD τ).loc main_arg12) : Vec Ideal S1024 .f32) (ix1 k) := by
  have h : V m c main_v22 = shapeCast S1x1024 (m ((c : Thread nD τ).loc main_arg12)) shapeCasts_S1024_S1x1024 := by
    show StableHlo.after _ _ _ = _
    simp only [List.flatten_cons, List.flatten_nil, hostOps0, hostOps0_1, hostOps0_2, List.cons_append, List.nil_append, List.append_nil]
    after_results
    rfl
  rw [h]
  pointwise

/-- The array window 14 reads is the scale of the replaced keys, argument 13, reshaped. -/
theorem V14 (c : Dev nD) (k : Fin 1024) : V m c main_v23 (ix2 0 k) = (m ((c : Thread nD τ).loc main_arg13) : Vec Ideal S1024 .f32) (ix1 k) := by
  have h : V m c main_v23 = shapeCast S1x1024 (m ((c : Thread nD τ).loc main_arg13)) shapeCasts_S1024_S1x1024 := by
    show StableHlo.after _ _ _ = _
    simp only [List.flatten_cons, List.flatten_nil, hostOps0, hostOps0_1, hostOps0_2, List.cons_append, List.nil_append, List.append_nil]
    after_results
    rfl
  rw [h]
  pointwise

/-- The block index of window 2 at each grid point. -/
theorem idx2 : ∀ t : Fin cfg0.N, win0_2.index t (0 : Fin 2) = 0 ∧ win0_2.index t (1 : Fin 2) = 0 := (by decide +kernel : ∀ t : Fin grid0.N, _)

/-- Where an index of window 2's block lies in its array. -/
theorem emb2 (t : Fin cfg0.N) (j : S1x1024.Idx) : ((cfg0.win 2).blk t).view.emb j = (j : S1x1024.Idx) := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- The block index of window 3 at each grid point. -/
theorem idx3 : ∀ t : Fin cfg0.N, win0_3.index t (0 : Fin 2) = 0 ∧ win0_3.index t (1 : Fin 2) = 0 := (by decide +kernel : ∀ t : Fin grid0.N, _)

/-- Where an index of window 3's block lies in its array. -/
theorem emb3 (t : Fin cfg0.N) (j : S6x1024.Idx) : ((cfg0.win 3).blk t).view.emb j = (j : S6x1024.Idx) := by
  obtain ⟨e0, e1⟩ := idx3 t
  funext a; apply Fin.ext
  match a with
  | ⟨0, _⟩ => show win0_3.index t (0 : Fin 2) * 6 + 1 * (j 0).val = (j 0).val; omega
  | ⟨1, _⟩ => show win0_3.index t (1 : Fin 2) * 1024 + 1 * (j 1).val = (j 1).val; omega

/-- The block index of window 4 at each grid point. -/
theorem idx4 : ∀ t : Fin cfg0.N, win0_4.index t (0 : Fin 3) = 0 ∧ win0_4.index t (1 : Fin 3) = 0 ∧ win0_4.index t (2 : Fin 3) = 0 := (by decide +kernel : ∀ t : Fin grid0.N, _)

/-- Where an index of window 4's block lies in its array. -/
theorem emb4 (t : Fin cfg0.N) (j : S3x1024x1024.Idx) : ((cfg0.win 4).blk t).view.emb j = (j : S3x1024x1024.Idx) := by
  obtain ⟨e0, e1, e2⟩ := idx4 t
  funext a; apply Fin.ext
  match a with
  | ⟨0, _⟩ => show win0_4.index t (0 : Fin 3) * 3 + 1 * (j 0).val = (j 0).val; omega
  | ⟨1, _⟩ => show win0_4.index t (1 : Fin 3) * 1024 + 1 * (j 1).val = (j 1).val; omega
  | ⟨2, _⟩ => show win0_4.index t (2 : Fin 3) * 1024 + 1 * (j 2).val = (j 2).val; omega

/-- The block index of window 5 at each grid point. -/
theorem idx5 : ∀ t : Fin cfg0.N, win0_5.index t (0 : Fin 2) = 0 ∧ win0_5.index t (1 : Fin 2) = 0 := (by decide +kernel : ∀ t : Fin grid0.N, _)

/-- Where an index of window 5's block lies in its array. -/
theorem emb5 (t : Fin cfg0.N) (j : S1x1024.Idx) : ((cfg0.win 5).blk t).view.emb j = (j : S1x1024.Idx) := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

/-- The block index of window 6 at each grid point. -/
theorem idx6 : ∀ t : Fin cfg0.N, win0_6.index t (0 : Fin 2) = 0 ∧ win0_6.index t (1 : Fin 2) = 0 := (by decide +kernel : ∀ t : Fin grid0.N, _)

/-- Where an index of window 6's block lies in its array. -/
theorem emb6 (t : Fin cfg0.N) (j : S1024x64.Idx) : ((cfg0.win 6).blk t).view.emb j = (j : S1024x64.Idx) := by
  obtain ⟨e0, e1⟩ := idx6 t
  funext a; apply Fin.ext
  match a with
  | ⟨0, _⟩ => show win0_6.index t (0 : Fin 2) * 1024 + 1 * (j 0).val = (j 0).val; omega
  | ⟨1, _⟩ => show win0_6.index t (1 : Fin 2) * 64 + 1 * (j 1).val = (j 1).val; omega

/-- The block index of window 7 at each grid point. -/
theorem idx7 : ∀ t : Fin cfg0.N, win0_7.index t (0 : Fin 2) = 0 ∧ win0_7.index t (1 : Fin 2) = 0 := (by decide +kernel : ∀ t : Fin grid0.N, _)

/-- Where an index of window 7's block lies in its array. -/
theorem emb7 (t : Fin cfg0.N) (j : S64x1024.Idx) : ((cfg0.win 7).blk t).view.emb j = (j : S64x1024.Idx) := by
  obtain ⟨e0, e1⟩ := idx7 t
  funext a; apply Fin.ext
  match a with
  | ⟨0, _⟩ => show win0_7.index t (0 : Fin 2) * 64 + 1 * (j 0).val = (j 0).val; omega
  | ⟨1, _⟩ => show win0_7.index t (1 : Fin 2) * 1024 + 1 * (j 1).val = (j 1).val; omega

/-- The block index of window 8 at each grid point. -/
theorem idx8 : ∀ t : Fin cfg0.N, win0_8.index t (0 : Fin 2) = 0 ∧ win0_8.index t (1 : Fin 2) = 0 := (by decide +kernel : ∀ t : Fin grid0.N, _)

/-- Where an index of window 8's block lies in its array. -/
theorem emb8 (t : Fin cfg0.N) (j : S1x1024.Idx) : ((cfg0.win 8).blk t).view.emb j = (j : S1x1024.Idx) := by
  obtain ⟨e0, e1⟩ := idx8 t
  funext a; apply Fin.ext
  match a with
  | ⟨0, _⟩ => show win0_8.index t (0 : Fin 2) * 1 + 1 * (j 0).val = (j 0).val; omega
  | ⟨1, _⟩ => show win0_8.index t (1 : Fin 2) * 1024 + 1 * (j 1).val = (j 1).val; omega

/-- The block index of window 9 at each grid point. -/
theorem idx9 : ∀ t : Fin cfg0.N, win0_9.index t (0 : Fin 2) = 0 ∧ win0_9.index t (1 : Fin 2) = 0 := (by decide +kernel : ∀ t : Fin grid0.N, _)

/-- Where an index of window 9's block lies in its array. -/
theorem emb9 (t : Fin cfg0.N) (j : S1024x64.Idx) : ((cfg0.win 9).blk t).view.emb j = (j : S1024x64.Idx) := by
  obtain ⟨e0, e1⟩ := idx9 t
  funext a; apply Fin.ext
  match a with
  | ⟨0, _⟩ => show win0_9.index t (0 : Fin 2) * 1024 + 1 * (j 0).val = (j 0).val; omega
  | ⟨1, _⟩ => show win0_9.index t (1 : Fin 2) * 64 + 1 * (j 1).val = (j 1).val; omega

/-- The block index of window 10 at each grid point. -/
theorem idx10 : ∀ t : Fin cfg0.N, win0_10.index t (0 : Fin 2) = 0 ∧ win0_10.index t (1 : Fin 2) = 0 := (by decide +kernel : ∀ t : Fin grid0.N, _)

/-- Where an index of window 10's block lies in its array. -/
theorem emb10 (t : Fin cfg0.N) (j : S64x1024.Idx) : ((cfg0.win 10).blk t).view.emb j = (j : S64x1024.Idx) := by
  obtain ⟨e0, e1⟩ := idx10 t
  funext a; apply Fin.ext
  match a with
  | ⟨0, _⟩ => show win0_10.index t (0 : Fin 2) * 64 + 1 * (j 0).val = (j 0).val; omega
  | ⟨1, _⟩ => show win0_10.index t (1 : Fin 2) * 1024 + 1 * (j 1).val = (j 1).val; omega

/-- The block index of window 11 at each grid point. -/
theorem idx11 : ∀ t : Fin cfg0.N, win0_11.index t (0 : Fin 2) = 0 ∧ win0_11.index t (1 : Fin 2) = 0 := (by decide +kernel : ∀ t : Fin grid0.N, _)

/-- Where an index of window 11's block lies in its array. -/
theorem emb11 (t : Fin cfg0.N) (j : S1024x128.Idx) : ((cfg0.win 11).blk t).view.emb j = (j : S1024x128.Idx) := by
  obtain ⟨e0, e1⟩ := idx11 t
  funext a; apply Fin.ext
  match a with
  | ⟨0, _⟩ => show win0_11.index t (0 : Fin 2) * 1024 + 1 * (j 0).val = (j 0).val; omega
  | ⟨1, _⟩ => show win0_11.index t (1 : Fin 2) * 128 + 1 * (j 1).val = (j 1).val; omega

/-- The block index of window 12 at each grid point. -/
theorem idx12 : ∀ t : Fin cfg0.N, win0_12.index t (0 : Fin 2) = 0 ∧ win0_12.index t (1 : Fin 2) = 0 := (by decide +kernel : ∀ t : Fin grid0.N, _)

/-- Where an index of window 12's block lies in its array. -/
theorem emb12 (t : Fin cfg0.N) (j : S128x1024.Idx) : ((cfg0.win 12).blk t).view.emb j = (j : S128x1024.Idx) := by
  obtain ⟨e0, e1⟩ := idx12 t
  funext a; apply Fin.ext
  match a with
  | ⟨0, _⟩ => show win0_12.index t (0 : Fin 2) * 128 + 1 * (j 0).val = (j 0).val; omega
  | ⟨1, _⟩ => show win0_12.index t (1 : Fin 2) * 1024 + 1 * (j 1).val = (j 1).val; omega

/-- The block index of window 13 at each grid point. -/
theorem idx13 : ∀ t : Fin cfg0.N, win0_13.index t (0 : Fin 2) = 0 ∧ win0_13.index t (1 : Fin 2) = 0 := (by decide +kernel : ∀ t : Fin grid0.N, _)

/-- Where an index of window 13's block lies in its array. -/
theorem emb13 (t : Fin cfg0.N) (j : S1x1024.Idx) : ((cfg0.win 13).blk t).view.emb j = (j : S1x1024.Idx) := by
  obtain ⟨e0, e1⟩ := idx13 t
  funext a; apply Fin.ext
  match a with
  | ⟨0, _⟩ => show win0_13.index t (0 : Fin 2) * 1 + 1 * (j 0).val = (j 0).val; omega
  | ⟨1, _⟩ => show win0_13.index t (1 : Fin 2) * 1024 + 1 * (j 1).val = (j 1).val; omega

/-- The block index of window 14 at each grid point. -/
theorem idx14 : ∀ t : Fin cfg0.N, win0_14.index t (0 : Fin 2) = 0 ∧ win0_14.index t (1 : Fin 2) = 0 := (by decide +kernel : ∀ t : Fin grid0.N, _)

/-- Where an index of window 14's block lies in its array. -/
theorem emb14 (t : Fin cfg0.N) (j : S1x1024.Idx) : ((cfg0.win 14).blk t).view.emb j = (j : S1x1024.Idx) := by
  obtain ⟨e0, e1⟩ := idx14 t
  funext a; apply Fin.ext
  match a with
  | ⟨0, _⟩ => show win0_14.index t (0 : Fin 2) * 1 + 1 * (j 0).val = (j 0).val; omega
  | ⟨1, _⟩ => show win0_14.index t (1 : Fin 2) * 1024 + 1 * (j 1).val = (j 1).val; omega

/-- The block index of window 15 at each grid point. -/
theorem idx15 : ∀ t : Fin cfg0.N, win0_15.index t (0 : Fin 2) = 0 ∧ win0_15.index t (1 : Fin 2) = 0 := (by decide +kernel : ∀ t : Fin grid0.N, _)

/-- Where an index of window 15's block lies in its array. -/
theorem emb15 (t : Fin cfg0.N) (j : S1024x128.Idx) : ((cfg0.win 15).blk t).view.emb j = (j : S1024x128.Idx) := by
  obtain ⟨e0, e1⟩ := idx15 t
  funext a; apply Fin.ext
  match a with
  | ⟨0, _⟩ => show win0_15.index t (0 : Fin 2) * 1024 + 1 * (j 0).val = (j 0).val; omega
  | ⟨1, _⟩ => show win0_15.index t (1 : Fin 2) * 128 + 1 * (j 1).val = (j 1).val; omega

/-- The block index of window 16 at each grid point. -/
theorem idx16 : ∀ t : Fin cfg0.N, win0_16.index t (0 : Fin 2) = 0 ∧ win0_16.index t (1 : Fin 2) = 0 := (by decide +kernel : ∀ t : Fin grid0.N, _)

/-- Where an index of window 16's block lies in its array. -/
theorem emb16 (t : Fin cfg0.N) (j : S128x1024.Idx) : ((cfg0.win 16).blk t).view.emb j = (j : S128x1024.Idx) := by
  obtain ⟨e0, e1⟩ := idx16 t
  funext a; apply Fin.ext
  match a with
  | ⟨0, _⟩ => show win0_16.index t (0 : Fin 2) * 128 + 1 * (j 0).val = (j 0).val; omega
  | ⟨1, _⟩ => show win0_16.index t (1 : Fin 2) * 1024 + 1 * (j 1).val = (j 1).val; omega

/-- The block index of window 17 at each grid point. -/
theorem idx17 : ∀ t : Fin cfg0.N, win0_17.index t (0 : Fin 2) = t.val ∧ win0_17.index t (1 : Fin 2) = 0 := (by decide +kernel : ∀ t : Fin grid0.N, _)

/-- Where an index of window 17's block lies in its array. -/
theorem emb17 (t : Fin cfg0.N) (j : S256x1024.Idx) : ((cfg0.win 17).blk t).view.emb j = (ix2 (row t (j 0)) (j 1) : S16384x1024.Idx) := by
  obtain ⟨e0, e1⟩ := idx17 t
  funext a; apply Fin.ext
  match a with
  | ⟨0, _⟩ => show win0_17.index t (0 : Fin 2) * 256 + 1 * (j 0).val = 256 * t.val + (j 0).val; omega
  | ⟨1, _⟩ => show win0_17.index t (1 : Fin 2) * 1024 + 1 * (j 1).val = (j 1).val; omega

/-- The block index of window 18 at each grid point. -/
theorem idx18 : ∀ t : Fin cfg0.N, win0_18.index t (0 : Fin 2) = t.val ∧ win0_18.index t (1 : Fin 2) = 0 := (by decide +kernel : ∀ t : Fin grid0.N, _)

/-- Where an index of window 18's block lies in its array. -/
theorem emb18 (t : Fin cfg0.N) (j : S256x1024.Idx) : ((cfg0.win 18).blk t).view.emb j = (ix2 (row t (j 0)) (j 1) : S16384x1024.Idx) := by
  obtain ⟨e0, e1⟩ := idx18 t
  funext a; apply Fin.ext
  match a with
  | ⟨0, _⟩ => show win0_18.index t (0 : Fin 2) * 256 + 1 * (j 0).val = 256 * t.val + (j 0).val; omega
  | ⟨1, _⟩ => show win0_18.index t (1 : Fin 2) * 1024 + 1 * (j 1).val = (j 1).val; omega

/-- The block index of window 19 at each grid point. -/
theorem idx19 : ∀ t : Fin cfg0.N, win0_19.index t (0 : Fin 2) = t.val ∧ win0_19.index t (1 : Fin 2) = 0 := (by decide +kernel : ∀ t : Fin grid0.N, _)

/-- Where an index of window 19's block lies in its array. -/
theorem emb19 (t : Fin cfg0.N) (j : S256x1024.Idx) : ((cfg0.win 19).blk t).view.emb j = (ix2 (row t (j 0)) (j 1) : S16384x1024.Idx) := by
  obtain ⟨e0, e1⟩ := idx19 t
  funext a; apply Fin.ext
  match a with
  | ⟨0, _⟩ => show win0_19.index t (0 : Fin 2) * 256 + 1 * (j 0).val = 256 * t.val + (j 0).val; omega
  | ⟨1, _⟩ => show win0_19.index t (1 : Fin 2) * 1024 + 1 * (j 1).val = (j 1).val; omega

/-- The block index of window 20 at each grid point. -/
theorem idx20 : ∀ t : Fin cfg0.N, win0_20.index t (0 : Fin 2) = t.val ∧ win0_20.index t (1 : Fin 2) = 0 := (by decide +kernel : ∀ t : Fin grid0.N, _)

/-- Where an index of window 20's block lies in its array. -/
theorem emb20 (t : Fin cfg0.N) (j : S256x1024.Idx) : ((cfg0.win 20).blk t).view.emb j = (ix2 (row t (j 0)) (j 1) : S16384x1024.Idx) := by
  obtain ⟨e0, e1⟩ := idx20 t
  funext a; apply Fin.ext
  match a with
  | ⟨0, _⟩ => show win0_20.index t (0 : Fin 2) * 256 + 1 * (j 0).val = 256 * t.val + (j 0).val; omega
  | ⟨1, _⟩ => show win0_20.index t (1 : Fin 2) * 1024 + 1 * (j 1).val = (j 1).val; omega

/-- The block index of window 21 at each grid point. -/
theorem idx21 : ∀ t : Fin cfg0.N, win0_21.index t (0 : Fin 2) = t.val ∧ win0_21.index t (1 : Fin 2) = 0 := (by decide +kernel : ∀ t : Fin grid0.N, _)

/-- Where an index of window 21's block lies in its array. -/
theorem emb21 (t : Fin cfg0.N) (j : S256x1024.Idx) : ((cfg0.win 21).blk t).view.emb j = (ix2 (row t (j 0)) (j 1) : S16384x1024.Idx) := by
  obtain ⟨e0, e1⟩ := idx21 t
  funext a; apply Fin.ext
  match a with
  | ⟨0, _⟩ => show win0_21.index t (0 : Fin 2) * 256 + 1 * (j 0).val = 256 * t.val + (j 0).val; omega
  | ⟨1, _⟩ => show win0_21.index t (1 : Fin 2) * 1024 + 1 * (j 1).val = (j 1).val; omega

/-- The block index of window 22 at each grid point. -/
theorem idx22 : ∀ t : Fin cfg0.N, win0_22.index t (0 : Fin 2) = t.val ∧ win0_22.index t (1 : Fin 2) = 0 := (by decide +kernel : ∀ t : Fin grid0.N, _)

/-- Where an index of window 22's block lies in its array. -/
theorem emb22 (t : Fin cfg0.N) (j : S256x1024.Idx) : ((cfg0.win 22).blk t).view.emb j = (ix2 (row t (j 0)) (j 1) : S16384x1024.Idx) := by
  obtain ⟨e0, e1⟩ := idx22 t
  funext a; apply Fin.ext
  match a with
  | ⟨0, _⟩ => show win0_22.index t (0 : Fin 2) * 256 + 1 * (j 0).val = 256 * t.val + (j 0).val; omega
  | ⟨1, _⟩ => show win0_22.index t (1 : Fin 2) * 1024 + 1 * (j 1).val = (j 1).val; omega

/-- The block index of window 23 at each grid point. -/
theorem idx23 : ∀ t : Fin cfg0.N, win0_23.index t (0 : Fin 2) = t.val ∧ win0_23.index t (1 : Fin 2) = 0 := (by decide +kernel : ∀ t : Fin grid0.N, _)

/-- Where an index of window 23's block lies in its array. -/
theorem emb23 (t : Fin cfg0.N) (j : S256x1024.Idx) : ((cfg0.win 23).blk t).view.emb j = (ix2 (row t (j 0)) (j 1) : S16384x1024.Idx) := by
  obtain ⟨e0, e1⟩ := idx23 t
  funext a; apply Fin.ext
  match a with
  | ⟨0, _⟩ => show win0_23.index t (0 : Fin 2) * 256 + 1 * (j 0).val = 256 * t.val + (j 0).val; omega
  | ⟨1, _⟩ => show win0_23.index t (1 : Fin 2) * 1024 + 1 * (j 1).val = (j 1).val; omega

/-! What each input block holds, in terms of the argument arrays. -/

/-- Input block 2 at an index: the normalization's gain. -/
theorem iblk2_apply (c : Dev nD) (t : Fin cfg0.N) (k : Fin 1024) : (iblk m c 2 t : Vec Ideal S1x1024 .f32) (ix2 0 k) = (m ((c : Thread nD τ).loc main_arg1) : Vec Ideal S1024 .f32) (ix1 k) := by
  show V m c main_v19 (((cfg0.win 2).blk t).view.emb (ix2 0 k)) = _
  rw [emb2]
  exact V2 m c k

/-- Input block 3 at an index: the blending weights. -/
theorem iblk3_apply (c : Dev nD) (t : Fin cfg0.N) (k : Fin 6) (j : Fin 1024) : (iblk m c 3 t : Vec Ideal S6x1024 .f32) (ix2 k j) = (m ((c : Thread nD τ).loc main_arg2) : Vec Ideal S6x1024 .f32) (ix2 k j) := by
  show V m c main_arg2 (((cfg0.win 3).blk t).view.emb (ix2 k j)) = _
  rw [emb3]
  exact congrFun (V3 m c) _

/-- Input block 4 at an index: the square matrices. -/
theorem iblk4_apply (c : Dev nD) (t : Fin cfg0.N) (n : Fin 3) (k : Fin 1024) (j : Fin 1024) : (iblk m c 4 t : Vec Ideal S3x1024x1024 .bf16) (ix3 n k j) = (m ((c : Thread nD τ).loc main_arg3) : Vec Ideal S3x1024x1024 .f32) (ix3 n k j) := by
  show V m c main_v1 (((cfg0.win 4).blk t).view.emb (ix3 n k j)) = _
  rw [emb4]
  exact V4 m c n k j

/-- Input block 5 at an index: the decay's offset. -/
theorem iblk5_apply (c : Dev nD) (t : Fin cfg0.N) (k : Fin 1024) : (iblk m c 5 t : Vec Ideal S1x1024 .f32) (ix2 0 k) = (m ((c : Thread nD τ).loc main_arg4) : Vec Ideal S1024 .f32) (ix1 k) := by
  show V m c main_v20 (((cfg0.win 5).blk t).view.emb (ix2 0 k)) = _
  rw [emb5]
  exact V5 m c k

/-- Input block 6 at an index: the decay's first matrix. -/
theorem iblk6_apply (c : Dev nD) (t : Fin cfg0.N) (k : Fin 1024) (j : Fin 64) : (iblk m c 6 t : Vec Ideal S1024x64 .bf16) (ix2 k j) = (m ((c : Thread nD τ).loc main_arg5) : Vec Ideal S1024x64 .f32) (ix2 k j) := by
  show V m c main_v2 (((cfg0.win 6).blk t).view.emb (ix2 k j)) = _
  rw [emb6]
  exact V6 m c k j

/-- Input block 7 at an index: the decay's second matrix. -/
theorem iblk7_apply (c : Dev nD) (t : Fin cfg0.N) (k : Fin 64) (j : Fin 1024) : (iblk m c 7 t : Vec Ideal S64x1024 .bf16) (ix2 k j) = (m ((c : Thread nD τ).loc main_arg6) : Vec Ideal S64x1024 .f32) (ix2 k j) := by
  show V m c main_v3 (((cfg0.win 7).blk t).view.emb (ix2 k j)) = _
  rw [emb7]
  exact V7 m c k j

/-- Input block 8 at an index: the rate's offset. -/
theorem iblk8_apply (c : Dev nD) (t : Fin cfg0.N) (k : Fin 1024) : (iblk m c 8 t : Vec Ideal S1x1024 .f32) (ix2 0 k) = (m ((c : Thread nD τ).loc main_arg7) : Vec Ideal S1024 .f32) (ix1 k) := by
  show V m c main_v21 (((cfg0.win 8).blk t).view.emb (ix2 0 k)) = _
  rw [emb8]
  exact V8 m c k

/-- Input block 9 at an index: the rate's first matrix. -/
theorem iblk9_apply (c : Dev nD) (t : Fin cfg0.N) (k : Fin 1024) (j : Fin 64) : (iblk m c 9 t : Vec Ideal S1024x64 .bf16) (ix2 k j) = (m ((c : Thread nD τ).loc main_arg8) : Vec Ideal S1024x64 .f32) (ix2 k j) := by
  show V m c main_v4 (((cfg0.win 9).blk t).view.emb (ix2 k j)) = _
  rw [emb9]
  exact V9 m c k j

/-- Input block 10 at an index: the rate's second matrix. -/
theorem iblk10_apply (c : Dev nD) (t : Fin cfg0.N) (k : Fin 64) (j : Fin 1024) : (iblk m c 10 t : Vec Ideal S64x1024 .bf16) (ix2 k j) = (m ((c : Thread nD τ).loc main_arg9) : Vec Ideal S64x1024 .f32) (ix2 k j) := by
  show V m c main_v5 (((cfg0.win 10).blk t).view.emb (ix2 k j)) = _
  rw [emb10]
  exact V10 m c k j

/-- Input block 11 at an index: the gate's first matrix. -/
theorem iblk11_apply (c : Dev nD) (t : Fin cfg0.N) (k : Fin 1024) (j : Fin 128) : (iblk m c 11 t : Vec Ideal S1024x128 .bf16) (ix2 k j) = (m ((c : Thread nD τ).loc main_arg10) : Vec Ideal S1024x128 .f32) (ix2 k j) := by
  show V m c main_v6 (((cfg0.win 11).blk t).view.emb (ix2 k j)) = _
  rw [emb11]
  exact V11 m c k j

/-- Input block 12 at an index: the gate's second matrix. -/
theorem iblk12_apply (c : Dev nD) (t : Fin cfg0.N) (k : Fin 128) (j : Fin 1024) : (iblk m c 12 t : Vec Ideal S128x1024 .bf16) (ix2 k j) = (m ((c : Thread nD τ).loc main_arg11) : Vec Ideal S128x1024 .f32) (ix2 k j) := by
  show V m c main_v7 (((cfg0.win 12).blk t).view.emb (ix2 k j)) = _
  rw [emb12]
  exact V12 m c k j

/-- Input block 13 at an index: the scale of the normalized keys. -/
theorem iblk13_apply (c : Dev nD) (t : Fin cfg0.N) (k : Fin 1024) : (iblk m c 13 t : Vec Ideal S1x1024 .f32) (ix2 0 k) = (m ((c : Thread nD τ).loc main_arg12) : Vec Ideal S1024 .f32) (ix1 k) := by
  show V m c main_v22 (((cfg0.win 13).blk t).view.emb (ix2 0 k)) = _
  rw [emb13]
  exact V13 m c k

/-- Input block 14 at an index: the scale of the replaced keys. -/
theorem iblk14_apply (c : Dev nD) (t : Fin cfg0.N) (k : Fin 1024) : (iblk m c 14 t : Vec Ideal S1x1024 .f32) (ix2 0 k) = (m ((c : Thread nD τ).loc main_arg13) : Vec Ideal S1024 .f32) (ix1 k) := by
  show V m c main_v23 (((cfg0.win 14).blk t).view.emb (ix2 0 k)) = _
  rw [emb14]
  exact V14 m c k

/-- Input block 15 at an index: whether the column lies in the head. -/
theorem iblk15_apply (c : Dev nD) (t : Fin cfg0.N) (x : Fin 1024) (h : Fin 128) : (iblk m c 15 t : Vec Ideal S1024x128 .bf16) (ix2 x h) = if x.val / 64 = h.val then (1 : EReal) else 0 := by
  show V m c main_v16 (((cfg0.win 15).blk t).view.emb (ix2 x h)) = _
  rw [emb15]
  exact V15 m c x h

/-- Input block 16 at an index: whether the column lies in the head. -/
theorem iblk16_apply (c : Dev nD) (t : Fin cfg0.N) (h : Fin 128) (x : Fin 1024) : (iblk m c 16 t : Vec Ideal S128x1024 .bf16) (ix2 h x) = if x.val / 64 = h.val then (1 : EReal) else 0 := by
  show V m c main_v17 (((cfg0.win 16).blk t).view.emb (ix2 h x)) = _
  rw [emb16]
  exact V16 m c h x

/-- The batch of a block's row. -/
def bat (r : Fin 256) : Fin 8 := ⟨r.val % 8, by omega⟩

/-- The position of a block's row. -/
def sq (t : Fin cfg0.N) (r : Fin 256) : Fin 2048 := pos t (⟨r.val / 8, by omega⟩ : Fin 32)

/-- A block's row is its batch's activations at its position. -/
theorem xrow_eq (c : Dev nD) (t : Fin cfg0.N) (r : Fin 256) : xrow (iblk m c 0 t) r = (AM m c).x (bat r) (sq t r) :=
  funext fun k => iblk0_apply m c t (bat r) (⟨r.val / 8, by omega⟩ : Fin 32) k

/-- The normalization's gain, as the windows hold it. -/
theorem gain_eq (c : Dev nD) (t : Fin cfg0.N) : (fun k => (iblk m c 2 t : Vec Ideal S1x1024 .f32) (ix2 0 k)) = (AM m c).gain :=
  funext fun k => iblk2_apply m c t k

/-- A block's normalized row. -/
theorem now_eq (c : Dev nD) (t : Fin cfg0.N) (r : Fin 256) (k : Fin 1024) :
    Cert.Gmlp.rms (xrow (iblk m c 0 t) r) (fun k => (iblk m c 2 t : Vec Ideal S1x1024 .f32) (ix2 0 k)) k = (AM m c).h (bat r) (sq t r) k :=
  congrFun (congr (congrArg Cert.Gmlp.rms (xrow_eq m c t r)) (gain_eq m c t)) k

/-- The normalized row before a block's row. -/
theorem prev_eq (c : Dev nD) (t : Fin cfg0.N) (r : Fin 256) (k : Fin 1024) :
    prev ((grid0.coords t) 0).val (iblk m c 0 t) (iblk m c 1 t) (iblk m c 2 t) r k = (AM m c).prev (bat r) (sq t r) k := by
  have ht : t.val < 64 := t.isLt
  have hr := r.isLt
  have hs : (sq t r).val = 32 * t.val + r.val / 8 := rfl
  unfold prev Cert.Proj.Args.prev
  rw [coord]
  by_cases h : r.val < 8
  · rw [dif_pos h]
    by_cases h0 : t.val = 0
    · rw [if_pos h0, if_pos (by omega)]
    · rw [if_neg h0, if_neg (by omega)]
      have e : (fun k => (iblk m c 1 t : Vec Ideal S8x8x1024 .f32) (ix3 (⟨r.val, h⟩ : Fin 8) (7 : Fin 8) k)) = (AM m c).x (bat r) (⟨(sq t r).val - 1, by omega⟩ : Fin 2048) :=
        funext fun k => (iblk1_apply m c t ⟨r.val, h⟩ 7 k).trans (congrArg₂ (fun b s => (AM m c).x b s k)
          (Fin.ext (by show r.val = r.val % 8; omega)) (Fin.ext (by show (4 * t.val - 1) * 8 + 7 = (sq t r).val - 1; omega)))
      exact congrFun (congr (congrArg Cert.Gmlp.rms e) (gain_eq m c t)) k
  · rw [dif_neg h, if_neg (by omega)]
    refine (now_eq m c t ⟨r.val - 8, by omega⟩ k).trans (congrArg₂ (fun b s => (AM m c).h b s k) (Fin.ext ?_) (Fin.ext ?_))
    · show (r.val - 8) % 8 = r.val % 8
      omega
    · show 32 * t.val + (r.val - 8) / 8 = (sq t r).val - 1
      omega

/-- What the windows of point `t` hold for its row `r`. -/
theorem holds (c : Dev nD) (t : Fin cfg0.N) (r : Fin 256) : Holds (AM m c) (bat r) (sq t r) (grid0.coords t) r (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  now k := (rows_apply _ _ r k).trans (now_eq m c t r k)
  bk k := (back_apply _ _ _ _ r k).trans (congrArg₂ (· - ·) (prev_eq m c t r k) (now_eq m c t r k))
  mu n k := iblk3_apply m c t n k
  W n k j := iblk4_apply m c t n k j
  w0 k := iblk5_apply m c t k
  w1 k l := iblk6_apply m c t k l
  w2 l k := iblk7_apply m c t l k
  a0 k := iblk8_apply m c t k
  a1 k l := iblk9_apply m c t k l
  a2 l k := iblk10_apply m c t l k
  g1 k l := iblk11_apply m c t k l
  g2 l k := iblk12_apply m c t l k
  kk k := iblk13_apply m c t k
  ka k := iblk14_apply m c t k
  heads x h := iblk15_apply m c t x h
  spread h x := iblk16_apply m c t h x

/-- A block's row of a result, by its batch and position. -/
theorem spread_row (f : Fin 8 → Fin 2048 → Fin 1024 → EReal) (t : Fin cfg0.N) (r : Fin 256) (j : Fin 1024) : Cert.Proj.spread f (ix2 (row t r) j) = f (bat r) (sq t r) j := by
  have hr := r.isLt
  refine congrArg₂ (fun b s => f b s j) (Fin.ext ?_) (Fin.ext ?_)
  · show (256 * t.val + r.val) % 8 = r.val % 8
    omega
  · show (256 * t.val + r.val) / 8 = 32 * t.val + r.val / 8
    omega

/-- Result 0, as the launch's argument arrays determine it: the receptances. -/
def G17 (c : Dev nD) : Vec Ideal S16384x1024 .f32 := Cert.Proj.spread (AM m c).recept

/-- What point `t` leaves for result 0 is its rows of the receptances. -/
theorem outsAt17_apply (c : Dev nD) (t : Fin cfg0.N) (r : Fin 256) (j : Fin 1024) : (outsAt0 m c t).1 (ix2 r j) = G17 m c (ix2 (row t r) j) := by
  simp only [outsAt0]
  rw [out17_eq]
  refine (val17 j (holds m c t r)).trans ?_
  exact (spread_row (AM m c).recept t r j).symm

/-- What the point writes back for result 0 is its block of the receptances. -/
theorem flushed17_eq (c : Dev nD) (t : Fin cfg0.N) : (dats m 0 c).flushed 17 t = ((cfg0.win 17).blk t).view.read (Elt Ideal) (G17 m c) := by
  rw [flushed17]
  funext y
  show (outsAt0 m c t).1 y = G17 m c (((cfg0.win 17).blk t).view.emb y)
  rw [emb17]
  have h := outsAt17_apply m c t (y 0) (y 1)
  rwa [show (ix2 (y 0) (y 1) : S256x1024.Idx) = y from by funext a; match a with | ⟨0, _⟩ => rfl | ⟨1, _⟩ => rfl] at h

/-- Every index of result 0 is in the block of its row's point. -/
theorem covered17 (i : S16384x1024.Idx) : ∃ t : Fin cfg0.N, (cfg0.win 17).flush t = true ∧ i ∈ ((cfg0.win 17).blk t).view.set := by
  idx_vars i
  obtain ⟨t, r, hr⟩ := row_of i0
  refine ⟨t, flush0_17 t, ?_⟩
  have h := ((cfg0.win 17).blk t).view.emb_mem_set (ix2 r i1 : S256x1024.Idx)
  rw [emb17] at h
  subst hr
  exact h

/-- Result 0 after the run: the receptances of the argument arrays. -/
theorem final17 (c : Dev nD) : (dats m 0 c).arrAt 17 cfg0.N = G17 m c :=
  (dats m 0 c).arrAt_eq_of_cover 17 (G17 m c) (fun t _ => flushed17_eq m c t) covered17

/-- Result 1, as the launch's argument arrays determine it: the decays. -/
def G18 (c : Dev nD) : Vec Ideal S16384x1024 .f32 := Cert.Proj.spread (AM m c).dec

/-- What point `t` leaves for result 1 is its rows of the decays. -/
theorem outsAt18_apply (c : Dev nD) (t : Fin cfg0.N) (r : Fin 256) (j : Fin 1024) : (outsAt0 m c t).2.1 (ix2 r j) = G18 m c (ix2 (row t r) j) := by
  simp only [outsAt0]
  rw [out18_eq]
  refine (val18 j (holds m c t r)).trans ?_
  exact (spread_row (AM m c).dec t r j).symm

/-- What the point writes back for result 1 is its block of the decays. -/
theorem flushed18_eq (c : Dev nD) (t : Fin cfg0.N) : (dats m 0 c).flushed 18 t = ((cfg0.win 18).blk t).view.read (Elt Ideal) (G18 m c) := by
  rw [flushed18]
  funext y
  show (outsAt0 m c t).2.1 y = G18 m c (((cfg0.win 18).blk t).view.emb y)
  rw [emb18]
  have h := outsAt18_apply m c t (y 0) (y 1)
  rwa [show (ix2 (y 0) (y 1) : S256x1024.Idx) = y from by funext a; match a with | ⟨0, _⟩ => rfl | ⟨1, _⟩ => rfl] at h

/-- Every index of result 1 is in the block of its row's point. -/
theorem covered18 (i : S16384x1024.Idx) : ∃ t : Fin cfg0.N, (cfg0.win 18).flush t = true ∧ i ∈ ((cfg0.win 18).blk t).view.set := by
  idx_vars i
  obtain ⟨t, r, hr⟩ := row_of i0
  refine ⟨t, flush0_18 t, ?_⟩
  have h := ((cfg0.win 18).blk t).view.emb_mem_set (ix2 r i1 : S256x1024.Idx)
  rw [emb18] at h
  subst hr
  exact h

/-- Result 1 after the run: the decays of the argument arrays. -/
theorem final18 (c : Dev nD) : (dats m 0 c).arrAt 18 cfg0.N = G18 m c :=
  (dats m 0 c).arrAt_eq_of_cover 18 (G18 m c) (fun t _ => flushed18_eq m c t) covered18

/-- Result 2, as the launch's argument arrays determine it: the replaced keys. -/
def G19 (c : Dev nD) : Vec Ideal S16384x1024 .f32 := Cert.Proj.spread (AM m c).keys

/-- What point `t` leaves for result 2 is its rows of the replaced keys. -/
theorem outsAt19_apply (c : Dev nD) (t : Fin cfg0.N) (r : Fin 256) (j : Fin 1024) : (outsAt0 m c t).2.2.1 (ix2 r j) = G19 m c (ix2 (row t r) j) := by
  simp only [outsAt0]
  rw [out19_eq]
  refine (val19 j (holds m c t r)).trans ?_
  exact (spread_row (AM m c).keys t r j).symm

/-- What the point writes back for result 2 is its block of the replaced keys. -/
theorem flushed19_eq (c : Dev nD) (t : Fin cfg0.N) : (dats m 0 c).flushed 19 t = ((cfg0.win 19).blk t).view.read (Elt Ideal) (G19 m c) := by
  rw [flushed19]
  funext y
  show (outsAt0 m c t).2.2.1 y = G19 m c (((cfg0.win 19).blk t).view.emb y)
  rw [emb19]
  have h := outsAt19_apply m c t (y 0) (y 1)
  rwa [show (ix2 (y 0) (y 1) : S256x1024.Idx) = y from by funext a; match a with | ⟨0, _⟩ => rfl | ⟨1, _⟩ => rfl] at h

/-- Every index of result 2 is in the block of its row's point. -/
theorem covered19 (i : S16384x1024.Idx) : ∃ t : Fin cfg0.N, (cfg0.win 19).flush t = true ∧ i ∈ ((cfg0.win 19).blk t).view.set := by
  idx_vars i
  obtain ⟨t, r, hr⟩ := row_of i0
  refine ⟨t, flush0_19 t, ?_⟩
  have h := ((cfg0.win 19).blk t).view.emb_mem_set (ix2 r i1 : S256x1024.Idx)
  rw [emb19] at h
  subst hr
  exact h

/-- Result 2 after the run: the replaced keys of the argument arrays. -/
theorem final19 (c : Dev nD) : (dats m 0 c).arrAt 19 cfg0.N = G19 m c :=
  (dats m 0 c).arrAt_eq_of_cover 19 (G19 m c) (fun t _ => flushed19_eq m c t) covered19

/-- Result 3, as the launch's argument arrays determine it: the values. -/
def G20 (c : Dev nD) : Vec Ideal S16384x1024 .f32 := Cert.Proj.spread (AM m c).vals

/-- What point `t` leaves for result 3 is its rows of the values. -/
theorem outsAt20_apply (c : Dev nD) (t : Fin cfg0.N) (r : Fin 256) (j : Fin 1024) : (outsAt0 m c t).2.2.2.1 (ix2 r j) = G20 m c (ix2 (row t r) j) := by
  simp only [outsAt0]
  rw [out20_eq]
  refine (val20 j (holds m c t r)).trans ?_
  exact (spread_row (AM m c).vals t r j).symm

/-- What the point writes back for result 3 is its block of the values. -/
theorem flushed20_eq (c : Dev nD) (t : Fin cfg0.N) : (dats m 0 c).flushed 20 t = ((cfg0.win 20).blk t).view.read (Elt Ideal) (G20 m c) := by
  rw [flushed20]
  funext y
  show (outsAt0 m c t).2.2.2.1 y = G20 m c (((cfg0.win 20).blk t).view.emb y)
  rw [emb20]
  have h := outsAt20_apply m c t (y 0) (y 1)
  rwa [show (ix2 (y 0) (y 1) : S256x1024.Idx) = y from by funext a; match a with | ⟨0, _⟩ => rfl | ⟨1, _⟩ => rfl] at h

/-- Every index of result 3 is in the block of its row's point. -/
theorem covered20 (i : S16384x1024.Idx) : ∃ t : Fin cfg0.N, (cfg0.win 20).flush t = true ∧ i ∈ ((cfg0.win 20).blk t).view.set := by
  idx_vars i
  obtain ⟨t, r, hr⟩ := row_of i0
  refine ⟨t, flush0_20 t, ?_⟩
  have h := ((cfg0.win 20).blk t).view.emb_mem_set (ix2 r i1 : S256x1024.Idx)
  rw [emb20] at h
  subst hr
  exact h

/-- Result 3 after the run: the values of the argument arrays. -/
theorem final20 (c : Dev nD) : (dats m 0 c).arrAt 20 cfg0.N = G20 m c :=
  (dats m 0 c).arrAt_eq_of_cover 20 (G20 m c) (fun t _ => flushed20_eq m c t) covered20

/-- Result 4, as the launch's argument arrays determine it: the keys that are taken away. -/
def G21 (c : Dev nD) : Vec Ideal S16384x1024 .f32 := Cert.Proj.spread (AM m c).taken

/-- What point `t` leaves for result 4 is its rows of the keys that are taken away. -/
theorem outsAt21_apply (c : Dev nD) (t : Fin cfg0.N) (r : Fin 256) (j : Fin 1024) (hA : (AM m c).Real) : (outsAt0 m c t).2.2.2.2.1 (ix2 r j) = G21 m c (ix2 (row t r) j) := by
  simp only [outsAt0]
  rw [out21_eq]
  refine (val21 j (holds m c t r) hA).trans ?_
  exact (spread_row (AM m c).taken t r j).symm

/-- What the point writes back for result 4 is its block of the keys that are taken away. -/
theorem flushed21_eq (c : Dev nD) (hA : (AM m c).Real) (t : Fin cfg0.N) : (dats m 0 c).flushed 21 t = ((cfg0.win 21).blk t).view.read (Elt Ideal) (G21 m c) := by
  rw [flushed21]
  funext y
  show (outsAt0 m c t).2.2.2.2.1 y = G21 m c (((cfg0.win 21).blk t).view.emb y)
  rw [emb21]
  have h := outsAt21_apply m c t (y 0) (y 1) hA
  rwa [show (ix2 (y 0) (y 1) : S256x1024.Idx) = y from by funext a; match a with | ⟨0, _⟩ => rfl | ⟨1, _⟩ => rfl] at h

/-- Every index of result 4 is in the block of its row's point. -/
theorem covered21 (i : S16384x1024.Idx) : ∃ t : Fin cfg0.N, (cfg0.win 21).flush t = true ∧ i ∈ ((cfg0.win 21).blk t).view.set := by
  idx_vars i
  obtain ⟨t, r, hr⟩ := row_of i0
  refine ⟨t, flush0_21 t, ?_⟩
  have h := ((cfg0.win 21).blk t).view.emb_mem_set (ix2 r i1 : S256x1024.Idx)
  rw [emb21] at h
  subst hr
  exact h

/-- Result 4 after the run: the keys that are taken away of the argument arrays. -/
theorem final21 (c : Dev nD) (hA : (AM m c).Real) : (dats m 0 c).arrAt 21 cfg0.N = G21 m c :=
  (dats m 0 c).arrAt_eq_of_cover 21 (G21 m c) (fun t _ => flushed21_eq m c hA t) covered21

/-- Result 5, as the launch's argument arrays determine it: the keys that are put in their place. -/
def G22 (c : Dev nD) : Vec Ideal S16384x1024 .f32 := Cert.Proj.spread (AM m c).placed

/-- What point `t` leaves for result 5 is its rows of the keys that are put in their place. -/
theorem outsAt22_apply (c : Dev nD) (t : Fin cfg0.N) (r : Fin 256) (j : Fin 1024) (hA : (AM m c).Real) : (outsAt0 m c t).2.2.2.2.2.1 (ix2 r j) = G22 m c (ix2 (row t r) j) := by
  simp only [outsAt0]
  rw [out22_eq]
  refine (val22 j (holds m c t r) hA).trans ?_
  exact (spread_row (AM m c).placed t r j).symm

/-- What the point writes back for result 5 is its block of the keys that are put in their place. -/
theorem flushed22_eq (c : Dev nD) (hA : (AM m c).Real) (t : Fin cfg0.N) : (dats m 0 c).flushed 22 t = ((cfg0.win 22).blk t).view.read (Elt Ideal) (G22 m c) := by
  rw [flushed22]
  funext y
  show (outsAt0 m c t).2.2.2.2.2.1 y = G22 m c (((cfg0.win 22).blk t).view.emb y)
  rw [emb22]
  have h := outsAt22_apply m c t (y 0) (y 1) hA
  rwa [show (ix2 (y 0) (y 1) : S256x1024.Idx) = y from by funext a; match a with | ⟨0, _⟩ => rfl | ⟨1, _⟩ => rfl] at h

/-- Every index of result 5 is in the block of its row's point. -/
theorem covered22 (i : S16384x1024.Idx) : ∃ t : Fin cfg0.N, (cfg0.win 22).flush t = true ∧ i ∈ ((cfg0.win 22).blk t).view.set := by
  idx_vars i
  obtain ⟨t, r, hr⟩ := row_of i0
  refine ⟨t, flush0_22 t, ?_⟩
  have h := ((cfg0.win 22).blk t).view.emb_mem_set (ix2 r i1 : S256x1024.Idx)
  rw [emb22] at h
  subst hr
  exact h

/-- Result 5 after the run: the keys that are put in their place of the argument arrays. -/
theorem final22 (c : Dev nD) (hA : (AM m c).Real) : (dats m 0 c).arrAt 22 cfg0.N = G22 m c :=
  (dats m 0 c).arrAt_eq_of_cover 22 (G22 m c) (fun t _ => flushed22_eq m c hA t) covered22

/-- Result 6, as the launch's argument arrays determine it: the gates. -/
def G23 (c : Dev nD) : Vec Ideal S16384x1024 .f32 := Cert.Proj.spread (AM m c).gates

/-- What point `t` leaves for result 6 is its rows of the gates. -/
theorem outsAt23_apply (c : Dev nD) (t : Fin cfg0.N) (r : Fin 256) (j : Fin 1024) : (outsAt0 m c t).2.2.2.2.2.2 (ix2 r j) = G23 m c (ix2 (row t r) j) := by
  simp only [outsAt0]
  rw [out23_eq]
  refine (val23 j (holds m c t r)).trans ?_
  exact (spread_row (AM m c).gates t r j).symm

/-- What the point writes back for result 6 is its block of the gates. -/
theorem flushed23_eq (c : Dev nD) (t : Fin cfg0.N) : (dats m 0 c).flushed 23 t = ((cfg0.win 23).blk t).view.read (Elt Ideal) (G23 m c) := by
  rw [flushed23]
  funext y
  show (outsAt0 m c t).2.2.2.2.2.2 y = G23 m c (((cfg0.win 23).blk t).view.emb y)
  rw [emb23]
  have h := outsAt23_apply m c t (y 0) (y 1)
  rwa [show (ix2 (y 0) (y 1) : S256x1024.Idx) = y from by funext a; match a with | ⟨0, _⟩ => rfl | ⟨1, _⟩ => rfl] at h

/-- Every index of result 6 is in the block of its row's point. -/
theorem covered23 (i : S16384x1024.Idx) : ∃ t : Fin cfg0.N, (cfg0.win 23).flush t = true ∧ i ∈ ((cfg0.win 23).blk t).view.set := by
  idx_vars i
  obtain ⟨t, r, hr⟩ := row_of i0
  refine ⟨t, flush0_23 t, ?_⟩
  have h := ((cfg0.win 23).blk t).view.emb_mem_set (ix2 r i1 : S256x1024.Idx)
  rw [emb23] at h
  subst hr
  exact h

/-- Result 6 after the run: the gates of the argument arrays. -/
theorem final23 (c : Dev nD) : (dats m 0 c).arrAt 23 cfg0.N = G23 m c :=
  (dats m 0 c).arrAt_eq_of_cover 23 (G23 m c) (fun t _ => flushed23_eq m c t) covered23

/-- The generated run with the seven results at their functions of the arguments. -/
theorem run (hA : ∀ c, (AM m c).Real) : θ_run defs (onTc (τ := τ) (main (F := Ideal))) ⟨m, fun _ => 0, ρ⟩ fun r => ∀ c : Dev nD,
      r.2.mem ((c : Thread nD τ).loc main_v24_0) = G17 m c ∧ r.2.mem ((c : Thread nD τ).loc main_v24_1) = G18 m c ∧ r.2.mem ((c : Thread nD τ).loc main_v24_2) = G19 m c ∧ r.2.mem ((c : Thread nD τ).loc main_v24_3) = G20 m c ∧ r.2.mem ((c : Thread nD τ).loc main_v24_4) = G21 m c ∧ r.2.mem ((c : Thread nD τ).loc main_v24_5) = G22 m c ∧ r.2.mem ((c : Thread nD τ).loc main_v24_6) = G23 m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) ∧ r.2.mem ((c : Thread nD τ).loc main_arg12) = m ((c : Thread nD τ).loc main_arg12) ∧ r.2.mem ((c : Thread nD τ).loc main_arg13) = m ((c : Thread nD τ).loc main_arg13) :=
  (θ_run defs _ _).mono (fun r h c => ⟨(h c).1.trans (final17 m c), (h c).2.1.trans (final18 m c), (h c).2.2.1.trans (final19 m c), (h c).2.2.2.1.trans (final20 m c),
    (h c).2.2.2.2.1.trans (final21 m c (hA c)), (h c).2.2.2.2.2.1.trans (final22 m c (hA c)), (h c).2.2.2.2.2.2.1.trans (final23 m c), (h c).2.2.2.2.2.2.2⟩) (run_blocks m ρ)

end Cert.Kernel5Ideal.Proj

end
-- ==== Proof.ProjRef.lean ====
/- The projections' reference: its seven result arrays are the projections of the argument arrays, rows position by position. -/
module

public import proofs.«01_k».proof.Proof.ProjMath
public import proofs.«01_k».proof.Proof.Gen.Reference5Ideal.Read
public import Idealize.ShloMosaic.Lib.Pointwise

@[expose] public section

set_option maxRecDepth 16384

noncomputable section

namespace Cert.Reference5Ideal.Proj

open Cert.Reference5Ideal Cert.Reference5Ideal.Gen Cert.Reference5Ideal.Read Idealize.ShloMosaic Idealize.ShloMosaic.TcCoe Idealize.ShloMosaic.Tactic Idealize.SL.Sem

variable (x0 : Vec Ideal S8x2048x1024 .f32)  (x1 : Vec Ideal S1024 .f32)  (x2 : Vec Ideal S6x1024 .f32)  (x3 : Vec Ideal S3x1024x1024 .f32)  (x4 : Vec Ideal S1024 .f32)  (x5 : Vec Ideal S1024x64 .f32)  (x6 : Vec Ideal S64x1024 .f32)  (x7 : Vec Ideal S1024 .f32)  (x8 : Vec Ideal S1024x64 .f32)  (x9 : Vec Ideal S64x1024 .f32)  (x10 : Vec Ideal S1024x128 .f32)  (x11 : Vec Ideal S128x1024 .f32)  (x12 : Vec Ideal S1024 .f32)  (x13 : Vec Ideal S1024 .f32)

/-- The argument arrays as what the projections take. -/
def A : Cert.Proj.Args where
  x := fun b s k => x0 (ix3 b s k)
  gain := fun k => x1 (ix1 k)
  mu := fun n k => x2 (ix2 n k)
  W := fun n k j => x3 (ix3 n k j)
  w0 := fun k => x4 (ix1 k)
  w1 := fun k l => x5 (ix2 k l)
  w2 := fun l k => x6 (ix2 l k)
  a0 := fun k => x7 (ix1 k)
  a1 := fun k l => x8 (ix2 k l)
  a2 := fun l k => x9 (ix2 l k)
  g1 := fun k l => x10 (ix2 k l)
  g2 := fun l k => x11 (ix2 l k)
  kk := fun k => x12 (ix1 k)
  ka := fun k => x13 (ix1 k)

/-- The normalized activations at an index. -/
theorem v12_apply (b : Fin 8) (s : Fin 2048) (k : Fin 1024) : val_main_v12 (F := Ideal) x0 x1 (ix3 b s k)
    = (A x0 x1 x2 x3 x4 x5 x6 x7 x8 x9 x10 x11 x12 x13).h b s k := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The normalized row before, at an index. -/
theorem v14_apply (b : Fin 8) (s : Fin 2048) (k : Fin 1024) : val_main_v14 (F := Ideal) x0 x1 (ix3 b s k)
    = (A x0 x1 x2 x3 x4 x5 x6 x7 x8 x9 x10 x11 x12 x13).prev b s k := by
  unfold val_main_v14 val_main_v13 val_main_call0_v0 val_main_c
  pointwise [v12_apply x0 x1 x2 x3 x4 x5 x6 x7 x8 x9 x10 x11 x12 x13]
  unfold Cert.Proj.Args.prev
  have hs := s.isLt
  by_cases h : s.val = 0
  · rw [if_pos h, dif_neg (fun k => by omega)]
    simp [FloatOps.sitofp]
  · rw [if_neg h, dif_pos (⟨by omega, by omega⟩ : 1 ≤ s.val ∧ s.val - 1 < 2048)]

/-- A blend at an index. -/
theorem v23_apply (n : Fin 6) (b : Fin 8) (s : Fin 2048) (k : Fin 1024) : val_main_v23 (F := Ideal) x0 x1 x2 (ix4 n b s k)
    = (A x0 x1 x2 x3 x4 x5 x6 x7 x8 x9 x10 x11 x12 x13).blend b s n k := by
  unfold val_main_v23 val_main_v22 val_main_v21 val_main_v20 val_main_v19 val_main_v18 val_main_v17 val_main_v16 val_main_v15
  pointwise [v12_apply x0 x1 x2 x3 x4 x5 x6 x7 x8 x9 x10 x11 x12 x13, v14_apply x0 x1 x2 x3 x4 x5 x6 x7 x8 x9 x10 x11 x12 x13]
  rfl

/-- The three square projections at an index. -/
theorem v25_apply (n : Fin 3) (b : Fin 8) (s : Fin 2048) (j : Fin 1024) : val_main_v25 (F := Ideal) x0 x1 x2 x3 (ix4 n b s j)
    = Cert.Proj.dot ((A x0 x1 x2 x3 x4 x5 x6 x7 x8 x9 x10 x11 x12 x13).blend b s (⟨n.val, by omega⟩ : Fin 6)) ((A x0 x1 x2 x3 x4 x5 x6 x7 x8 x9 x10 x11 x12 x13).W n) j := by
  unfold val_main_v25 val_main_v24
  pointwise [v23_apply x0 x1 x2 x3 x4 x5 x6 x7 x8 x9 x10 x11 x12 x13]
  rfl

/-- The receptance at an index. -/
theorem v27_apply (b : Fin 8) (s : Fin 2048) (j : Fin 1024) : val_main_v27 (F := Ideal) x0 x1 x2 x3 (ix3 b s j)
    = (A x0 x1 x2 x3 x4 x5 x6 x7 x8 x9 x10 x11 x12 x13).recept b s j := by
  unfold val_main_v27 val_main_v26
  pointwise [v25_apply x0 x1 x2 x3 x4 x5 x6 x7 x8 x9 x10 x11 x12 x13]
  rfl

/-- The keys before they are replaced at an index. -/
theorem v29_apply (b : Fin 8) (s : Fin 2048) (j : Fin 1024) : val_main_v29 (F := Ideal) x0 x1 x2 x3 (ix3 b s j)
    = (A x0 x1 x2 x3 x4 x5 x6 x7 x8 x9 x10 x11 x12 x13).raw b s j := by
  unfold val_main_v29 val_main_v28
  pointwise [v25_apply x0 x1 x2 x3 x4 x5 x6 x7 x8 x9 x10 x11 x12 x13]
  rfl

/-- The values at an index. -/
theorem v31_apply (b : Fin 8) (s : Fin 2048) (j : Fin 1024) : val_main_v31 (F := Ideal) x0 x1 x2 x3 (ix3 b s j)
    = (A x0 x1 x2 x3 x4 x5 x6 x7 x8 x9 x10 x11 x12 x13).vals b s j := by
  unfold val_main_v31 val_main_v30
  pointwise [v25_apply x0 x1 x2 x3 x4 x5 x6 x7 x8 x9 x10 x11 x12 x13]
  rfl

/-- The blend numbered 3. -/
theorem v33_apply (b : Fin 8) (s : Fin 2048) (k : Fin 1024) : val_main_v33 (F := Ideal) x0 x1 x2 (ix3 b s k)
    = (A x0 x1 x2 x3 x4 x5 x6 x7 x8 x9 x10 x11 x12 x13).blend b s 3 k := by
  unfold val_main_v33 val_main_v32
  pointwise [v23_apply x0 x1 x2 x3 x4 x5 x6 x7 x8 x9 x10 x11 x12 x13]

/-- The blend numbered 4. -/
theorem v35_apply (b : Fin 8) (s : Fin 2048) (k : Fin 1024) : val_main_v35 (F := Ideal) x0 x1 x2 (ix3 b s k)
    = (A x0 x1 x2 x3 x4 x5 x6 x7 x8 x9 x10 x11 x12 x13).blend b s 4 k := by
  unfold val_main_v35 val_main_v34
  pointwise [v23_apply x0 x1 x2 x3 x4 x5 x6 x7 x8 x9 x10 x11 x12 x13]

/-- The blend numbered 5. -/
theorem v37_apply (b : Fin 8) (s : Fin 2048) (k : Fin 1024) : val_main_v37 (F := Ideal) x0 x1 x2 (ix3 b s k)
    = (A x0 x1 x2 x3 x4 x5 x6 x7 x8 x9 x10 x11 x12 x13).blend b s 5 k := by
  unfold val_main_v37 val_main_v36
  pointwise [v23_apply x0 x1 x2 x3 x4 x5 x6 x7 x8 x9 x10 x11 x12 x13]

/-- What the decay's softplus is taken of, at an index. -/
theorem v44_apply (b : Fin 8) (s : Fin 2048) (j : Fin 1024) : val_main_v44 (F := Ideal) x0 x1 x2 x4 x5 x6 (ix3 b s j)
    = -((A x0 x1 x2 x3 x4 x5 x6 x7 x8 x9 x10 x11 x12 x13).w0 j + Cert.Proj.dot (fun l => Ideal.tanh (Cert.Proj.dot ((A x0 x1 x2 x3 x4 x5 x6 x7 x8 x9 x10 x11 x12 x13).blend b s 3) (A x0 x1 x2 x3 x4 x5 x6 x7 x8 x9 x10 x11 x12 x13).w1 l)) (A x0 x1 x2 x3 x4 x5 x6 x7 x8 x9 x10 x11 x12 x13).w2 j) := by
  unfold val_main_v44 val_main_v43 val_main_v42 val_main_v41 val_main_v40 val_main_v39 val_main_v38
  pointwise [v33_apply x0 x1 x2 x3 x4 x5 x6 x7 x8 x9 x10 x11 x12 x13, Ideal.hostNegf_def]
  rfl

/-- The softplus at an index. -/
theorem v45_apply (b : Fin 8) (s : Fin 2048) (j : Fin 1024) : val_main_v45 (F := Ideal) x0 x1 x2 x4 x5 x6 (ix3 b s j)
    = Cert.Proj.soft (val_main_v44 (F := Ideal) x0 x1 x2 x4 x5 x6 (ix3 b s j)) := by
  unfold val_main_v45 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_cst
  generalize val_main_v44 (F := Ideal) x0 x1 x2 x4 x5 x6 = g
  pointwise [Ideal.hostNegf_def]
  generalize g (ix3 b s j) = u
  rw [if_neg (fun h => h rfl)]
  rfl

/-- The logarithm of the decay's logarithm, at an index. -/
theorem v48_apply (b : Fin 8) (s : Fin 2048) (j : Fin 1024) : val_main_v48 (F := Ideal) x0 x1 x2 x4 x5 x6 (ix3 b s j)
    = Cert.Proj.wlog ((A x0 x1 x2 x3 x4 x5 x6 x7 x8 x9 x10 x11 x12 x13).blend b s 3) (A x0 x1 x2 x3 x4 x5 x6 x7 x8 x9 x10 x11 x12 x13).w0 (A x0 x1 x2 x3 x4 x5 x6 x7 x8 x9 x10 x11 x12 x13).w1 (A x0 x1 x2 x3 x4 x5 x6 x7 x8 x9 x10 x11 x12 x13).w2 j := by
  unfold val_main_v48 val_main_v47 val_main_v46 val_main_cst_2
  pointwise [v45_apply x0 x1 x2 x4 x5 x6, v44_apply x0 x1 x2 x3 x4 x5 x6 x7 x8 x9 x10 x11 x12 x13, Ideal.hostNegf_def]
  rfl

/-- The rate at an index. -/
theorem v59_apply (b : Fin 8) (s : Fin 2048) (j : Fin 1024) : val_main_v59 (F := Ideal) x0 x1 x2 x7 x8 x9 (ix3 b s j)
    = (A x0 x1 x2 x3 x4 x5 x6 x7 x8 x9 x10 x11 x12 x13).learn b s j := by
  unfold val_main_v59 val_main_v58 val_main_v57 val_main_v56 val_main_v55 val_main_v54 val_main_v53 val_main_v52 val_main_v51 val_main_v50 val_main_v49 val_main_cst_3 val_main_cst_4
  pointwise [v35_apply x0 x1 x2 x3 x4 x5 x6 x7 x8 x9 x10 x11 x12 x13, Ideal.hostNegf_def]
  rfl

/-- The gate at an index. -/
theorem v67_apply (b : Fin 8) (s : Fin 2048) (j : Fin 1024) : val_main_v67 (F := Ideal) x0 x1 x2 x10 x11 (ix3 b s j)
    = (A x0 x1 x2 x3 x4 x5 x6 x7 x8 x9 x10 x11 x12 x13).gates b s j := by
  unfold val_main_v67 val_main_v66 val_main_v65 val_main_v64 val_main_v63 val_main_v62 val_main_v61 val_main_v60 val_main_cst_5 val_main_cst_6
  pointwise [v37_apply x0 x1 x2 x3 x4 x5 x6 x7 x8 x9 x10 x11 x12 x13, Ideal.hostNegf_def]
  rfl

/-- The replaced keys at an index. -/
theorem v84_apply (b : Fin 8) (s : Fin 2048) (j : Fin 1024) : val_main_v84 (F := Ideal) x0 x1 x2 x3 x7 x8 x9 x13 (ix3 b s j)
    = (A x0 x1 x2 x3 x4 x5 x6 x7 x8 x9 x10 x11 x12 x13).keys b s j := by
  unfold val_main_v84 val_main_v83 val_main_v82 val_main_v81 val_main_v80 val_main_v79 val_main_v78 val_main_v77 val_main_cst_8 val_main_cst_9
  pointwise [v29_apply x0 x1 x2 x3 x4 x5 x6 x7 x8 x9 x10 x11 x12 x13, v59_apply x0 x1 x2 x3 x4 x5 x6 x7 x8 x9 x10 x11 x12 x13]
  rfl

/-- Column `d` of head `g`. -/
def col (g : Fin 16) (d : Fin 64) : Fin 1024 := ⟨64 * g.val + d.val, by omega⟩

/-- An array's columns parted into heads, at an index. -/
theorem heads_apply (z : FVec Ideal S8x2048x1024 .f32) (b : Fin 8) (s : Fin 2048) (g : Fin 16) (d : Fin 64) :
    shapeCast S8x2048x16x64 z shapeCasts_S8x2048x1024_S8x2048x16x64 (ix4 b s g d) = z (ix3 b s (col g d)) :=
  shapeCast_apply _ _ _ _ (by
    rw [Shape.rowMajor_val_three, Shape.rowMajor_val_four]
    show (b.val * 2048 + s.val) * 1024 + (64 * g.val + d.val) = ((b.val * 2048 + s.val) * 16 + g.val) * 64 + d.val
    omega)

/-- An array by heads, transposed to put positions first and laid out in rows: row `R` is position `R / 8` of batch `R % 8`, and column
    `j` is the head's own. -/
theorem rows4_apply (z : FVec Ideal S8x2048x16x64 .f32) (f : Fin 8 → Fin 2048 → Fin 1024 → EReal) (hz : ∀ b s g d, z (ix4 b s g d) = f b s (col g d)) (R : Fin 16384) (j : Fin 1024) :
    shapeCast S16384x1024 (transpose S2048x8x16x64 [1, 0, 2, 3] z transposes_S8x2048x16x64_S2048x8x16x64_1_0_2_3) shapeCasts_S2048x8x16x64_S16384x1024 (ix2 R j)
      = f (⟨R.val % 8, by omega⟩ : Fin 8) (⟨R.val / 8, by omega⟩ : Fin 2048) j := by
  have h : shapeCast S16384x1024 (transpose S2048x8x16x64 [1, 0, 2, 3] z transposes_S8x2048x16x64_S2048x8x16x64_1_0_2_3) shapeCasts_S2048x8x16x64_S16384x1024 (ix2 R j)
      = transpose S2048x8x16x64 [1, 0, 2, 3] z transposes_S8x2048x16x64_S2048x8x16x64_1_0_2_3
          (ix4 (⟨R.val / 8, by omega⟩ : Fin 2048) (⟨R.val % 8, by omega⟩ : Fin 8) (⟨j.val / 64, by omega⟩ : Fin 16) (⟨j.val % 64, by omega⟩ : Fin 64)) := shapeCast_apply _ _ _ _ (by
    rw [Shape.rowMajor_val_four, Shape.rowMajor_val_two]
    show ((R.val / 8 * 8 + R.val % 8) * 16 + j.val / 64) * 64 + j.val % 64 = R.val * 1024 + j.val
    omega)
  rw [h]
  pointwise
  refine (hz _ _ _ _).trans (congrArg (f _ _) (Fin.ext ?_))
  show 64 * (j.val / 64) + j.val % 64 = j.val
  omega

/-- The same of an array by columns. -/
theorem rows3_apply (z : FVec Ideal S8x2048x1024 .f32) (R : Fin 16384) (j : Fin 1024) :
    shapeCast S16384x1024 (transpose S2048x8x1024 [1, 0, 2] z transposes_S8x2048x1024_S2048x8x1024_1_0_2) shapeCasts_S2048x8x1024_S16384x1024 (ix2 R j)
      = z (ix3 (⟨R.val % 8, by omega⟩ : Fin 8) (⟨R.val / 8, by omega⟩ : Fin 2048) j) := by
  have h : shapeCast S16384x1024 (transpose S2048x8x1024 [1, 0, 2] z transposes_S8x2048x1024_S2048x8x1024_1_0_2) shapeCasts_S2048x8x1024_S16384x1024 (ix2 R j)
      = transpose S2048x8x1024 [1, 0, 2] z transposes_S8x2048x1024_S2048x8x1024_1_0_2 (ix3 (⟨R.val / 8, by omega⟩ : Fin 2048) (⟨R.val % 8, by omega⟩ : Fin 8) j) := shapeCast_apply _ _ _ _ (by
    rw [Shape.rowMajor_val_three, Shape.rowMajor_val_two]
    show (R.val / 8 * 8 + R.val % 8) * 1024 + j.val = R.val * 1024 + j.val
    omega)
  rw [h]
  pointwise

/-- The scaled keys by heads, at an index. -/
theorem v71_apply (b : Fin 8) (s : Fin 2048) (g : Fin 16) (d : Fin 64) : val_main_v71 (F := Ideal) x0 x1 x2 x3 x12 (ix4 b s g d)
    = (A x0 x1 x2 x3 x4 x5 x6 x7 x8 x9 x10 x11 x12 x13).raw b s (col g d) * (A x0 x1 x2 x3 x4 x5 x6 x7 x8 x9 x10 x11 x12 x13).kk (col g d) := by
  unfold val_main_v71
  rw [heads_apply]
  unfold val_main_v70 val_main_v69 val_main_v68
  pointwise [v29_apply x0 x1 x2 x3 x4 x5 x6 x7 x8 x9 x10 x11 x12 x13]
  rfl

/-- The normalized keys by heads, at an index. -/
theorem v76_apply (b : Fin 8) (s : Fin 2048) (g : Fin 16) (d : Fin 64) : val_main_v76 (F := Ideal) x0 x1 x2 x3 x12 (ix4 b s g d)
    = (A x0 x1 x2 x3 x4 x5 x6 x7 x8 x9 x10 x11 x12 x13).unit b s (col g d) := by
  unfold val_main_v76 val_main_v75 val_main_v74 val_main_v73 val_main_v72 val_main_call2_v2 val_main_call2_v1 val_main_call2_v0 val_main_call2_cst val_main_cst_7
  pointwise [v71_apply x0 x1 x2 x3 x4 x5 x6 x7 x8 x9 x10 x11 x12 x13]
  have e : ∀ d' : Fin 64, Cert.Proj.headCol (col g d) d' = col g d' := fun d' => Fin.ext (by show 64 * ((64 * g.val + d.val) / 64) + d'.val = 64 * g.val + d'.val; omega)
  unfold Cert.Proj.Args.unit Cert.Proj.unitKey
  simp only [e]

/-- The first result is the receptances. -/
theorem v94_apply (R : Fin 16384) (j : Fin 1024) : val_main_v94 (F := Ideal) x0 x1 x2 x3 (ix2 R j)
    = (A x0 x1 x2 x3 x4 x5 x6 x7 x8 x9 x10 x11 x12 x13).recept (⟨R.val % 8, by omega⟩ : Fin 8) (⟨R.val / 8, by omega⟩ : Fin 2048) j := by
  unfold val_main_v94 val_main_v93
  refine rows4_apply _ (A x0 x1 x2 x3 x4 x5 x6 x7 x8 x9 x10 x11 x12 x13).recept (fun b s g d => ?_) R j
  unfold val_main_v85
  rw [heads_apply]
  exact v27_apply x0 x1 x2 x3 x4 x5 x6 x7 x8 x9 x10 x11 x12 x13 b s (col g d)

/-- The third result is the replaced keys. -/
theorem v98_apply (R : Fin 16384) (j : Fin 1024) : val_main_v98 (F := Ideal) x0 x1 x2 x3 x7 x8 x9 x13 (ix2 R j)
    = (A x0 x1 x2 x3 x4 x5 x6 x7 x8 x9 x10 x11 x12 x13).keys (⟨R.val % 8, by omega⟩ : Fin 8) (⟨R.val / 8, by omega⟩ : Fin 2048) j := by
  unfold val_main_v98 val_main_v97
  refine rows4_apply _ (A x0 x1 x2 x3 x4 x5 x6 x7 x8 x9 x10 x11 x12 x13).keys (fun b s g d => ?_) R j
  unfold val_main_v86
  rw [heads_apply]
  exact v84_apply x0 x1 x2 x3 x4 x5 x6 x7 x8 x9 x10 x11 x12 x13 b s (col g d)

/-- The fourth result is the values. -/
theorem v100_apply (R : Fin 16384) (j : Fin 1024) : val_main_v100 (F := Ideal) x0 x1 x2 x3 (ix2 R j)
    = (A x0 x1 x2 x3 x4 x5 x6 x7 x8 x9 x10 x11 x12 x13).vals (⟨R.val % 8, by omega⟩ : Fin 8) (⟨R.val / 8, by omega⟩ : Fin 2048) j := by
  unfold val_main_v100 val_main_v99
  refine rows4_apply _ (A x0 x1 x2 x3 x4 x5 x6 x7 x8 x9 x10 x11 x12 x13).vals (fun b s g d => ?_) R j
  unfold val_main_v87
  rw [heads_apply]
  exact v31_apply x0 x1 x2 x3 x4 x5 x6 x7 x8 x9 x10 x11 x12 x13 b s (col g d)

/-- The second result is the decays. -/
theorem v96_apply (R : Fin 16384) (j : Fin 1024) : val_main_v96 (F := Ideal) x0 x1 x2 x4 x5 x6 (ix2 R j)
    = (A x0 x1 x2 x3 x4 x5 x6 x7 x8 x9 x10 x11 x12 x13).dec (⟨R.val % 8, by omega⟩ : Fin 8) (⟨R.val / 8, by omega⟩ : Fin 2048) j := by
  unfold val_main_v96 val_main_v95
  refine rows4_apply _ (A x0 x1 x2 x3 x4 x5 x6 x7 x8 x9 x10 x11 x12 x13).dec (fun b s g d => ?_) R j
  unfold val_main_v92 val_main_v91 val_main_v90 val_main_v89
  pointwise [heads_apply, v48_apply x0 x1 x2 x3 x4 x5 x6 x7 x8 x9 x10 x11 x12 x13, Ideal.hostNegf_def]
  rfl

/-- The fifth result is the normalized keys, negated. -/
theorem v103_apply (R : Fin 16384) (j : Fin 1024) : val_main_v103 (F := Ideal) x0 x1 x2 x3 x12 (ix2 R j)
    = -((A x0 x1 x2 x3 x4 x5 x6 x7 x8 x9 x10 x11 x12 x13).unit (⟨R.val % 8, by omega⟩ : Fin 8) (⟨R.val / 8, by omega⟩ : Fin 2048) j) := by
  unfold val_main_v103 val_main_v102
  refine rows4_apply _ (fun b s j => -((A x0 x1 x2 x3 x4 x5 x6 x7 x8 x9 x10 x11 x12 x13).unit b s j)) (fun b s g d => ?_) R j
  unfold val_main_v101
  pointwise [v76_apply x0 x1 x2 x3 x4 x5 x6 x7 x8 x9 x10 x11 x12 x13, Ideal.hostNegf_def]

/-- The sixth result is the normalized keys times their rates. -/
theorem v106_apply (R : Fin 16384) (j : Fin 1024) : val_main_v106 (F := Ideal) x0 x1 x2 x3 x7 x8 x9 x12 (ix2 R j)
    = (A x0 x1 x2 x3 x4 x5 x6 x7 x8 x9 x10 x11 x12 x13).unit (⟨R.val % 8, by omega⟩ : Fin 8) (⟨R.val / 8, by omega⟩ : Fin 2048) j * (A x0 x1 x2 x3 x4 x5 x6 x7 x8 x9 x10 x11 x12 x13).learn (⟨R.val % 8, by omega⟩ : Fin 8) (⟨R.val / 8, by omega⟩ : Fin 2048) j := by
  unfold val_main_v106 val_main_v105
  refine rows4_apply _ (fun b s j => (A x0 x1 x2 x3 x4 x5 x6 x7 x8 x9 x10 x11 x12 x13).unit b s j * (A x0 x1 x2 x3 x4 x5 x6 x7 x8 x9 x10 x11 x12 x13).learn b s j) (fun b s g d => ?_) R j
  unfold val_main_v104 val_main_v88
  pointwise [v76_apply x0 x1 x2 x3 x4 x5 x6 x7 x8 x9 x10 x11 x12 x13, heads_apply, v59_apply x0 x1 x2 x3 x4 x5 x6 x7 x8 x9 x10 x11 x12 x13]

/-- The seventh result is the gates. -/
theorem v108_apply (R : Fin 16384) (j : Fin 1024) : val_main_v108 (F := Ideal) x0 x1 x2 x10 x11 (ix2 R j)
    = (A x0 x1 x2 x3 x4 x5 x6 x7 x8 x9 x10 x11 x12 x13).gates (⟨R.val % 8, by omega⟩ : Fin 8) (⟨R.val / 8, by omega⟩ : Fin 2048) j := by
  unfold val_main_v108 val_main_v107
  rw [rows3_apply]
  exact v67_apply x0 x1 x2 x3 x4 x5 x6 x7 x8 x9 x10 x11 x12 x13 _ _ j

end Cert.Reference5Ideal.Proj

end
-- ==== Proof.ProjClaims.lean ====
/- The claims about the projections. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_keys
public import proofs.«01_k».proof.Proof.PoolClaims
public import proofs.«01_k».proof.Proof.ProjArray
public import proofs.«01_k».proof.Proof.ProjRef

@[expose] public section

set_option maxRecDepth 16384

noncomputable section

namespace Cert.Proof.Proj

open Idealize.ShloMosaic Idealize.ShloMosaic.TcCoe Idealize.ShloMosaic.Tactic Idealize.SL.Sem

/-- An index set of a scalar has one index. -/
instance : Subsingleton Cert.Pre_finite_keys.S_.Idx := ⟨fun _ _ => funext fun a => a.elim0⟩

/-- The precondition: the gain, the keys' blending weights, the keys' matrix and the keys' scale are real. -/
theorem finite (a0 : Vec Ideal Cert.Kernel5Ideal.S8x2048x1024 .f32) (a1 : Vec Ideal Cert.Kernel5Ideal.S1024 .f32) (a2 : Vec Ideal Cert.Kernel5Ideal.S6x1024 .f32) (a3 : Vec Ideal Cert.Kernel5Ideal.S3x1024x1024 .f32) (a4 : Vec Ideal Cert.Kernel5Ideal.S1024 .f32) (a5 : Vec Ideal Cert.Kernel5Ideal.S1024x64 .f32) (a6 : Vec Ideal Cert.Kernel5Ideal.S64x1024 .f32) (a7 : Vec Ideal Cert.Kernel5Ideal.S1024 .f32) (a8 : Vec Ideal Cert.Kernel5Ideal.S1024x64 .f32) (a9 : Vec Ideal Cert.Kernel5Ideal.S64x1024 .f32) (a10 : Vec Ideal Cert.Kernel5Ideal.S1024x128 .f32) (a11 : Vec Ideal Cert.Kernel5Ideal.S128x1024 .f32) (a12 : Vec Ideal Cert.Kernel5Ideal.S1024 .f32) (a13 : Vec Ideal Cert.Kernel5Ideal.S1024 .f32)
    (h : Cert.Pre_finite_keys.fn (F := Ideal) a0 a1 a2 a3 a4 a5 a6 a7 a8 a9 a10 a11 a12 a13 = fun _ => 1#1) : (Cert.Kernel5Ideal.Proj.argsOf a0 a1 a2 a3 a4 a5 a6 a7 a8 a9 a10 a11 a12 a13).Real := by
  have e := congrFun h (fun a => a.elim0)
  obtain ⟨e, e4⟩ := Pool.both _ _ e
  obtain ⟨e, e3⟩ := Pool.both _ _ e
  obtain ⟨e1, e2⟩ := Pool.both _ _ e
  refine ⟨fun k => ?_, fun k => ?_, fun k j => ?_, fun k => ?_⟩
  · exact Pool.real_of_lt _ (Host.reduce_andi_all _ _ _ _ _ e1 (ix1 k))
  · have r := Pool.real_of_lt _ (Host.reduce_andi_all _ _ _ _ _ e2 (ix1 k))
    have q : shapeCast Cert.Pre_finite_keys.S1024 (extractStridedSlice Cert.Pre_finite_keys.S1x1024 ![1, 0] a2 Cert.Pre_finite_keys.Facts.slices_S6x1024_S1x1024_1_0) Cert.Pre_finite_keys.Facts.shapeCasts_S1x1024_S1024 (ix1 k) = a2 (ix2 1 k) := by
      pointwise
    exact (congrArg Cert.Pool.IsReal q).mp r
  · have r := Pool.real_of_lt _ (Host.reduce_andi_all _ _ _ _ _ e3 (ix2 k j))
    have q : shapeCast Cert.Pre_finite_keys.S1024x1024 (extractStridedSlice Cert.Pre_finite_keys.S1x1024x1024 ![1, 0, 0] a3 Cert.Pre_finite_keys.Facts.slices_S3x1024x1024_S1x1024x1024_1_0_0) Cert.Pre_finite_keys.Facts.shapeCasts_S1x1024x1024_S1024x1024 (ix2 k j) = a3 (ix3 1 k j) := by
      pointwise
    exact (congrArg Cert.Pool.IsReal q).mp r
  · exact Pool.real_of_lt _ (Host.reduce_andi_all _ _ _ _ _ e4 (ix1 k))

/-- The kernel runs from any launch and leaves its arguments and semaphores as they were. -/
theorem frame_kernel : Cert.quiescent_Kernel5 := fun m g _ => Cert.Kernel5.Gen.frame m g

/-- So does its idealization. -/
theorem frame_ideal : Cert.quiescent_Kernel5Ideal := fun m g _ => Cert.Kernel5Ideal.Gen.frame m g

/-- In particular from one whose keys' arrays are finite. -/
theorem frame_ideal_finite : Cert.quiescent_Kernel5Ideal_pre_finite_keys := fun m g _ => Cert.Kernel5Ideal.Gen.frame m g

/-- So does the reference. -/
theorem frame_reference : Cert.quiescent_Reference5Ideal := fun m g _ =>
  (θ_run Cert.Reference5Ideal.defs _ _).mono (fun r h => And.intro (fun c => (h c).2.2.2.2.2.2.2) (sem_eq_zero_of_no_sems (by decide) r.2))
    (Cert.Reference5Ideal.Value.run m g)

/-- In particular from one whose keys' arrays are finite. -/
theorem frame_reference_finite : Cert.quiescent_Reference5Ideal_pre_finite_keys := fun m g _ => frame_reference m g trivial

/-- The reference's receptances are the same function of the arguments as the kernel's. -/
theorem recept_value (a0 : Vec Ideal Cert.Kernel5Ideal.S8x2048x1024 .f32) (a1 : Vec Ideal Cert.Kernel5Ideal.S1024 .f32) (a2 : Vec Ideal Cert.Kernel5Ideal.S6x1024 .f32) (a3 : Vec Ideal Cert.Kernel5Ideal.S3x1024x1024 .f32) (a4 : Vec Ideal Cert.Kernel5Ideal.S1024 .f32) (a5 : Vec Ideal Cert.Kernel5Ideal.S1024x64 .f32) (a6 : Vec Ideal Cert.Kernel5Ideal.S64x1024 .f32) (a7 : Vec Ideal Cert.Kernel5Ideal.S1024 .f32) (a8 : Vec Ideal Cert.Kernel5Ideal.S1024x64 .f32) (a9 : Vec Ideal Cert.Kernel5Ideal.S64x1024 .f32) (a10 : Vec Ideal Cert.Kernel5Ideal.S1024x128 .f32) (a11 : Vec Ideal Cert.Kernel5Ideal.S128x1024 .f32) (a12 : Vec Ideal Cert.Kernel5Ideal.S1024 .f32) (a13 : Vec Ideal Cert.Kernel5Ideal.S1024 .f32) :
    Cert.Reference5Ideal.Read.val_main_v94 (F := Ideal) a0 a1 a2 a3 = Cert.Proj.spread (Cert.Kernel5Ideal.Proj.argsOf a0 a1 a2 a3 a4 a5 a6 a7 a8 a9 a10 a11 a12 a13).recept := by
  funext i
  idx_vars i
  exact Cert.Reference5Ideal.Proj.v94_apply a0 a1 a2 a3 a4 a5 a6 a7 a8 a9 a10 a11 a12 a13 i0 i1

/-- The reference's decays are the same function of the arguments as the kernel's. -/
theorem dec_value (a0 : Vec Ideal Cert.Kernel5Ideal.S8x2048x1024 .f32) (a1 : Vec Ideal Cert.Kernel5Ideal.S1024 .f32) (a2 : Vec Ideal Cert.Kernel5Ideal.S6x1024 .f32) (a3 : Vec Ideal Cert.Kernel5Ideal.S3x1024x1024 .f32) (a4 : Vec Ideal Cert.Kernel5Ideal.S1024 .f32) (a5 : Vec Ideal Cert.Kernel5Ideal.S1024x64 .f32) (a6 : Vec Ideal Cert.Kernel5Ideal.S64x1024 .f32) (a7 : Vec Ideal Cert.Kernel5Ideal.S1024 .f32) (a8 : Vec Ideal Cert.Kernel5Ideal.S1024x64 .f32) (a9 : Vec Ideal Cert.Kernel5Ideal.S64x1024 .f32) (a10 : Vec Ideal Cert.Kernel5Ideal.S1024x128 .f32) (a11 : Vec Ideal Cert.Kernel5Ideal.S128x1024 .f32) (a12 : Vec Ideal Cert.Kernel5Ideal.S1024 .f32) (a13 : Vec Ideal Cert.Kernel5Ideal.S1024 .f32) :
    Cert.Reference5Ideal.Read.val_main_v96 (F := Ideal) a0 a1 a2 a4 a5 a6 = Cert.Proj.spread (Cert.Kernel5Ideal.Proj.argsOf a0 a1 a2 a3 a4 a5 a6 a7 a8 a9 a10 a11 a12 a13).dec := by
  funext i
  idx_vars i
  exact Cert.Reference5Ideal.Proj.v96_apply a0 a1 a2 a3 a4 a5 a6 a7 a8 a9 a10 a11 a12 a13 i0 i1

/-- The reference's replaced keys are the same function of the arguments as the kernel's. -/
theorem keys_value (a0 : Vec Ideal Cert.Kernel5Ideal.S8x2048x1024 .f32) (a1 : Vec Ideal Cert.Kernel5Ideal.S1024 .f32) (a2 : Vec Ideal Cert.Kernel5Ideal.S6x1024 .f32) (a3 : Vec Ideal Cert.Kernel5Ideal.S3x1024x1024 .f32) (a4 : Vec Ideal Cert.Kernel5Ideal.S1024 .f32) (a5 : Vec Ideal Cert.Kernel5Ideal.S1024x64 .f32) (a6 : Vec Ideal Cert.Kernel5Ideal.S64x1024 .f32) (a7 : Vec Ideal Cert.Kernel5Ideal.S1024 .f32) (a8 : Vec Ideal Cert.Kernel5Ideal.S1024x64 .f32) (a9 : Vec Ideal Cert.Kernel5Ideal.S64x1024 .f32) (a10 : Vec Ideal Cert.Kernel5Ideal.S1024x128 .f32) (a11 : Vec Ideal Cert.Kernel5Ideal.S128x1024 .f32) (a12 : Vec Ideal Cert.Kernel5Ideal.S1024 .f32) (a13 : Vec Ideal Cert.Kernel5Ideal.S1024 .f32) :
    Cert.Reference5Ideal.Read.val_main_v98 (F := Ideal) a0 a1 a2 a3 a7 a8 a9 a13 = Cert.Proj.spread (Cert.Kernel5Ideal.Proj.argsOf a0 a1 a2 a3 a4 a5 a6 a7 a8 a9 a10 a11 a12 a13).keys := by
  funext i
  idx_vars i
  exact Cert.Reference5Ideal.Proj.v98_apply a0 a1 a2 a3 a4 a5 a6 a7 a8 a9 a10 a11 a12 a13 i0 i1

/-- The reference's values are the same function of the arguments as the kernel's. -/
theorem vals_value (a0 : Vec Ideal Cert.Kernel5Ideal.S8x2048x1024 .f32) (a1 : Vec Ideal Cert.Kernel5Ideal.S1024 .f32) (a2 : Vec Ideal Cert.Kernel5Ideal.S6x1024 .f32) (a3 : Vec Ideal Cert.Kernel5Ideal.S3x1024x1024 .f32) (a4 : Vec Ideal Cert.Kernel5Ideal.S1024 .f32) (a5 : Vec Ideal Cert.Kernel5Ideal.S1024x64 .f32) (a6 : Vec Ideal Cert.Kernel5Ideal.S64x1024 .f32) (a7 : Vec Ideal Cert.Kernel5Ideal.S1024 .f32) (a8 : Vec Ideal Cert.Kernel5Ideal.S1024x64 .f32) (a9 : Vec Ideal Cert.Kernel5Ideal.S64x1024 .f32) (a10 : Vec Ideal Cert.Kernel5Ideal.S1024x128 .f32) (a11 : Vec Ideal Cert.Kernel5Ideal.S128x1024 .f32) (a12 : Vec Ideal Cert.Kernel5Ideal.S1024 .f32) (a13 : Vec Ideal Cert.Kernel5Ideal.S1024 .f32) :
    Cert.Reference5Ideal.Read.val_main_v100 (F := Ideal) a0 a1 a2 a3 = Cert.Proj.spread (Cert.Kernel5Ideal.Proj.argsOf a0 a1 a2 a3 a4 a5 a6 a7 a8 a9 a10 a11 a12 a13).vals := by
  funext i
  idx_vars i
  exact Cert.Reference5Ideal.Proj.v100_apply a0 a1 a2 a3 a4 a5 a6 a7 a8 a9 a10 a11 a12 a13 i0 i1

/-- The reference's negated normalized keys are the same function of the arguments as the kernel's. -/
theorem taken_value (a0 : Vec Ideal Cert.Kernel5Ideal.S8x2048x1024 .f32) (a1 : Vec Ideal Cert.Kernel5Ideal.S1024 .f32) (a2 : Vec Ideal Cert.Kernel5Ideal.S6x1024 .f32) (a3 : Vec Ideal Cert.Kernel5Ideal.S3x1024x1024 .f32) (a4 : Vec Ideal Cert.Kernel5Ideal.S1024 .f32) (a5 : Vec Ideal Cert.Kernel5Ideal.S1024x64 .f32) (a6 : Vec Ideal Cert.Kernel5Ideal.S64x1024 .f32) (a7 : Vec Ideal Cert.Kernel5Ideal.S1024 .f32) (a8 : Vec Ideal Cert.Kernel5Ideal.S1024x64 .f32) (a9 : Vec Ideal Cert.Kernel5Ideal.S64x1024 .f32) (a10 : Vec Ideal Cert.Kernel5Ideal.S1024x128 .f32) (a11 : Vec Ideal Cert.Kernel5Ideal.S128x1024 .f32) (a12 : Vec Ideal Cert.Kernel5Ideal.S1024 .f32) (a13 : Vec Ideal Cert.Kernel5Ideal.S1024 .f32) :
    Cert.Reference5Ideal.Read.val_main_v103 (F := Ideal) a0 a1 a2 a3 a12 = Cert.Proj.spread (Cert.Kernel5Ideal.Proj.argsOf a0 a1 a2 a3 a4 a5 a6 a7 a8 a9 a10 a11 a12 a13).taken := by
  funext i
  idx_vars i
  exact Cert.Reference5Ideal.Proj.v103_apply a0 a1 a2 a3 a4 a5 a6 a7 a8 a9 a10 a11 a12 a13 i0 i1

/-- The reference's normalized keys times their rates are the same function of the arguments as the kernel's. -/
theorem placed_value (a0 : Vec Ideal Cert.Kernel5Ideal.S8x2048x1024 .f32) (a1 : Vec Ideal Cert.Kernel5Ideal.S1024 .f32) (a2 : Vec Ideal Cert.Kernel5Ideal.S6x1024 .f32) (a3 : Vec Ideal Cert.Kernel5Ideal.S3x1024x1024 .f32) (a4 : Vec Ideal Cert.Kernel5Ideal.S1024 .f32) (a5 : Vec Ideal Cert.Kernel5Ideal.S1024x64 .f32) (a6 : Vec Ideal Cert.Kernel5Ideal.S64x1024 .f32) (a7 : Vec Ideal Cert.Kernel5Ideal.S1024 .f32) (a8 : Vec Ideal Cert.Kernel5Ideal.S1024x64 .f32) (a9 : Vec Ideal Cert.Kernel5Ideal.S64x1024 .f32) (a10 : Vec Ideal Cert.Kernel5Ideal.S1024x128 .f32) (a11 : Vec Ideal Cert.Kernel5Ideal.S128x1024 .f32) (a12 : Vec Ideal Cert.Kernel5Ideal.S1024 .f32) (a13 : Vec Ideal Cert.Kernel5Ideal.S1024 .f32) :
    Cert.Reference5Ideal.Read.val_main_v106 (F := Ideal) a0 a1 a2 a3 a7 a8 a9 a12 = Cert.Proj.spread (Cert.Kernel5Ideal.Proj.argsOf a0 a1 a2 a3 a4 a5 a6 a7 a8 a9 a10 a11 a12 a13).placed := by
  funext i
  idx_vars i
  exact Cert.Reference5Ideal.Proj.v106_apply a0 a1 a2 a3 a4 a5 a6 a7 a8 a9 a10 a11 a12 a13 i0 i1

/-- The reference's gates are the same function of the arguments as the kernel's. -/
theorem gates_value (a0 : Vec Ideal Cert.Kernel5Ideal.S8x2048x1024 .f32) (a1 : Vec Ideal Cert.Kernel5Ideal.S1024 .f32) (a2 : Vec Ideal Cert.Kernel5Ideal.S6x1024 .f32) (a3 : Vec Ideal Cert.Kernel5Ideal.S3x1024x1024 .f32) (a4 : Vec Ideal Cert.Kernel5Ideal.S1024 .f32) (a5 : Vec Ideal Cert.Kernel5Ideal.S1024x64 .f32) (a6 : Vec Ideal Cert.Kernel5Ideal.S64x1024 .f32) (a7 : Vec Ideal Cert.Kernel5Ideal.S1024 .f32) (a8 : Vec Ideal Cert.Kernel5Ideal.S1024x64 .f32) (a9 : Vec Ideal Cert.Kernel5Ideal.S64x1024 .f32) (a10 : Vec Ideal Cert.Kernel5Ideal.S1024x128 .f32) (a11 : Vec Ideal Cert.Kernel5Ideal.S128x1024 .f32) (a12 : Vec Ideal Cert.Kernel5Ideal.S1024 .f32) (a13 : Vec Ideal Cert.Kernel5Ideal.S1024 .f32) :
    Cert.Reference5Ideal.Read.val_main_v108 (F := Ideal) a0 a1 a2 a10 a11 = Cert.Proj.spread (Cert.Kernel5Ideal.Proj.argsOf a0 a1 a2 a3 a4 a5 a6 a7 a8 a9 a10 a11 a12 a13).gates := by
  funext i
  idx_vars i
  exact Cert.Reference5Ideal.Proj.v108_apply a0 a1 a2 a3 a4 a5 a6 a7 a8 a9 a10 a11 a12 a13 i0 i1

/-- Over the extended reals the kernel and the reference end with the same seven result arrays, where the keys' arrays are finite. -/
theorem value : Cert.algebraic_Kernel5Ideal_Reference5Ideal_pre_finite_keys := by
  intro m g m' g' pre same
  have hA : ∀ c, (Cert.Kernel5Ideal.Proj.AM m c).Real := fun c => finite _ _ _ _ _ _ _ _ _ _ _ _ _ _ (pre c)
  refine ⟨fun c => Cert.Kernel5Ideal.Proj.G17 m c, fun c => Cert.Kernel5Ideal.Proj.G18 m c, fun c => Cert.Kernel5Ideal.Proj.G19 m c, fun c => Cert.Kernel5Ideal.Proj.G20 m c,
    fun c => Cert.Kernel5Ideal.Proj.G21 m c, fun c => Cert.Kernel5Ideal.Proj.G22 m c, fun c => Cert.Kernel5Ideal.Proj.G23 m c, Cert.Kernel5Ideal.Proj.run m g hA, ?_⟩
  refine (θ_run Cert.Reference5Ideal.defs _ _).mono (fun r h c => ?_) (Cert.Reference5Ideal.Value.run (F := Ideal) m' g')
  obtain ⟨h0, h1, h2, h3, h4, h5, h6, hk⟩ := h c
  obtain ⟨e0, e1, e2, e3, e4, e5, e6, e7, e8, e9, e10, e11, e12, e13⟩ := same c
  refine ⟨h0.trans ?_, h1.trans ?_, h2.trans ?_, h3.trans ?_, h4.trans ?_, h5.trans ?_, h6.trans ?_, hk⟩
  · refine (Cert.Reference5Ideal.Read.val_main_v94_eq _ _ _ _).trans ?_
    rw [e0, e1, e2, e3]
    exact recept_value _ _ _ _ _ _ _ _ _ _ _ _ _ _
  · refine (Cert.Reference5Ideal.Read.val_main_v96_eq _ _).trans ?_
    rw [e0, e1, e2, e4, e5, e6]
    exact dec_value _ _ _ _ _ _ _ _ _ _ _ _ _ _
  · refine (Cert.Reference5Ideal.Read.val_main_v98_eq _ _).trans ?_
    rw [e0, e1, e2, e3, e7, e8, e9, e13]
    exact keys_value _ _ _ _ _ _ _ _ _ _ _ _ _ _
  · refine (Cert.Reference5Ideal.Read.val_main_v100_eq _ _ _ _).trans ?_
    rw [e0, e1, e2, e3]
    exact vals_value _ _ _ _ _ _ _ _ _ _ _ _ _ _
  · refine (Cert.Reference5Ideal.Read.val_main_v103_eq _ _).trans ?_
    rw [e0, e1, e2, e3, e12]
    exact taken_value _ _ _ _ _ _ _ _ _ _ _ _ _ _
  · refine (Cert.Reference5Ideal.Read.val_main_v106_eq _ _).trans ?_
    rw [e0, e1, e2, e3, e7, e8, e9, e12]
    exact placed_value _ _ _ _ _ _ _ _ _ _ _ _ _ _
  · refine (Cert.Reference5Ideal.Read.val_main_v108_eq _ _ _ _ _).trans ?_
    rw [e0, e1, e2, e10, e11]
    exact gates_value _ _ _ _ _ _ _ _ _ _ _ _ _ _

end Cert.Proof.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.GmlpClaims
public import proofs.«01_k».proof.Proof.FfnClaims
public import proofs.«01_k».proof.Proof.Gen.Kernel3
public import proofs.«01_k».proof.Proof.Gen.Kernel3Ideal
public import proofs.«01_k».proof.Proof.Gen.Reference3Ideal
public import proofs.«01_k».proof.Proof.Gen.Pre_experts_named
public import proofs.«01_k».proof.Proof.Gen.On_rows_in_use
public import proofs.«01_k».proof.Proof.MoeClaims
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite
public import proofs.«01_k».proof.Proof.PoolClaims
public import proofs.«01_k».proof.Proof.ProjClaims
public import Idealize.ShloMosaic.Adequacy
public import Idealize.ShloMosaic.Init

@[expose] public section

noncomputable section

namespace Cert.Proof

open Idealize.ShloMosaic Idealize.SL.Sem Cert.Kernel

/-- Every claim of the five calls: the gMLP mixer, the dense and the routed feed-forward layer, the pooling mixer, the projections. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_experts_named.Gen.facts, Cert.Pre_finite.Gen.facts, Cert.Pre_finite_keys.Gen.facts, Cert.On_rows_in_use.Gen.facts,
  Gmlp.frame_kernel, Gmlp.frame_ideal, Gmlp.frame_reference, Ffn.frame_kernel, Ffn.frame_ideal, Ffn.frame_reference,
  Moe.frame_kernel, Moe.frame_ideal, Moe.frame_reference, Moe.frame_reference_named,
  Pool.frame_kernel, Pool.frame_ideal, Pool.frame_ideal_finite, Pool.frame_reference, Pool.frame_reference_finite,
  Proj.frame_kernel, Proj.frame_ideal, Proj.frame_ideal_finite, Proj.frame_reference, Proj.frame_reference_finite,
  trivial, Gmlp.value, trivial, Ffn.value, trivial, Moe.value, trivial, Pool.value, trivial, Proj.value⟩

end Cert.Proof

end
